-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_KernelTail (m : (ℓ : Loc Cert.KernelTail.nD Cert.KernelTail.τ Cert.KernelTail.sig) → Buf (Elt Bits) ℓ) : Prop :=
  True

def Pre_KernelTailIdeal (m : (ℓ : Loc Cert.KernelTailIdeal.nD Cert.KernelTailIdeal.τ Cert.KernelTailIdeal.sig) → Buf (Elt Ideal) ℓ) : Prop :=
  True

def Pre_ReferenceTailIdeal (m : (ℓ : Loc Cert.ReferenceTailIdeal.nD Cert.ReferenceTailIdeal.τ Cert.ReferenceTailIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelRet (m : (ℓ : Loc Cert.KernelRet.nD Cert.KernelRet.τ Cert.KernelRet.sig) → Buf (Elt Bits) ℓ) : Prop :=
  True

def Pre_KernelRetIdeal (m : (ℓ : Loc Cert.KernelRetIdeal.nD Cert.KernelRetIdeal.τ Cert.KernelRetIdeal.sig) → Buf (Elt Ideal) ℓ) : Prop :=
  True

def Pre_KernelRetIdeal_rows_finite [hPre_rows_finite : Cert.Pre_rows_finite.Facts] (m : (ℓ : Loc Cert.KernelRetIdeal.nD Cert.KernelRetIdeal.τ Cert.KernelRetIdeal.sig) → Buf (Elt Ideal) ℓ) : Prop :=
  ∀ c : Dev Cert.KernelRetIdeal.nD,
    (Cert.Pre_rows_finite.fn (F := Ideal) (m ((c.tc : Thread Cert.KernelRetIdeal.nD Cert.KernelRetIdeal.τ).loc Cert.KernelRetIdeal.main_arg0)) (m ((c.tc : Thread Cert.KernelRetIdeal.nD Cert.KernelRetIdeal.τ).loc Cert.KernelRetIdeal.main_arg1))) = (fun _ => 1#1)

def Pre_ReferenceRetIdeal (m : (ℓ : Loc Cert.ReferenceRetIdeal.nD Cert.ReferenceRetIdeal.τ Cert.ReferenceRetIdeal.sig) → Buf (Elt Ideal) ℓ) : Prop :=
  True

def Pre_ReferenceRetIdeal_rows_finite [hPre_rows_finite : Cert.Pre_rows_finite.Facts] (m : (ℓ : Loc Cert.ReferenceRetIdeal.nD Cert.ReferenceRetIdeal.τ Cert.ReferenceRetIdeal.sig) → Buf (Elt Ideal) ℓ) : Prop :=
  ∀ c : Dev Cert.ReferenceRetIdeal.nD,
    (Cert.Pre_rows_finite.fn (F := Ideal) (m ((c.tc : Thread Cert.ReferenceRetIdeal.nD Cert.ReferenceRetIdeal.τ).loc Cert.ReferenceRetIdeal.main_arg0)) (m ((c.tc : Thread Cert.ReferenceRetIdeal.nD Cert.ReferenceRetIdeal.τ).loc Cert.ReferenceRetIdeal.main_arg1))) = (fun _ => 1#1)

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_KernelTail [hKernelTail : Cert.KernelTail.Facts] : Prop :=
  ∀ (m : (ℓ : Loc Cert.KernelTail.nD Cert.KernelTail.τ Cert.KernelTail.sig) → Buf (Elt Bits) ℓ) (g : Dev Cert.KernelTail.nD → PrngReg), Pre_KernelTail m →
    θ_run (Cert.KernelTail.defs (F := Bits)) (onTc (τ := Cert.KernelTail.τ) (Cert.KernelTail.main (F := Bits))) ⟨m, fun _ => 0, g⟩ (fun r => (∀ c : Dev Cert.KernelTail.nD,
      r.2.mem ((c.tc : Thread Cert.KernelTail.nD Cert.KernelTail.τ).loc Cert.KernelTail.main_arg0) = m ((c.tc : Thread Cert.KernelTail.nD Cert.KernelTail.τ).loc Cert.KernelTail.main_arg0)
      ∧ r.2.mem ((c.tc : Thread Cert.KernelTail.nD Cert.KernelTail.τ).loc Cert.KernelTail.main_arg1) = m ((c.tc : Thread Cert.KernelTail.nD Cert.KernelTail.τ).loc Cert.KernelTail.main_arg1)
      ∧ r.2.mem ((c.tc : Thread Cert.KernelTail.nD Cert.KernelTail.τ).loc Cert.KernelTail.main_arg2) = m ((c.tc : Thread Cert.KernelTail.nD Cert.KernelTail.τ).loc Cert.KernelTail.main_arg2)
      ∧ r.2.mem ((c.tc : Thread Cert.KernelTail.nD Cert.KernelTail.τ).loc Cert.KernelTail.main_arg3) = m ((c.tc : Thread Cert.KernelTail.nD Cert.KernelTail.τ).loc Cert.KernelTail.main_arg3)
      ∧ r.2.mem ((c.tc : Thread Cert.KernelTail.nD Cert.KernelTail.τ).loc Cert.KernelTail.main_arg4) = m ((c.tc : Thread Cert.KernelTail.nD Cert.KernelTail.τ).loc Cert.KernelTail.main_arg4)
      ∧ r.2.mem ((c.tc : Thread Cert.KernelTail.nD Cert.KernelTail.τ).loc Cert.KernelTail.main_arg5) = m ((c.tc : Thread Cert.KernelTail.nD Cert.KernelTail.τ).loc Cert.KernelTail.main_arg5)
      ∧ r.2.mem ((c.tc : Thread Cert.KernelTail.nD Cert.KernelTail.τ).loc Cert.KernelTail.main_arg6) = m ((c.tc : Thread Cert.KernelTail.nD Cert.KernelTail.τ).loc Cert.KernelTail.main_arg6)
      ∧ r.2.mem ((c.tc : Thread Cert.KernelTail.nD Cert.KernelTail.τ).loc Cert.KernelTail.main_arg7) = m ((c.tc : Thread Cert.KernelTail.nD Cert.KernelTail.τ).loc Cert.KernelTail.main_arg7)
      ∧ r.2.mem ((c.tc : Thread Cert.KernelTail.nD Cert.KernelTail.τ).loc Cert.KernelTail.main_arg8) = m ((c.tc : Thread Cert.KernelTail.nD Cert.KernelTail.τ).loc Cert.KernelTail.main_arg8)
      ∧ r.2.mem ((c.tc : Thread Cert.KernelTail.nD Cert.KernelTail.τ).loc Cert.KernelTail.main_arg9) = m ((c.tc : Thread Cert.KernelTail.nD Cert.KernelTail.τ).loc Cert.KernelTail.main_arg9)
      ∧ r.2.mem ((c.tc : Thread Cert.KernelTail.nD Cert.KernelTail.τ).loc Cert.KernelTail.main_arg10) = m ((c.tc : Thread Cert.KernelTail.nD Cert.KernelTail.τ).loc Cert.KernelTail.main_arg10)
      ∧ r.2.mem ((c.tc : Thread Cert.KernelTail.nD Cert.KernelTail.τ).loc Cert.KernelTail.main_arg11) = m ((c.tc : Thread Cert.KernelTail.nD Cert.KernelTail.τ).loc Cert.KernelTail.main_arg11))
      ∧ r.2.sem = fun _ => 0)

def quiescent_KernelTailIdeal [hKernelTailIdeal : Cert.KernelTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg), Pre_KernelTailIdeal m →
    θ_run (Cert.KernelTailIdeal.defs (F := Ideal)) (onTc (τ := Cert.KernelTailIdeal.τ) (Cert.KernelTailIdeal.main (F := Ideal))) ⟨m, fun _ => 0, g⟩ (fun r => (∀ c : Dev Cert.KernelTailIdeal.nD,
      r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
      ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
      ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
      ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
      ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
      ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5)
      ∧ r.2.mem ((c.tc : Thread Cert.KernelTailIdeal.nD Cert.KernelTailIdeal.τ).loc Cert.KernelTailIdeal.main_arg6) = m ((c.tc : Thread Cert.KernelTailIdeal.nD Cert.KernelTailIdeal.τ).loc Cert.KernelTailIdeal.main_arg6)
      ∧ r.2.mem ((c.tc : Thread Cert.KernelTailIdeal.nD Cert.KernelTailIdeal.τ).loc Cert.KernelTailIdeal.main_arg7) = m ((c.tc : Thread Cert.KernelTailIdeal.nD Cert.KernelTailIdeal.τ).loc Cert.KernelTailIdeal.main_arg7)
      ∧ r.2.mem ((c.tc : Thread Cert.KernelTailIdeal.nD Cert.KernelTailIdeal.τ).loc Cert.KernelTailIdeal.main_arg8) = m ((c.tc : Thread Cert.KernelTailIdeal.nD Cert.KernelTailIdeal.τ).loc Cert.KernelTailIdeal.main_arg8)
      ∧ r.2.mem ((c.tc : Thread Cert.KernelTailIdeal.nD Cert.KernelTailIdeal.τ).loc Cert.KernelTailIdeal.main_arg9) = m ((c.tc : Thread Cert.KernelTailIdeal.nD Cert.KernelTailIdeal.τ).loc Cert.KernelTailIdeal.main_arg9)
      ∧ r.2.mem ((c.tc : Thread Cert.KernelTailIdeal.nD Cert.KernelTailIdeal.τ).loc Cert.KernelTailIdeal.main_arg10) = m ((c.tc : Thread Cert.KernelTailIdeal.nD Cert.KernelTailIdeal.τ).loc Cert.KernelTailIdeal.main_arg10)
      ∧ r.2.mem ((c.tc : Thread Cert.KernelTailIdeal.nD Cert.KernelTailIdeal.τ).loc Cert.KernelTailIdeal.main_arg11) = m ((c.tc : Thread Cert.KernelTailIdeal.nD Cert.KernelTailIdeal.τ).loc Cert.KernelTailIdeal.main_arg11))
      ∧ r.2.sem = fun _ => 0)

def quiescent_ReferenceTailIdeal [hReferenceTailIdeal : Cert.ReferenceTailIdeal.Facts] : Prop :=
  ∀ (m : (ℓ : Loc Cert.ReferenceTailIdeal.nD Cert.ReferenceTailIdeal.τ Cert.ReferenceTailIdeal.sig) → Buf (Elt Ideal) ℓ) (g : Dev Cert.ReferenceTailIdeal.nD → PrngReg), Pre_ReferenceTailIdeal m →
    θ_run (Cert.ReferenceTailIdeal.defs (F := Ideal)) (onTc (τ := Cert.ReferenceTailIdeal.τ) (Cert.ReferenceTailIdeal.main (F := Ideal))) ⟨m, fun _ => 0, g⟩ (fun r => (∀ c : Dev Cert.ReferenceTailIdeal.nD,
      r.2.mem ((c.tc : Thread Cert.ReferenceTailIdeal.nD Cert.ReferenceTailIdeal.τ).loc Cert.ReferenceTailIdeal.main_arg0) = m ((c.tc : Thread Cert.ReferenceTailIdeal.nD Cert.ReferenceTailIdeal.τ).loc Cert.ReferenceTailIdeal.main_arg0)
      ∧ r.2.mem ((c.tc : Thread Cert.ReferenceTailIdeal.nD Cert.ReferenceTailIdeal.τ).loc Cert.ReferenceTailIdeal.main_arg1) = m ((c.tc : Thread Cert.ReferenceTailIdeal.nD Cert.ReferenceTailIdeal.τ).loc Cert.ReferenceTailIdeal.main_arg1)
      ∧ r.2.mem ((c.tc : Thread Cert.ReferenceTailIdeal.nD Cert.ReferenceTailIdeal.τ).loc Cert.ReferenceTailIdeal.main_arg2) = m ((c.tc : Thread Cert.ReferenceTailIdeal.nD Cert.ReferenceTailIdeal.τ).loc Cert.ReferenceTailIdeal.main_arg2)
      ∧ r.2.mem ((c.tc : Thread Cert.ReferenceTailIdeal.nD Cert.ReferenceTailIdeal.τ).loc Cert.ReferenceTailIdeal.main_arg3) = m ((c.tc : Thread Cert.ReferenceTailIdeal.nD Cert.ReferenceTailIdeal.τ).loc Cert.ReferenceTailIdeal.main_arg3)
      ∧ r.2.mem ((c.tc : Thread Cert.ReferenceTailIdeal.nD Cert.ReferenceTailIdeal.τ).loc Cert.ReferenceTailIdeal.main_arg4) = m ((c.tc : Thread Cert.ReferenceTailIdeal.nD Cert.ReferenceTailIdeal.τ).loc Cert.ReferenceTailIdeal.main_arg4)
      ∧ r.2.mem ((c.tc : Thread Cert.ReferenceTailIdeal.nD Cert.ReferenceTailIdeal.τ).loc Cert.ReferenceTailIdeal.main_arg5) = m ((c.tc : Thread Cert.ReferenceTailIdeal.nD Cert.ReferenceTailIdeal.τ).loc Cert.ReferenceTailIdeal.main_arg5)
      ∧ r.2.mem ((c.tc : Thread Cert.ReferenceTailIdeal.nD Cert.ReferenceTailIdeal.τ).loc Cert.ReferenceTailIdeal.main_arg6) = m ((c.tc : Thread Cert.ReferenceTailIdeal.nD Cert.ReferenceTailIdeal.τ).loc Cert.ReferenceTailIdeal.main_arg6)
      ∧ r.2.mem ((c.tc : Thread Cert.ReferenceTailIdeal.nD Cert.ReferenceTailIdeal.τ).loc Cert.ReferenceTailIdeal.main_arg7) = m ((c.tc : Thread Cert.ReferenceTailIdeal.nD Cert.ReferenceTailIdeal.τ).loc Cert.ReferenceTailIdeal.main_arg7)
      ∧ r.2.mem ((c.tc : Thread Cert.ReferenceTailIdeal.nD Cert.ReferenceTailIdeal.τ).loc Cert.ReferenceTailIdeal.main_arg8) = m ((c.tc : Thread Cert.ReferenceTailIdeal.nD Cert.ReferenceTailIdeal.τ).loc Cert.ReferenceTailIdeal.main_arg8)
      ∧ r.2.mem ((c.tc : Thread Cert.ReferenceTailIdeal.nD Cert.ReferenceTailIdeal.τ).loc Cert.ReferenceTailIdeal.main_arg9) = m ((c.tc : Thread Cert.ReferenceTailIdeal.nD Cert.ReferenceTailIdeal.τ).loc Cert.ReferenceTailIdeal.main_arg9)
      ∧ r.2.mem ((c.tc : Thread Cert.ReferenceTailIdeal.nD Cert.ReferenceTailIdeal.τ).loc Cert.ReferenceTailIdeal.main_arg10) = m ((c.tc : Thread Cert.ReferenceTailIdeal.nD Cert.ReferenceTailIdeal.τ).loc Cert.ReferenceTailIdeal.main_arg10)
      ∧ r.2.mem ((c.tc : Thread Cert.ReferenceTailIdeal.nD Cert.ReferenceTailIdeal.τ).loc Cert.ReferenceTailIdeal.main_arg11) = m ((c.tc : Thread Cert.ReferenceTailIdeal.nD Cert.ReferenceTailIdeal.τ).loc Cert.ReferenceTailIdeal.main_arg11))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4))
      ∧ r.2.sem = fun _ => 0)

def quiescent_KernelRet [hKernelRet : Cert.KernelRet.Facts] : Prop :=
  ∀ (m : (ℓ : Loc Cert.KernelRet.nD Cert.KernelRet.τ Cert.KernelRet.sig) → Buf (Elt Bits) ℓ) (g : Dev Cert.KernelRet.nD → PrngReg), Pre_KernelRet m →
    θ_run (Cert.KernelRet.defs (F := Bits)) (onTc (τ := Cert.KernelRet.τ) (Cert.KernelRet.main (F := Bits))) ⟨m, fun _ => 0, g⟩ (fun r => (∀ c : Dev Cert.KernelRet.nD,
      r.2.mem ((c.tc : Thread Cert.KernelRet.nD Cert.KernelRet.τ).loc Cert.KernelRet.main_arg0) = m ((c.tc : Thread Cert.KernelRet.nD Cert.KernelRet.τ).loc Cert.KernelRet.main_arg0)
      ∧ r.2.mem ((c.tc : Thread Cert.KernelRet.nD Cert.KernelRet.τ).loc Cert.KernelRet.main_arg1) = m ((c.tc : Thread Cert.KernelRet.nD Cert.KernelRet.τ).loc Cert.KernelRet.main_arg1))
      ∧ r.2.sem = fun _ => 0)

def quiescent_KernelRetIdeal [hKernelRetIdeal : Cert.KernelRetIdeal.Facts] : Prop :=
  ∀ (m : (ℓ : Loc Cert.KernelRetIdeal.nD Cert.KernelRetIdeal.τ Cert.KernelRetIdeal.sig) → Buf (Elt Ideal) ℓ) (g : Dev Cert.KernelRetIdeal.nD → PrngReg), Pre_KernelRetIdeal m →
    θ_run (Cert.KernelRetIdeal.defs (F := Ideal)) (onTc (τ := Cert.KernelRetIdeal.τ) (Cert.KernelRetIdeal.main (F := Ideal))) ⟨m, fun _ => 0, g⟩ (fun r => (∀ c : Dev Cert.KernelRetIdeal.nD,
      r.2.mem ((c.tc : Thread Cert.KernelRetIdeal.nD Cert.KernelRetIdeal.τ).loc Cert.KernelRetIdeal.main_arg0) = m ((c.tc : Thread Cert.KernelRetIdeal.nD Cert.KernelRetIdeal.τ).loc Cert.KernelRetIdeal.main_arg0)
      ∧ r.2.mem ((c.tc : Thread Cert.KernelRetIdeal.nD Cert.KernelRetIdeal.τ).loc Cert.KernelRetIdeal.main_arg1) = m ((c.tc : Thread Cert.KernelRetIdeal.nD Cert.KernelRetIdeal.τ).loc Cert.KernelRetIdeal.main_arg1))
      ∧ r.2.sem = fun _ => 0)

def quiescent_KernelRetIdeal_pre_rows_finite [hKernelRetIdeal : Cert.KernelRetIdeal.Facts] [hPre_rows_finite : Cert.Pre_rows_finite.Facts] : Prop :=
  ∀ (m : (ℓ : Loc Cert.KernelRetIdeal.nD Cert.KernelRetIdeal.τ Cert.KernelRetIdeal.sig) → Buf (Elt Ideal) ℓ) (g : Dev Cert.KernelRetIdeal.nD → PrngReg), Pre_KernelRetIdeal_rows_finite m →
    θ_run (Cert.KernelRetIdeal.defs (F := Ideal)) (onTc (τ := Cert.KernelRetIdeal.τ) (Cert.KernelRetIdeal.main (F := Ideal))) ⟨m, fun _ => 0, g⟩ (fun r => (∀ c : Dev Cert.KernelRetIdeal.nD,
      r.2.mem ((c.tc : Thread Cert.KernelRetIdeal.nD Cert.KernelRetIdeal.τ).loc Cert.KernelRetIdeal.main_arg0) = m ((c.tc : Thread Cert.KernelRetIdeal.nD Cert.KernelRetIdeal.τ).loc Cert.KernelRetIdeal.main_arg0)
      ∧ r.2.mem ((c.tc : Thread Cert.KernelRetIdeal.nD Cert.KernelRetIdeal.τ).loc Cert.KernelRetIdeal.main_arg1) = m ((c.tc : Thread Cert.KernelRetIdeal.nD Cert.KernelRetIdeal.τ).loc Cert.KernelRetIdeal.main_arg1))
      ∧ r.2.sem = fun _ => 0)

def quiescent_ReferenceRetIdeal [hReferenceRetIdeal : Cert.ReferenceRetIdeal.Facts] : Prop :=
  ∀ (m : (ℓ : Loc Cert.ReferenceRetIdeal.nD Cert.ReferenceRetIdeal.τ Cert.ReferenceRetIdeal.sig) → Buf (Elt Ideal) ℓ) (g : Dev Cert.ReferenceRetIdeal.nD → PrngReg), Pre_ReferenceRetIdeal m →
    θ_run (Cert.ReferenceRetIdeal.defs (F := Ideal)) (onTc (τ := Cert.ReferenceRetIdeal.τ) (Cert.ReferenceRetIdeal.main (F := Ideal))) ⟨m, fun _ => 0, g⟩ (fun r => (∀ c : Dev Cert.ReferenceRetIdeal.nD,
      r.2.mem ((c.tc : Thread Cert.ReferenceRetIdeal.nD Cert.ReferenceRetIdeal.τ).loc Cert.ReferenceRetIdeal.main_arg0) = m ((c.tc : Thread Cert.ReferenceRetIdeal.nD Cert.ReferenceRetIdeal.τ).loc Cert.ReferenceRetIdeal.main_arg0)
      ∧ r.2.mem ((c.tc : Thread Cert.ReferenceRetIdeal.nD Cert.ReferenceRetIdeal.τ).loc Cert.ReferenceRetIdeal.main_arg1) = m ((c.tc : Thread Cert.ReferenceRetIdeal.nD Cert.ReferenceRetIdeal.τ).loc Cert.ReferenceRetIdeal.main_arg1))
      ∧ r.2.sem = fun _ => 0)

def quiescent_ReferenceRetIdeal_pre_rows_finite [hReferenceRetIdeal : Cert.ReferenceRetIdeal.Facts] [hPre_rows_finite : Cert.Pre_rows_finite.Facts] : Prop :=
  ∀ (m : (ℓ : Loc Cert.ReferenceRetIdeal.nD Cert.ReferenceRetIdeal.τ Cert.ReferenceRetIdeal.sig) → Buf (Elt Ideal) ℓ) (g : Dev Cert.ReferenceRetIdeal.nD → PrngReg), Pre_ReferenceRetIdeal_rows_finite m →
    θ_run (Cert.ReferenceRetIdeal.defs (F := Ideal)) (onTc (τ := Cert.ReferenceRetIdeal.τ) (Cert.ReferenceRetIdeal.main (F := Ideal))) ⟨m, fun _ => 0, g⟩ (fun r => (∀ c : Dev Cert.ReferenceRetIdeal.nD,
      r.2.mem ((c.tc : Thread Cert.ReferenceRetIdeal.nD Cert.ReferenceRetIdeal.τ).loc Cert.ReferenceRetIdeal.main_arg0) = m ((c.tc : Thread Cert.ReferenceRetIdeal.nD Cert.ReferenceRetIdeal.τ).loc Cert.ReferenceRetIdeal.main_arg0)
      ∧ r.2.mem ((c.tc : Thread Cert.ReferenceRetIdeal.nD Cert.ReferenceRetIdeal.τ).loc Cert.ReferenceRetIdeal.main_arg1) = m ((c.tc : Thread Cert.ReferenceRetIdeal.nD Cert.ReferenceRetIdeal.τ).loc Cert.ReferenceRetIdeal.main_arg1))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2))
      ∧ r.2.sem = fun _ => 0)

def preserves_Kernel_KernelIdeal : Prop :=
  True

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v2)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0))

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_KernelTail_KernelTailIdeal : Prop :=
  True

def algebraic_KernelTailIdeal_ReferenceTailIdeal [hKernelTailIdeal : Cert.KernelTailIdeal.Facts] [hReferenceTailIdeal : Cert.ReferenceTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg)
    (m' : (ℓ : Loc Cert.ReferenceTailIdeal.nD Cert.ReferenceTailIdeal.τ Cert.ReferenceTailIdeal.sig) → Buf (Elt Ideal) ℓ) (g' : Dev Cert.ReferenceTailIdeal.nD → PrngReg), Pre_KernelTailIdeal m →
    (∀ c : Dev Cert.KernelTailIdeal.nD,
      m' ((c.tc : Thread Cert.ReferenceTailIdeal.nD Cert.ReferenceTailIdeal.τ).loc Cert.ReferenceTailIdeal.main_arg0) = m ((c.tc : Thread Cert.KernelTailIdeal.nD Cert.KernelTailIdeal.τ).loc Cert.KernelTailIdeal.main_arg0)
      ∧ m' ((c.tc : Thread Cert.ReferenceTailIdeal.nD Cert.ReferenceTailIdeal.τ).loc Cert.ReferenceTailIdeal.main_arg1) = m ((c.tc : Thread Cert.KernelTailIdeal.nD Cert.KernelTailIdeal.τ).loc Cert.KernelTailIdeal.main_arg1)
      ∧ m' ((c.tc : Thread Cert.ReferenceTailIdeal.nD Cert.ReferenceTailIdeal.τ).loc Cert.ReferenceTailIdeal.main_arg2) = m ((c.tc : Thread Cert.KernelTailIdeal.nD Cert.KernelTailIdeal.τ).loc Cert.KernelTailIdeal.main_arg2)
      ∧ m' ((c.tc : Thread Cert.ReferenceTailIdeal.nD Cert.ReferenceTailIdeal.τ).loc Cert.ReferenceTailIdeal.main_arg3) = m ((c.tc : Thread Cert.KernelTailIdeal.nD Cert.KernelTailIdeal.τ).loc Cert.KernelTailIdeal.main_arg3)
      ∧ m' ((c.tc : Thread Cert.ReferenceTailIdeal.nD Cert.ReferenceTailIdeal.τ).loc Cert.ReferenceTailIdeal.main_arg4) = m ((c.tc : Thread Cert.KernelTailIdeal.nD Cert.KernelTailIdeal.τ).loc Cert.KernelTailIdeal.main_arg4)
      ∧ m' ((c.tc : Thread Cert.ReferenceTailIdeal.nD Cert.ReferenceTailIdeal.τ).loc Cert.ReferenceTailIdeal.main_arg5) = m ((c.tc : Thread Cert.KernelTailIdeal.nD Cert.KernelTailIdeal.τ).loc Cert.KernelTailIdeal.main_arg5)
      ∧ m' ((c.tc : Thread Cert.ReferenceTailIdeal.nD Cert.ReferenceTailIdeal.τ).loc Cert.ReferenceTailIdeal.main_arg6) = m ((c.tc : Thread Cert.KernelTailIdeal.nD Cert.KernelTailIdeal.τ).loc Cert.KernelTailIdeal.main_arg6)
      ∧ m' ((c.tc : Thread Cert.ReferenceTailIdeal.nD Cert.ReferenceTailIdeal.τ).loc Cert.ReferenceTailIdeal.main_arg7) = m ((c.tc : Thread Cert.KernelTailIdeal.nD Cert.KernelTailIdeal.τ).loc Cert.KernelTailIdeal.main_arg7)
      ∧ m' ((c.tc : Thread Cert.ReferenceTailIdeal.nD Cert.ReferenceTailIdeal.τ).loc Cert.ReferenceTailIdeal.main_arg8) = m ((c.tc : Thread Cert.KernelTailIdeal.nD Cert.KernelTailIdeal.τ).loc Cert.KernelTailIdeal.main_arg8)
      ∧ m' ((c.tc : Thread Cert.ReferenceTailIdeal.nD Cert.ReferenceTailIdeal.τ).loc Cert.ReferenceTailIdeal.main_arg9) = m ((c.tc : Thread Cert.KernelTailIdeal.nD Cert.KernelTailIdeal.τ).loc Cert.KernelTailIdeal.main_arg9)
      ∧ m' ((c.tc : Thread Cert.ReferenceTailIdeal.nD Cert.ReferenceTailIdeal.τ).loc Cert.ReferenceTailIdeal.main_arg10) = m ((c.tc : Thread Cert.KernelTailIdeal.nD Cert.KernelTailIdeal.τ).loc Cert.KernelTailIdeal.main_arg10)
      ∧ m' ((c.tc : Thread Cert.ReferenceTailIdeal.nD Cert.ReferenceTailIdeal.τ).loc Cert.ReferenceTailIdeal.main_arg11) = m ((c.tc : Thread Cert.KernelTailIdeal.nD Cert.KernelTailIdeal.τ).loc Cert.KernelTailIdeal.main_arg11)) →
    ∃ (v0 : (c : Dev Cert.KernelTailIdeal.nD) → Buf (Elt Ideal) ((c.tc : Thread Cert.KernelTailIdeal.nD Cert.KernelTailIdeal.τ).loc Cert.KernelTailIdeal.main_v27)),
      θ_run (Cert.KernelTailIdeal.defs (F := Ideal)) (onTc (τ := Cert.KernelTailIdeal.τ) (Cert.KernelTailIdeal.main (F := Ideal))) ⟨m, fun _ => 0, g⟩ (fun r => ∀ c : Dev Cert.KernelTailIdeal.nD,
          r.2.mem ((c.tc : Thread Cert.KernelTailIdeal.nD Cert.KernelTailIdeal.τ).loc Cert.KernelTailIdeal.main_v27) = v0 c
          ∧ r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
          ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
          ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
          ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
          ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
          ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5)
          ∧ r.2.mem ((c.tc : Thread Cert.KernelTailIdeal.nD Cert.KernelTailIdeal.τ).loc Cert.KernelTailIdeal.main_arg6) = m ((c.tc : Thread Cert.KernelTailIdeal.nD Cert.KernelTailIdeal.τ).loc Cert.KernelTailIdeal.main_arg6)
          ∧ r.2.mem ((c.tc : Thread Cert.KernelTailIdeal.nD Cert.KernelTailIdeal.τ).loc Cert.KernelTailIdeal.main_arg7) = m ((c.tc : Thread Cert.KernelTailIdeal.nD Cert.KernelTailIdeal.τ).loc Cert.KernelTailIdeal.main_arg7)
          ∧ r.2.mem ((c.tc : Thread Cert.KernelTailIdeal.nD Cert.KernelTailIdeal.τ).loc Cert.KernelTailIdeal.main_arg8) = m ((c.tc : Thread Cert.KernelTailIdeal.nD Cert.KernelTailIdeal.τ).loc Cert.KernelTailIdeal.main_arg8)
          ∧ r.2.mem ((c.tc : Thread Cert.KernelTailIdeal.nD Cert.KernelTailIdeal.τ).loc Cert.KernelTailIdeal.main_arg9) = m ((c.tc : Thread Cert.KernelTailIdeal.nD Cert.KernelTailIdeal.τ).loc Cert.KernelTailIdeal.main_arg9)
          ∧ r.2.mem ((c.tc : Thread Cert.KernelTailIdeal.nD Cert.KernelTailIdeal.τ).loc Cert.KernelTailIdeal.main_arg10) = m ((c.tc : Thread Cert.KernelTailIdeal.nD Cert.KernelTailIdeal.τ).loc Cert.KernelTailIdeal.main_arg10)
          ∧ r.2.mem ((c.tc : Thread Cert.KernelTailIdeal.nD Cert.KernelTailIdeal.τ).loc Cert.KernelTailIdeal.main_arg11) = m ((c.tc : Thread Cert.KernelTailIdeal.nD Cert.KernelTailIdeal.τ).loc Cert.KernelTailIdeal.main_arg11))
      ∧ θ_run (Cert.ReferenceTailIdeal.defs (F := Ideal)) (onTc (τ := Cert.ReferenceTailIdeal.τ) (Cert.ReferenceTailIdeal.main (F := Ideal))) ⟨m', fun _ => 0, g'⟩ (fun r => ∀ c : Dev Cert.ReferenceTailIdeal.nD,
          r.2.mem ((c.tc : Thread Cert.ReferenceTailIdeal.nD Cert.ReferenceTailIdeal.τ).loc Cert.ReferenceTailIdeal.main_v70) = v0 c
          ∧ r.2.mem ((c.tc : Thread Cert.ReferenceTailIdeal.nD Cert.ReferenceTailIdeal.τ).loc Cert.ReferenceTailIdeal.main_arg0) = m' ((c.tc : Thread Cert.ReferenceTailIdeal.nD Cert.ReferenceTailIdeal.τ).loc Cert.ReferenceTailIdeal.main_arg0)
          ∧ r.2.mem ((c.tc : Thread Cert.ReferenceTailIdeal.nD Cert.ReferenceTailIdeal.τ).loc Cert.ReferenceTailIdeal.main_arg1) = m' ((c.tc : Thread Cert.ReferenceTailIdeal.nD Cert.ReferenceTailIdeal.τ).loc Cert.ReferenceTailIdeal.main_arg1)
          ∧ r.2.mem ((c.tc : Thread Cert.ReferenceTailIdeal.nD Cert.ReferenceTailIdeal.τ).loc Cert.ReferenceTailIdeal.main_arg2) = m' ((c.tc : Thread Cert.ReferenceTailIdeal.nD Cert.ReferenceTailIdeal.τ).loc Cert.ReferenceTailIdeal.main_arg2)
          ∧ r.2.mem ((c.tc : Thread Cert.ReferenceTailIdeal.nD Cert.ReferenceTailIdeal.τ).loc Cert.ReferenceTailIdeal.main_arg3) = m' ((c.tc : Thread Cert.ReferenceTailIdeal.nD Cert.ReferenceTailIdeal.τ).loc Cert.ReferenceTailIdeal.main_arg3)
          ∧ r.2.mem ((c.tc : Thread Cert.ReferenceTailIdeal.nD Cert.ReferenceTailIdeal.τ).loc Cert.ReferenceTailIdeal.main_arg4) = m' ((c.tc : Thread Cert.ReferenceTailIdeal.nD Cert.ReferenceTailIdeal.τ).loc Cert.ReferenceTailIdeal.main_arg4)
          ∧ r.2.mem ((c.tc : Thread Cert.ReferenceTailIdeal.nD Cert.ReferenceTailIdeal.τ).loc Cert.ReferenceTailIdeal.main_arg5) = m' ((c.tc : Thread Cert.ReferenceTailIdeal.nD Cert.ReferenceTailIdeal.τ).loc Cert.ReferenceTailIdeal.main_arg5)
          ∧ r.2.mem ((c.tc : Thread Cert.ReferenceTailIdeal.nD Cert.ReferenceTailIdeal.τ).loc Cert.ReferenceTailIdeal.main_arg6) = m' ((c.tc : Thread Cert.ReferenceTailIdeal.nD Cert.ReferenceTailIdeal.τ).loc Cert.ReferenceTailIdeal.main_arg6)
          ∧ r.2.mem ((c.tc : Thread Cert.ReferenceTailIdeal.nD Cert.ReferenceTailIdeal.τ).loc Cert.ReferenceTailIdeal.main_arg7) = m' ((c.tc : Thread Cert.ReferenceTailIdeal.nD Cert.ReferenceTailIdeal.τ).loc Cert.ReferenceTailIdeal.main_arg7)
          ∧ r.2.mem ((c.tc : Thread Cert.ReferenceTailIdeal.nD Cert.ReferenceTailIdeal.τ).loc Cert.ReferenceTailIdeal.main_arg8) = m' ((c.tc : Thread Cert.ReferenceTailIdeal.nD Cert.ReferenceTailIdeal.τ).loc Cert.ReferenceTailIdeal.main_arg8)
          ∧ r.2.mem ((c.tc : Thread Cert.ReferenceTailIdeal.nD Cert.ReferenceTailIdeal.τ).loc Cert.ReferenceTailIdeal.main_arg9) = m' ((c.tc : Thread Cert.ReferenceTailIdeal.nD Cert.ReferenceTailIdeal.τ).loc Cert.ReferenceTailIdeal.main_arg9)
          ∧ r.2.mem ((c.tc : Thread Cert.ReferenceTailIdeal.nD Cert.ReferenceTailIdeal.τ).loc Cert.ReferenceTailIdeal.main_arg10) = m' ((c.tc : Thread Cert.ReferenceTailIdeal.nD Cert.ReferenceTailIdeal.τ).loc Cert.ReferenceTailIdeal.main_arg10)
          ∧ r.2.mem ((c.tc : Thread Cert.ReferenceTailIdeal.nD Cert.ReferenceTailIdeal.τ).loc Cert.ReferenceTailIdeal.main_arg11) = m' ((c.tc : Thread Cert.ReferenceTailIdeal.nD Cert.ReferenceTailIdeal.τ).loc Cert.ReferenceTailIdeal.main_arg11))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)) →
    ∃ (v0 : (c : Dev Cert.KernelInIdeal.nD) → Buf (Elt Ideal) ((c.tc : Thread Cert.KernelInIdeal.nD Cert.KernelInIdeal.τ).loc Cert.KernelInIdeal.main_v64_0)) (v1 : (c : Dev Cert.KernelInIdeal.nD) → Buf (Elt Ideal) ((c.tc : Thread Cert.KernelInIdeal.nD Cert.KernelInIdeal.τ).loc Cert.KernelInIdeal.main_v64_1)) (v2 : (c : Dev Cert.KernelInIdeal.nD) → Buf (Elt Ideal) ((c.tc : Thread Cert.KernelInIdeal.nD Cert.KernelInIdeal.τ).loc Cert.KernelInIdeal.main_v64_2)) (v3 : (c : Dev Cert.KernelInIdeal.nD) → Buf (Elt Ideal) ((c.tc : Thread Cert.KernelInIdeal.nD Cert.KernelInIdeal.τ).loc Cert.KernelInIdeal.main_v64_3)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v64_0) = v0 c
          ∧ r.2.mem ((c.tc : Thread Cert.KernelInIdeal.nD Cert.KernelInIdeal.τ).loc Cert.KernelInIdeal.main_v64_1) = v1 c
          ∧ r.2.mem ((c.tc : Thread Cert.KernelInIdeal.nD Cert.KernelInIdeal.τ).loc Cert.KernelInIdeal.main_v64_2) = v2 c
          ∧ r.2.mem ((c.tc : Thread Cert.KernelInIdeal.nD Cert.KernelInIdeal.τ).loc Cert.KernelInIdeal.main_v64_3) = v3 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v152) = v0 c
          ∧ r.2.mem ((c.tc : Thread Cert.ReferenceInIdeal.nD Cert.ReferenceInIdeal.τ).loc Cert.ReferenceInIdeal.main_v155) = v1 c
          ∧ r.2.mem ((c.tc : Thread Cert.ReferenceInIdeal.nD Cert.ReferenceInIdeal.τ).loc Cert.ReferenceInIdeal.main_v157) = v2 c
          ∧ r.2.mem ((c.tc : Thread Cert.ReferenceInIdeal.nD Cert.ReferenceInIdeal.τ).loc Cert.ReferenceInIdeal.main_v159) = v3 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4))

def preserves_KernelRet_KernelRetIdeal : Prop :=
  IdealRules.named_const.Statement Cert.KernelRetIdeal.κ "decay0" .f32 0x33BB35AB#32 ((37773501373587895264561025281863094466978322863250082155056197047714197993620357069462566843251141571815151509518310006938108851221805528875384735491918787987993007026673217297684350189260329533443500752237702397882867800472239741801018068025710521276376920054106347317369170879956285518344534043017584487970014275003121885415024692223611928229555180012063629119385814923462407514649370698028478003077284206879157442661924961962496906798906289722020904167557393854423634351272073157329444358426257475496763769833535044716482939223140353788667801596443076750100019227022529972107862684832884884953616549356032737737560624277786244888885640776979303991888709970576020492391819718718022540913110645906048622371363024999152764514494346409046802940547223374264991989761 / 433300210274926779301235722995130529126851924312253566276831366547097655953268278873591999368453759375352459120642109169274240110620843517970102311224458427564046616227161115801662152359395451958893835480905010246703239443701925453743683726938789767940577524555724362397039358587448248740993955708382317083531851133758531532844694304737183093418571190053292997716413815714417740434254315670267335553209606545389900958653541702218767662872949109999460596999125719155768466778443229719919179735890978537026576050107500869340314188887101095263339865901080787145771915722368720844521851040375582291274824574444462419841916186875058374404329003250698574832235855871168399140082282900718430116575617097058691735266917705341386171618452673063526784039252631042036988932549246976 : ℝ) : EReal)
  ∧ IdealRules.named_const.Statement Cert.KernelRetIdeal.κ "decay1" .f32 0x39A51D40#32 ((1829621774605758272681815819484683697681150539469011454438616122872366586877961375423552938964897463581109311319808945929321298231222196853224309380553356598527187733647566956679876664510406200387532239098866763910735103693757864325685201781028709572541054704230147228901626173617845623866755028773487006228196871956399293777844670844588890365947840179218366401379809504532746346887953865832195191206213754527293556396076242770833333424859408089492408707363104206318131240193034555251174707300516911335616652311290870865347642390409969838803258688702995862359971782715471732239812296945161529682875118411479993770111929053328666562411048451820999794871863883648685446514936239708945819761126851454994246472415681218954364540036877875237307371399305121518243006867940085660711723331808878467596848695632021577955375324082707777555176893790414740944947537790853234120367235299976717295550925400882608856085946429027356999681 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)
  ∧ IdealRules.named_const.Statement Cert.KernelRetIdeal.κ "decay2" .f32 0x3C93B415#32 ((1404446271387748490991100751544441416500050300583111850106297445761924979898824020252629019508656514869654924263160394274298526494841742808089592506924696822065104347690187843030595438316417714600761377522809495063977068799898120017030725733509352799438726555671667253019781735949865820679186967706658305802624047706122378875802774137941142204600702153393013250422058032066442262543774044082163695495396960829949594646939266482017469777673732527829511618772798737574783702810777504185793071952212259952420398015608838414365618600684563300554270564144757059601105334104440451451503119524170492445584099364250966818507715079225370021816812537114137141734153221017217708940430101039483382996521634099251395732985737880090843089470161642390778363523012009209705024717668555696048942912207090503662275263094243617304431537642065704769846014295462350881954984154152995597063243216506885941184166713897620223768749011634915213056620578338092475557901514134844722255531178520698446431977629547872397858804700513496351353376208959542001545890447396386704893880348789257703729454966046721 / 77894081334563378764508707451908598634363875792546106220991280972045090113143756247350828053674522774404165906274379945792494917548310574063247841644081929897178637546129401264215614159952590061562154920415452396586835739484982091767625288759481559848471677444112808287056706983922605030201811478361890468927498235629942743709470298595236463543790410896095163738073479981402477878246455235112829189027769705658237222594837250410596602457047413758430150029851731582921543526442245527917224855827827816621485551057937401676948938343002233871424814483269902707836173007455043074627168642672708601404181510388085656853057668361672906095700421037654202545940344737030366578366357572799593982155560321323484375285391015752337555589179864820742955048320397684982749773202572245522578129312632534144771795735226370030108952558937781899103282137065731057232138475034306548038575468027244771033983289060691556811292977131791103945007556626409018279457155155668381388949742836902985341946964734897090584115806967893331511501620481794544357260889558504863310391891382713164805617024097058816 : ℝ) : EReal)
  ∧ IdealRules.named_const.Statement Cert.KernelRetIdeal.κ "decay3" .f32 0x3E0A0AA9#32 ((140790185837792199441034568834759689661961914255409783776507730514854051007709415813883556603916373715574609136622656266685437371240367102594306883990627058503595731196218539952498937154304868900451168465638684310150100849641435841139217062156438276896626062062198647086055077575162638489964162577757745791360359602594152663967581007128020183983475616184060291020280954283680281674917836880158513873602360456989017509319939290584160385503386612259448606518762697158261848012807333889519148168749022803256593164455574302209211629222893563391051638927501110961756902904355953180126361779417692843008682740196572759446217716395263378965738984268986873937434316610747487819328925728597617546673206661697068531366810303423451995144891700992319420217886417615624695907128294136584386588241909336794326419068629630654654884474138368393842951923487338404952757338269210791423057520833932043960455320073315147460070596891191382346173068760307712728401170686699888726822189521347886230198239556599370583636884951718768971453231066747582338011063460026539119389458194710451140772448483717780321604240950362368894604426083886127596429268830858032089081938717329656187417957254785835822222695699852540993958494031090822318219579756259918212890625 / 1044388881413152506691752710716624382579964249047383780384233483283953907971557456848826811934997558340890106714439262837987573438185793607263236087851365277945956976543709998340361590134383718314428070011855946226376318839397712745672334684344586617496807908705803704071284048740118609114467977783598029006686938976881787785946905630190260940599579453432823469303026696443059025015972399867714215541693835559885291486318237914434496734087811872639496475100189041349008417061675093668333850551032972088269550769983616369411933015213796825837188091833656751221318492846368125550225998300412344784862595674492194617023806505913245610825731835380087608622102834270197698202313169017678006675195485079921636419370285375124784014907159135459982790513399611551794271106831134090584272884279791554849782954323534517065223269061394905987693002122963395687782878948440616007412945674919823050571642377154816321380631045902916136926708342856440730447899971901781465763473223850267253059899795996090799469201774624817718449867455659250178329070473119433165550807568221846571746373296884912819520317457002440926616910874148385078411929804522981857338977648103126085903001302413467189726673216491511131602920781738033436090243804708340403154190336 : ℝ) : EReal)

def algebraic_KernelRetIdeal_ReferenceRetIdeal_pre_rows_finite [hKernelRetIdeal : Cert.KernelRetIdeal.Facts] [hReferenceRetIdeal : Cert.ReferenceRetIdeal.Facts] [hPre_rows_finite : Cert.Pre_rows_finite.Facts] : Prop :=
  ∀ (m : (ℓ : Loc Cert.KernelRetIdeal.nD Cert.KernelRetIdeal.τ Cert.KernelRetIdeal.sig) → Buf (Elt Ideal) ℓ) (g : Dev Cert.KernelRetIdeal.nD → PrngReg)
    (m' : (ℓ : Loc Cert.ReferenceRetIdeal.nD Cert.ReferenceRetIdeal.τ Cert.ReferenceRetIdeal.sig) → Buf (Elt Ideal) ℓ) (g' : Dev Cert.ReferenceRetIdeal.nD → PrngReg), Pre_KernelRetIdeal_rows_finite m →
    (∀ c : Dev Cert.KernelRetIdeal.nD,
      m' ((c.tc : Thread Cert.ReferenceRetIdeal.nD Cert.ReferenceRetIdeal.τ).loc Cert.ReferenceRetIdeal.main_arg0) = m ((c.tc : Thread Cert.KernelRetIdeal.nD Cert.KernelRetIdeal.τ).loc Cert.KernelRetIdeal.main_arg0)
      ∧ m' ((c.tc : Thread Cert.ReferenceRetIdeal.nD Cert.ReferenceRetIdeal.τ).loc Cert.ReferenceRetIdeal.main_arg1) = m ((c.tc : Thread Cert.KernelRetIdeal.nD Cert.KernelRetIdeal.τ).loc Cert.KernelRetIdeal.main_arg1)) →
    ∃ (v0 : (c : Dev Cert.KernelRetIdeal.nD) → Buf (Elt Ideal) ((c.tc : Thread Cert.KernelRetIdeal.nD Cert.KernelRetIdeal.τ).loc Cert.KernelRetIdeal.main_v49)),
      θ_run (Cert.KernelRetIdeal.defs (F := Ideal)) (onTc (τ := Cert.KernelRetIdeal.τ) (Cert.KernelRetIdeal.main (F := Ideal))) ⟨m, fun _ => 0, g⟩ (fun r => ∀ c : Dev Cert.KernelRetIdeal.nD,
          r.2.mem ((c.tc : Thread Cert.KernelRetIdeal.nD Cert.KernelRetIdeal.τ).loc Cert.KernelRetIdeal.main_v49) = v0 c
          ∧ r.2.mem ((c.tc : Thread Cert.KernelRetIdeal.nD Cert.KernelRetIdeal.τ).loc Cert.KernelRetIdeal.main_arg0) = m ((c.tc : Thread Cert.KernelRetIdeal.nD Cert.KernelRetIdeal.τ).loc Cert.KernelRetIdeal.main_arg0)
          ∧ r.2.mem ((c.tc : Thread Cert.KernelRetIdeal.nD Cert.KernelRetIdeal.τ).loc Cert.KernelRetIdeal.main_arg1) = m ((c.tc : Thread Cert.KernelRetIdeal.nD Cert.KernelRetIdeal.τ).loc Cert.KernelRetIdeal.main_arg1))
      ∧ θ_run (Cert.ReferenceRetIdeal.defs (F := Ideal)) (onTc (τ := Cert.ReferenceRetIdeal.τ) (Cert.ReferenceRetIdeal.main (F := Ideal))) ⟨m', fun _ => 0, g'⟩ (fun r => ∀ c : Dev Cert.ReferenceRetIdeal.nD,
          r.2.mem ((c.tc : Thread Cert.ReferenceRetIdeal.nD Cert.ReferenceRetIdeal.τ).loc Cert.ReferenceRetIdeal.main_v61) = v0 c
          ∧ r.2.mem ((c.tc : Thread Cert.ReferenceRetIdeal.nD Cert.ReferenceRetIdeal.τ).loc Cert.ReferenceRetIdeal.main_arg0) = m' ((c.tc : Thread Cert.ReferenceRetIdeal.nD Cert.ReferenceRetIdeal.τ).loc Cert.ReferenceRetIdeal.main_arg0)
          ∧ r.2.mem ((c.tc : Thread Cert.ReferenceRetIdeal.nD Cert.ReferenceRetIdeal.τ).loc Cert.ReferenceRetIdeal.main_arg1) = m' ((c.tc : Thread Cert.ReferenceRetIdeal.nD Cert.ReferenceRetIdeal.τ).loc Cert.ReferenceRetIdeal.main_arg1))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)) →
    ∃ (v0 : (c : Dev Cert.KernelAdaIdeal.nD) → Buf (Elt Ideal) ((c.tc : Thread Cert.KernelAdaIdeal.nD Cert.KernelAdaIdeal.τ).loc Cert.KernelAdaIdeal.main_v4)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v4) = v0 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v6) = v0 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2))

def Claim : Prop :=
  ∃ (hKernel : Cert.Kernel.Facts) (hKernelIdeal : Cert.KernelIdeal.Facts) (hReferenceIdeal : Cert.ReferenceIdeal.Facts) (hReference : Cert.Reference.Facts) (hKernelTail : Cert.KernelTail.Facts) (hKernelTailIdeal : Cert.KernelTailIdeal.Facts) (hReferenceTailIdeal : Cert.ReferenceTailIdeal.Facts) (hKernelIn : Cert.KernelIn.Facts) (hKernelInIdeal : Cert.KernelInIdeal.Facts) (hReferenceInIdeal : Cert.ReferenceInIdeal.Facts) (hKernelRet : Cert.KernelRet.Facts) (hKernelRetIdeal : Cert.KernelRetIdeal.Facts) (hReferenceRetIdeal : Cert.ReferenceRetIdeal.Facts) (hKernelAda : Cert.KernelAda.Facts) (hKernelAdaIdeal : Cert.KernelAdaIdeal.Facts) (hReferenceAdaIdeal : Cert.ReferenceAdaIdeal.Facts) (hPre_rows_finite : Cert.Pre_rows_finite.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_KernelTail (hKernelTail := hKernelTail)
    ∧ quiescent_KernelTailIdeal (hKernelTailIdeal := hKernelTailIdeal)
    ∧ quiescent_ReferenceTailIdeal (hReferenceTailIdeal := hReferenceTailIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelRet (hKernelRet := hKernelRet)
    ∧ quiescent_KernelRetIdeal (hKernelRetIdeal := hKernelRetIdeal)
    ∧ quiescent_KernelRetIdeal_pre_rows_finite (hKernelRetIdeal := hKernelRetIdeal) (hPre_rows_finite := hPre_rows_finite)
    ∧ quiescent_ReferenceRetIdeal (hReferenceRetIdeal := hReferenceRetIdeal)
    ∧ quiescent_ReferenceRetIdeal_pre_rows_finite (hReferenceRetIdeal := hReferenceRetIdeal) (hPre_rows_finite := hPre_rows_finite)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ preserves_Kernel_KernelIdeal
    ∧ bitexact_Kernel_Reference (hKernel := hKernel) (hReference := hReference)
    ∧ algebraic_KernelIdeal_ReferenceIdeal (hKernelIdeal := hKernelIdeal) (hReferenceIdeal := hReferenceIdeal)
    ∧ preserves_KernelTail_KernelTailIdeal
    ∧ algebraic_KernelTailIdeal_ReferenceTailIdeal (hKernelTailIdeal := hKernelTailIdeal) (hReferenceTailIdeal := hReferenceTailIdeal)
    ∧ preserves_KernelIn_KernelInIdeal
    ∧ algebraic_KernelInIdeal_ReferenceInIdeal (hKernelInIdeal := hKernelInIdeal) (hReferenceInIdeal := hReferenceInIdeal)
    ∧ preserves_KernelRet_KernelRetIdeal
    ∧ algebraic_KernelRetIdeal_ReferenceRetIdeal_pre_rows_finite (hKernelRetIdeal := hKernelRetIdeal) (hReferenceRetIdeal := hReferenceRetIdeal) (hPre_rows_finite := hPre_rows_finite)
    ∧ preserves_KernelAda_KernelAdaIdeal
    ∧ algebraic_KernelAdaIdeal_ReferenceAdaIdeal (hKernelAdaIdeal := hKernelAdaIdeal) (hReferenceAdaIdeal := hReferenceAdaIdeal)
-- ==== Pre_rows_finite.lean ====
abbrev S2x8192x6144 : Shape := ⟨3, ![2, 8192, 6144]⟩
abbrev S1x1024x1024 : Shape := ⟨3, ![1, 1024, 1024]⟩
abbrev S2x8192x2048 : Shape := ⟨3, ![2, 8192, 2048]⟩
abbrev S_ : Shape := ⟨0, ![]⟩

class Facts : Prop where
  slices_S2x8192x6144_S2x8192x2048_0_0_0 : S2x8192x6144.Slices ![0, 0, 0] S2x8192x2048
  bitsLt_bf16_f32 : FTy.bits .bf16 < FTy.bits .f32
  bcast_S_S2x8192x2048 : S_.BroadcastsInDim S2x8192x2048 (![] : Fin 0 → Fin S2x8192x2048.rank)

variable [Facts]

def fn {F : FTy → Type} [FloatOps F] (main_arg0 : FVec F S2x8192x6144 .bf16) (main_arg1 : FVec F S1x1024x1024 .f32) : IVec S2x8192x2048 1 :=
  let main_v0 : FVec F S2x8192x2048 .bf16 := (extractStridedSlice S2x8192x2048 ![0, 0, 0] · slices_S2x8192x6144_S2x8192x2048_0_0_0) main_arg0
  let main_v1 : FVec F S2x8192x2048 .f32 := (extf .f32 · bitsLt_bf16_f32) main_v0
  let main_v2 : FVec F S2x8192x2048 .f32 := Host.absf main_v1
  let main_cst : FVec F S_ .f32 := constant S_ .f32 0x7F800000#32
  let main_v3 : FVec F S2x8192x2048 .f32 := broadcastInDim S2x8192x2048 ![] bcast_S_S2x8192x2048 main_cst
  let main_v4 : IVec S2x8192x2048 1 := cmpf .olt main_v2 main_v3
  main_v4
-- ==== Kernel.lean ====
abbrev S1x1024x8200 : Shape := ⟨3, ![1, 1024, 8200]⟩
abbrev S1024x8200 : Shape := ⟨2, ![1024, 8200]⟩
abbrev S8200x1024 : Shape := ⟨2, ![8200, 1024]⟩
abbrev S1024x8192 : Shape := ⟨2, ![1024, 8192]⟩
abbrev S1024x1024 : Shape := ⟨2, ![1024, 1024]⟩

abbrev nBuf : Space → Nat
  | .hbm => 4
  | .vmem => 4
  | .smem => 0
  | _ => 0

abbrev bufTy : (tb : Table) → Fin (tcTables nBuf tb) → BufTy
  | .hbm, ⟨0, _⟩ => ⟨S1x1024x8200, .f32⟩
  | .hbm, ⟨1, _⟩ => ⟨S1024x8200, .f32⟩
  | .hbm, ⟨2, _⟩ => ⟨S8200x1024, .f32⟩
  | .hbm, ⟨3, _⟩ => ⟨S1024x8192, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | _, _ => ⟨S1x1024x8200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let v0 : BitVec 1 := Scalar.cmpi .slt arg0 c6_i32
  let c128_i32 : BitVec 32 := 128#32
  let v1 : BitVec 32 := Scalar.muli arg0 c128_i32
  let c128_i32_0 : BitVec 32 := 128#32
  let v2 : BitVec 32 := Scalar.muli arg0 c128_i32_0
  let c1_i32 : BitVec 32 := 1#32
  let v3 : BitVec 32 := Scalar.addi v2 c1_i32
  let v4 : BitVec 32 := Scalar.select v0 v1 v3
  let c8_i32 : BitVec 32 := 8#32
  let v5 : BitVec 32 := Scalar.muli c8_i32 v4
  let c0_i32 : BitVec 32 := 0#32
  let c0_i32_1 : BitVec 32 := 0#32
  ![v5.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S1x1024x8200 : Shape := ⟨3, ![1, 1024, 8200]⟩
abbrev S1024x8200 : Shape := ⟨2, ![1024, 8200]⟩
abbrev S1024x6144 : Shape := ⟨2, ![1024, 6144]⟩
abbrev S1024x2048 : Shape := ⟨2, ![1024, 2048]⟩
abbrev S1024x8192 : Shape := ⟨2, ![1024, 8192]⟩

abbrev nBuf : Space → Nat
  | .hbm => 6
  | .vmem => 0
  | .smem => 0
  | _ => 0

abbrev bufTy : (tb : Table) → Fin (tcTables nBuf tb) → BufTy
  | .hbm, ⟨0, _⟩ => ⟨S1x1024x8200, .f32⟩
  | .hbm, ⟨1, _⟩ => ⟨S1024x8200, .f32⟩
  | .hbm, ⟨2, _⟩ => ⟨S1024x6144, .f32⟩
  | .hbm, ⟨3, _⟩ => ⟨S1024x2048, .f32⟩
  | .hbm, ⟨4, _⟩ => ⟨S1024x8192, .f32⟩
  | .hbm, ⟨5, _⟩ => ⟨S1024x8192, .bf16⟩
  | _, _ => ⟨S1x1024x8200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== KernelTail.lean ====
abbrev S2x8192x1024 : Shape := ⟨3, ![2, 8192, 1024]⟩
abbrev S2x4x1024x2048 : Shape := ⟨4, ![2, 4, 1024, 2048]⟩
abbrev S16384x6144 : Shape := ⟨2, ![16384, 6144]⟩
abbrev S2x6144 : Shape := ⟨2, ![2, 6144]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S2x1024 : Shape := ⟨2, ![2, 1024]⟩
abbrev S2x1x1024 : Shape := ⟨3, ![2, 1, 1024]⟩
abbrev S16384x1024 : Shape := ⟨2, ![16384, 1024]⟩
abbrev S1024x1024 : Shape := ⟨2, ![1024, 1024]⟩
abbrev S1024x2816 : Shape := ⟨2, ![1024, 2816]⟩
abbrev S2816x1024 : Shape := ⟨2, ![2816, 1024]⟩
abbrev S512x1024 : Shape := ⟨2, ![512, 1024]⟩
abbrev S1x1x1024x512 : Shape := ⟨4, ![1, 1, 1024, 512]⟩
abbrev S1x1x1024 : Shape := ⟨3, ![1, 1, 1024]⟩
abbrev S512x2816 : Shape := ⟨2, ![512, 2816]⟩
abbrev S1x1x1024x256 : Shape := ⟨4, ![1, 1, 1024, 256]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x2816 : Shape := ⟨2, ![256, 2816]⟩

abbrev nBuf : Space → Nat
  | .hbm => 40
  | .vmem => 26
  | .smem => 0
  | _ => 0

abbrev bufTy : (tb : Table) → Fin (tcTables nBuf tb) → BufTy
  | .hbm, ⟨0, _⟩ => ⟨S2x8192x1024, .bf16⟩
  | .hbm, ⟨1, _⟩ => ⟨S2x4x1024x2048, .bf16⟩
  | .hbm, ⟨2, _⟩ => ⟨S16384x6144, .bf16⟩
  | .hbm, ⟨3, _⟩ => ⟨S2x8192x1024, .f32⟩
  | .hbm, ⟨4, _⟩ => ⟨S2x6144, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1x1024, .f32⟩
  | .hbm, ⟨19, _⟩ => ⟨S2x1x1024, .f32⟩
  | .hbm, ⟨20, _⟩ => ⟨S2x1x1024, .f32⟩
  | .hbm, ⟨21, _⟩ => ⟨S2x1x1024, .f32⟩
  | .hbm, ⟨22, _⟩ => ⟨S2x1x1024, .f32⟩
  | .hbm, ⟨23, _⟩ => ⟨S2x1x1024, .f32⟩
  | .hbm, ⟨24, _⟩ => ⟨S16384x1024, .f32⟩
  | .hbm, ⟨25, _⟩ => ⟨S16384x1024, .bf16⟩
  | .hbm, ⟨26, _⟩ => ⟨S1024, .f32⟩
  | .hbm, ⟨27, _⟩ => ⟨S1x1024, .f32⟩
  | .hbm, ⟨28, _⟩ => ⟨S1x1024, .f32⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S1024x1024, .bf16⟩
  | .hbm, ⟨33, _⟩ => ⟨S1024x2816, .f32⟩
  | .hbm, ⟨34, _⟩ => ⟨S1024x2816, .bf16⟩
  | .hbm, ⟨35, _⟩ => ⟨S1024x2816, .f32⟩
  | .hbm, ⟨36, _⟩ => ⟨S1024x2816, .bf16⟩
  | .hbm, ⟨37, _⟩ => ⟨S2816x1024, .f32⟩
  | .hbm, ⟨38, _⟩ => ⟨S2816x1024, .bf16⟩
  | .hbm, ⟨39, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x2816, .bf16⟩
  | .local _ .vmem, ⟨21, _⟩ => ⟨S1024x2816, .bf16⟩
  | .local _ .vmem, ⟨22, _⟩ => ⟨S2816x1024, .bf16⟩
  | .local _ .vmem, ⟨23, _⟩ => ⟨S512x1024, .f32⟩
  | .local _ .vmem, ⟨24, _⟩ => ⟨S512x1024, .f32⟩
  | .local _ .vmem, ⟨25, _⟩ => ⟨S512x2816, .bf16⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi v26 c4_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v26 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c4_i32_16 : BitVec 32 := 4#32
  let c0_i32_17 : BitVec 32 := 0#32
  let v44 : BitVec 1 := Scalar.cmpi .eq c4_i32_16 c0_i32_17
  let c1_i32_18 : BitVec 32 := 1#32
  let v45 : BitVec 32 := Scalar.select v44 c1_i32_18 c4_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  let c0_i32_23 : BitVec 32 := 0#32
  ![v16.toNat, v43.toNat, c0_i32_22.toNat, v53.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceTailIdeal.lean ====
abbrev S2x8192x1024 : Shape := ⟨3, ![2, 8192, 1024]⟩
abbrev S2x4x1024x2048 : Shape := ⟨4, ![2, 4, 1024, 2048]⟩
abbrev S16384x6144 : Shape := ⟨2, ![16384, 6144]⟩
abbrev S2x6144 : Shape := ⟨2, ![2, 6144]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S2x4x2048x1024 : Shape := ⟨4, ![2, 4, 2048, 1024]⟩
abbrev S16384x1024 : Shape := ⟨2, ![16384, 1024]⟩
abbrev S2x1024 : Shape := ⟨2, ![2, 1024]⟩
abbrev S1024x1024 : Shape := ⟨2, ![1024, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x2816 : Shape := ⟨2, ![1024, 2816]⟩
abbrev S2x8192x2816 : Shape := ⟨3, ![2, 8192, 2816]⟩
abbrev S2816x1024 : Shape := ⟨2, ![2816, 1024]⟩

abbrev nBuf : Space → Nat
  | .hbm => 98
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x4x1024x2048, .bf16⟩
  | .hbm, ⟨2, _⟩ => ⟨S16384x6144, .bf16⟩
  | .hbm, ⟨3, _⟩ => ⟨S2x8192x1024, .f32⟩
  | .hbm, ⟨4, _⟩ => ⟨S2x6144, .f32⟩
  | .hbm, ⟨5, _⟩ => ⟨S1x1024x1024, .f32⟩
  | .hbm, ⟨6, _⟩ => ⟨S1x1024x1024, .f32⟩
  | .hbm, ⟨7, _⟩ => ⟨S1x1024, .f32⟩
  | .hbm, ⟨8, _⟩ => ⟨S1x1024x2816, .f32⟩
  | .hbm, ⟨9, _⟩ => ⟨S1x1024x2816, .f32⟩
  | .hbm, ⟨10, _⟩ => ⟨S1x2816x1024, .f32⟩
  | .hbm, ⟨11, _⟩ => ⟨S1024, .f32⟩
  | .hbm, ⟨12, _⟩ => ⟨S2x4x1024x2048, .f32⟩
  | .hbm, ⟨13, _⟩ => ⟨S2x4x2048x1024, .f32⟩
  | .hbm, ⟨14, _⟩ => ⟨S2x8192x1024, .f32⟩
  | .hbm, ⟨15, _⟩ => ⟨S16384x6144, .f32⟩
  | .hbm, ⟨16, _⟩ => ⟨S16384x1024, .f32⟩
  | .hbm, ⟨17, _⟩ => ⟨S2x8192x1024, .f32⟩
  | .hbm, ⟨18, _⟩ => ⟨S2x1024, .f32⟩
  | .hbm, ⟨19, _⟩ => ⟨S2x1024, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S2x1024, .f32⟩
  | .hbm, ⟨24, _⟩ => ⟨S2x8192x1024, .f32⟩
  | .hbm, ⟨25, _⟩ => ⟨S1024x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x1x1024, .f32⟩
  | .hbm, ⟨30, _⟩ => ⟨S1024x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S1024, .f32⟩
  | .hbm, ⟨36, _⟩ => ⟨S2x8192x1024, .f32⟩
  | .hbm, ⟨37, _⟩ => ⟨S_, .f32⟩
  | .hbm, ⟨38, _⟩ => ⟨S2x8192, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x1, .f32⟩
  | .hbm, ⟨47, _⟩ => ⟨S2x8192x1024, .f32⟩
  | .hbm, ⟨48, _⟩ => ⟨S2x8192x1024, .f32⟩
  | .hbm, ⟨49, _⟩ => ⟨S1x1x1024, .f32⟩
  | .hbm, ⟨50, _⟩ => ⟨S2x8192x1024, .f32⟩
  | .hbm, ⟨51, _⟩ => ⟨S2x8192x1024, .f32⟩
  | .hbm, ⟨52, _⟩ => ⟨S2x1x1024, .f32⟩
  | .hbm, ⟨53, _⟩ => ⟨S_, .f32⟩
  | .hbm, ⟨54, _⟩ => ⟨S2x1x1024, .f32⟩
  | .hbm, ⟨55, _⟩ => ⟨S2x1x1024, .f32⟩
  | .hbm, ⟨56, _⟩ => ⟨S2x8192x1024, .f32⟩
  | .hbm, ⟨57, _⟩ => ⟨S2x8192x1024, .f32⟩
  | .hbm, ⟨58, _⟩ => ⟨S2x1x1024, .f32⟩
  | .hbm, ⟨59, _⟩ => ⟨S2x8192x1024, .f32⟩
  | .hbm, ⟨60, _⟩ => ⟨S2x8192x1024, .f32⟩
  | .hbm, ⟨61, _⟩ => ⟨S1024x2816, .f32⟩
  | .hbm, ⟨62, _⟩ => ⟨S2x8192x2816, .f32⟩
  | .hbm, ⟨63, _⟩ => ⟨S2x8192x2816, .f32⟩
  | .hbm, ⟨64, _⟩ => ⟨S2x8192x2816, .f32⟩
  | .hbm, ⟨65, _⟩ => ⟨S_, .f32⟩
  | .hbm, ⟨66, _⟩ => ⟨S2x8192x2816, .f32⟩
  | .hbm, ⟨67, _⟩ => ⟨S2x8192x2816, .f32⟩
  | .hbm, ⟨68, _⟩ => ⟨S_, .f32⟩
  | .hbm, ⟨69, _⟩ => ⟨S2x8192x2816, .f32⟩
  | .hbm, ⟨70, _⟩ => ⟨S2x8192x2816, .f32⟩
  | .hbm, ⟨71, _⟩ => ⟨S2x8192x2816, .f32⟩
  | .hbm, ⟨72, _⟩ => ⟨S1024x2816, .f32⟩
  | .hbm, ⟨73, _⟩ => ⟨S2x8192x2816, .f32⟩
  | .hbm, ⟨74, _⟩ => ⟨S2x8192x2816, .f32⟩
  | .hbm, ⟨75, _⟩ => ⟨S2816x1024, .f32⟩
  | .hbm, ⟨76, _⟩ => ⟨S2x8192x1024, .f32⟩
  | .hbm, ⟨77, _⟩ => ⟨S2x1x1024, .f32⟩
  | .hbm, ⟨78, _⟩ => ⟨S2x8192x1024, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | .hbm, ⟨82, _⟩ => ⟨S_, .f32⟩
  | .hbm, ⟨83, _⟩ => ⟨S2x8192, .f32⟩
  | .hbm, ⟨84, _⟩ => ⟨S2x8192x1, .f32⟩
  | .hbm, ⟨85, _⟩ => ⟨S_, .f32⟩
  | .hbm, ⟨86, _⟩ => ⟨S2x8192x1, .f32⟩
  | .hbm, ⟨87, _⟩ => ⟨S2x8192x1, .f32⟩
  | .hbm, ⟨88, _⟩ => ⟨S_, .f32⟩
  | .hbm, ⟨89, _⟩ => ⟨S2x8192x1, .f32⟩
  | .hbm, ⟨90, _⟩ => ⟨S2x8192x1, .f32⟩
  | .hbm, ⟨91, _⟩ => ⟨S2x8192x1, .f32⟩
  | .hbm, ⟨92, _⟩ => ⟨S2x8192x1024, .f32⟩
  | .hbm, ⟨93, _⟩ => ⟨S2x8192x1024, .f32⟩
  | .hbm, ⟨94, _⟩ => ⟨S1x1x1024, .f32⟩
  | .hbm, ⟨95, _⟩ => ⟨S2x8192x1024, .f32⟩
  | .hbm, ⟨96, _⟩ => ⟨S2x8192x1024, .f32⟩
  | .hbm, ⟨97, _⟩ => ⟨S16384x1024, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst : Ref sig .tc := ⟨.hbm, 37, rfl⟩
abbrev main_v25 : Ref sig .tc := ⟨.hbm, 38, rfl⟩
abbrev main_v26 : Ref sig .tc := ⟨.hbm, 39, rfl⟩
abbrev main_cst_0 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_2 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_3 : Ref sig .tc := ⟨.hbm, 82, rfl⟩
abbrev main_v58 : Ref sig .tc := ⟨.hbm, 83, rfl⟩
abbrev main_v59 : Ref sig .tc := ⟨.hbm, 84, rfl⟩
abbrev main_cst_4 : Ref sig .tc := ⟨.hbm, 85, rfl⟩
abbrev main_v60 : Ref sig .tc := ⟨.hbm, 86, rfl⟩
abbrev main_v61 : Ref sig .tc := ⟨.hbm, 87, rfl⟩
abbrev main_cst_5 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]
-- ==== KernelIn.lean ====
abbrev S2x8192x1024 : Shape := ⟨3, ![2, 8192, 1024]⟩
abbrev S2x6144 : Shape := ⟨2, ![2, 6144]⟩
abbrev S1x1024 : Shape := ⟨2, ![1, 1024]⟩
abbrev S1x1024x8200 : Shape := ⟨3, ![1, 1024, 8200]⟩
abbrev S1x8 : Shape := ⟨2, ![1, 8]⟩
abbrev S2x1024 : Shape := ⟨2, ![2, 1024]⟩
abbrev S2x1x1024 : Shape := ⟨3, ![2, 1, 1024]⟩
abbrev S1024x8200 : Shape := ⟨2, ![1024, 8200]⟩
abbrev S1024x6144 : Shape := ⟨2, ![1024, 6144]⟩
abbrev S1024x2048 : Shape := ⟨2, ![1024, 2048]⟩
abbrev S1024x8192 : Shape := ⟨2, ![1024, 8192]⟩
abbrev S1024x8 : Shape := ⟨2, ![1024, 8]⟩
abbrev S1024x8x1 : Shape := ⟨3, ![1024, 8, 1]⟩
abbrev S1024x8x1x6 : Shape := ⟨4, ![1024, 8, 1, 6]⟩
abbrev S1024x8x6 : Shape := ⟨3, ![1024, 8, 6]⟩
abbrev S_ : Shape := ⟨0, ![]⟩
abbrev S1024x8x10 : Shape := ⟨3, ![1024, 8, 10]⟩
abbrev S1024x8x16 : Shape := ⟨3, ![1024, 8, 16]⟩
abbrev S1024x128 : Shape := ⟨2, ![1024, 128]⟩
abbrev S8 : Shape := ⟨1, ![8]⟩
abbrev S8x1 : Shape := ⟨2, ![8, 1]⟩
abbrev S8x1x6 : Shape := ⟨3, ![8, 1, 6]⟩
abbrev S8x6 : Shape := ⟨2, ![8, 6]⟩
abbrev S8x10 : Shape := ⟨2, ![8, 10]⟩
abbrev S8x16 : Shape := ⟨2, ![8, 16]⟩
abbrev S128 : Shape := ⟨1, ![128]⟩
abbrev S1x128 : Shape := ⟨2, ![1, 128]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x128 : Shape := ⟨2, ![8192, 128]⟩
abbrev S16384x1024 : Shape := ⟨2, ![16384, 1024]⟩
abbrev S1024 : Shape := ⟨1, ![1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16384x6144 : Shape := ⟨2, ![16384, 6144]⟩
abbrev S2x4x1024x2048 : Shape := ⟨4, ![2, 4, 1024, 2048]⟩
abbrev S2x1024x8192 : Shape := ⟨3, ![2, 1024, 8192]⟩
abbrev S2x4x128x2048 : Shape := ⟨4, ![2, 4, 128, 2048]⟩
abbrev S2x8192x128 : Shape := ⟨3, ![2, 8192, 128]⟩
abbrev S512x1024 : Shape := ⟨2, ![512, 1024]⟩
abbrev S1x1x1024 : Shape := ⟨3, ![1, 1, 1024]⟩
abbrev S512x128 : Shape := ⟨2, ![512, 128]⟩
abbrev S512x6144 : Shape := ⟨2, ![512, 6144]⟩
abbrev S1x1x1024x512 : Shape := ⟨4, ![1, 1, 1024, 512]⟩
abbrev S1x1024x512 : Shape := ⟨3, ![1, 1024, 512]⟩
abbrev S1x1x128x512 : Shape := ⟨4, ![1, 1, 128, 512]⟩
abbrev S1x512x128 : Shape := ⟨3, ![1, 512, 128]⟩
abbrev S2x512x1024 : Shape := ⟨3, ![2, 512, 1024]⟩
abbrev S1x512x1024 : Shape := ⟨3, ![1, 512, 1024]⟩
abbrev S1024x512 : Shape := ⟨2, ![1024, 512]⟩
abbrev S128x512 : Shape := ⟨2, ![128, 512]⟩
abbrev S1x512x512 : Shape := ⟨3, ![1, 512, 512]⟩
abbrev S1x1x512x512 : Shape := ⟨4, ![1, 1, 512, 512]⟩

abbrev nBuf : Space → Nat
  | .hbm => 78
  | .vmem => 30
  | .smem => 0
  | _ => 0

abbrev bufTy : (tb : Table) → Fin (tcTables nBuf tb) → BufTy
  | .hbm, ⟨0, _⟩ => ⟨S2x8192x1024, .f32⟩
  | .hbm, ⟨1, _⟩ => ⟨S2x6144, .f32⟩
  | .hbm, ⟨2, _⟩ => ⟨S1x1024, .f32⟩
  | .hbm, ⟨3, _⟩ => ⟨S1x1024x8200, .f32⟩
  | .hbm, ⟨4, _⟩ => ⟨S1x8, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S1024x8200, .f32⟩
  | .hbm, ⟨18, _⟩ => ⟨S1024x6144, .f32⟩
  | .hbm, ⟨19, _⟩ => ⟨S1024x8200, .f32⟩
  | .hbm, ⟨20, _⟩ => ⟨S1024x2048, .f32⟩
  | .hbm, ⟨21, _⟩ => ⟨S1024x8192, .f32⟩
  | .hbm, ⟨22, _⟩ => ⟨S1024x8192, .bf16⟩
  | .hbm, ⟨23, _⟩ => ⟨S1024x8200, .f32⟩
  | .hbm, ⟨24, _⟩ => ⟨S1024x8, .f32⟩
  | .hbm, ⟨25, _⟩ => ⟨S1024x8x1, .f32⟩
  | .hbm, ⟨26, _⟩ => ⟨S1024x8x1x6, .f32⟩
  | .hbm, ⟨27, _⟩ => ⟨S1024x8x6, .f32⟩
  | .hbm, ⟨28, _⟩ => ⟨S_, .f32⟩
  | .hbm, ⟨29, _⟩ => ⟨S1024x8x10, .f32⟩
  | .hbm, ⟨30, _⟩ => ⟨S1024x8x16, .f32⟩
  | .hbm, ⟨31, _⟩ => ⟨S1024x128, .f32⟩
  | .hbm, ⟨32, _⟩ => ⟨S1024x128, .bf16⟩
  | .hbm, ⟨33, _⟩ => ⟨S8, .f32⟩
  | .hbm, ⟨34, _⟩ => ⟨S8x1, .f32⟩
  | .hbm, ⟨35, _⟩ => ⟨S8x1x6, .f32⟩
  | .hbm, ⟨36, _⟩ => ⟨S8x6, .f32⟩
  | .hbm, ⟨37, _⟩ => ⟨S_, .f32⟩
  | .hbm, ⟨38, _⟩ => ⟨S8x10, .f32⟩
  | .hbm, ⟨39, _⟩ => ⟨S8x16, .f32⟩
  | .hbm, ⟨40, _⟩ => ⟨S128, .f32⟩
  | .hbm, ⟨41, _⟩ => ⟨S1x128, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S8192, .i32⟩
  | .hbm, ⟨51, _⟩ => ⟨S8192, .f32⟩
  | .hbm, ⟨52, _⟩ => ⟨S8192x1, .f32⟩
  | .hbm, ⟨53, _⟩ => ⟨S1x64, .f32⟩
  | .hbm, ⟨54, _⟩ => ⟨S8192x64, .f32⟩
  | .hbm, ⟨55, _⟩ => ⟨S8192x64, .f32⟩
  | .hbm, ⟨56, _⟩ => ⟨S8192x64, .f32⟩
  | .hbm, ⟨57, _⟩ => ⟨S8192x64, .f32⟩
  | .hbm, ⟨58, _⟩ => ⟨S8192x64, .f32⟩
  | .hbm, ⟨59, _⟩ => ⟨S8192x128, .f32⟩
  | .hbm, ⟨60, _⟩ => ⟨S8192x64, .f32⟩
  | .hbm, ⟨61, _⟩ => ⟨S8192x128, .f32⟩
  | .hbm, ⟨62, _⟩ => ⟨S16384x1024, .f32⟩
  | .hbm, ⟨63, _⟩ => ⟨S1024, .f32⟩
  | .hbm, ⟨64, _⟩ => ⟨S1x1024, .f32⟩
  | .hbm, ⟨65, _⟩ => ⟨S512, .i32⟩
  | .hbm, ⟨66, _⟩ => ⟨S512x1, .i32⟩
  | .hbm, ⟨67, _⟩ => ⟨S512, .i32⟩
  | .hbm, ⟨68, _⟩ => ⟨S1x512, .i32⟩
  | .hbm, ⟨69, _⟩ => ⟨S512x512, .i32⟩
  | .hbm, ⟨70, _⟩ => ⟨S512x512, .i32⟩
  | .hbm, ⟨71, _⟩ => ⟨S512x512, .i1⟩
  | .hbm, ⟨72, _⟩ => ⟨S512x512, .bf16⟩
  | .hbm, ⟨73, _⟩ => ⟨S16384x6144, .bf16⟩
  | .hbm, ⟨74, _⟩ => ⟨S2x4x1024x2048, .bf16⟩
  | .hbm, ⟨75, _⟩ => ⟨S2x1024x8192, .bf16⟩
  | .hbm, ⟨76, _⟩ => ⟨S2x4x128x2048, .f32⟩
  | .hbm, ⟨77, _⟩ => ⟨S2x8192x128, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1024x8192, .bf16⟩
  | .local _ .vmem, ⟨15, _⟩ => ⟨S1024x128, .bf16⟩
  | .local _ .vmem, ⟨16, _⟩ => ⟨S1x128, .f32⟩
  | .local _ .vmem, ⟨17, _⟩ => ⟨S512x512, .bf16⟩
  | .local _ .vmem, ⟨18, _⟩ => ⟨S512x6144, .bf16⟩
  | .local _ .vmem, ⟨19, _⟩ => ⟨S512x6144, .bf16⟩
  | .local _ .vmem, ⟨20, _⟩ => ⟨S1x1x1024x512, .bf16⟩
  | .local _ .vmem, ⟨21, _⟩ => ⟨S1x1x1024x512, .bf16⟩
  | .local _ .vmem, ⟨22, _⟩ => ⟨S1x1024x512, .bf16⟩
  | .local _ .vmem, ⟨23, _⟩ => ⟨S1x1024x512, .bf16⟩
  | .local _ .vmem, ⟨24, _⟩ => ⟨S1x1x128x512, .f32⟩
  | .local _ .vmem, ⟨25, _⟩ => ⟨S1x1x128x512, .f32⟩
  | .local _ .vmem, ⟨26, _⟩ => ⟨S1x512x128, .bf16⟩
  | .local _ .vmem, ⟨27, _⟩ => ⟨S1x512x128, .bf16⟩
  | .local _ .vmem, ⟨28, _⟩ => ⟨S2x512x1024, .bf16⟩
  | .local _ .vmem, ⟨29, _⟩ => ⟨S1x128, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_1 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64_0 : Ref sig .tc := ⟨.hbm, 73, rfl⟩
abbrev main_v64_1 : Ref sig .tc := ⟨.hbm, 74, rfl⟩
abbrev main_v64_2 : Ref sig .tc := ⟨.hbm, 75, rfl⟩
abbrev main_v64_3 : Ref sig .tc := ⟨.hbm, 76, rfl⟩
abbrev main_v64_4 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let arg0 : BitVec 32 := BitVec.ofNat 32 (i 0).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg0 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let v13 : Index := Scalar.indexCast v12
  let c0 : Index := 0#32
  let c0_5 : Index := 0#32
  ![v13.toNat, 0, 0]
def k0_off2 (i : grid0.Coords) : Fin 3 → Nat :=
  let arg0 : BitVec 32 := BitVec.ofNat 32 (i 0).val
  let c1_i32_175 : BitVec 32 := 1#32
  let v355 : BitVec 32 := Scalar.addi arg0 c1_i32_175
  let c2_i32_176 : BitVec 32 := 2#32
  let c0_i32_177 : BitVec 32 := 0#32
  let v356 : BitVec 1 := Scalar.cmpi .eq c2_i32_176 c0_i32_177
  let c1_i32_178 : BitVec 32 := 1#32
  let v357 : BitVec 32 := Scalar.select v356 c1_i32_178 c2_i32_176
  let v358 : BitVec 32 := Scalar.remsi v355 v357
  let c0_i32_180 : BitVec 32 := 0#32
  let v360 : BitVec 1 := Scalar.cmpi .slt v358 c0_i32_180
  let c0_i32_181 : BitVec 32 := 0#32
  let v361 : BitVec 1 := Scalar.cmpi .slt v357 c0_i32_181
  let v362 : BitVec 1 := Scalar.xori v360 v361
  let c0_i32_179 : BitVec 32 := 0#32
  let v359 : BitVec 1 := Scalar.cmpi .ne v358 c0_i32_179
  let v363 : BitVec 1 := Scalar.andi v362 v359
  let v364 : BitVec 32 := Scalar.addi v358 v357
  let v365 : BitVec 32 := Scalar.select v363 v364 v358
  let v366 : Index := Scalar.indexCast v365
  let c0_182 : Index := 0#32
  let c0_183 : Index := 0#32
  ![v366.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_6 (i : grid0.Coords) : Fin 3 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi v26 c4_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v26 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c4_i32_16 : BitVec 32 := 4#32
  let c0_i32_17 : BitVec 32 := 0#32
  let v44 : BitVec 1 := Scalar.cmpi .eq c4_i32_16 c0_i32_17
  let c1_i32_18 : BitVec 32 := 1#32
  let v45 : BitVec 32 := Scalar.select v44 c1_i32_18 c4_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  let c0_i32_23 : BitVec 32 := 0#32
  ![v16.toNat, v43.toNat, c0_i32_22.toNat, v53.toNat]

def cc0_transform_15 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi v26 c4_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v26 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c4_i32_16 : BitVec 32 := 4#32
  let c0_i32_17 : BitVec 32 := 0#32
  let v44 : BitVec 1 := Scalar.cmpi .eq c4_i32_16 c0_i32_17
  let c1_i32_18 : BitVec 32 := 1#32
  let v45 : BitVec 32 := Scalar.select v44 c1_i32_18 c4_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  let c0_i32_23 : BitVec 32 := 0#32
  ![v16.toNat, v43.toNat, c0_i32_22.toNat, v53.toNat]

def cc0_transform_17 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x8192 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x6144 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x128x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== ReferenceInIdeal.lean ====
abbrev S2x8192x1024 : Shape := ⟨3, ![2, 8192, 1024]⟩
abbrev S2x6144 : Shape := ⟨2, ![2, 6144]⟩
abbrev S1x1024 : Shape := ⟨2, ![1, 1024]⟩
abbrev S1x1024x8200 : Shape := ⟨3, ![1, 1024, 8200]⟩
abbrev S1x8 : Shape := ⟨2, ![1, 8]⟩
abbrev S2x1024 : Shape := ⟨2, ![2, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x1x1024 : Shape := ⟨3, ![2, 1, 1024]⟩
abbrev S1024x8200 : Shape := ⟨2, ![1024, 8200]⟩
abbrev S2x8192x8200 : Shape := ⟨3, ![2, 8192, 8200]⟩
abbrev S2x8192x512 : Shape := ⟨3, ![2, 8192, 512]⟩
abbrev S2x8192x8 : Shape := ⟨3, ![2, 8192, 8]⟩
abbrev S2x8192x4x128 : Shape := ⟨4, ![2, 8192, 4, 128]⟩
abbrev S64 : Shape := ⟨1, ![64]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S2x8192x4x64 : Shape := ⟨4, ![2, 8192, 4, 64]⟩
abbrev S2x8192x6144 : Shape := ⟨3, ![2, 8192, 6144]⟩
abbrev S8 : Shape := ⟨1, ![8]⟩
abbrev S1x1x8 : Shape := ⟨3, ![1, 1, 8]⟩
abbrev S2x8192x8x1 : Shape := ⟨4, ![2, 8192, 8, 1]⟩
abbrev S2x8192x8x1x6 : Shape := ⟨5, ![2, 8192, 8, 1, 6]⟩
abbrev S2x8192x8x6 : Shape := ⟨4, ![2, 8192, 8, 6]⟩
abbrev S2x8192x8x10 : Shape := ⟨4, ![2, 8192, 8, 10]⟩
abbrev S2x8192x8x16 : Shape := ⟨4, ![2, 8192, 8, 16]⟩
abbrev S2x8192x128 : Shape := ⟨3, ![2, 8192, 128]⟩
abbrev S1x8192 : Shape := ⟨2, ![1, 8192]⟩
abbrev S8192x8192 : Shape := ⟨2, ![8192, 8192]⟩
abbrev S2x128x8192 : Shape := ⟨3, ![2, 128, 8192]⟩
abbrev S16384x6144 : Shape := ⟨2, ![16384, 6144]⟩
abbrev S2x4x2048x1024 : Shape := ⟨4, ![2, 4, 2048, 1024]⟩
abbrev S2x4x1024x2048 : Shape := ⟨4, ![2, 4, 1024, 2048]⟩
abbrev S2x1024x8192 : Shape := ⟨3, ![2, 1024, 8192]⟩
abbrev S2x4x2048x128 : Shape := ⟨4, ![2, 4, 2048, 128]⟩
abbrev S2x4x128x2048 : Shape := ⟨4, ![2, 4, 128, 2048]⟩

abbrev nBuf : Space → Nat
  | .hbm => 194
  | .vmem => 0
  | .smem => 0
  | _ => 0

abbrev hbmTy0_0 (i : Nat) : BufTy := match i % 128 with
  | 0 => ⟨S2x8192x1024, .f32⟩
  | 1 => ⟨S2x6144, .f32⟩
  | 2 => ⟨S1x1024, .f32⟩
  | 3 => ⟨S1x1024x8200, .f32⟩
  | 4 => ⟨S1x8, .f32⟩
  | 5 => ⟨S2x1024, .f32⟩
  | 6 => ⟨S2x1024, .f32⟩
  | 7 => ⟨S2x1024, .f32⟩
  | 8 => ⟨S2x1024, .f32⟩
  | 9 => ⟨S2x1024, .f32⟩
  | 10 => ⟨S2x1024, .f32⟩
  | 11 => ⟨S1024, .f32⟩
  | 12 => ⟨S2x8192x1024, .f32⟩
  | 13 => ⟨S_, .f32⟩
  | 14 => ⟨S2x8192, .f32⟩
  | 15 => ⟨S2x8192x1, .f32⟩
  | 16 => ⟨S_, .f32⟩
  | 17 => ⟨S2x8192x1, .f32⟩
  | 18 => ⟨S2x8192x1, .f32⟩
  | 19 => ⟨S_, .f32⟩
  | 20 => ⟨S2x8192x1, .f32⟩
  | 21 => ⟨S2x8192x1, .f32⟩
  | 22 => ⟨S2x8192x1, .f32⟩
  | 23 => ⟨S2x8192x1024, .f32⟩
  | 24 => ⟨S2x8192x1024, .f32⟩
  | 25 => ⟨S1x1x1024, .f32⟩
  | 26 => ⟨S2x8192x1024, .f32⟩
  | 27 => ⟨S2x8192x1024, .f32⟩
  | 28 => ⟨S2x1x1024, .f32⟩
  | 29 => ⟨S_, .f32⟩
  | 30 => ⟨S2x1x1024, .f32⟩
  | 31 => ⟨S2x1x1024, .f32⟩
  | 32 => ⟨S2x8192x1024, .f32⟩
  | 33 => ⟨S2x8192x1024, .f32⟩
  | 34 => ⟨S2x1x1024, .f32⟩
  | 35 => ⟨S2x8192x1024, .f32⟩
  | 36 => ⟨S2x8192x1024, .f32⟩
  | 37 => ⟨S1024x8200, .f32⟩
  | 38 => ⟨S2x8192x8200, .f32⟩
  | 39 => ⟨S2x8192x512, .f32⟩
  | 40 => ⟨S2x8192x512, .f32⟩
  | 41 => ⟨S2x8192x1024, .f32⟩
  | 42 => ⟨S2x8192x1024, .f32⟩
  | 43 => ⟨S2x8192x1024, .f32⟩
  | 44 => ⟨S2x8192x1024, .f32⟩
  | 45 => ⟨S2x8192x1024, .f32⟩
  | 46 => ⟨S2x8192x8, .f32⟩
  | 47 => ⟨S2x8192x1024, .f32⟩
  | 48 => ⟨S2x8192x1024, .f32⟩
  | 49 => ⟨S2x8192x4x128, .f32⟩
  | 50 => ⟨S64, .f32⟩
  | 51 => ⟨S64, .f32⟩
  | 52 => ⟨S_, .f32⟩
  | 53 => ⟨S64, .f32⟩
  | 54 => ⟨S64, .f32⟩
  | 55 => ⟨S_, .f32⟩
  | 56 => ⟨S64, .f32⟩
  | 57 => ⟨S64, .f32⟩
  | 58 => ⟨S8192, .i32⟩
  | 59 => ⟨S8192, .f32⟩
  | 60 => ⟨S8192x1, .f32⟩
  | 61 => ⟨S1x64, .f32⟩
  | 62 => ⟨S8192x64, .f32⟩
  | 63 => ⟨S8192x64, .f32⟩
  | 64 => ⟨S8192x64, .f32⟩
  | 65 => ⟨S8192x64, .f32⟩
  | 66 => ⟨S1x8192x1x64, .f32⟩
  | 67 => ⟨S8192x64, .f32⟩
  | 68 => ⟨S1x8192x1x64, .f32⟩
  | 69 => ⟨S2x8192x4x64, .f32⟩
  | 70 => ⟨S2x8192x4x64, .f32⟩
  | 71 => ⟨S2x8192x4x64, .f32⟩
  | 72 => ⟨S2x8192x4x64, .f32⟩
  | 73 => ⟨S2x8192x4x64, .f32⟩
  | 74 => ⟨S2x8192x4x64, .f32⟩
  | 75 => ⟨S2x8192x4x64, .f32⟩
  | 76 => ⟨S2x8192x4x64, .f32⟩
  | 77 => ⟨S2x8192x4x64, .f32⟩
  | 78 => ⟨S2x8192x4x64, .f32⟩
  | 79 => ⟨S2x8192x4x64, .f32⟩
  | 80 => ⟨S2x8192x4x64, .f32⟩
  | 81 => ⟨S2x8192x4x128, .f32⟩
  | 82 => ⟨S2x8192x512, .f32⟩
  | 83 => ⟨S2x8192x4x128, .f32⟩
  | 84 => ⟨S64, .f32⟩
  | 85 => ⟨S64, .f32⟩
  | 86 => ⟨S_, .f32⟩
  | 87 => ⟨S64, .f32⟩
  | 88 => ⟨S64, .f32⟩
  | 89 => ⟨S_, .f32⟩
  | 90 => ⟨S64, .f32⟩
  | 91 => ⟨S64, .f32⟩
  | 92 => ⟨S8192, .i32⟩
  | 93 => ⟨S8192, .f32⟩
  | 94 => ⟨S8192x1, .f32⟩
  | 95 => ⟨S1x64, .f32⟩
  | 96 => ⟨S8192x64, .f32⟩
  | 97 => ⟨S8192x64, .f32⟩
  | 98 => ⟨S8192x64, .f32⟩
  | 99 => ⟨S8192x64, .f32⟩
  | 100 => ⟨S1x8192x1x64, .f32⟩
  | 101 => ⟨S8192x64, .f32⟩
  | 102 => ⟨S1x8192x1x64, .f32⟩
  | 103 => ⟨S2x8192x4x64, .f32⟩
  | 104 => ⟨S2x8192x4x64, .f32⟩
  | 105 => ⟨S2x8192x4x64, .f32⟩
  | 106 => ⟨S2x8192x4x64, .f32⟩
  | 107 => ⟨S2x8192x4x64, .f32⟩
  | 108 => ⟨S2x8192x4x64, .f32⟩
  | 109 => ⟨S2x8192x4x64, .f32⟩
  | 110 => ⟨S2x8192x4x64, .f32⟩
  | 111 => ⟨S2x8192x4x64, .f32⟩
  | 112 => ⟨S2x8192x4x64, .f32⟩
  | 113 => ⟨S2x8192x4x64, .f32⟩
  | 114 => ⟨S2x8192x4x64, .f32⟩
  | 115 => ⟨S2x8192x4x128, .f32⟩
  | 116 => ⟨S_, .f32⟩
  | 117 => ⟨S2x8192x4x128, .f32⟩
  | 118 => ⟨S2x8192x4x128, .f32⟩
  | 119 => ⟨S2x8192x512, .f32⟩
  | 120 => ⟨S2x8192x1024, .f32⟩
  | 121 => ⟨S2x8192x1024, .f32⟩
  | 122 => ⟨S_, .f32⟩
  | 123 => ⟨S2x8192x1024, .f32⟩
  | 124 => ⟨S2x8192x1024, .f32⟩
  | 125 => ⟨S_, .f32⟩
  | 126 => ⟨S2x8192x1024, .f32⟩
  | 127 => ⟨S2x8192x1024, .f32⟩
  | _ => ⟨S2x8192x1024, .f32⟩

abbrev hbmTy0_1 (i : Nat) : BufTy := match i % 128 with
  | 0 => ⟨S2x8192x1024, .f32⟩
  | 1 => ⟨S2x8192x1024, .f32⟩
  | 2 => ⟨S2x8192x1024, .f32⟩
  | 3 => ⟨S_, .f32⟩
  | 4 => ⟨S2x8192x1024, .f32⟩
  | 5 => ⟨S2x8192x1024, .f32⟩
  | 6 => ⟨S_, .f32⟩
  | 7 => ⟨S2x8192x1024, .f32⟩
  | 8 => ⟨S2x8192x1024, .f32⟩
  | 9 => ⟨S2x8192x1024, .f32⟩
  | 10 => ⟨S2x8192x1024, .f32⟩
  | 11 => ⟨S_, .f32⟩
  | 12 => ⟨S2x8192x1024, .f32⟩
  | 13 => ⟨S2x8192x1024, .f32⟩
  | 14 => ⟨S_, .f32⟩
  | 15 => ⟨S2x8192x1024, .f32⟩
  | 16 => ⟨S2x8192x1024, .f32⟩
  | 17 => ⟨S2x8192x6144, .f32⟩
  | 18 => ⟨S_, .f32⟩
  | 19 => ⟨S2x8192x1024, .f32⟩
  | 20 => ⟨S2x8192x1024, .f32⟩
  | 21 => ⟨S8, .f32⟩
  | 22 => ⟨S1x1x8, .f32⟩
  | 23 => ⟨S2x8192x8, .f32⟩
  | 24 => ⟨S2x8192x8, .f32⟩
  | 25 => ⟨S2x8192x8x1, .f32⟩
  | 26 => ⟨S2x8192x8x1x6, .f32⟩
  | 27 => ⟨S2x8192x8x6, .f32⟩
  | 28 => ⟨S_, .f32⟩
  | 29 => ⟨S2x8192x8x10, .f32⟩
  | 30 => ⟨S2x8192x8x16, .f32⟩
  | 31 => ⟨S2x8192x128, .f32⟩
  | 32 => ⟨S_, .f32⟩
  | 33 => ⟨S2x8192x128, .f32⟩
  | 34 => ⟨S2x8192x128, .f32⟩
  | 35 => ⟨S2x8192x128, .f32⟩
  | 36 => ⟨S2x8192x128, .f32⟩
  | 37 => ⟨S2x8192x128, .f32⟩
  | 38 => ⟨S2x8192x128, .f32⟩
  | 39 => ⟨S2x8192x128, .f32⟩
  | 40 => ⟨S8192, .i32⟩
  | 41 => ⟨S8192x1, .i32⟩
  | 42 => ⟨S8192, .i32⟩
  | 43 => ⟨S1x8192, .i32⟩
  | 44 => ⟨S8192x8192, .i32⟩
  | 45 => ⟨S8192x8192, .i32⟩
  | 46 => ⟨S8192x8192, .i1⟩
  | 47 => ⟨S_, .f32⟩
  | 48 => ⟨S_, .f32⟩
  | 49 => ⟨S8192x8192, .f32⟩
  | 50 => ⟨S8192x8192, .f32⟩
  | 51 => ⟨S8192x8192, .f32⟩
  | 52 => ⟨S2x128x8192, .f32⟩
  | 53 => ⟨S2x8192x128, .f32⟩
  | 54 => ⟨S_, .f32⟩
  | 55 => ⟨S2x8192x128, .f32⟩
  | 56 => ⟨S2x8192x128, .f32⟩
  | 57 => ⟨S16384x6144, .f32⟩
  | 58 => ⟨S16384x6144, .bf16⟩
  | 59 => ⟨S2x4x2048x1024, .f32⟩
  | 60 => ⟨S2x4x1024x2048, .f32⟩
  | 61 => ⟨S2x4x1024x2048, .bf16⟩
  | 62 => ⟨S2x1024x8192, .f32⟩
  | 63 => ⟨S2x1024x8192, .bf16⟩
  | 64 => ⟨S2x4x2048x128, .f32⟩
  | 65 => ⟨S2x4x128x2048, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_v44 : Ref sig .tc := ⟨.hbm, 54, rfl⟩
abbrev main_cst_4 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_5 : Ref sig .tc := ⟨.hbm, 86, rfl⟩
abbrev main_v75 : Ref sig .tc := ⟨.hbm, 87, rfl⟩
abbrev main_v76 : Ref sig .tc := ⟨.hbm, 88, rfl⟩
abbrev main_cst_6 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_cst_7 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_call0_v0 : Ref sig .tc := ⟨.hbm, 120, rfl⟩
abbrev main_call0_v1 : Ref sig .tc := ⟨.hbm, 121, rfl⟩
abbrev main_call0_cst : Ref sig .tc := ⟨.hbm, 122, rfl⟩
abbrev main_call0_v2 : Ref sig .tc := ⟨.hbm, 123, rfl⟩
abbrev main_call0_v3 : Ref sig .tc := ⟨.hbm, 124, rfl⟩
abbrev main_call0_cst_0 : Ref sig .tc := ⟨.hbm, 125, rfl⟩
abbrev main_call0_v4 : Ref sig .tc := ⟨.hbm, 126, rfl⟩
abbrev main_call0_v5 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_cst_8 : Ref sig .tc := ⟨.hbm, 131, rfl⟩
abbrev main_v109 : Ref sig .tc := ⟨.hbm, 132, rfl⟩
abbrev main_v110 : Ref sig .tc := ⟨.hbm, 133, rfl⟩
abbrev main_cst_9 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_cst_10 : Ref sig .tc := ⟨.hbm, 139, rfl⟩
abbrev main_v115 : Ref sig .tc := ⟨.hbm, 140, rfl⟩
abbrev main_v116 : Ref sig .tc := ⟨.hbm, 141, rfl⟩
abbrev main_cst_11 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_12 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_cst_13 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_cst_14 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_cst_15 : Ref sig .tc := ⟨.hbm, 175, rfl⟩
abbrev main_cst_16 : Ref sig .tc := ⟨.hbm, 176, rfl⟩
abbrev main_call1_v0 : Ref sig .tc := ⟨.hbm, 177, rfl⟩
abbrev main_call1_v1 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_cst_17 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩

abbrev nD : Nat := 1
abbrev τ : Topo := Topo.v7x

variable {F : FTy → Type} [FloatOps F]
-- ==== KernelRet.lean ====
abbrev S2x8192x6144 : Shape := ⟨3, ![2, 8192, 6144]⟩
abbrev S1x1024x1024 : Shape := ⟨3, ![1, 1024, 1024]⟩
abbrev S1024x1024 : Shape := ⟨2, ![1024, 1024]⟩
abbrev S4 : Shape := ⟨1, ![4]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩
abbrev S4x1x1 : Shape := ⟨3, ![4, 1, 1]⟩
abbrev S4x512x512 : Shape := ⟨3, ![4, 512, 512]⟩
abbrev S4x1 : Shape := ⟨2, ![4, 1]⟩
abbrev S4x512 : Shape := ⟨2, ![4, 512]⟩
abbrev S4x512x1 : Shape := ⟨3, ![4, 512, 1]⟩
abbrev S2x8192x1024 : Shape := ⟨3, ![2, 8192, 1024]⟩
abbrev S2x512x512 : Shape := ⟨3, ![2, 512, 512]⟩
abbrev S2x512x1024 : Shape := ⟨3, ![2, 512, 1024]⟩
abbrev S2x4x128x256 : Shape := ⟨4, ![2, 4, 128, 256]⟩
abbrev S1x512x128 : Shape := ⟨3, ![1, 512, 128]⟩
abbrev S512x128 : Shape := ⟨2, ![512, 128]⟩
abbrev S1x512x256 : Shape := ⟨3, ![1, 512, 256]⟩
abbrev S512x256 : Shape := ⟨2, ![512, 256]⟩
abbrev S1x1x128x256 : Shape := ⟨4, ![1, 1, 128, 256]⟩
abbrev S128x256 : Shape := ⟨2, ![128, 256]⟩
abbrev S1x512x1 : Shape := ⟨3, ![1, 512, 1]⟩
abbrev S1x512x1024 : Shape := ⟨3, ![1, 512, 1024]⟩
abbrev S512x1024 : Shape := ⟨2, ![512, 1024]⟩

abbrev nBuf : Space → Nat
  | .hbm => 61
  | .vmem => 18
  | .smem => 0
  | _ => 0

abbrev bufTy : (tb : Table) → Fin (tcTables nBuf tb) → BufTy
  | .hbm, ⟨0, _⟩ => ⟨S2x8192x6144, .bf16⟩
  | .hbm, ⟨1, _⟩ => ⟨S1x1024x1024, .f32⟩
  | .hbm, ⟨2, _⟩ => ⟨S1024x1024, .f32⟩
  | .hbm, ⟨3, _⟩ => ⟨S1024x1024, .bf16⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S512, .f32⟩
  | .hbm, ⟨16, _⟩ => ⟨S512x1, .f32⟩
  | .hbm, ⟨17, _⟩ => ⟨S1x512, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i32⟩
  | .hbm, ⟨26, _⟩ => ⟨S1x512, .i32⟩
  | .hbm, ⟨27, _⟩ => ⟨S512x1, .i32⟩
  | .hbm, ⟨28, _⟩ => ⟨S512x512, .i32⟩
  | .hbm, ⟨29, _⟩ => ⟨S512x512, .i32⟩
  | .hbm, ⟨30, _⟩ => ⟨S512x512, .i1⟩
  | .hbm, ⟨31, _⟩ => ⟨S1x512x512, .i1⟩
  | .hbm, ⟨32, _⟩ => ⟨S4x1x1, .f32⟩
  | .hbm, ⟨33, _⟩ => ⟨S1x512x512, .f32⟩
  | .hbm, ⟨34, _⟩ => ⟨S4x512x512, .f32⟩
  | .hbm, ⟨35, _⟩ => ⟨S4x512x512, .f32⟩
  | .hbm, ⟨36, _⟩ => ⟨S4x512x512, .f32⟩
  | .hbm, ⟨37, _⟩ => ⟨S4x512x512, .f32⟩
  | .hbm, ⟨38, _⟩ => ⟨S_, .f32⟩
  | .hbm, ⟨39, _⟩ => ⟨S_, .f32⟩
  | .hbm, ⟨40, _⟩ => ⟨S4x512x512, .i1⟩
  | .hbm, ⟨41, _⟩ => ⟨S4x512x512, .f32⟩
  | .hbm, ⟨42, _⟩ => ⟨S4x512x512, .f32⟩
  | .hbm, ⟨43, _⟩ => ⟨S4x1, .f32⟩
  | .hbm, ⟨44, _⟩ => ⟨S1x512, .f32⟩
  | .hbm, ⟨45, _⟩ => ⟨S4x512, .f32⟩
  | .hbm, ⟨46, _⟩ => ⟨S4x512, .f32⟩
  | .hbm, ⟨47, _⟩ => ⟨S4x512, .f32⟩
  | .hbm, ⟨48, _⟩ => ⟨S4x512, .f32⟩
  | .hbm, ⟨49, _⟩ => ⟨S4x512x1, .f32⟩
  | .hbm, ⟨50, _⟩ => ⟨S4x1, .f32⟩
  | .hbm, ⟨51, _⟩ => ⟨S_, .f32⟩
  | .hbm, ⟨52, _⟩ => ⟨S512, .f32⟩
  | .hbm, ⟨53, _⟩ => ⟨S512, .f32⟩
  | .hbm, ⟨54, _⟩ => ⟨S1x512, .f32⟩
  | .hbm, ⟨55, _⟩ => ⟨S4x512, .f32⟩
  | .hbm, ⟨56, _⟩ => ⟨S4x512, .f32⟩
  | .hbm, ⟨57, _⟩ => ⟨S4x512, .f32⟩
  | .hbm, ⟨58, _⟩ => ⟨S4x512, .f32⟩
  | .hbm, ⟨59, _⟩ => ⟨S4x512x1, .f32⟩
  | .hbm, ⟨60, _⟩ => ⟨S2x8192x1024, .bf16⟩
  | .local _ .vmem, ⟨0, _⟩ => ⟨S2x512x512, .bf16⟩
  | .local _ .vmem, ⟨1, _⟩ => ⟨S2x512x512, .bf16⟩
  | .local _ .vmem, ⟨2, _⟩ => ⟨S2x512x512, .bf16⟩
  | .local _ .vmem, ⟨3, _⟩ => ⟨S2x512x512, .bf16⟩
  | .local _ .vmem, ⟨4, _⟩ => ⟨S2x512x1024, .bf16⟩
  | .local _ .vmem, ⟨5, _⟩ => ⟨S2x512x1024, .bf16⟩
  | .local _ .vmem, ⟨6, _⟩ => ⟨S2x512x1024, .bf16⟩
  | .local _ .vmem, ⟨7, _⟩ => ⟨S2x512x1024, .bf16⟩
  | .local _ .vmem, ⟨8, _⟩ => ⟨S2x512x1024, .bf16⟩
  | .local _ .vmem, ⟨9, _⟩ => ⟨S2x512x1024, .bf16⟩
  | .local _ .vmem, ⟨10, _⟩ => ⟨S4x512x512, .f32⟩
  | .local _ .vmem, ⟨11, _⟩ => ⟨S4x512x1, .f32⟩
  | .local _ .vmem, ⟨12, _⟩ => ⟨S4x512x1, .f32⟩
  | .local _ .vmem, ⟨13, _⟩ => ⟨S1024x1024, .bf16⟩
  | .local _ .vmem, ⟨14, _⟩ => ⟨S2x512x1024, .bf16⟩
  | .local _ .vmem, ⟨15, _⟩ => ⟨S2x512x1024, .bf16⟩
  | .local _ .vmem, ⟨16, _⟩ => ⟨S2x4x128x256, .f32⟩
  | .local _ .vmem, ⟨17, _⟩ => ⟨S1024x1024, .bf16⟩
  | _, _ => ⟨S2x8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_3 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_3 (i : grid0.Coords) : Fin 3 → Nat :=
  let arg0 : BitVec 32 := BitVec.ofNat 32 (i 0).val
  let c0_i32 : BitVec 32 := 0#32
  let c2_i32 : BitVec 32 := 2#32
  let c0_i32_0 : BitVec 32 := 0#32
  ![c0_i32.toNat, arg0.toNat, c2_i32.toNat]

def cc0_transform_4 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![c0_i32.toNat, arg0.toNat, c4_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x512x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelRetIdeal.lean ====
variable {F : FTy → Type} [FloatOps F] [Named F]
def κ : String → Option EReal := fun
  | "decay0" => some ((37773501373587895264561025281863094466978322863250082155056197047714197993620357069462566843251141571815151509518310006938108851221805528875384735491918787987993007026673217297684350189260329533443500752237702397882867800472239741801018068025710521276376920054106347317369170879956285518344534043017584487970014275003121885415024692223611928229555180012063629119385814923462407514649370698028478003077284206879157442661924961962496906798906289722020904167557393854423634351272073157329444358426257475496763769833535044716482939223140353788667801596443076750100019227022529972107862684832884884953616549356032737737560624277786244888885640776979303991888709970576020492391819718718022540913110645906048622371363024999152764514494346409046802940547223374264991989761 / 433300210274926779301235722995130529126851924312253566276831366547097655953268278873591999368453759375352459120642109169274240110620843517970102311224458427564046616227161115801662152359395451958893835480905010246703239443701925453743683726938789767940577524555724362397039358587448248740993955708382317083531851133758531532844694304737183093418571190053292997716413815714417740434254315670267335553209606545389900958653541702218767662872949109999460596999125719155768466778443229719919179735890978537026576050107500869340314188887101095263339865901080787145771915722368720844521851040375582291274824574444462419841916186875058374404329003250698574832235855871168399140082282900718430116575617097058691735266917705341386171618452673063526784039252631042036988932549246976 : ℝ) : EReal)
  | "decay1" => some ((1829621774605758272681815819484683697681150539469011454438616122872366586877961375423552938964897463581109311319808945929321298231222196853224309380553356598527187733647566956679876664510406200387532239098866763910735103693757864325685201781028709572541054704230147228901626173617845623866755028773487006228196871956399293777844670844588890365947840179218366401379809504532746346887953865832195191206213754527293556396076242770833333424859408089492408707363104206318131240193034555251174707300516911335616652311290870865347642390409969838803258688702995862359971782715471732239812296945161529682875118411479993770111929053328666562411048451820999794871863883648685446514936239708945819761126851454994246472415681218954364540036877875237307371399305121518243006867940085660711723331808878467596848695632021577955375324082707777555176893790414740944947537790853234120367235299976717295550925400882608856085946429027356999681 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)
  | "decay2" => some ((1404446271387748490991100751544441416500050300583111850106297445761924979898824020252629019508656514869654924263160394274298526494841742808089592506924696822065104347690187843030595438316417714600761377522809495063977068799898120017030725733509352799438726555671667253019781735949865820679186967706658305802624047706122378875802774137941142204600702153393013250422058032066442262543774044082163695495396960829949594646939266482017469777673732527829511618772798737574783702810777504185793071952212259952420398015608838414365618600684563300554270564144757059601105334104440451451503119524170492445584099364250966818507715079225370021816812537114137141734153221017217708940430101039483382996521634099251395732985737880090843089470161642390778363523012009209705024717668555696048942912207090503662275263094243617304431537642065704769846014295462350881954984154152995597063243216506885941184166713897620223768749011634915213056620578338092475557901514134844722255531178520698446431977629547872397858804700513496351353376208959542001545890447396386704893880348789257703729454966046721 / 77894081334563378764508707451908598634363875792546106220991280972045090113143756247350828053674522774404165906274379945792494917548310574063247841644081929897178637546129401264215614159952590061562154920415452396586835739484982091767625288759481559848471677444112808287056706983922605030201811478361890468927498235629942743709470298595236463543790410896095163738073479981402477878246455235112829189027769705658237222594837250410596602457047413758430150029851731582921543526442245527917224855827827816621485551057937401676948938343002233871424814483269902707836173007455043074627168642672708601404181510388085656853057668361672906095700421037654202545940344737030366578366357572799593982155560321323484375285391015752337555589179864820742955048320397684982749773202572245522578129312632534144771795735226370030108952558937781899103282137065731057232138475034306548038575468027244771033983289060691556811292977131791103945007556626409018279457155155668381388949742836902985341946964734897090584115806967893331511501620481794544357260889558504863310391891382713164805617024097058816 : ℝ) : EReal)
  | "decay3" => some ((140790185837792199441034568834759689661961914255409783776507730514854051007709415813883556603916373715574609136622656266685437371240367102594306883990627058503595731196218539952498937154304868900451168465638684310150100849641435841139217062156438276896626062062198647086055077575162638489964162577757745791360359602594152663967581007128020183983475616184060291020280954283680281674917836880158513873602360456989017509319939290584160385503386612259448606518762697158261848012807333889519148168749022803256593164455574302209211629222893563391051638927501110961756902904355953180126361779417692843008682740196572759446217716395263378965738984268986873937434316610747487819328925728597617546673206661697068531366810303423451995144891700992319420217886417615624695907128294136584386588241909336794326419068629630654654884474138368393842951923487338404952757338269210791423057520833932043960455320073315147460070596891191382346173068760307712728401170686699888726822189521347886230198239556599370583636884951718768971453231066747582338011063460026539119389458194710451140772448483717780321604240950362368894604426083886127596429268830858032089081938717329656187417957254785835822222695699852540993958494031090822318219579756259918212890625 / 1044388881413152506691752710716624382579964249047383780384233483283953907971557456848826811934997558340890106714439262837987573438185793607263236087851365277945956976543709998340361590134383718314428070011855946226376318839397712745672334684344586617496807908705803704071284048740118609114467977783598029006686938976881787785946905630190260940599579453432823469303026696443059025015972399867714215541693835559885291486318237914434496734087811872639496475100189041349008417061675093668333850551032972088269550769983616369411933015213796825837188091833656751221318492846368125550225998300412344784862595674492194617023806505913245610825731835380087608622102834270197698202313169017678006675195485079921636419370285375124784014907159135459982790513399611551794271106831134090584272884279791554849782954323534517065223269061394905987693002122963395687782878948440616007412945674919823050571642377154816321380631045902916136926708342856440730447899971901781465763473223850267253059899795996090799469201774624817718449867455659250178329070473119433165550807568221846571746373296884912819520317457002440926616910874148385078411929804522981857338977648103126085903001302413467189726673216491511131602920781738033436090243804708340403154190336 : ℝ) : EReal)
  | _ => none
-- ==== ReferenceRetIdeal.lean ====
abbrev S2x8192x6144 : Shape := ⟨3, ![2, 8192, 6144]⟩
abbrev S1x1024x1024 : Shape := ⟨3, ![1, 1024, 1024]⟩
abbrev S2x8192x512 : Shape := ⟨3, ![2, 8192, 512]⟩
abbrev S2x8192x4x128 : Shape := ⟨4, ![2, 8192, 4, 128]⟩
abbrev S2x8192x1024 : Shape := ⟨3, ![2, 8192, 1024]⟩
abbrev S2x8192x4x256 : Shape := ⟨4, ![2, 8192, 4, 256]⟩
abbrev S4 : Shape := ⟨1, ![4]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S4x1x1 : Shape := ⟨3, ![4, 1, 1]⟩
abbrev S4x8192x8192 : Shape := ⟨3, ![4, 8192, 8192]⟩
abbrev S2x4x8192x8192 : Shape := ⟨4, ![2, 4, 8192, 8192]⟩
abbrev S1x4x8192x8192 : Shape := ⟨4, ![1, 4, 8192, 8192]⟩
abbrev S2x4x256x8192 : Shape := ⟨4, ![2, 4, 256, 8192]⟩
abbrev S2x8192x4 : Shape := ⟨3, ![2, 8192, 4]⟩
abbrev S2x8192x4x1 : Shape := ⟨4, ![2, 8192, 4, 1]⟩
abbrev S1024x1024 : Shape := ⟨2, ![1024, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2x8192x6144, .bf16⟩
  | .hbm, ⟨1, _⟩ => ⟨S1x1024x1024, .f32⟩
  | .hbm, ⟨2, _⟩ => ⟨S2x8192x6144, .f32⟩
  | .hbm, ⟨3, _⟩ => ⟨S2x8192x512, .f32⟩
  | .hbm, ⟨4, _⟩ => ⟨S2x8192x4x128, .f32⟩
  | .hbm, ⟨5, _⟩ => ⟨S2x8192x512, .f32⟩
  | .hbm, ⟨6, _⟩ => ⟨S2x8192x4x128, .f32⟩
  | .hbm, ⟨7, _⟩ => ⟨S2x8192x1024, .f32⟩
  | .hbm, ⟨8, _⟩ => ⟨S2x8192x4x256, .f32⟩
  | .hbm, ⟨9, _⟩ => ⟨S2x8192x1024, .f32⟩
  | .hbm, ⟨10, _⟩ => ⟨S2x8192x1024, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S8192, .f32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i32⟩
  | .hbm, ⟨27, _⟩ => ⟨S1x8192, .i32⟩
  | .hbm, ⟨28, _⟩ => ⟨S8192x1, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S1x8192x8192, .i1⟩
  | .hbm, ⟨33, _⟩ => ⟨S4x1x1, .f32⟩
  | .hbm, ⟨34, _⟩ => ⟨S8192x1, .f32⟩
  | .hbm, ⟨35, _⟩ => ⟨S1x8192, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S1x8192x8192, .f32⟩
  | .hbm, ⟨41, _⟩ => ⟨S4x8192x8192, .f32⟩
  | .hbm, ⟨42, _⟩ => ⟨S4x8192x8192, .f32⟩
  | .hbm, ⟨43, _⟩ => ⟨S4x8192x8192, .f32⟩
  | .hbm, ⟨44, _⟩ => ⟨S4x8192x8192, .f32⟩
  | .hbm, ⟨45, _⟩ => ⟨S_, .f32⟩
  | .hbm, ⟨46, _⟩ => ⟨S_, .f32⟩
  | .hbm, ⟨47, _⟩ => ⟨S4x8192x8192, .i1⟩
  | .hbm, ⟨48, _⟩ => ⟨S4x8192x8192, .f32⟩
  | .hbm, ⟨49, _⟩ => ⟨S4x8192x8192, .f32⟩
  | .hbm, ⟨50, _⟩ => ⟨S2x4x8192x8192, .f32⟩
  | .hbm, ⟨51, _⟩ => ⟨S1x4x8192x8192, .f32⟩
  | .hbm, ⟨52, _⟩ => ⟨S2x4x8192x8192, .f32⟩
  | .hbm, ⟨53, _⟩ => ⟨S2x4x8192x8192, .f32⟩
  | .hbm, ⟨54, _⟩ => ⟨S2x4x256x8192, .f32⟩
  | .hbm, ⟨55, _⟩ => ⟨S2x8192x4x256, .f32⟩
  | .hbm, ⟨56, _⟩ => ⟨S2x8192x4x256, .f32⟩
  | .hbm, ⟨57, _⟩ => ⟨S_, .f32⟩
  | .hbm, ⟨58, _⟩ => ⟨S2x8192x4, .f32⟩
  | .hbm, ⟨59, _⟩ => ⟨S2x8192x4x1, .f32⟩
  | .hbm, ⟨60, _⟩ => ⟨S_, .f32⟩
  | .hbm, ⟨61, _⟩ => ⟨S2x8192x4x1, .f32⟩
  | .hbm, ⟨62, _⟩ => ⟨S2x8192x4x1, .f32⟩
  | .hbm, ⟨63, _⟩ => ⟨S_, .f32⟩
  | .hbm, ⟨64, _⟩ => ⟨S2x8192x4x1, .f32⟩
  | .hbm, ⟨65, _⟩ => ⟨S2x8192x4x1, .f32⟩
  | .hbm, ⟨66, _⟩ => ⟨S2x8192x4x1, .f32⟩
  | .hbm, ⟨67, _⟩ => ⟨S2x8192x4x256, .f32⟩
  | .hbm, ⟨68, _⟩ => ⟨S2x8192x4x256, .f32⟩
  | .hbm, ⟨69, _⟩ => ⟨S2x8192x1024, .f32⟩
  | .hbm, ⟨70, _⟩ => ⟨S2x8192x1024, .f32⟩
  | .hbm, ⟨71, _⟩ => ⟨S1024x1024, .f32⟩
  | .hbm, ⟨72, _⟩ => ⟨S2x8192x1024, .f32⟩
  | .hbm, ⟨73, _⟩ => ⟨S2x8192x1024, .f32⟩
  | .hbm, ⟨74, _⟩ => ⟨S2x8192x1024, .bf16⟩
  | _, _ => ⟨S2x8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst_2 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_3 : Ref sig .tc := ⟨.hbm, 57, rfl⟩
abbrev main_v47 : Ref sig .tc := ⟨.hbm, 58, rfl⟩
abbrev main_v48 : Ref sig .tc := ⟨.hbm, 59, rfl⟩
abbrev main_cst_4 : Ref sig .tc := ⟨.hbm, 60, rfl⟩
abbrev main_v49 : Ref sig .tc := ⟨.hbm, 61, rfl⟩
abbrev main_v50 : Ref sig .tc := ⟨.hbm, 62, rfl⟩
abbrev main_cst_5 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩

abbrev nD : Nat := 1
abbrev τ : Topo := Topo.v7x

variable {F : FTy → Type} [FloatOps F]
-- ==== KernelAda.lean ====
abbrev S2x1024 : Shape := ⟨2, ![2, 1024]⟩
abbrev S1x1024x6144 : Shape := ⟨3, ![1, 1024, 6144]⟩
abbrev S1x6144 : Shape := ⟨2, ![1, 6144]⟩
abbrev S1024x6144 : Shape := ⟨2, ![1024, 6144]⟩
abbrev S6144 : Shape := ⟨1, ![6144]⟩
abbrev S1024x2 : Shape := ⟨2, ![1024, 2]⟩
abbrev S2x6144 : Shape := ⟨2, ![2, 6144]⟩
abbrev S1024x1536 : Shape := ⟨2, ![1024, 1536]⟩
abbrev S1x1536 : Shape := ⟨2, ![1, 1536]⟩
abbrev S2x1536 : Shape := ⟨2, ![2, 1536]⟩
abbrev S1024x1 : Shape := ⟨2, ![1024, 1]⟩
abbrev S1536 : Shape := ⟨1, ![1536]⟩

abbrev nBuf : Space → Nat
  | .hbm => 8
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1x1024x6144, .f32⟩
  | .hbm, ⟨2, _⟩ => ⟨S1x6144, .f32⟩
  | .hbm, ⟨3, _⟩ => ⟨S1024x6144, .f32⟩
  | .hbm, ⟨4, _⟩ => ⟨S6144, .f32⟩
  | .hbm, ⟨5, _⟩ => ⟨S1024x2, .f32⟩
  | .hbm, ⟨6, _⟩ => ⟨S1x6144, .f32⟩
  | .hbm, ⟨7, _⟩ => ⟨S2x6144, .f32⟩
  | .local _ .vmem, ⟨0, _⟩ => ⟨S1024x2, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S2x1536, .f32⟩
  | .local _ .vmem, ⟨6, _⟩ => ⟨S2x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceAdaIdeal.lean ====
abbrev S2x1024 : Shape := ⟨2, ![2, 1024]⟩
abbrev S1x1024x6144 : Shape := ⟨3, ![1, 1024, 6144]⟩
abbrev S1x6144 : Shape := ⟨2, ![1, 6144]⟩
abbrev S_ : Shape := ⟨0, ![]⟩
abbrev S1024x6144 : Shape := ⟨2, ![1024, 6144]⟩
abbrev S2x6144 : Shape := ⟨2, ![2, 6144]⟩
abbrev S6144 : Shape := ⟨1, ![6144]⟩

abbrev nBuf : Space → Nat
  | .hbm => 18
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1x1024x6144, .f32⟩
  | .hbm, ⟨2, _⟩ => ⟨S1x6144, .f32⟩
  | .hbm, ⟨3, _⟩ => ⟨S2x1024, .f32⟩
  | .hbm, ⟨4, _⟩ => ⟨S2x1024, .f32⟩
  | .hbm, ⟨5, _⟩ => ⟨S_, .f32⟩
  | .hbm, ⟨6, _⟩ => ⟨S2x1024, .f32⟩
  | .hbm, ⟨7, _⟩ => ⟨S2x1024, .f32⟩
  | .hbm, ⟨8, _⟩ => ⟨S_, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S1024x6144, .f32⟩
  | .hbm, ⟨13, _⟩ => ⟨S2x6144, .f32⟩
  | .hbm, ⟨14, _⟩ => ⟨S6144, .f32⟩
  | .hbm, ⟨15, _⟩ => ⟨S1x6144, .f32⟩
  | .hbm, ⟨16, _⟩ => ⟨S2x6144, .f32⟩
  | .hbm, ⟨17, _⟩ => ⟨S2x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.CastIdeal.lean ====
/- The re-laid projection weights: what the block program `KernelIdeal` leaves is the reference's composed term. -/
module

public import proofs.«01_k».proof.Proof.Gen.KernelIdeal.Value
public import Idealize.ShloMosaic.Lib.Pointwise
public import Idealize.ShloMosaic.Lib.Pipeline.ValueKit
public import Idealize.ShloMosaic.Lib.Claim
public import proofs.«01_k».proof.Proof.Gen.ReferenceIdeal.Run

@[expose] public section

set_option maxRecDepth 16384

noncomputable section

open Idealize.ShloMosaic Idealize.ShloMosaic.TcCoe Idealize.SL.Sem
open Idealize.ShloMosaic.Pipeline (Dat)

namespace Cert.KernelIdeal.Cast

open Cert.KernelIdeal Cert.KernelIdeal.Gen

variable (m : (ℓ : Loc nD τ sig) → Buf (Elt Ideal) ℓ)

/-- The reference's term: the columns before the forget gates' and those after them, side by side, in bfloat16. -/
abbrev REF (a0 : FVec Ideal S1x1024x8200 .f32) : FVec Ideal S1024x8192 .bf16 :=
  truncf .bf16 (concatenate S1024x8192 1
    [⟨Cert.ReferenceIdeal.S1024x6144, extractStridedSlice Cert.ReferenceIdeal.S1024x6144 ![0, 0]
        (shapeCast Cert.ReferenceIdeal.S1024x8200 a0 Cert.ReferenceIdeal.Gen.shapeCasts_S1x1024x8200_S1024x8200)
        Cert.ReferenceIdeal.Gen.slices_S1024x8200_S1024x6144_0_0⟩,
     ⟨Cert.ReferenceIdeal.S1024x2048, extractStridedSlice Cert.ReferenceIdeal.S1024x2048 ![0, 6152]
        (shapeCast Cert.ReferenceIdeal.S1024x8200 a0 Cert.ReferenceIdeal.Gen.shapeCasts_S1x1024x8200_S1024x8200)
        Cert.ReferenceIdeal.Gen.slices_S1024x8200_S1024x2048_0_6152⟩]
    Cert.ReferenceIdeal.Gen.concatenates_S1024x6144_S1024x2048_S1024x8192_d1) bitsLt_bf16_f32

/-- The result's block at each grid point, decided. -/
theorem idx : ∀ t : Fin cfg0.N, win0_1.index t = ![0, t.val] :=
  (by decide +kernel : ∀ t : Fin grid0.N, _)

/-- Where the operand's block starts at each grid point, in elements, decided: the rows of the forget gates are skipped. -/
theorem idx0 : ∀ t : Fin cfg0.N, win0_0.index t = ![if t.val < 6 then t.val * 1024 else t.val * 1024 + 8, 0] :=
  (by decide +kernel : ∀ t : Fin grid0.N, _)

/-- An index of the operand's block, placed in the operand. -/
theorem emb0 (t : Fin cfg0.N) (x : S1024x1024.Idx) (a : Fin 2) :
    ((((cfg0.win 0).blk t).view.emb x a : Fin _) : Nat) = win0_0.index t a + x a := by
  show win0_0.index t a + 1 * (x a).val = _
  omega

/-- The operand is the weights transposed. -/
theorem entry (c : Dev nD) (i : S8200x1024.Idx) :
    V m c main_v1 i = m ((c : Thread nD τ).loc main_arg0) (ix3 0 (i 1) (i 0)) := by
  entry_read
  pointwise

/-- What the body stores at block index `y` of point `t` is the reference at the array index `y` sits at. -/
theorem point (c : Dev nD) (t : Fin cfg0.N) (y) :
    k0_pay1 (iblk m c 0 t) y
      = REF (m ((c : Thread nD τ).loc main_arg0)) (((cfg0.win 1).blk t).view.emb y) := by
  have ht : t.val < 8 := t.isLt
  have hy0 : (y 0).val < 1024 := (y 0).isLt
  have hy1 : (y 1).val < 1024 := (y 1).isLt
  have e0 : ((((cfg0.win 1).blk t).view.emb y 0 : Fin _) : Nat) = y 0 := by blk_simp [idx t]
  have e1 : ((((cfg0.win 1).blk t).view.emb y 1 : Fin _) : Nat) = t.val * 1024 + y 1 := by blk_simp [idx t]
  have rd : ∀ x, iblk m c 0 t x = V m c main_v1 (((cfg0.win 0).blk t).view.emb x) := fun _ => rfl
  have f0 := fun x => emb0 t x 0
  have f1 := fun x => emb0 t x 1
  simp only [idx0 t] at f0 f1
  generalize ((cfg0.win 1).blk t).view.emb y = z at e0 e1 ⊢
  pointwise [k0_pay1, REF]
  simp only [rd]
  refine (entry m c _).trans ?_
  have g0 := f0 (ix2 (y 1) (y 0))
  have g1 := f1 (ix2 (y 1) (y 0))
  split
  · rename_i h
    have h6 : t.val < 6 := by omega
    refine congrArg _ ?_
    funext a
    apply Fin.ext
    match a with
    | 0 => rfl
    | 1 => exact g1.trans (by simp [ix2]; omega)
    | 2 => exact g0.trans (by simp [ix2, h6]; omega)
  · rename_i h
    have h6 : ¬ t.val < 6 := by omega
    refine congrArg _ ?_
    funext a
    apply Fin.ext
    match a with
    | 0 => rfl
    | 1 => exact g1.trans (by simp [ix2]; omega)
    | 2 => exact g0.trans (by simp [ix2, h6]; omega)

/-- The result array after the run. -/
theorem final (c : Dev nD) : (dats m 0 c).arrAt 1 (cfgs 0).N = REF (m ((c : Thread nD τ).loc main_arg0)) := by
  refine (dats m 0 c).arrAt_eq_of_covers 1 _ (by decide +kernel) fun t hf y => ?_
  blk_simp; rw [after0_1]; frame_out
  exact point m c t y

end Cert.KernelIdeal.Cast

end
-- ==== Proof.TailRow.lean ====
/- The layer's last part on one token: what both programs compute from the token's own rows and the weights, over the extended reals. -/
module

public import Idealize.ShloMosaic.Lib.Pointwise
public import Idealize.ShloMosaic.Lib.Pipeline.ValueKit
public import Idealize.ShloMosaic.Lib.Claim

@[expose] public section

noncomputable section

open Idealize.ShloMosaic

namespace Cert.TailRow

/-- The reciprocal root mean square of a row, with the small number added under the root. -/
def scale (X : Fin 1024 → EReal) : EReal :=
  Ideal.rsqrt (Ideal.div (∑ k, X k * X k) (Ideal.ofBits .f32 0x44800000#32) + Ideal.ofBits .f32 0x358637BD#32)

/-- A row plus a gate times another row's product with a matrix, at one column. -/
def resid {K : ℕ} (x g : Fin 1024 → EReal) (U : Fin K → EReal) (W : Fin K → Fin 1024 → EReal) (n : Fin 1024) : EReal :=
  x n + g n * ∑ k, U k * W k n

/-- The retention branch plus the gated attention branch, at one column. -/
def merged (a gf yf : Fin 1024 → EReal) (wf : Fin 1024 → Fin 1024 → EReal) (k : Fin 1024) : EReal :=
  a k + gf k * ∑ j, yf j * wf j k

/-- A normalised row, weighted, scaled and shifted, at one column. -/
def hid (X n2 sc sh : Fin 1024 → EReal) (n : Fin 1024) : EReal :=
  X n * scale X * n2 n * (1 + sc n) + sh n

/-- One hidden unit of the feed-forward part: a product through `x · σ(x)`, times a second product. -/
def unit (H g u : Fin 1024 → EReal) : EReal :=
  (∑ k, H k * g k) * Ideal.logistic (∑ k, H k * g k) * ∑ k, H k * u k

/-- A normalised row, weighted, at one column. -/
def out (X nf : Fin 1024 → EReal) (n : Fin 1024) : EReal := X n * scale X * nf n

/-- The token's row after the first residual. -/
def mid (a gf yf x g1 : Fin 1024 → EReal) (wf wo : Fin 1024 → Fin 1024 → EReal) (n : Fin 1024) : EReal :=
  resid x g1 (merged a gf yf wf) wo n

/-- The token's row after the second residual, from the row after the first. -/
def last (X n2 sc sh g2 : Fin 1024 → EReal) (wg wu : Fin 1024 → Fin 2816 → EReal) (wd : Fin 2816 → Fin 1024 → EReal) (n : Fin 1024) : EReal :=
  resid X g2 (fun f => unit (hid X n2 sc sh) (fun k => wg k f) (fun k => wu k f)) wd n

/-- The word of one half is the real number one half. -/
theorem half : Ideal.ofBits .f32 0x3F000000#32 = ((1 / 2 : ℝ) : EReal) := by
  simp [Ideal.ofBits, Ideal.ieee]
  rw [← EReal.coe_mul]
  norm_num

/-- The logistic function by the hyperbolic tangent of half the argument, at every extended real. -/
theorem tanh_half (x : EReal) :
    Ideal.ofBits .f32 0x3F000000#32 + Ideal.ofBits .f32 0x3F000000#32 * Ideal.tanh (Ideal.ofBits .f32 0x3F000000#32 * x)
      = Ideal.logistic x := by
  rw [half]
  induction x using EReal.rec with
  | bot =>
    rw [EReal.coe_mul_bot_of_pos (by norm_num), Ideal.tanh_bot, Ideal.logistic_bot]
    rw [show (-1 : EReal) = ((-1 : ℝ) : EReal) from rfl, ← EReal.coe_mul, ← EReal.coe_add]
    norm_num
  | top =>
    rw [EReal.coe_mul_top_of_pos (by norm_num), Ideal.tanh_top, Ideal.logistic_top]
    norm_cast; norm_num
  | coe x =>
    rw [← EReal.coe_mul, Ideal.tanh_coe, Ideal.logistic_coe, ← EReal.coe_mul, ← EReal.coe_add]
    congr 1
    rw [Real.tanh_eq_sinh_div_cosh, Real.sinh_eq, Real.cosh_eq]
    have e : Real.exp (-x) = Real.exp (-(1 / 2 * x)) * Real.exp (-(1 / 2 * x)) := by rw [← Real.exp_add]; congr 1; ring
    have p : Real.exp (1 / 2 * x) * Real.exp (-(1 / 2 * x)) = 1 := by rw [← Real.exp_add]; simp
    have q := Real.exp_pos (-(1 / 2 * x))
    have q' := Real.exp_pos (1 / 2 * x)
    rw [e]
    generalize Real.exp (-(1 / 2 * x)) = u at *
    generalize Real.exp (1 / 2 * x) = v at *
    have : v = 1 / u := by field_simp; linarith
    subst this
    field_simp
    ring

end Cert.TailRow

end
-- ==== Proof.TailPay.lean ====
/- One block of the layer's last part: the body's payloads at an index, the hidden units read back from the scratch, and the block left. -/
module

public import proofs.«01_k».proof.Proof.Gen.KernelTailIdeal.Value
public import proofs.«01_k».proof.Proof.TailRow
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelTailIdeal.Tail

open Cert.KernelTailIdeal Cert.KernelTailIdeal.Gen Cert.TailRow

variable (m : (ℓ : Loc nD τ sig) → Buf (Elt Ideal) ℓ)

/-- Row `r` of a block after the first residual. -/
def midB (B0 : FVec Ideal S512x1024 .bf16) (B1 : FVec Ideal S1x1x1024x512 .bf16) (B2 : FVec Ideal S512x1024 .bf16) (B3 : FVec Ideal S512x1024 .f32)
    (B4 : FVec Ideal S1x1x1024 .f32) (B10 B11 : FVec Ideal S1024x1024 .bf16) (r : Fin 512) : Fin 1024 → EReal :=
  mid (fun k => B0 (ix2 r k)) (fun k => B2 (ix2 r k)) (fun j => B1 (ix4 0 0 j r)) (fun k => B3 (ix2 r k)) (fun k => B4 (ix3 0 0 k))
    (fun j k => B10 (ix2 j k)) (fun k n => B11 (ix2 k n))

/-- The hidden units of a block, from its rows after the first residual. -/
def actB (X : Fin 512 → Fin 1024 → EReal) (B8 : FVec Ideal S1x1024 .f32) (B5 B6 : FVec Ideal S1x1x1024 .f32)
    (B12 B13 : FVec Ideal S1024x2816 .bf16) : S512x2816.Idx → EReal := fun y =>
  TailRow.unit (hid (X (y 0)) (fun k => B8 (ix2 0 k)) (fun k => B5 (ix3 0 0 k)) (fun k => B6 (ix3 0 0 k)))
    (fun k => B12 (ix2 k (y 1))) (fun k => B13 (ix2 k (y 1)))

/-- Row `r` of a block's result, from the block's rows after the first residual and its hidden units. -/
def outB (X : Fin 512 → Fin 1024 → EReal) (A : S512x2816.Idx → EReal) (B14 : FVec Ideal S2816x1024 .bf16) (B7 : FVec Ideal S1x1x1024 .f32)
    (B9 : FVec Ideal S1x1024 .f32) (r : Fin 512) : Fin 1024 → EReal :=
  out (resid (X r) (fun k => B7 (ix3 0 0 k)) (fun f => A (ix2 r f)) (fun f n => B14 (ix2 f n))) (fun k => B9 (ix2 0 k))

/-- A row of a block's result, from what its operands hold. -/
theorem last_of (X : Fin 512 → Fin 1024 → EReal) (B8 : FVec Ideal S1x1024 .f32) (B5 B6 : FVec Ideal S1x1x1024 .f32)
    (B12 B13 : FVec Ideal S1024x2816 .bf16) (B14 : FVec Ideal S2816x1024 .bf16) (B7 : FVec Ideal S1x1x1024 .f32) (B9 : FVec Ideal S1x1024 .f32)
    (r : Fin 512) (s8 s5 s6 : Fin 1024 → EReal) (s12 s13 : Fin 1024 → Fin 2816 → EReal) (s14 : Fin 2816 → Fin 1024 → EReal)
    (s7 s9 : Fin 1024 → EReal) (h8 : ∀ k, B8 (ix2 0 k) = s8 k) (h5 : ∀ k, B5 (ix3 0 0 k) = s5 k) (h6 : ∀ k, B6 (ix3 0 0 k) = s6 k)
    (h12 : ∀ k f, B12 (ix2 k f) = s12 k f) (h13 : ∀ k f, B13 (ix2 k f) = s13 k f) (h14 : ∀ f n, B14 (ix2 f n) = s14 f n)
    (h7 : ∀ k, B7 (ix3 0 0 k) = s7 k) (h9 : ∀ k, B9 (ix2 0 k) = s9 k) :
    outB X (actB X B8 B5 B6 B12 B13) B14 B7 B9 r = out (last (X r) s8 s5 s6 s7 s12 s13 s14) s9 := by
  obtain rfl : (fun k => B8 (ix2 0 k)) = s8 := funext h8
  obtain rfl : (fun k => B5 (ix3 0 0 k)) = s5 := funext h5
  obtain rfl : (fun k => B6 (ix3 0 0 k)) = s6 := funext h6
  obtain rfl : (fun k => B7 (ix3 0 0 k)) = s7 := funext h7
  obtain rfl : (fun k => B9 (ix2 0 k)) = s9 := funext h9
  obtain rfl : (fun k f => B12 (ix2 k f)) = s12 := funext fun k => funext (h12 k)
  obtain rfl : (fun k f => B13 (ix2 k f)) = s13 := funext fun k => funext (h13 k)
  obtain rfl : (fun f n => B14 (ix2 f n)) = s14 := funext fun f => funext (h14 f)
  rfl

/-- The upper rows' first residual. -/
theorem mid_lo (B0 : FVec Ideal S512x1024 .bf16) (B1 : FVec Ideal S1x1x1024x512 .bf16) (B2 : FVec Ideal S512x1024 .bf16) (B3 : FVec Ideal S512x1024 .f32)
    (B4 : FVec Ideal S1x1x1024 .f32) (B10 B11 : FVec Ideal S1024x1024 .bf16) (h0 : ∀ a, _ ≤ S512x1024.size a) (h1 : ∀ a, _ ≤ S1x1x1024x512.size a) (h2 h3 : ∀ a, _ ≤ S512x1024.size a) (r : Fin 256) (n : Fin 1024) :
    k0_pay2 (F := Ideal) (View.ld (Val := Elt Ideal) (e' := .bf16) B1 (Rect.unit ![0, 0, 0, 0] ![1, 1, 1024, 256] h1)) B10
      (View.ld (Val := Elt Ideal) (e' := .bf16) B0 (Rect.unit ![0, 0] ![256, 1024] h0)) (View.ld (Val := Elt Ideal) (e' := .bf16) B2 (Rect.unit ![0, 0] ![256, 1024] h2)) B11
      (View.ld (Val := Elt Ideal) (e' := .f32) B3 (Rect.unit ![0, 0] ![256, 1024] h3)) B4 (ix2 r n)
    = midB B0 B1 B2 B3 B4 B10 B11 ⟨r.val, by omega⟩ n := by
  unfold midB mid resid merged
  pointwise [k0_pay2]

/-- The lower rows' first residual. -/
theorem mid_hi (B0 : FVec Ideal S512x1024 .bf16) (B1 : FVec Ideal S1x1x1024x512 .bf16) (B2 : FVec Ideal S512x1024 .bf16) (B3 : FVec Ideal S512x1024 .f32)
    (B4 : FVec Ideal S1x1x1024 .f32) (B10 B11 : FVec Ideal S1024x1024 .bf16) (h0 : ∀ a, _ ≤ S512x1024.size a) (h1 : ∀ a, _ ≤ S1x1x1024x512.size a) (h2 h3 : ∀ a, _ ≤ S512x1024.size a) (r : Fin 256) (n : Fin 1024) :
    k0_pay5 (F := Ideal) (k0_pay3 (View.ld (Val := Elt Ideal) (e' := .bf16) B1 (Rect.unit ![0, 0, 0, 256] ![1, 1, 1024, 256] h1)) B10)
      (k0_pay4 (View.ld (Val := Elt Ideal) (e' := .bf16) B0 (Rect.unit ![256, 0] ![256, 1024] h0))) (View.ld (Val := Elt Ideal) (e' := .bf16) B2 (Rect.unit ![256, 0] ![256, 1024] h2)) B11
      (View.ld (Val := Elt Ideal) (e' := .f32) B3 (Rect.unit ![256, 0] ![256, 1024] h3)) B4 (ix2 r n)
    = midB B0 B1 B2 B3 B4 B10 B11 ⟨256 + r.val, by omega⟩ n := by
  unfold midB mid resid merged
  pointwise [k0_pay5, k0_pay3, k0_pay4]

/-- One tile of hidden units. -/
theorem chunk (H WG WU) (x : S256x256.Idx) : k0_pay15 (F := Ideal) H WG WU x
    = TailRow.unit (fun k => H (ix2 (x 0) k)) (fun k => WG (ix2 k (x 1))) (fun k => WU (ix2 k (x 1))) := by
  unfold TailRow.unit
  pointwise [k0_pay15]
  rw [tanh_half]

/-- The upper rows normalised and modulated. -/
theorem hid_lo (X B8 B5 B6) (r : Fin 256) (n : Fin 1024) : k0_pay8 (F := Ideal) (k0_pay6 X B8 B5) (k0_pay7 B6) (ix2 r n)
    = hid (fun k => X (ix2 r k)) (fun k => B8 (ix2 0 k)) (fun k => B5 (ix3 0 0 k)) (fun k => B6 (ix3 0 0 k)) n := by
  unfold hid scale
  pointwise [k0_pay8, k0_pay6, k0_pay7]

/-- The lower rows normalised and modulated. -/
theorem hid_hi (X B8 B5 B6) (r : Fin 256) (n : Fin 1024) : k0_pay9 (F := Ideal) X B8 B5 B6 (ix2 r n)
    = hid (fun k => X (ix2 r k)) (fun k => B8 (ix2 0 k)) (fun k => B5 (ix3 0 0 k)) (fun k => B6 (ix3 0 0 k)) n := by
  unfold hid scale
  pointwise [k0_pay9]

/-- The upper rows' result, from their rows after the first residual and their hidden units. -/
theorem out_lo (X A B14 B7 B9) (Xr : Fin 512 → Fin 1024 → EReal) (Ab : S512x2816.Idx → EReal) (r : Fin 256) (n : Fin 1024)
    (hX : ∀ k, X (ix2 r k) = Xr ⟨r.val, by omega⟩ k) (hA : ∀ f, A (ix2 r f) = Ab (ix2 ⟨r.val, by omega⟩ f)) :
    k0_pay52 (F := Ideal) X A B14 B7 B9 (ix2 r n) = outB Xr Ab B14 B7 B9 ⟨r.val, by omega⟩ n := by
  unfold outB out resid scale
  pointwise [k0_pay52]
  simp only [hX, hA]

/-- The lower rows' result, from their rows after the first residual and their hidden units. -/
theorem out_hi (X A B14 B7 B9) (Xr : Fin 512 → Fin 1024 → EReal) (Ab : S512x2816.Idx → EReal) (r : Fin 256) (n : Fin 1024)
    (hX : ∀ k, X (ix2 r k) = Xr ⟨256 + r.val, by omega⟩ k) (hA : ∀ f, A (ix2 r f) = Ab (ix2 ⟨256 + r.val, by omega⟩ f)) :
    k0_pay1 (F := Ideal) (k0_pay53 X A B14 B7) (k0_pay54 X A B14 B7) B9 (ix2 r n) = outB Xr Ab B14 B7 B9 ⟨256 + r.val, by omega⟩ n := by
  unfold outB out resid scale
  pointwise [k0_pay1, k0_pay53, k0_pay54]
  simp only [hX, hA]

/-- A tile of hidden units, at the place `j` it has in the block: `p` is the first of its rows and `o` the first of its columns. -/
theorem act_of (p o : ℕ) (H) (Xr : Fin 512 → Fin 1024 → EReal) (B8 : FVec Ideal S1x1024 .f32) (B5 B6 : FVec Ideal S1x1x1024 .f32)
    (B12 B13 : FVec Ideal S1024x2816 .bf16) (h : ∀ a, ![0, o] a + ![1024, 256] a ≤ S1024x2816.size a)
    (hp : p + 256 ≤ 512)
    (hH : ∀ (r : Fin 256) (k : Fin 1024), H (ix2 r k) = hid (Xr ⟨p + r.val, by omega⟩) (fun k => B8 (ix2 0 k)) (fun k => B5 (ix3 0 0 k)) (fun k => B6 (ix3 0 0 k)) k)
    (x : S256x256.Idx) (j : S512x2816.Idx) (h0 : (j 0).val = p + (x 0).val) (h1 : (j 1).val = o + (x 1).val) :
    k0_pay15 (F := Ideal) H (View.ld (Val := Elt Ideal) (e' := .bf16) B12 (Rect.unit ![0, o] ![1024, 256] h))
      (View.ld (Val := Elt Ideal) (e' := .bf16) B13 (Rect.unit ![0, o] ![1024, 256] h)) x
    = actB Xr B8 B5 B6 B12 B13 j := by
  refine (chunk H _ _ x).trans ?_
  have l : ∀ (B : FVec Ideal S1024x2816 .bf16) (k : Fin 1024),
      View.ld (Val := Elt Ideal) (e' := .bf16) B (Rect.unit ![0, o] ![1024, 256] h) (ix2 k (x 1)) = B (ix2 k (j 1)) := by
    intro B k
    refine congrArg B ?_
    funext a
    apply Fin.ext
    match a with
    | 0 => show 0 + 1 * k.val = k.val; omega
    | 1 => show o + 1 * (x 1).val = (j 1).val; omega
  have e : (⟨p + (x 0).val, by have hx : (x 0).val < 256 := (x 0).isLt; omega⟩ : Fin 512) = j 0 := Fin.ext h0.symm
  have g : ∀ k : Fin 1024, H (ix2 (x 0) k) = hid (Xr (j 0)) (fun k => B8 (ix2 0 k)) (fun k => B5 (ix3 0 0 k)) (fun k => B6 (ix3 0 0 k)) k :=
    fun k => (hH (x 0) k).trans (congrArg (fun q => hid (Xr q) (fun k => B8 (ix2 0 k)) (fun k => B5 (ix3 0 0 k)) (fun k => B6 (ix3 0 0 k)) k) e)
  unfold actB
  exact congr (congr (congrArg TailRow.unit (funext g)) (funext fun k => l B12 k)) (funext fun k => l B13 k)

set_option maxHeartbeats 2000000 in
/-- The block a point leaves, from the blocks it reads. -/
theorem left (c : Dev nD) (t : Fin cfg0.N) (y : S512x1024.Idx) : (dats m 0 c).after 15 t y
    = outB (midB (iblk m c 0 t) (iblk m c 1 t) (iblk m c 2 t) (iblk m c 3 t) (iblk m c 4 t) (iblk m c 10 t) (iblk m c 11 t))
      (actB (midB (iblk m c 0 t) (iblk m c 1 t) (iblk m c 2 t) (iblk m c 3 t) (iblk m c 4 t) (iblk m c 10 t) (iblk m c 11 t))
        (iblk m c 8 t) (iblk m c 5 t) (iblk m c 6 t) (iblk m c 12 t) (iblk m c 13 t))
      (iblk m c 14 t) (iblk m c 7 t) (iblk m c 9 t) (y 0) (y 1) := by
  rw [after0_15]; unfold Gen.outsAt0; frame_out
  generalize iblk m c 0 t = B0
  generalize iblk m c 1 t = B1
  generalize iblk m c 2 t = B2
  generalize iblk m c 3 t = B3
  generalize iblk m c 4 t = B4
  generalize iblk m c 5 t = B5
  generalize iblk m c 6 t = B6
  generalize iblk m c 7 t = B7
  generalize iblk m c 8 t = B8
  generalize iblk m c 9 t = B9
  generalize iblk m c 10 t = B10
  generalize iblk m c 11 t = B11
  generalize iblk m c 12 t = B12
  generalize iblk m c 13 t = B13
  generalize iblk m c 14 t = B14
  generalize hX0 : k0_pay2 (F := Ideal) _ _ _ _ _ _ _ = X0
  generalize hX1 : k0_pay5 (F := Ideal) _ _ _ _ _ _ = X1
  generalize hH1 : k0_pay9 (F := Ideal) _ _ _ _ = H1
  have x0 : ∀ (r : Fin 256) (k : Fin 1024), X0 (ix2 r k) = midB B0 B1 B2 B3 B4 B10 B11 ⟨r.val, by omega⟩ k := by
    intro r k; rw [← hX0]; exact mid_lo B0 B1 B2 B3 B4 B10 B11 _ _ _ _ r k
  have x1 : ∀ (r : Fin 256) (k : Fin 1024), X1 (ix2 r k) = midB B0 B1 B2 B3 B4 B10 B11 ⟨256 + r.val, by omega⟩ k := by
    intro r k; rw [← hX1]; exact mid_hi B0 B1 B2 B3 B4 B10 B11 _ _ _ _ r k
  generalize midB B0 B1 B2 B3 B4 B10 B11 = Xr at x0 x1 ⊢
  have g0 : ∀ (r : Fin 256) (k : Fin 1024), k0_pay8 (F := Ideal) (k0_pay6 X0 B8 B5) (k0_pay7 B6) (ix2 r k)
      = hid (Xr ⟨0 + r.val, by omega⟩) (fun k => B8 (ix2 0 k)) (fun k => B5 (ix3 0 0 k)) (fun k => B6 (ix3 0 0 k)) k :=
    fun r k => (hid_lo X0 B8 B5 B6 r k).trans (congrArg (fun q => hid q _ _ _ k) (funext fun k =>
      (x0 r k).trans (congrArg (fun q => Xr q k) (Fin.ext (Nat.zero_add r.val).symm))))
  have g1 : ∀ (r : Fin 256) (k : Fin 1024), H1 (ix2 r k)
      = hid (Xr ⟨256 + r.val, by omega⟩) (fun k => B8 (ix2 0 k)) (fun k => B5 (ix3 0 0 k)) (fun k => B6 (ix3 0 0 k)) k :=
    fun r k => by rw [← hH1]; exact (hid_hi X1 B8 B5 B6 r k).trans (congrArg (fun q => hid q _ _ _ k) (funext fun k => x1 r k))
  clear hX0 hX1 hH1
  canon_tiles x h
  · have e : x = ix2 (x 0) (x 1) := by funext a; fin_cases a <;> rfl
    have f0 : y 0 = (⟨256 + (x 0).val, by omega⟩ : Fin 512) := Fin.ext h0
    have f1 : y 1 = x 1 := Fin.ext h1
    rw [e, f0, f1]
    refine out_hi X1 _ B14 B7 B9 Xr _ (x 0) (x 1) (fun k => x1 _ k) fun f => ?_
    rw [View.readCov_eq_canon_ld]
    · refine (View.ld_unit_apply_of _ _ _ _ _ (ix2 (⟨256 + (x 0).val, by omega⟩ : Fin 512) f) fun a => ?_).trans ?_
      · match a with
        | 0 => rfl
        | 1 => exact (Nat.zero_add _).symm
      · canon_tiles z h
        · exact act_of 256 2560 H1 Xr B8 B5 B6 B12 B13 (by decide) (by decide) g1 z _ h0 h1
        · exact act_of 0 2560 _ Xr B8 B5 B6 B12 B13 (by decide) (by decide) g0 z _ (h0.trans (Nat.zero_add _).symm) h1
        · exact act_of 256 2304 H1 Xr B8 B5 B6 B12 B13 (by decide) (by decide) g1 z _ h0 h1
        · exact act_of 0 2304 _ Xr B8 B5 B6 B12 B13 (by decide) (by decide) g0 z _ (h0.trans (Nat.zero_add _).symm) h1
        · exact act_of 256 2048 H1 Xr B8 B5 B6 B12 B13 (by decide) (by decide) g1 z _ h0 h1
        · exact act_of 0 2048 _ Xr B8 B5 B6 B12 B13 (by decide) (by decide) g0 z _ (h0.trans (Nat.zero_add _).symm) h1
        · exact act_of 256 1792 H1 Xr B8 B5 B6 B12 B13 (by decide) (by decide) g1 z _ h0 h1
        · exact act_of 0 1792 _ Xr B8 B5 B6 B12 B13 (by decide) (by decide) g0 z _ (h0.trans (Nat.zero_add _).symm) h1
        · exact act_of 256 1536 H1 Xr B8 B5 B6 B12 B13 (by decide) (by decide) g1 z _ h0 h1
        · exact act_of 0 1536 _ Xr B8 B5 B6 B12 B13 (by decide) (by decide) g0 z _ (h0.trans (Nat.zero_add _).symm) h1
        · exact act_of 256 1280 H1 Xr B8 B5 B6 B12 B13 (by decide) (by decide) g1 z _ h0 h1
        · exact act_of 0 1280 _ Xr B8 B5 B6 B12 B13 (by decide) (by decide) g0 z _ (h0.trans (Nat.zero_add _).symm) h1
        · exact act_of 256 1024 H1 Xr B8 B5 B6 B12 B13 (by decide) (by decide) g1 z _ h0 h1
        · exact act_of 0 1024 _ Xr B8 B5 B6 B12 B13 (by decide) (by decide) g0 z _ (h0.trans (Nat.zero_add _).symm) h1
        · exact act_of 256 768 H1 Xr B8 B5 B6 B12 B13 (by decide) (by decide) g1 z _ h0 h1
        · exact act_of 0 768 _ Xr B8 B5 B6 B12 B13 (by decide) (by decide) g0 z _ (h0.trans (Nat.zero_add _).symm) h1
        · exact act_of 256 512 H1 Xr B8 B5 B6 B12 B13 (by decide) (by decide) g1 z _ h0 h1
        · exact act_of 0 512 _ Xr B8 B5 B6 B12 B13 (by decide) (by decide) g0 z _ (h0.trans (Nat.zero_add _).symm) h1
        · exact act_of 256 256 H1 Xr B8 B5 B6 B12 B13 (by decide) (by decide) g1 z _ h0 h1
        · exact act_of 0 256 _ Xr B8 B5 B6 B12 B13 (by decide) (by decide) g0 z _ (h0.trans (Nat.zero_add _).symm) h1
        · exact act_of 256 0 H1 Xr B8 B5 B6 B12 B13 (by decide) (by decide) g1 z _ h0 (h1.trans (Nat.zero_add _).symm)
        · exact act_of 0 0 _ Xr B8 B5 B6 B12 B13 (by decide) (by decide) g0 z _ (h0.trans (Nat.zero_add _).symm) (h1.trans (Nat.zero_add _).symm)
    · exact View.cover_of_tiledL _ ![256, 256] (by sl_kernel_rfl)
  · have e : x = ix2 (x 0) (x 1) := by funext a; fin_cases a <;> rfl
    have f0 : y 0 = (⟨(x 0).val, by omega⟩ : Fin 512) := Fin.ext h0
    have f1 : y 1 = x 1 := Fin.ext h1
    rw [e, f0, f1]
    refine out_lo X0 _ B14 B7 B9 Xr _ (x 0) (x 1) (fun k => x0 _ k) fun f => ?_
    rw [View.readCov_eq_canon_ld]
    · refine (View.ld_unit_apply_of _ _ _ _ _ (ix2 (⟨(x 0).val, by omega⟩ : Fin 512) f) fun a => ?_).trans ?_
      · match a with
        | 0 => exact (Nat.zero_add _).symm
        | 1 => exact (Nat.zero_add _).symm
      · canon_tiles z h
        · exact act_of 256 2560 H1 Xr B8 B5 B6 B12 B13 (by decide) (by decide) g1 z _ h0 h1
        · exact act_of 0 2560 _ Xr B8 B5 B6 B12 B13 (by decide) (by decide) g0 z _ (h0.trans (Nat.zero_add _).symm) h1
        · exact act_of 256 2304 H1 Xr B8 B5 B6 B12 B13 (by decide) (by decide) g1 z _ h0 h1
        · exact act_of 0 2304 _ Xr B8 B5 B6 B12 B13 (by decide) (by decide) g0 z _ (h0.trans (Nat.zero_add _).symm) h1
        · exact act_of 256 2048 H1 Xr B8 B5 B6 B12 B13 (by decide) (by decide) g1 z _ h0 h1
        · exact act_of 0 2048 _ Xr B8 B5 B6 B12 B13 (by decide) (by decide) g0 z _ (h0.trans (Nat.zero_add _).symm) h1
        · exact act_of 256 1792 H1 Xr B8 B5 B6 B12 B13 (by decide) (by decide) g1 z _ h0 h1
        · exact act_of 0 1792 _ Xr B8 B5 B6 B12 B13 (by decide) (by decide) g0 z _ (h0.trans (Nat.zero_add _).symm) h1
        · exact act_of 256 1536 H1 Xr B8 B5 B6 B12 B13 (by decide) (by decide) g1 z _ h0 h1
        · exact act_of 0 1536 _ Xr B8 B5 B6 B12 B13 (by decide) (by decide) g0 z _ (h0.trans (Nat.zero_add _).symm) h1
        · exact act_of 256 1280 H1 Xr B8 B5 B6 B12 B13 (by decide) (by decide) g1 z _ h0 h1
        · exact act_of 0 1280 _ Xr B8 B5 B6 B12 B13 (by decide) (by decide) g0 z _ (h0.trans (Nat.zero_add _).symm) h1
        · exact act_of 256 1024 H1 Xr B8 B5 B6 B12 B13 (by decide) (by decide) g1 z _ h0 h1
        · exact act_of 0 1024 _ Xr B8 B5 B6 B12 B13 (by decide) (by decide) g0 z _ (h0.trans (Nat.zero_add _).symm) h1
        · exact act_of 256 768 H1 Xr B8 B5 B6 B12 B13 (by decide) (by decide) g1 z _ h0 h1
        · exact act_of 0 768 _ Xr B8 B5 B6 B12 B13 (by decide) (by decide) g0 z _ (h0.trans (Nat.zero_add _).symm) h1
        · exact act_of 256 512 H1 Xr B8 B5 B6 B12 B13 (by decide) (by decide) g1 z _ h0 h1
        · exact act_of 0 512 _ Xr B8 B5 B6 B12 B13 (by decide) (by decide) g0 z _ (h0.trans (Nat.zero_add _).symm) h1
        · exact act_of 256 256 H1 Xr B8 B5 B6 B12 B13 (by decide) (by decide) g1 z _ h0 h1
        · exact act_of 0 256 _ Xr B8 B5 B6 B12 B13 (by decide) (by decide) g0 z _ (h0.trans (Nat.zero_add _).symm) h1
        · exact act_of 256 0 H1 Xr B8 B5 B6 B12 B13 (by decide) (by decide) g1 z _ h0 (h1.trans (Nat.zero_add _).symm)
        · exact act_of 0 0 _ Xr B8 B5 B6 B12 B13 (by decide) (by decide) g0 z _ (h0.trans (Nat.zero_add _).symm) (h1.trans (Nat.zero_add _).symm)
    · exact View.cover_of_tiledL _ ![256, 256] (by sl_kernel_rfl)

end Cert.KernelTailIdeal.Tail

end
-- ==== Proof.TailRef.lean ====
/- The layer's last part by the reference: its composed term, stage by stage, read at an index. -/
module

public import proofs.«01_k».proof.Proof.Gen.ReferenceTailIdeal.Run
public import proofs.«01_k».proof.Proof.TailRow

@[expose] public section

set_option maxRecDepth 16384

noncomputable section

open Idealize.ShloMosaic Idealize.ShloMosaic.TcCoe Idealize.SL.Sem

namespace Cert.ReferenceTailIdeal.Tail

open Cert.ReferenceTailIdeal Cert.ReferenceTailIdeal.Gen Cert.TailRow

/-- The reference's term for the rows after the first residual. -/
def X1 (a0 : FVec Ideal S2x8192x1024 .bf16) (a1 : FVec Ideal S2x4x1024x2048 .bf16) (a2 : FVec Ideal S16384x6144 .bf16) (a3 : FVec Ideal S2x8192x1024 .f32) (a4 : FVec Ideal S2x6144 .f32) (a5 : FVec Ideal S1x1024x1024 .f32) (a6 : FVec Ideal S1x1024x1024 .f32) : FVec Ideal S2x8192x1024 .f32 :=
  addf a3 (mulf (broadcastInDim S2x8192x1024 ![0, 1, 2] bcast_S2x1x1024_S2x8192x1024_0_1_2 (broadcastInDim S2x1x1024 ![0, 2] bcast_S2x1024_S2x1x1024_0_2 (extractStridedSlice S2x1024 ![0, 2048] a4 slices_S2x6144_S2x1024_0_2048))) (Host.dotGeneral dot_S2x8192x1024_S1024x1024_S2x8192x1024_2_0_01_1_n_n none (addf (extf .f32 a0 bitsLt_bf16_f32) (mulf (shapeCast S2x8192x1024 (extractStridedSlice S16384x1024 ![0, 5120] (extf .f32 a2 bitsLt_bf16_f32) slices_S16384x6144_S16384x1024_0_5120) shapeCasts_S16384x1024_S2x8192x1024) (Host.dotGeneral dot_S2x8192x1024_S1024x1024_S2x8192x1024_2_0_01_1_n_n none (shapeCast S2x8192x1024 (transpose S2x4x2048x1024 [0, 1, 3, 2] (extf .f32 a1 bitsLt_bf16_f32) transposes_S2x4x1024x2048_S2x4x2048x1024_0_1_3_2) shapeCasts_S2x4x2048x1024_S2x8192x1024) (shapeCast S1024x1024 a5 shapeCasts_S1x1024x1024_S1024x1024)))) (shapeCast S1024x1024 a6 shapeCasts_S1x1024x1024_S1024x1024)))

/-- The reference's term for the normalised, modulated rows. -/
def H2 (x1 : FVec Ideal S2x8192x1024 .f32) (a4 : FVec Ideal S2x6144 .f32) (a7 : FVec Ideal S1x1024 .f32) : FVec Ideal S2x8192x1024 .f32 :=
  addf (mulf (mulf (mulf x1 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x1 x1) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast S1024 a7 shapeCasts_S1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 4096] a4 slices_S2x6144_S2x1024_0_4096))))) (broadcastInDim S2x8192x1024 ![0, 1, 2] bcast_S2x1x1024_S2x8192x1024_0_1_2 (broadcastInDim S2x1x1024 ![0, 2] bcast_S2x1024_S2x1x1024_0_2 (extractStridedSlice S2x1024 ![0, 3072] a4 slices_S2x6144_S2x1024_0_3072)))

/-- The reference's term for the hidden units. -/
def ACT (h2 : FVec Ideal S2x8192x1024 .f32) (a8 : FVec Ideal S1x1024x2816 .f32) (a9 : FVec Ideal S1x1024x2816 .f32) : FVec Ideal S2x8192x2816 .f32 :=
  mulf (mulf (Host.dotGeneral dot_S2x8192x1024_S1024x2816_S2x8192x2816_2_0_01_1_n_n none h2 (shapeCast S1024x2816 a8 shapeCasts_S1x1024x2816_S1024x2816)) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (Host.dotGeneral dot_S2x8192x1024_S1024x2816_S2x8192x2816_2_0_01_1_n_n none h2 (shapeCast S1024x2816 a8 shapeCasts_S1x1024x2816_S1024x2816))))))) (Host.dotGeneral dot_S2x8192x1024_S1024x2816_S2x8192x2816_2_0_01_1_n_n none h2 (shapeCast S1024x2816 a9 shapeCasts_S1x1024x2816_S1024x2816))

/-- The reference's term for the rows after the second residual. -/
def X2 (x1 : FVec Ideal S2x8192x1024 .f32) (ac : FVec Ideal S2x8192x2816 .f32) (a4 : FVec Ideal S2x6144 .f32) (a10 : FVec Ideal S1x2816x1024 .f32) : FVec Ideal S2x8192x1024 .f32 :=
  addf x1 (mulf (broadcastInDim S2x8192x1024 ![0, 1, 2] bcast_S2x1x1024_S2x8192x1024_0_1_2 (broadcastInDim S2x1x1024 ![0, 2] bcast_S2x1024_S2x1x1024_0_2 (extractStridedSlice S2x1024 ![0, 5120] a4 slices_S2x6144_S2x1024_0_5120))) (Host.dotGeneral dot_S2x8192x2816_S2816x1024_S2x8192x1024_2_0_01_1_n_n none ac (shapeCast S2816x1024 a10 shapeCasts_S1x2816x1024_S2816x1024)))

/-- The reference's term for the result. -/
def OUT (x2 : FVec Ideal S2x8192x1024 .f32) (a11 : FVec Ideal S1024 .f32) : FVec Ideal S16384x1024 .f32 :=
  shapeCast S16384x1024 (mulf (mulf x2 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x2 x2) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 a11))) shapeCasts_S2x8192x1024_S16384x1024
/-- Token `s` of batch `b` after the first residual, from the arguments. -/
def midRow (a0 : FVec Ideal S2x8192x1024 .bf16) (a1 : FVec Ideal S2x4x1024x2048 .bf16) (a2 : FVec Ideal S16384x6144 .bf16)
    (a3 : FVec Ideal S2x8192x1024 .f32) (a4 : FVec Ideal S2x6144 .f32) (a5 a6 : FVec Ideal S1x1024x1024 .f32)
    (b : Fin 2) (s : Fin 8192) : Fin 1024 → EReal :=
  mid (fun k => a0 (ix3 b s k)) (fun k => a2 (ix2 ⟨b.val * 8192 + s.val, by omega⟩ ⟨5120 + k.val, by omega⟩))
    (fun j => a1 (ix4 b ⟨s.val / 2048, by omega⟩ j ⟨s.val % 2048, by omega⟩)) (fun k => a3 (ix3 b s k))
    (fun k => a4 (ix2 b ⟨2048 + k.val, by omega⟩)) (fun j k => a5 (ix3 0 j k)) (fun k n => a6 (ix3 0 k n))

/-- A token of batch `b` after the second residual, from its row after the first. -/
def lastRow (X : Fin 1024 → EReal) (a4 : FVec Ideal S2x6144 .f32) (a7 : FVec Ideal S1x1024 .f32)
    (a8 a9 : FVec Ideal S1x1024x2816 .f32) (a10 : FVec Ideal S1x2816x1024 .f32) (b : Fin 2) : Fin 1024 → EReal :=
  last X (fun k => a7 (ix2 0 k)) (fun k => a4 (ix2 b ⟨4096 + k.val, by omega⟩)) (fun k => a4 (ix2 b ⟨3072 + k.val, by omega⟩))
    (fun k => a4 (ix2 b ⟨5120 + k.val, by omega⟩)) (fun k f => a8 (ix3 0 k f)) (fun k f => a9 (ix3 0 k f)) (fun f n => a10 (ix3 0 f n))

/-- The result from the arguments: row `i 0` is token `i 0 % 8192` of batch `i 0 / 8192`. -/
def SPEC (a0 : FVec Ideal S2x8192x1024 .bf16) (a1 : FVec Ideal S2x4x1024x2048 .bf16) (a2 : FVec Ideal S16384x6144 .bf16)
    (a3 : FVec Ideal S2x8192x1024 .f32) (a4 : FVec Ideal S2x6144 .f32) (a5 a6 : FVec Ideal S1x1024x1024 .f32) (a7 : FVec Ideal S1x1024 .f32)
    (a8 a9 : FVec Ideal S1x1024x2816 .f32) (a10 : FVec Ideal S1x2816x1024 .f32) (a11 : FVec Ideal S1024 .f32) :
    FVec Ideal S16384x1024 .f32 := fun i =>
  out (lastRow (midRow a0 a1 a2 a3 a4 a5 a6 ⟨(i 0).val / 8192, by have h : (i 0).val < 16384 := (i 0).isLt; omega⟩ ⟨(i 0).val % 8192, by omega⟩) a4 a7 a8 a9 a10
    ⟨(i 0).val / 8192, by have h : (i 0).val < 16384 := (i 0).isLt; omega⟩) (fun k => a11 (ix1 k)) (i 1)

/-- Equal arguments have equal results. -/
theorem SPEC_congr {a0 b0 a1 b1 a2 b2 a3 b3 a4 b4 a5 b5 a6 b6 a7 b7 a8 b8 a9 b9 a10 b10 a11 b11} (h0 : a0 = b0) (h1 : a1 = b1) (h2 : a2 = b2)
    (h3 : a3 = b3) (h4 : a4 = b4) (h5 : a5 = b5) (h6 : a6 = b6) (h7 : a7 = b7) (h8 : a8 = b8) (h9 : a9 = b9) (h10 : a10 = b10) (h11 : a11 = b11) :
    SPEC a0 a1 a2 a3 a4 a5 a6 a7 a8 a9 a10 a11 = SPEC b0 b1 b2 b3 b4 b5 b6 b7 b8 b9 b10 b11 := by
  subst h0 h1 h2 h3 h4 h5 h6 h7 h8 h9 h10 h11
  rfl

/-- The first residual of the reference, read at an index. -/
theorem X1_at (a0 a1 a2 a3 a4 a5 a6) (b : Fin 2) (s : Fin 8192) (n : Fin 1024) :
    X1 a0 a1 a2 a3 a4 a5 a6 (ix3 b s n) = midRow a0 a1 a2 a3 a4 a5 a6 b s n := by
  unfold X1; pointwise
  rfl

/-- The modulated rows of the reference, read at an index. -/
theorem H2_at (x1 a4 a7) (b : Fin 2) (s : Fin 8192) (n : Fin 1024) : H2 x1 a4 a7 (ix3 b s n)
    = hid (fun k => x1 (ix3 b s k)) (fun k => a7 (ix2 0 k)) (fun k => a4 (ix2 b ⟨4096 + k.val, by omega⟩))
      (fun k => a4 (ix2 b ⟨3072 + k.val, by omega⟩)) n := by
  unfold H2; pointwise
  rfl

/-- The hidden units of the reference, read at an index. -/
theorem ACT_at (h2 a8 a9) (b : Fin 2) (s : Fin 8192) (f : Fin 2816) : ACT h2 a8 a9 (ix3 b s f)
    = TailRow.unit (fun k => h2 (ix3 b s k)) (fun k => a8 (ix3 0 k f)) (fun k => a9 (ix3 0 k f)) := by
  unfold ACT; pointwise
  rfl

/-- The second residual of the reference, read at an index. -/
theorem X2_at (x1 ac a4 a10) (b : Fin 2) (s : Fin 8192) (n : Fin 1024) : X2 x1 ac a4 a10 (ix3 b s n)
    = resid (fun k => x1 (ix3 b s k)) (fun k => a4 (ix2 b ⟨5120 + k.val, by omega⟩)) (fun f => ac (ix3 b s f)) (fun f n => a10 (ix3 0 f n)) n := by
  unfold X2; pointwise
  rfl

/-- The result of the reference, read at an index. -/
theorem OUT_at (x2 a11) (i : S16384x1024.Idx) : OUT x2 a11 i
    = out (fun k => x2 (ix3 ⟨(i 0).val / 8192, by have h : (i 0).val < 16384 := (i 0).isLt; omega⟩ ⟨(i 0).val % 8192, by omega⟩ k)) (fun k => a11 (ix1 k)) (i 1) := by
  unfold OUT; pointwise
  rfl

/-- The stages composed are the result from the arguments. -/
theorem stages (a0 a1 a2 a3 a4 a5 a6 a7 a8 a9 a10 a11) :
    OUT (X2 (X1 a0 a1 a2 a3 a4 a5 a6) (ACT (H2 (X1 a0 a1 a2 a3 a4 a5 a6) a4 a7) a8 a9) a4 a10) a11 = SPEC a0 a1 a2 a3 a4 a5 a6 a7 a8 a9 a10 a11 := by
  funext i
  simp only [OUT_at, X2_at, ACT_at, H2_at, X1_at]
  rfl

/-- What the reference leaves is the result from the arguments. -/
theorem res (m : (ℓ : Loc nD τ sig) → Buf (Elt Ideal) ℓ) (c : Dev nD) : Cert.ReferenceTailIdeal.Value.res_main_v70 m c
    = SPEC (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) :=
  Eq.trans (show _ = OUT (X2 (X1 _ _ _ _ _ _ _) (ACT (H2 (X1 _ _ _ _ _ _ _) _ _) _ _) _ _) _ from rfl) (stages _ _ _ _ _ _ _ _ _ _ _ _)

end Cert.ReferenceTailIdeal.Tail

end
-- ==== Proof.TailIdeal.lean ====
/- The layer's last part: what the block program leaves is the result from the arguments. -/
module

public import proofs.«01_k».proof.Proof.TailPay
public import proofs.«01_k».proof.Proof.TailRef

@[expose] public section

set_option maxRecDepth 16384

noncomputable section

open Idealize.ShloMosaic Idealize.ShloMosaic.TcCoe Idealize.SL.Sem
open Idealize.ShloMosaic.Pipeline (Dat)

namespace Cert.KernelTailIdeal.Tail

open Cert.KernelTailIdeal Cert.KernelTailIdeal.Gen Cert.TailRow
open Cert.ReferenceTailIdeal.Tail (midRow lastRow SPEC)

variable (m : (ℓ : Loc nD τ sig) → Buf (Elt Ideal) ℓ)

/-- Every window's block at every grid point, decided. -/
theorem idx : ∀ t : Fin cfg0.N, win0_0.index t = ![t.val, 0]
    ∧ win0_1.index t = ![t.val / 16, t.val % 16 / 4, 0, t.val % 4]
    ∧ win0_2.index t = ![t.val, 5]
    ∧ win0_3.index t = ![t.val, 0]
    ∧ win0_4.index t = ![t.val / 16, 0, 0]
    ∧ win0_5.index t = ![t.val / 16, 0, 0]
    ∧ win0_6.index t = ![t.val / 16, 0, 0]
    ∧ win0_7.index t = ![t.val / 16, 0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![t.val, 0] :=
  (by decide +kernel : ∀ t : Fin grid0.N, _)

/-- Window 0's block, at the arguments. -/
theorem rd0 (c : Dev nD) (t : Fin cfg0.N) (r : Fin 512) (k : Fin 1024) (b : Fin 2) (s : Fin 8192) (hb : b.val * 8192 + s.val = t.val * 512 + r.val) :
    iblk m c 0 t (ix2 r k) = m ((c : Thread nD τ).loc main_arg0) (ix3 b s k) := by
  have ht : t.val < 32 := t.isLt
  obtain ⟨e0, e1, e2, e3, e4, e5, e6, e7, e8, e9, e10, e11, e12, e13, e14, e15⟩ := idx t
  have q : iblk m c 0 t (ix2 r k) = V m c main_v13 (ix2 (⟨t.val * 512 + r.val, by omega⟩ : Fin 16384) k) := by
    refine congrArg (V m c main_v13) (funext fun a => Fin.ext ?_)
    match a with
    | 0 => blk_simp [e0] <;> simp [ix1, ix2, ix3, ix4] <;> omega
    | 1 => blk_simp [e0] <;> simp [ix1, ix2, ix3, ix4] <;> omega
  rw [q]
  entry_read
  pointwise
  refine congrArg (m ((c : Thread nD τ).loc main_arg0)) (funext fun a => Fin.ext ?_)
  match a with
  | 0 => simp [ix1, ix2, ix3, ix4] <;> omega
  | 1 => simp [ix1, ix2, ix3, ix4] <;> omega
  | 2 => simp [ix1, ix2, ix3, ix4] <;> omega

/-- Window 3's block, at the arguments. -/
theorem rd3 (c : Dev nD) (t : Fin cfg0.N) (r : Fin 512) (k : Fin 1024) (b : Fin 2) (s : Fin 8192) (hb : b.val * 8192 + s.val = t.val * 512 + r.val) :
    iblk m c 3 t (ix2 r k) = m ((c : Thread nD τ).loc main_arg3) (ix3 b s k) := by
  have ht : t.val < 32 := t.isLt
  obtain ⟨e0, e1, e2, e3, e4, e5, e6, e7, e8, e9, e10, e11, e12, e13, e14, e15⟩ := idx t
  have q : iblk m c 3 t (ix2 r k) = V m c main_v12 (ix2 (⟨t.val * 512 + r.val, by omega⟩ : Fin 16384) k) := by
    refine congrArg (V m c main_v12) (funext fun a => Fin.ext ?_)
    match a with
    | 0 => blk_simp [e3] <;> simp [ix1, ix2, ix3, ix4] <;> omega
    | 1 => blk_simp [e3] <;> simp [ix1, ix2, ix3, ix4] <;> omega
  rw [q]
  entry_read
  pointwise
  refine congrArg (m ((c : Thread nD τ).loc main_arg3)) (funext fun a => Fin.ext ?_)
  match a with
  | 0 => simp [ix1, ix2, ix3, ix4] <;> omega
  | 1 => simp [ix1, ix2, ix3, ix4] <;> omega
  | 2 => simp [ix1, ix2, ix3, ix4] <;> omega

/-- Window 2's block, at the arguments. -/
theorem rd2 (c : Dev nD) (t : Fin cfg0.N) (r : Fin 512) (k : Fin 1024) (b : Fin 2) (s : Fin 8192) (hb : b.val * 8192 + s.val = t.val * 512 + r.val) :
    iblk m c 2 t (ix2 r k) = m ((c : Thread nD τ).loc main_arg2) (ix2 ⟨b.val * 8192 + s.val, by omega⟩ ⟨5120 + k.val, by omega⟩) := by
  have ht : t.val < 32 := t.isLt
  obtain ⟨e0, e1, e2, e3, e4, e5, e6, e7, e8, e9, e10, e11, e12, e13, e14, e15⟩ := idx t
  have q : iblk m c 2 t (ix2 r k) = V m c main_arg2 (ix2 (⟨t.val * 512 + r.val, by omega⟩ : Fin 16384) (⟨5120 + k.val, by omega⟩ : Fin 6144)) := by
    refine congrArg (V m c main_arg2) (funext fun a => Fin.ext ?_)
    match a with
    | 0 => blk_simp [e2] <;> simp [ix1, ix2, ix3, ix4] <;> omega
    | 1 => blk_simp [e2] <;> simp [ix1, ix2, ix3, ix4] <;> omega
  rw [q]
  entry_read
  pointwise
  refine congrArg (m ((c : Thread nD τ).loc main_arg2)) (funext fun a => Fin.ext ?_)
  match a with
  | 0 => simp [ix1, ix2, ix3, ix4] <;> omega
  | 1 => simp [ix1, ix2, ix3, ix4] <;> omega

/-- Window 1's block, at the arguments. -/
theorem rd1 (c : Dev nD) (t : Fin cfg0.N) (r : Fin 512) (k : Fin 1024) (b : Fin 2) (s : Fin 8192) (hb : b.val * 8192 + s.val = t.val * 512 + r.val) :
    iblk m c 1 t (ix4 0 0 k r) = m ((c : Thread nD τ).loc main_arg1) (ix4 b ⟨s.val / 2048, by omega⟩ k ⟨s.val % 2048, by omega⟩) := by
  have ht : t.val < 32 := t.isLt
  obtain ⟨e0, e1, e2, e3, e4, e5, e6, e7, e8, e9, e10, e11, e12, e13, e14, e15⟩ := idx t
  have q : iblk m c 1 t (ix4 0 0 k r) = V m c main_arg1 (ix4 (⟨t.val / 16, by omega⟩ : Fin 2) (⟨t.val % 16 / 4, by omega⟩ : Fin 4) k (⟨t.val % 4 * 512 + r.val, by omega⟩ : Fin 2048)) := by
    refine congrArg (V m c main_arg1) (funext fun a => Fin.ext ?_)
    match a with
    | 0 => blk_simp [e1] <;> simp [ix1, ix2, ix3, ix4] <;> omega
    | 1 => blk_simp [e1] <;> simp [ix1, ix2, ix3, ix4] <;> omega
    | 2 => blk_simp [e1] <;> simp [ix1, ix2, ix3, ix4] <;> omega
    | 3 => blk_simp [e1] <;> simp [ix1, ix2, ix3, ix4] <;> omega
  rw [q]
  entry_read
  pointwise
  refine congrArg (m ((c : Thread nD τ).loc main_arg1)) (funext fun a => Fin.ext ?_)
  match a with
  | 0 => simp [ix1, ix2, ix3, ix4] <;> omega
  | 1 => simp [ix1, ix2, ix3, ix4] <;> omega
  | 2 => simp [ix1, ix2, ix3, ix4] <;> omega
  | 3 => simp [ix1, ix2, ix3, ix4] <;> omega

/-- Window 4's block, at the arguments. -/
theorem rd4 (c : Dev nD) (t : Fin cfg0.N) (k : Fin 1024) (b : Fin 2) (hb : b.val = t.val / 16) :
    iblk m c 4 t (ix3 0 0 k) = m ((c : Thread nD τ).loc main_arg4) (ix2 b ⟨2048 + k.val, by omega⟩) := by
  have ht : t.val < 32 := t.isLt
  obtain ⟨e0, e1, e2, e3, e4, e5, e6, e7, e8, e9, e10, e11, e12, e13, e14, e15⟩ := idx t
  have q : iblk m c 4 t (ix3 0 0 k) = V m c main_v8 (ix3 (⟨t.val / 16, by omega⟩ : Fin 2) 0 k) := by
    refine congrArg (V m c main_v8) (funext fun a => Fin.ext ?_)
    match a with
    | 0 => blk_simp [e4] <;> simp [ix1, ix2, ix3, ix4] <;> omega
    | 1 => blk_simp [e4] <;> simp [ix1, ix2, ix3, ix4] <;> omega
    | 2 => blk_simp [e4] <;> simp [ix1, ix2, ix3, ix4] <;> omega
  rw [q]
  entry_read
  pointwise
  refine congrArg (m ((c : Thread nD τ).loc main_arg4)) (funext fun a => Fin.ext ?_)
  match a with
  | 0 => simp [ix1, ix2, ix3, ix4] <;> omega
  | 1 => simp [ix1, ix2, ix3, ix4] <;> omega

/-- Window 5's block, at the arguments. -/
theorem rd5 (c : Dev nD) (t : Fin cfg0.N) (k : Fin 1024) (b : Fin 2) (hb : b.val = t.val / 16) :
    iblk m c 5 t (ix3 0 0 k) = m ((c : Thread nD τ).loc main_arg4) (ix2 b ⟨4096 + k.val, by omega⟩) := by
  have ht : t.val < 32 := t.isLt
  obtain ⟨e0, e1, e2, e3, e4, e5, e6, e7, e8, e9, e10, e11, e12, e13, e14, e15⟩ := idx t
  have q : iblk m c 5 t (ix3 0 0 k) = V m c main_v10 (ix3 (⟨t.val / 16, by omega⟩ : Fin 2) 0 k) := by
    refine congrArg (V m c main_v10) (funext fun a => Fin.ext ?_)
    match a with
    | 0 => blk_simp [e5] <;> simp [ix1, ix2, ix3, ix4] <;> omega
    | 1 => blk_simp [e5] <;> simp [ix1, ix2, ix3, ix4] <;> omega
    | 2 => blk_simp [e5] <;> simp [ix1, ix2, ix3, ix4] <;> omega
  rw [q]
  entry_read
  pointwise
  refine congrArg (m ((c : Thread nD τ).loc main_arg4)) (funext fun a => Fin.ext ?_)
  match a with
  | 0 => simp [ix1, ix2, ix3, ix4] <;> omega
  | 1 => simp [ix1, ix2, ix3, ix4] <;> omega

/-- Window 6's block, at the arguments. -/
theorem rd6 (c : Dev nD) (t : Fin cfg0.N) (k : Fin 1024) (b : Fin 2) (hb : b.val = t.val / 16) :
    iblk m c 6 t (ix3 0 0 k) = m ((c : Thread nD τ).loc main_arg4) (ix2 b ⟨3072 + k.val, by omega⟩) := by
  have ht : t.val < 32 := t.isLt
  obtain ⟨e0, e1, e2, e3, e4, e5, e6, e7, e8, e9, e10, e11, e12, e13, e14, e15⟩ := idx t
  have q : iblk m c 6 t (ix3 0 0 k) = V m c main_v9 (ix3 (⟨t.val / 16, by omega⟩ : Fin 2) 0 k) := by
    refine congrArg (V m c main_v9) (funext fun a => Fin.ext ?_)
    match a with
    | 0 => blk_simp [e6] <;> simp [ix1, ix2, ix3, ix4] <;> omega
    | 1 => blk_simp [e6] <;> simp [ix1, ix2, ix3, ix4] <;> omega
    | 2 => blk_simp [e6] <;> simp [ix1, ix2, ix3, ix4] <;> omega
  rw [q]
  entry_read
  pointwise
  refine congrArg (m ((c : Thread nD τ).loc main_arg4)) (funext fun a => Fin.ext ?_)
  match a with
  | 0 => simp [ix1, ix2, ix3, ix4] <;> omega
  | 1 => simp [ix1, ix2, ix3, ix4] <;> omega

/-- Window 7's block, at the arguments. -/
theorem rd7 (c : Dev nD) (t : Fin cfg0.N) (k : Fin 1024) (b : Fin 2) (hb : b.val = t.val / 16) :
    iblk m c 7 t (ix3 0 0 k) = m ((c : Thread nD τ).loc main_arg4) (ix2 b ⟨5120 + k.val, by omega⟩) := by
  have ht : t.val < 32 := t.isLt
  obtain ⟨e0, e1, e2, e3, e4, e5, e6, e7, e8, e9, e10, e11, e12, e13, e14, e15⟩ := idx t
  have q : iblk m c 7 t (ix3 0 0 k) = V m c main_v11 (ix3 (⟨t.val / 16, by omega⟩ : Fin 2) 0 k) := by
    refine congrArg (V m c main_v11) (funext fun a => Fin.ext ?_)
    match a with
    | 0 => blk_simp [e7] <;> simp [ix1, ix2, ix3, ix4] <;> omega
    | 1 => blk_simp [e7] <;> simp [ix1, ix2, ix3, ix4] <;> omega
    | 2 => blk_simp [e7] <;> simp [ix1, ix2, ix3, ix4] <;> omega
  rw [q]
  entry_read
  pointwise
  refine congrArg (m ((c : Thread nD τ).loc main_arg4)) (funext fun a => Fin.ext ?_)
  match a with
  | 0 => simp [ix1, ix2, ix3, ix4] <;> omega
  | 1 => simp [ix1, ix2, ix3, ix4] <;> omega

/-- Window 8's block, at the arguments. -/
theorem rd8 (c : Dev nD) (t : Fin cfg0.N) (k : Fin 1024) :
    iblk m c 8 t (ix2 0 k) = m ((c : Thread nD τ).loc main_arg7) (ix2 0 k) := by
  have ht : t.val < 32 := t.isLt
  obtain ⟨e0, e1, e2, e3, e4, e5, e6, e7, e8, e9, e10, e11, e12, e13, e14, e15⟩ := idx t
  have q : iblk m c 8 t (ix2 0 k) = V m c main_v15 (ix2 0 k) := by
    refine congrArg (V m c main_v15) (funext fun a => Fin.ext ?_)
    match a with
    | 0 => blk_simp [e8] <;> simp [ix1, ix2, ix3, ix4] <;> omega
    | 1 => blk_simp [e8] <;> simp [ix1, ix2, ix3, ix4] <;> omega
  rw [q]
  entry_read
  pointwise

/-- Window 9's block, at the arguments. -/
theorem rd9 (c : Dev nD) (t : Fin cfg0.N) (k : Fin 1024) :
    iblk m c 9 t (ix2 0 k) = m ((c : Thread nD τ).loc main_arg11) (ix1 k) := by
  have ht : t.val < 32 := t.isLt
  obtain ⟨e0, e1, e2, e3, e4, e5, e6, e7, e8, e9, e10, e11, e12, e13, e14, e15⟩ := idx t
  have q : iblk m c 9 t (ix2 0 k) = V m c main_v16 (ix2 0 k) := by
    refine congrArg (V m c main_v16) (funext fun a => Fin.ext ?_)
    match a with
    | 0 => blk_simp [e9] <;> simp [ix1, ix2, ix3, ix4] <;> omega
    | 1 => blk_simp [e9] <;> simp [ix1, ix2, ix3, ix4] <;> omega
  rw [q]
  entry_read
  pointwise

/-- Window 10's block, at the arguments. -/
theorem rd10 (c : Dev nD) (t : Fin cfg0.N) (j : Fin 1024) (k : Fin 1024) :
    iblk m c 10 t (ix2 j k) = m ((c : Thread nD τ).loc main_arg5) (ix3 0 j k) := by
  have ht : t.val < 32 := t.isLt
  obtain ⟨e0, e1, e2, e3, e4, e5, e6, e7, e8, e9, e10, e11, e12, e13, e14, e15⟩ := idx t
  have q : iblk m c 10 t (ix2 j k) = V m c main_v18 (ix2 j k) := by
    refine congrArg (V m c main_v18) (funext fun a => Fin.ext ?_)
    match a with
    | 0 => blk_simp [e10] <;> simp [ix1, ix2, ix3, ix4] <;> omega
    | 1 => blk_simp [e10] <;> simp [ix1, ix2, ix3, ix4] <;> omega
  rw [q]
  entry_read
  pointwise

/-- Window 11's block, at the arguments. -/
theorem rd11 (c : Dev nD) (t : Fin cfg0.N) (j : Fin 1024) (k : Fin 1024) :
    iblk m c 11 t (ix2 j k) = m ((c : Thread nD τ).loc main_arg6) (ix3 0 j k) := by
  have ht : t.val < 32 := t.isLt
  obtain ⟨e0, e1, e2, e3, e4, e5, e6, e7, e8, e9, e10, e11, e12, e13, e14, e15⟩ := idx t
  have q : iblk m c 11 t (ix2 j k) = V m c main_v20 (ix2 j k) := by
    refine congrArg (V m c main_v20) (funext fun a => Fin.ext ?_)
    match a with
    | 0 => blk_simp [e11] <;> simp [ix1, ix2, ix3, ix4] <;> omega
    | 1 => blk_simp [e11] <;> simp [ix1, ix2, ix3, ix4] <;> omega
  rw [q]
  entry_read
  pointwise

/-- Window 12's block, at the arguments. -/
theorem rd12 (c : Dev nD) (t : Fin cfg0.N) (j : Fin 1024) (k : Fin 2816) :
    iblk m c 12 t (ix2 j k) = m ((c : Thread nD τ).loc main_arg8) (ix3 0 j k) := by
  have ht : t.val < 32 := t.isLt
  obtain ⟨e0, e1, e2, e3, e4, e5, e6, e7, e8, e9, e10, e11, e12, e13, e14, e15⟩ := idx t
  have q : iblk m c 12 t (ix2 j k) = V m c main_v22 (ix2 j k) := by
    refine congrArg (V m c main_v22) (funext fun a => Fin.ext ?_)
    match a with
    | 0 => blk_simp [e12] <;> simp [ix1, ix2, ix3, ix4] <;> omega
    | 1 => blk_simp [e12] <;> simp [ix1, ix2, ix3, ix4] <;> omega
  rw [q]
  entry_read
  pointwise

/-- Window 13's block, at the arguments. -/
theorem rd13 (c : Dev nD) (t : Fin cfg0.N) (j : Fin 1024) (k : Fin 2816) :
    iblk m c 13 t (ix2 j k) = m ((c : Thread nD τ).loc main_arg9) (ix3 0 j k) := by
  have ht : t.val < 32 := t.isLt
  obtain ⟨e0, e1, e2, e3, e4, e5, e6, e7, e8, e9, e10, e11, e12, e13, e14, e15⟩ := idx t
  have q : iblk m c 13 t (ix2 j k) = V m c main_v24 (ix2 j k) := by
    refine congrArg (V m c main_v24) (funext fun a => Fin.ext ?_)
    match a with
    | 0 => blk_simp [e13] <;> simp [ix1, ix2, ix3, ix4] <;> omega
    | 1 => blk_simp [e13] <;> simp [ix1, ix2, ix3, ix4] <;> omega
  rw [q]
  entry_read
  pointwise

/-- Window 14's block, at the arguments. -/
theorem rd14 (c : Dev nD) (t : Fin cfg0.N) (j : Fin 2816) (k : Fin 1024) :
    iblk m c 14 t (ix2 j k) = m ((c : Thread nD τ).loc main_arg10) (ix3 0 j k) := by
  have ht : t.val < 32 := t.isLt
  obtain ⟨e0, e1, e2, e3, e4, e5, e6, e7, e8, e9, e10, e11, e12, e13, e14, e15⟩ := idx t
  have q : iblk m c 14 t (ix2 j k) = V m c main_v26 (ix2 j k) := by
    refine congrArg (V m c main_v26) (funext fun a => Fin.ext ?_)
    match a with
    | 0 => blk_simp [e14] <;> simp [ix1, ix2, ix3, ix4] <;> omega
    | 1 => blk_simp [e14] <;> simp [ix1, ix2, ix3, ix4] <;> omega
  rw [q]
  entry_read
  pointwise

/-- The rows of a block after the first residual are those of the block's tokens. -/
theorem mid_row (c : Dev nD) (t : Fin cfg0.N) (r : Fin 512) (b : Fin 2) (s : Fin 8192) (hb : b.val * 8192 + s.val = t.val * 512 + r.val) :
    midB (iblk m c 0 t) (iblk m c 1 t) (iblk m c 2 t) (iblk m c 3 t) (iblk m c 4 t) (iblk m c 10 t) (iblk m c 11 t) r
    = midRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) b s := by
  have ht : t.val < 32 := t.isLt
  have hq : b.val = t.val / 16 := by omega
  funext n
  unfold midB midRow mid resid merged
  simp only [rd0 m c t r _ b s hb, rd1 m c t r _ b s hb, rd2 m c t r _ b s hb, rd3 m c t r _ b s hb, rd4 m c t _ b hq, rd10, rd11]

/-- A block's result is that of the block's tokens, from their rows after the first residual. -/
theorem last_row (c : Dev nD) (t : Fin cfg0.N) (X : Fin 512 → Fin 1024 → EReal) (r : Fin 512) (b : Fin 2) (hq : b.val = t.val / 16) :
    outB X (actB X (iblk m c 8 t) (iblk m c 5 t) (iblk m c 6 t) (iblk m c 12 t) (iblk m c 13 t)) (iblk m c 14 t) (iblk m c 7 t) (iblk m c 9 t) r
    = out (lastRow (X r) (m ((c : Thread nD τ).loc main_arg4)) (m ((c : Thread nD τ).loc main_arg7)) (m ((c : Thread nD τ).loc main_arg8)) (m ((c : Thread nD τ).loc main_arg9)) (m ((c : Thread nD τ).loc main_arg10)) b) (fun k => m ((c : Thread nD τ).loc main_arg11) (ix1 k)) := by
  exact last_of X _ _ _ _ _ _ _ _ r _ _ _ _ _ _ _ _ (fun k => rd8 m c t k) (fun k => rd5 m c t k b hq) (fun k => rd6 m c t k b hq)
    (fun k f => rd12 m c t k f) (fun k f => rd13 m c t k f) (fun f n => rd14 m c t f n) (fun k => rd7 m c t k b hq) (fun k => rd9 m c t k)

/-- The result array after the run. -/
theorem final (c : Dev nD) : (dats m 0 c).arrAt 15 (cfgs 0).N
    = SPEC (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 15 _ (by decide +kernel) fun t hf y => ?_
  have ht : t.val < 32 := t.isLt
  have hy : (y 0).val < 512 := (y 0).isLt
  obtain ⟨e0, e1, e2, e3, e4, e5, e6, e7, e8, e9, e10, e11, e12, e13, e14, e15⟩ := idx t
  have z0 : ((((cfg0.win 15).blk t).view.emb y 0 : Fin _) : Nat) = t.val * 512 + y 0 := by blk_simp [e15]
  have z1 : ((((cfg0.win 15).blk t).view.emb y 1 : Fin _) : Nat) = y 1 := by blk_simp [e15]
  refine (left m c t y).trans ?_
  generalize ((cfg0.win 15).blk t).view.emb y = z at z0 z1 ⊢
  have hz : (z 0).val < 16384 := (z 0).isLt
  rw [last_row m c t _ (y 0) ⟨(z 0).val / 8192, by omega⟩ (by show (z 0).val / 8192 = _; omega),
    mid_row m c t (y 0) ⟨(z 0).val / 8192, by omega⟩ ⟨(z 0).val % 8192, by omega⟩ (by show (z 0).val / 8192 * 8192 + (z 0).val % 8192 = _; omega),
    show (y 1 : Fin 1024) = z 1 from Fin.ext z1.symm]
  rfl

end Cert.KernelTailIdeal.Tail

end
-- ==== Proof.InBitsRunA.lean ====
/- The body at the first point: the two norms, the projections and their stores. -/
module

public import proofs.«01_k».proof.Proof.InBitsRuns

@[expose] public section

set_option maxRecDepth 16384

noncomputable section

namespace Cert.KernelIn.In

open Cert.KernelIn.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x8192 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S512x512 .bf16) (harg13 : arg13.IsWhole) (arg14 : Memref sig .tc .vmem S512x6144 .bf16) (harg14 : arg14.IsWhole) (arg15 : Memref sig .tc .vmem S1x1x1024x512 .bf16) (harg15 : arg15.IsWhole) (arg16 : Memref sig .tc .vmem S1x1024x512 .bf16) (harg16 : arg16.IsWhole) (arg17 : Memref sig .tc .vmem S1x1x128x512 .f32) (harg17 : arg17.IsWhole) (arg18 : Memref sig .tc .vmem S1x512x128 .bf16) (harg18 : arg18.IsWhole) (arg19 : Memref sig .tc .vmem S2x512x1024 .bf16) (harg19 : arg19.IsWhole) (arg20 : Memref sig .tc .vmem S1x128 .f32) (harg20 : arg20.IsWhole)
set_option maxHeartbeats 1000000 in set_option sl_exec.closedPieces true in
/-- The body's run at the first point, with the stores it makes found. -/
noncomputable def kernelRun0_A (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) :
    Σ' (L13 : List (View.Piece (Elt F) S512x6144 .bf16)), Σ' (L14 : List (View.Piece (Elt F) S1x1x1024x512 .bf16)), Σ' (L15 : List (View.Piece (Elt F) S1x1024x512 .bf16)), { LS0 : List (View.Piece (Elt F) S2x512x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f LS0) ∗ (∃ d, owns (c : Thread nD τ) arg20 fullShare d)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    letI : ClosedOff (k0_off1 i) := ⟨![0, 0, 0], hl0⟩
    letI : ClosedOff (k0_off2 i) := ⟨![1, 0, 0], hl1⟩
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]
    · iexists _, _; isplitr; swap; · iexact H16
      ipureintro; rfl
    isplitl [H17]
    · iexists _, _; isplitr; swap; · iexact H17
      ipureintro; rfl
    isplitl [HS0]; · iexists _; iexact HS0
    iexists _, _; isplitr; swap; · iexact HS1
    ipureintro; rfl

end Cert.KernelIn.In

end
-- ==== Proof.InBitsRunB.lean ====
/- The body at a later odd point: it reads the second slot of the scratch and fills the first. -/
module

public import proofs.«01_k».proof.Proof.InBitsRunA

@[expose] public section

set_option maxRecDepth 16384

noncomputable section

namespace Cert.KernelIn.In

open Cert.KernelIn.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x8192 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S512x512 .bf16) (harg13 : arg13.IsWhole) (arg14 : Memref sig .tc .vmem S512x6144 .bf16) (harg14 : arg14.IsWhole) (arg15 : Memref sig .tc .vmem S1x1x1024x512 .bf16) (harg15 : arg15.IsWhole) (arg16 : Memref sig .tc .vmem S1x1024x512 .bf16) (harg16 : arg16.IsWhole) (arg17 : Memref sig .tc .vmem S1x1x128x512 .f32) (harg17 : arg17.IsWhole) (arg18 : Memref sig .tc .vmem S1x512x128 .bf16) (harg18 : arg18.IsWhole) (arg19 : Memref sig .tc .vmem S2x512x1024 .bf16) (harg19 : arg19.IsWhole) (arg20 : Memref sig .tc .vmem S1x128 .f32) (harg20 : arg20.IsWhole)
set_option maxHeartbeats 1000000 in set_option sl_exec.closedPieces true in
/-- The body's run at a later odd point, with the stores it makes found. -/
noncomputable def kernelRun0_B (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) :
    Σ' (L13 : List (View.Piece (Elt F) S512x6144 .bf16)), Σ' (L14 : List (View.Piece (Elt F) S1x1x1024x512 .bf16)), Σ' (L15 : List (View.Piece (Elt F) S1x1024x512 .bf16)), { LS0 : List (View.Piece (Elt F) S2x512x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs0 ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ d, owns (c : Thread nD τ) arg17 fullShare d) ∗ (∃ d, owns (c : Thread nD τ) arg18 fullShare d) ∗ (arg19.view.loc (c : Thread nD τ) ↦[arg19.view.set]{fullShare} arg19.view.writes (Elt F) (harg19.unread xs0) LS0) ∗ (∃ d, owns (c : Thread nD τ) arg20 fullShare d)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    letI : ClosedOff (k0_off1 i) := ⟨![1, 0, 0], hl0⟩
    letI : ClosedOff (k0_off2 i) := ⟨![0, 0, 0], hl1⟩
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg19.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]
    · iexists _, _; isplitr; swap; · iexact H16
      ipureintro; rfl
    isplitl [H17]
    · iexists _, _; isplitr; swap; · iexact H17
      ipureintro; rfl
    isplitl [HS0]; · iexact HS0
    iexists _, _; isplitr; swap; · iexact HS1
    ipureintro; rfl

end Cert.KernelIn.In

end
-- ==== Proof.InBitsRunC.lean ====
/- The body at a later even point: it reads the first slot of the scratch and fills the second. -/
module

public import proofs.«01_k».proof.Proof.InBitsRunB

@[expose] public section

set_option maxRecDepth 16384

noncomputable section

namespace Cert.KernelIn.In

open Cert.KernelIn.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x8192 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S512x512 .bf16) (harg13 : arg13.IsWhole) (arg14 : Memref sig .tc .vmem S512x6144 .bf16) (harg14 : arg14.IsWhole) (arg15 : Memref sig .tc .vmem S1x1x1024x512 .bf16) (harg15 : arg15.IsWhole) (arg16 : Memref sig .tc .vmem S1x1024x512 .bf16) (harg16 : arg16.IsWhole) (arg17 : Memref sig .tc .vmem S1x1x128x512 .f32) (harg17 : arg17.IsWhole) (arg18 : Memref sig .tc .vmem S1x512x128 .bf16) (harg18 : arg18.IsWhole) (arg19 : Memref sig .tc .vmem S2x512x1024 .bf16) (harg19 : arg19.IsWhole) (arg20 : Memref sig .tc .vmem S1x128 .f32) (harg20 : arg20.IsWhole)
set_option maxHeartbeats 1000000 in set_option sl_exec.closedPieces true in
/-- The body's run at a later even point, with the stores it makes found. -/
noncomputable def kernelRun0_C (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) :
    Σ' (L13 : List (View.Piece (Elt F) S512x6144 .bf16)), Σ' (L14 : List (View.Piece (Elt F) S1x1x1024x512 .bf16)), Σ' (L15 : List (View.Piece (Elt F) S1x1024x512 .bf16)), { LS0 : List (View.Piece (Elt F) S2x512x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs0 ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ d, owns (c : Thread nD τ) arg17 fullShare d) ∗ (∃ d, owns (c : Thread nD τ) arg18 fullShare d) ∗ (arg19.view.loc (c : Thread nD τ) ↦[arg19.view.set]{fullShare} arg19.view.writes (Elt F) (harg19.unread xs0) LS0) ∗ (∃ d, owns (c : Thread nD τ) arg20 fullShare d)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    letI : ClosedOff (k0_off1 i) := ⟨![0, 0, 0], hl0⟩
    letI : ClosedOff (k0_off2 i) := ⟨![1, 0, 0], hl1⟩
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg19.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]
    · iexists _, _; isplitr; swap; · iexact H16
      ipureintro; rfl
    isplitl [H17]
    · iexists _, _; isplitr; swap; · iexact H17
      ipureintro; rfl
    isplitl [HS0]; · iexact HS0
    iexists _, _; isplitr; swap; · iexact HS1
    ipureintro; rfl

end Cert.KernelIn.In

end
-- ==== Proof.InBitsFrame.lean ====
/- The run of the first norm and projections: what each point leaves, the body at every point, and the whole launch. The last two results are left unnamed. -/
module

public import proofs.«01_k».proof.Proof.InBitsRunC
public import Idealize.ShloMosaic.Lib.Claim

@[expose] public section

set_option maxRecDepth 16384

noncomputable section

namespace Cert.KernelIn.In

open Cert.KernelIn.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section CaseA

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x8192 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S512x512 .bf16) (harg13 : arg13.IsWhole) (arg14 : Memref sig .tc .vmem S512x6144 .bf16) (harg14 : arg14.IsWhole) (arg15 : Memref sig .tc .vmem S1x1x1024x512 .bf16) (harg15 : arg15.IsWhole) (arg16 : Memref sig .tc .vmem S1x1024x512 .bf16) (harg16 : arg16.IsWhole) (arg17 : Memref sig .tc .vmem S1x1x128x512 .f32) (harg17 : arg17.IsWhole) (arg18 : Memref sig .tc .vmem S1x512x128 .bf16) (harg18 : arg18.IsWhole) (arg19 : Memref sig .tc .vmem S2x512x1024 .bf16) (harg19 : arg19.IsWhole) (arg20 : Memref sig .tc .vmem S1x128 .f32) (harg20 : arg20.IsWhole)

/-- The stores at the first point fill the joined block. -/
theorem cover0_A_13 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (y : S512x6144.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12).1 ![512, 128] (by sl_kernel_rfl) y

/-- What the first point leaves in the joined block. -/
def out0_A_13 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) : Vec F S512x6144 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12).1)

/-- The stores at the first point fill the query block. -/
theorem cover0_A_14 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (y : S1x1x1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12).2.1 S1x1x512x512.size (by sl_kernel_rfl) y

/-- What the first point leaves in the query block. -/
def out0_A_14 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) : Vec F S1x1x1024x512 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12).2.1)

/-- The stores at the first point fill the value block. -/
theorem cover0_A_15 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (y : S1x1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12).2.2.1 S1x512x512.size (by sl_kernel_rfl) y

/-- What the first point leaves in the value block. -/
def out0_A_15 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) : Vec F S1x1024x512 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12).2.2.1)

/-- The stores at the first point fill the scratch. -/
theorem scover0_A_0 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (y : S2x512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12).2.2.2.1 S1x512x1024.size (by sl_kernel_rfl) y

/-- What the first point leaves in the scratch. -/
def sout0_A_0 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) : Vec F S2x512x1024 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12).2.2.2.1)

end CaseA

section CaseB

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x8192 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S512x512 .bf16) (harg13 : arg13.IsWhole) (arg14 : Memref sig .tc .vmem S512x6144 .bf16) (harg14 : arg14.IsWhole) (arg15 : Memref sig .tc .vmem S1x1x1024x512 .bf16) (harg15 : arg15.IsWhole) (arg16 : Memref sig .tc .vmem S1x1024x512 .bf16) (harg16 : arg16.IsWhole) (arg17 : Memref sig .tc .vmem S1x1x128x512 .f32) (harg17 : arg17.IsWhole) (arg18 : Memref sig .tc .vmem S1x512x128 .bf16) (harg18 : arg18.IsWhole) (arg19 : Memref sig .tc .vmem S2x512x1024 .bf16) (harg19 : arg19.IsWhole) (arg20 : Memref sig .tc .vmem S1x128 .f32) (harg20 : arg20.IsWhole)

/-- The stores at a later odd point fill the joined block. -/
theorem cover0_B_13 (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (y : S512x6144.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).1 ![512, 128] (by sl_kernel_rfl) y

/-- What a later odd point leaves in the joined block. -/
def out0_B_13 (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) : Vec F S512x6144 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).1)

/-- The stores at a later odd point fill the query block. -/
theorem cover0_B_14 (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (y : S1x1x1024x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).2.1 S1x1x512x512.size (by sl_kernel_rfl) y

/-- What a later odd point leaves in the query block. -/
def out0_B_14 (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) : Vec F S1x1x1024x512 .bf16 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).2.1)

/-- The stores at a later odd point fill the value block. -/
theorem cover0_B_15 (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (y : S1x1024x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).2.2.1 S1x512x512.size (by sl_kernel_rfl) y

/-- What a later odd point leaves in the value block. -/
def out0_B_15 (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) : Vec F S1x1024x512 .bf16 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).2.2.1)

/-- What a later odd point leaves in the scratch. -/
def sout0_B_0 (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) : Vec F S2x512x1024 .bf16 :=
  arg19.view.read (Elt F) (arg19.view.writes (Elt F) (harg19.unread xs0) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).2.2.2.1)

end CaseB

section CaseC

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x8192 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S512x512 .bf16) (harg13 : arg13.IsWhole) (arg14 : Memref sig .tc .vmem S512x6144 .bf16) (harg14 : arg14.IsWhole) (arg15 : Memref sig .tc .vmem S1x1x1024x512 .bf16) (harg15 : arg15.IsWhole) (arg16 : Memref sig .tc .vmem S1x1024x512 .bf16) (harg16 : arg16.IsWhole) (arg17 : Memref sig .tc .vmem S1x1x128x512 .f32) (harg17 : arg17.IsWhole) (arg18 : Memref sig .tc .vmem S1x512x128 .bf16) (harg18 : arg18.IsWhole) (arg19 : Memref sig .tc .vmem S2x512x1024 .bf16) (harg19 : arg19.IsWhole) (arg20 : Memref sig .tc .vmem S1x128 .f32) (harg20 : arg20.IsWhole)

/-- The stores at a later even point fill the joined block. -/
theorem cover0_C_13 (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (y : S512x6144.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).1 ![512, 128] (by sl_kernel_rfl) y

/-- What a later even point leaves in the joined block. -/
def out0_C_13 (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) : Vec F S512x6144 .bf16 :=
  VO0_13.read (Elt F) (VO0_13.writes (Elt F) VO0_13.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).1)

/-- The stores at a later even point fill the query block. -/
theorem cover0_C_14 (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (y : S1x1x1024x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).2.1 S1x1x512x512.size (by sl_kernel_rfl) y

/-- What a later even point leaves in the query block. -/
def out0_C_14 (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) : Vec F S1x1x1024x512 .bf16 :=
  VO0_14.read (Elt F) (VO0_14.writes (Elt F) VO0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).2.1)

/-- The stores at a later even point fill the value block. -/
theorem cover0_C_15 (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (y : S1x1024x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).2.2.1 S1x512x512.size (by sl_kernel_rfl) y

/-- What a later even point leaves in the value block. -/
def out0_C_15 (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) : Vec F S1x1024x512 .bf16 :=
  VO0_15.read (Elt F) (VO0_15.writes (Elt F) VO0_15.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).2.2.1)

/-- What a later even point leaves in the scratch. -/
def sout0_C_0 (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) : Vec F S2x512x1024 .bf16 :=
  arg19.view.read (Elt F) (arg19.view.writes (Elt F) (harg19.unread xs0) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0).2.2.2.1)

end CaseC

/-- The slot read at the first point. -/
theorem hoff0_k0_off1_c0 : ∀ t : Fin cfg0.N, t.val % 32 = 0 → k0_off1 (grid0.coords t) = ![0, 0, 0] := by
  decide +kernel

/-- The slot filled at the first point. -/
theorem hoff0_k0_off2_c0 : ∀ t : Fin cfg0.N, t.val % 32 = 0 → k0_off2 (grid0.coords t) = ![1, 0, 0] := by
  decide +kernel

/-- The slot read at an odd point. -/
theorem hoff0_k0_off1_n1 : ∀ t : Fin cfg0.N, ¬(t.val % 2 = 0) → k0_off1 (grid0.coords t) = ![1, 0, 0] := by
  decide +kernel

/-- The slot filled at an odd point. -/
theorem hoff0_k0_off2_n1 : ∀ t : Fin cfg0.N, ¬(t.val % 2 = 0) → k0_off2 (grid0.coords t) = ![0, 0, 0] := by
  decide +kernel

/-- The slot read at an even point. -/
theorem hoff0_k0_off1_c1 : ∀ t : Fin cfg0.N, t.val % 2 = 0 → k0_off1 (grid0.coords t) = ![0, 0, 0] := by
  decide +kernel

/-- The slot filled at an even point. -/
theorem hoff0_k0_off2_c1 : ∀ t : Fin cfg0.N, t.val % 2 = 0 → k0_off2 (grid0.coords t) = ![1, 0, 0] := by
  decide +kernel

/-- What is left after a point: the joined, query and value blocks, and the scratch of normed blocks. -/
def outsAt0 (c : Dev nD) : (n : ℕ) → n < cfg0.N → Vec F S512x6144 .bf16 × Vec F S1x1x1024x512 .bf16 × Vec F S1x1024x512 .bf16 × Vec F S2x512x1024 .bf16
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (hoff0_k0_off1_c0 ⟨0, hn⟩ (Nat.zero_mod _)) (hoff0_k0_off2_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (hoff0_k0_off1_c0 ⟨0, hn⟩ (Nat.zero_mod _)) (hoff0_k0_off2_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (hoff0_k0_off1_c0 ⟨0, hn⟩ (Nat.zero_mod _)) (hoff0_k0_off2_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (hoff0_k0_off1_c0 ⟨0, hn⟩ (Nat.zero_mod _)) (hoff0_k0_off2_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn =>
    if h0 : (n + 1) % 32 = 0 then
      (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (hoff0_k0_off1_c0 ⟨n + 1, hn⟩ h0) (hoff0_k0_off2_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (hoff0_k0_off1_c0 ⟨n + 1, hn⟩ h0) (hoff0_k0_off2_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (hoff0_k0_off1_c0 ⟨n + 1, hn⟩ h0) (hoff0_k0_off2_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (hoff0_k0_off1_c0 ⟨n + 1, hn⟩ h0) (hoff0_k0_off2_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
    else
      if h1 : (n + 1) % 2 = 0 then
        (out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off1_c1 ⟨n + 1, hn⟩ h1) (hoff0_k0_off2_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2, out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off1_c1 ⟨n + 1, hn⟩ h1) (hoff0_k0_off2_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2, out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off1_c1 ⟨n + 1, hn⟩ h1) (hoff0_k0_off2_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off1_c1 ⟨n + 1, hn⟩ h1) (hoff0_k0_off2_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2)
      else
        (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off1_n1 ⟨n + 1, hn⟩ h1) (hoff0_k0_off2_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off1_n1 ⟨n + 1, hn⟩ h1) (hoff0_k0_off2_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off1_n1 ⟨n + 1, hn⟩ h1) (hoff0_k0_off2_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off1_n1 ⟨n + 1, hn⟩ h1) (hoff0_k0_off2_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2)

/-- What is left after the first point. -/
theorem outsAt0_A (c : Dev nD) (t : Fin cfg0.N) (h0 : t.val % 32 = 0) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact (dif_pos h0).trans rfl

/-- What is left after a later odd point. -/
theorem outsAt0_B (c : Dev nD) (t : Fin cfg0.N) (h0 : ¬t.val % 32 = 0) (h1 : ¬t.val % 2 = 0) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (hoff0_k0_off1_n1 t h1) (hoff0_k0_off2_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (hoff0_k0_off1_n1 t h1) (hoff0_k0_off2_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (hoff0_k0_off1_n1 t h1) (hoff0_k0_off2_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (hoff0_k0_off1_n1 t h1) (hoff0_k0_off2_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- What is left after a later even point. -/
theorem outsAt0_C (c : Dev nD) (t : Fin cfg0.N) (h0 : ¬t.val % 32 = 0) (h1 : t.val % 2 = 0) :
    outsAt0 m c t.val t.isLt = (out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (hoff0_k0_off1_c1 t h1) (hoff0_k0_off2_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (hoff0_k0_off1_c1 t h1) (hoff0_k0_off2_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2, out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (hoff0_k0_off1_c1 t h1) (hoff0_k0_off2_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (hoff0_k0_off1_c1 t h1) (hoff0_k0_off2_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- What the scratch holds between points. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2) ∗ (∃ d, owns (c : Thread nD τ) scM0_1 fullShare d)) ∗ (∃ r, prngReg c r))

/-- Before the first point. -/
theorem PhiS_zero (c : Dev nD) (n : ℕ) (h : n ≤ cfg0.N) (hz : n = 0) : PhiS m c n h = Pipeline.ΦA spec0 c := by
  subst hz; rfl

/-- After a point. -/
theorem PhiS_succ (c : Dev nD) (n : ℕ) (hn : n < cfg0.N) :
    PhiS m c (n + 1) hn = iprop(iprop(owns (c : Thread nD τ) scM0_0 fullShare ((outsAt0 m c n hn).2.2.2) ∗ (∃ d, owns (c : Thread nD τ) scM0_1 fullShare d)) ∗ (∃ r, prngReg c r)) := rfl

/-- Before a later point. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2) ∗ (∃ d, owns (c : Thread nD τ) scM0_1 fullShare d)) ∗ (∃ r, prngReg c r)) := by
  cases n with
  | zero => exact absurd rfl hz
  | succ n => rfl

/-- The windows whose contents are left unnamed: the last two results. -/
def forgets0 : Fin 18 → Bool := fun w => w.val == 16 || w.val == 17
/-- Window 13 is not left unnamed. -/
theorem forgets0_13 : forgets0 (13 : Fin 18) = false := by decide
/-- Window 14 is not left unnamed. -/
theorem forgets0_14 : forgets0 (14 : Fin 18) = false := by decide
/-- Window 15 is not left unnamed. -/
theorem forgets0_15 : forgets0 (15 : Fin 18) = false := by decide

/-- The contents of every block at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, h⟩ => Pipeline.Dat.unnamed (cfg := cfg0) ⟨16, h⟩ t
    | ⟨17, h⟩ => Pipeline.Dat.unnamed (cfg := cfg0) ⟨17, h⟩ t
    | ⟨_ + 18, h⟩ => absurd h (Nat.not_lt.2 (Nat.le_add_left _ _))
  Φ t := PhiS m c t.val (Nat.le_of_lt_succ t.isLt)
  q w := Pipeline.shareOf spec0 w
  owed _ := 0

/-- The arrays the launch starts from. -/
theorem A_eq (c : Dev nD) (w : Fin cfg0.W) : (dats m 0 c).A w = V m c (Pipeline.arrRef spec0 w) := by
  dsimp only [dats]

/-- Before a point, by its number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The contents of window 0's block after a point. -/
theorem after0_0 (c : Dev nD) (t : Fin cfg0.N) : (dats m 0 c).after 0 t = iblk m c 0 t := by dsimp only [dats]
/-- The contents of window 1's block after a point. -/
theorem after0_1 (c : Dev nD) (t : Fin cfg0.N) : (dats m 0 c).after 1 t = iblk m c 1 t := by dsimp only [dats]
/-- The contents of window 2's block after a point. -/
theorem after0_2 (c : Dev nD) (t : Fin cfg0.N) : (dats m 0 c).after 2 t = iblk m c 2 t := by dsimp only [dats]
/-- The contents of window 3's block after a point. -/
theorem after0_3 (c : Dev nD) (t : Fin cfg0.N) : (dats m 0 c).after 3 t = iblk m c 3 t := by dsimp only [dats]
/-- The contents of window 4's block after a point. -/
theorem after0_4 (c : Dev nD) (t : Fin cfg0.N) : (dats m 0 c).after 4 t = iblk m c 4 t := by dsimp only [dats]
/-- The contents of window 5's block after a point. -/
theorem after0_5 (c : Dev nD) (t : Fin cfg0.N) : (dats m 0 c).after 5 t = iblk m c 5 t := by dsimp only [dats]
/-- The contents of window 6's block after a point. -/
theorem after0_6 (c : Dev nD) (t : Fin cfg0.N) : (dats m 0 c).after 6 t = iblk m c 6 t := by dsimp only [dats]
/-- The contents of window 7's block after a point. -/
theorem after0_7 (c : Dev nD) (t : Fin cfg0.N) : (dats m 0 c).after 7 t = iblk m c 7 t := by dsimp only [dats]
/-- The contents of window 8's block after a point. -/
theorem after0_8 (c : Dev nD) (t : Fin cfg0.N) : (dats m 0 c).after 8 t = iblk m c 8 t := by dsimp only [dats]
/-- The contents of window 9's block after a point. -/
theorem after0_9 (c : Dev nD) (t : Fin cfg0.N) : (dats m 0 c).after 9 t = iblk m c 9 t := by dsimp only [dats]
/-- The contents of window 10's block after a point. -/
theorem after0_10 (c : Dev nD) (t : Fin cfg0.N) : (dats m 0 c).after 10 t = iblk m c 10 t := by dsimp only [dats]
/-- The contents of window 11's block after a point. -/
theorem after0_11 (c : Dev nD) (t : Fin cfg0.N) : (dats m 0 c).after 11 t = iblk m c 11 t := by dsimp only [dats]
/-- The contents of window 12's block after a point. -/
theorem after0_12 (c : Dev nD) (t : Fin cfg0.N) : (dats m 0 c).after 12 t = iblk m c 12 t := by dsimp only [dats]
/-- The contents of window 13's block after a point. -/
theorem after0_13 (c : Dev nD) (t : Fin cfg0.N) : (dats m 0 c).after 13 t = (outsAt0 m c t.val t.isLt).1 := by dsimp only [dats]
/-- The contents of window 14's block after a point. -/
theorem after0_14 (c : Dev nD) (t : Fin cfg0.N) : (dats m 0 c).after 14 t = (outsAt0 m c t.val t.isLt).2.1 := by dsimp only [dats]
/-- The contents of window 15's block after a point. -/
theorem after0_15 (c : Dev nD) (t : Fin cfg0.N) : (dats m 0 c).after 15 t = (outsAt0 m c t.val t.isLt).2.2.1 := by dsimp only [dats]

/-- The contents of window 0's block before a point. -/
theorem before0_0 (c : Dev nD) (t : Fin cfg0.N) (d) : (dats m 0 c).before 0 t d = iblk m c 0 t :=
  before0_0_of m (dats m 0 c) (A_eq m c 0) (after0_0 m c) t d
/-- The contents of window 1's block before a point. -/
theorem before0_1 (c : Dev nD) (t : Fin cfg0.N) (d) : (dats m 0 c).before 1 t d = iblk m c 1 t :=
  before0_1_of m (dats m 0 c) (A_eq m c 1) (after0_1 m c) t d
/-- The contents of window 2's block before a point. -/
theorem before0_2 (c : Dev nD) (t : Fin cfg0.N) (d) : (dats m 0 c).before 2 t d = iblk m c 2 t :=
  before0_2_of m (dats m 0 c) (A_eq m c 2) (after0_2 m c) t d
/-- The contents of window 3's block before a point. -/
theorem before0_3 (c : Dev nD) (t : Fin cfg0.N) (d) : (dats m 0 c).before 3 t d = iblk m c 3 t :=
  before0_3_of m (dats m 0 c) (A_eq m c 3) (after0_3 m c) t d
/-- The contents of window 4's block before a point. -/
theorem before0_4 (c : Dev nD) (t : Fin cfg0.N) (d) : (dats m 0 c).before 4 t d = iblk m c 4 t :=
  before0_4_of m (dats m 0 c) (A_eq m c 4) (after0_4 m c) t d
/-- The contents of window 5's block before a point. -/
theorem before0_5 (c : Dev nD) (t : Fin cfg0.N) (d) : (dats m 0 c).before 5 t d = iblk m c 5 t :=
  before0_5_of m (dats m 0 c) (A_eq m c 5) (after0_5 m c) t d
/-- The contents of window 6's block before a point. -/
theorem before0_6 (c : Dev nD) (t : Fin cfg0.N) (d) : (dats m 0 c).before 6 t d = iblk m c 6 t :=
  before0_6_of m (dats m 0 c) (A_eq m c 6) (after0_6 m c) t d
/-- The contents of window 7's block before a point. -/
theorem before0_7 (c : Dev nD) (t : Fin cfg0.N) (d) : (dats m 0 c).before 7 t d = iblk m c 7 t :=
  before0_7_of m (dats m 0 c) (A_eq m c 7) (after0_7 m c) t d
/-- The contents of window 8's block before a point. -/
theorem before0_8 (c : Dev nD) (t : Fin cfg0.N) (d) : (dats m 0 c).before 8 t d = iblk m c 8 t :=
  before0_8_of m (dats m 0 c) (A_eq m c 8) (after0_8 m c) t d
/-- The contents of window 9's block before a point. -/
theorem before0_9 (c : Dev nD) (t : Fin cfg0.N) (d) : (dats m 0 c).before 9 t d = iblk m c 9 t :=
  before0_9_of m (dats m 0 c) (A_eq m c 9) (after0_9 m c) t d
/-- The contents of window 10's block before a point. -/
theorem before0_10 (c : Dev nD) (t : Fin cfg0.N) (d) : (dats m 0 c).before 10 t d = iblk m c 10 t :=
  before0_10_of m (dats m 0 c) (A_eq m c 10) (after0_10 m c) t d
/-- The contents of window 11's block before a point. -/
theorem before0_11 (c : Dev nD) (t : Fin cfg0.N) (d) : (dats m 0 c).before 11 t d = iblk m c 11 t :=
  before0_11_of m (dats m 0 c) (A_eq m c 11) (after0_11 m c) t d
/-- The contents of window 12's block before a point. -/
theorem before0_12 (c : Dev nD) (t : Fin cfg0.N) (d) : (dats m 0 c).before 12 t d = iblk m c 12 t :=
  before0_12_of m (dats m 0 c) (A_eq m c 12) (after0_12 m c) t d

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare d))

/-- What the body leaves at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ (∃ d, owns (c : Thread nD τ) (ms0_16 t) fullShare d)
    ∗ (∃ d, owns (c : Thread nD τ) (ms0_17 t) fullShare d))

set_option maxHeartbeats 24000000 in
/-- The body at every point leaves what is named. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold out0_A_13 out0_A_14 out0_A_15 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_A c (grid0.coords t) _ _ _ _ _ _ _ _ _ _ _ _ _ _ _ _ _ _ _ _ _ _ _ _ _ _ _ _ _ _ _ _ _ _ _ _ _ _ _ _ ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      iintro ⟨H0, H1, H2, H3, H4, H5, H6, H7, H8, H9, H10, H11, H12, ⟨%e13, H13⟩, ⟨%e14, H14⟩, ⟨%e15, H15⟩, H16, H17, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _)
      isplitl [H16]; · iexact H16
      iexact H17
    · exfalso; have hN : t.val < 32 := lt_of_lt_of_eq t.isLt (show cfg0.N = 32 from N_0); omega
  · by_cases h1 : t.val % 2 = 0
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        unfold out0_C_13 out0_C_14 out0_C_15 sout0_C_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_C c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (hoff0_k0_off1_c1 t h1) (hoff0_k0_off2_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        isplitl [H15]; · iexists _; iexact H15
        isplitl [H16]; · iexists _; iexact H16
        isplitl [H17]; · iexists _; iexact H17
        isplitl [HS0]; · iexact HS0
        isplitl [HS1]; · iexact HS1
        iintro ⟨H0, H1, H2, H3, H4, H5, H6, H7, H8, H9, H10, H11, H12, ⟨%e13, H13⟩, ⟨%e14, H14⟩, ⟨%e15, H15⟩, H16, H17, HS0, HS1⟩
        isplitl [HS0 HS1 Hg]
        · isplitl [HS0 HS1]
          · isplitl [HS0]
            · unfold owns; iexists _; isplitr
              swap; · iexact HS0
              ipureintro; rfl
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]
        · unfold owns; iexists _; isplitr
          swap; · iexact H13
          ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]; · iexact H16
        iexact H17
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold out0_B_13 out0_B_14 out0_B_15 sout0_B_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (hoff0_k0_off1_n1 t h1) (hoff0_k0_off2_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        isplitl [H15]; · iexists _; iexact H15
        isplitl [H16]; · iexists _; iexact H16
        isplitl [H17]; · iexists _; iexact H17
        isplitl [HS0]; · iexact HS0
        isplitl [HS1]; · iexact HS1
        iintro ⟨H0, H1, H2, H3, H4, H5, H6, H7, H8, H9, H10, H11, H12, ⟨%e13, H13⟩, ⟨%e14, H14⟩, ⟨%e15, H15⟩, H16, H17, HS0, HS1⟩
        isplitl [HS0 HS1 Hg]
        · isplitl [HS0 HS1]
          · isplitl [HS0]
            · unfold owns; iexists _; isplitr
              swap; · iexact HS0
              ipureintro; rfl
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]
        · unfold owns; iexists _; isplitr
          swap; · iexact H13
          ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]; · iexact H16
        iexact H17

/-- The body's definition at a point. -/
theorem defs₀_row (t : Fin cfg0.N) :
    defs₀ (F := F) .tc cfg0.body (cfg0.bodyArgs t (cfg0.slots t)) = bodyAt0 t := by
  unfold defs₀; rw [Defs.onTc_tc]

/-- The body at every point, as the launch asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The launch starts with the scratch at any contents. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The scratch is given back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The scratch is given back after the last point. -/
theorem hout (c : Dev nD) : (dats m 0 c).Φ (Fin.last cfg0.N) ⊢ Pipeline.ΦA spec0 c :=
  Phi_out m c _ (by rw [Fin.val_last]; have : cfg0.N = 32 := N_0; omega)
set_option backward.isDefEq.respectTransparency.types false in
/-- The whole launch leaves the named contents, and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- The whole launch leaves the named contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every argument is left as it was. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- Every argument is left as it was and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIn.In

end
-- ==== Proof.InRuns.lean ====
/- What the runs of the first norm and projections share: the conditions on a grid point, and the buffers the body is called with. -/
module

public import proofs.«01_k».proof.Proof.Gen.KernelInIdeal.Frame
public import proofs.«01_k».proof.Proof.Gen.KernelInIdeal.Skeleton
public import proofs.«01_k».proof.Proof.Gen.KernelInIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelInIdeal.In

open Cert.KernelInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- From what the whole launch leaves: every argument as it was. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-- The point is the first. -/
abbrev cond0_0 (i : grid0.Coords) : Prop := (Scalar.cmpi .ne (Scalar.extui (Scalar.cmpi .eq (BitVec.ofNat 32 (i 0).val) 0#32)) 0#32) = 1#1
/-- The first point, by its number. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-- The point reads the first slot of the scratch. -/
abbrev cond0_1 (i : grid0.Coords) : Prop := k0_off1 i = ![0, 0, 0]
/-- The points reading the first slot, by their numbers. -/
theorem hcond0_1 : ∀ t : Fin cfg0.N, cond0_1 (grid0.coords t) ↔ t.val % 2 = 0 :=
  (by decide +kernel : ∀ t : Fin grid0.N, cond0_1 (grid0.coords t) ↔ t.val % 2 = 0)

/-- The view of the joined block. -/
abbrev VO0_13 : View sig .tc .vmem S512x6144 .bf16 := (Memref.whole cc0_stg13_0 : Memref sig .tc .vmem S512x6144 .bf16).view
/-- The view of the query block. -/
abbrev VO0_14 : View sig .tc .vmem S1x1x1024x512 .bf16 := (Memref.whole cc0_stg14_0 : Memref sig .tc .vmem S1x1x1024x512 .bf16).view
/-- The view of the value block. -/
abbrev VO0_15 : View sig .tc .vmem S1x1024x512 .bf16 := (Memref.whole cc0_stg15_0 : Memref sig .tc .vmem S1x1024x512 .bf16).view
/-- The view of the block of sums. -/
abbrev VO0_16 : View sig .tc .vmem S1x1x128x512 .f32 := (Memref.whole cc0_stg16_0 : Memref sig .tc .vmem S1x1x128x512 .f32).view
/-- The staging buffer of window 0 at a point. -/
abbrev ms0_0 (t : Fin cfg0.N) : Memref sig .tc .vmem S512x1024 .f32 := win0_0.stage (cfg0.slots t 0)
/-- That buffer of window 0 is a whole one. -/
abbrev hs0_0 (t : Fin cfg0.N) : (ms0_0 t).IsWhole := hstage0_0 ((cfg0.slots t 0).cast nbuf0_0)
/-- The staging buffer of window 1 at a point. -/
abbrev ms0_1 (t : Fin cfg0.N) : Memref sig .tc .vmem S512x1024 .f32 := win0_1.stage (cfg0.slots t 1)
/-- That buffer of window 1 is a whole one. -/
abbrev hs0_1 (t : Fin cfg0.N) : (ms0_1 t).IsWhole := hstage0_1 ((cfg0.slots t 1).cast nbuf0_1)
/-- The staging buffer of window 2 at a point. -/
abbrev ms0_2 (t : Fin cfg0.N) : Memref sig .tc .vmem S1x1024 .f32 := win0_2.stage (cfg0.slots t 2)
/-- That buffer of window 2 is a whole one. -/
abbrev hs0_2 (t : Fin cfg0.N) : (ms0_2 t).IsWhole := hstage0_2 ((cfg0.slots t 2).cast nbuf0_2)
/-- The staging buffer of window 3 at a point. -/
abbrev ms0_3 (t : Fin cfg0.N) : Memref sig .tc .vmem S1x1x1024 .f32 := win0_3.stage (cfg0.slots t 3)
/-- That buffer of window 3 is a whole one. -/
abbrev hs0_3 (t : Fin cfg0.N) : (ms0_3 t).IsWhole := hstage0_3 ((cfg0.slots t 3).cast nbuf0_3)
/-- The staging buffer of window 4 at a point. -/
abbrev ms0_4 (t : Fin cfg0.N) : Memref sig .tc .vmem S1x1x1024 .f32 := win0_4.stage (cfg0.slots t 4)
/-- That buffer of window 4 is a whole one. -/
abbrev hs0_4 (t : Fin cfg0.N) : (ms0_4 t).IsWhole := hstage0_4 ((cfg0.slots t 4).cast nbuf0_4)
/-- The staging buffer of window 5 at a point. -/
abbrev ms0_5 (t : Fin cfg0.N) : Memref sig .tc .vmem S1x1x1024 .f32 := win0_5.stage (cfg0.slots t 5)
/-- That buffer of window 5 is a whole one. -/
abbrev hs0_5 (t : Fin cfg0.N) : (ms0_5 t).IsWhole := hstage0_5 ((cfg0.slots t 5).cast nbuf0_5)
/-- The staging buffer of window 6 at a point. -/
abbrev ms0_6 (t : Fin cfg0.N) : Memref sig .tc .vmem S1x1x1024 .f32 := win0_6.stage (cfg0.slots t 6)
/-- That buffer of window 6 is a whole one. -/
abbrev hs0_6 (t : Fin cfg0.N) : (ms0_6 t).IsWhole := hstage0_6 ((cfg0.slots t 6).cast nbuf0_6)
/-- The staging buffer of window 7 at a point. -/
abbrev ms0_7 (t : Fin cfg0.N) : Memref sig .tc .vmem S512x128 .f32 := win0_7.stage (cfg0.slots t 7)
/-- That buffer of window 7 is a whole one. -/
abbrev hs0_7 (t : Fin cfg0.N) : (ms0_7 t).IsWhole := hstage0_7 ((cfg0.slots t 7).cast nbuf0_7)
/-- The staging buffer of window 8 at a point. -/
abbrev ms0_8 (t : Fin cfg0.N) : Memref sig .tc .vmem S512x128 .f32 := win0_8.stage (cfg0.slots t 8)
/-- That buffer of window 8 is a whole one. -/
abbrev hs0_8 (t : Fin cfg0.N) : (ms0_8 t).IsWhole := hstage0_8 ((cfg0.slots t 8).cast nbuf0_8)
/-- The staging buffer of window 9 at a point. -/
abbrev ms0_9 (t : Fin cfg0.N) : Memref sig .tc .vmem S1024x8192 .bf16 := win0_9.stage (cfg0.slots t 9)
/-- That buffer of window 9 is a whole one. -/
abbrev hs0_9 (t : Fin cfg0.N) : (ms0_9 t).IsWhole := hstage0_9 ((cfg0.slots t 9).cast nbuf0_9)
/-- The staging buffer of window 10 at a point. -/
abbrev ms0_10 (t : Fin cfg0.N) : Memref sig .tc .vmem S1024x128 .bf16 := win0_10.stage (cfg0.slots t 10)
/-- That buffer of window 10 is a whole one. -/
abbrev hs0_10 (t : Fin cfg0.N) : (ms0_10 t).IsWhole := hstage0_10 ((cfg0.slots t 10).cast nbuf0_10)
/-- The staging buffer of window 11 at a point. -/
abbrev ms0_11 (t : Fin cfg0.N) : Memref sig .tc .vmem S1x128 .f32 := win0_11.stage (cfg0.slots t 11)
/-- That buffer of window 11 is a whole one. -/
abbrev hs0_11 (t : Fin cfg0.N) : (ms0_11 t).IsWhole := hstage0_11 ((cfg0.slots t 11).cast nbuf0_11)
/-- The staging buffer of window 12 at a point. -/
abbrev ms0_12 (t : Fin cfg0.N) : Memref sig .tc .vmem S512x512 .bf16 := win0_12.stage (cfg0.slots t 12)
/-- That buffer of window 12 is a whole one. -/
abbrev hs0_12 (t : Fin cfg0.N) : (ms0_12 t).IsWhole := hstage0_12 ((cfg0.slots t 12).cast nbuf0_12)
/-- The staging buffer of window 13 at a point. -/
abbrev ms0_13 (t : Fin cfg0.N) : Memref sig .tc .vmem S512x6144 .bf16 := win0_13.stage (cfg0.slots t 13)
/-- That buffer of window 13 is a whole one. -/
abbrev hs0_13 (t : Fin cfg0.N) : (ms0_13 t).IsWhole := hstage0_13 ((cfg0.slots t 13).cast nbuf0_13)
/-- The staging buffer of window 14 at a point. -/
abbrev ms0_14 (t : Fin cfg0.N) : Memref sig .tc .vmem S1x1x1024x512 .bf16 := win0_14.stage (cfg0.slots t 14)
/-- That buffer of window 14 is a whole one. -/
abbrev hs0_14 (t : Fin cfg0.N) : (ms0_14 t).IsWhole := hstage0_14 ((cfg0.slots t 14).cast nbuf0_14)
/-- The staging buffer of window 15 at a point. -/
abbrev ms0_15 (t : Fin cfg0.N) : Memref sig .tc .vmem S1x1024x512 .bf16 := win0_15.stage (cfg0.slots t 15)
/-- That buffer of window 15 is a whole one. -/
abbrev hs0_15 (t : Fin cfg0.N) : (ms0_15 t).IsWhole := hstage0_15 ((cfg0.slots t 15).cast nbuf0_15)
/-- The staging buffer of window 16 at a point. -/
abbrev ms0_16 (t : Fin cfg0.N) : Memref sig .tc .vmem S1x1x128x512 .f32 := win0_16.stage (cfg0.slots t 16)
/-- That buffer of window 16 is a whole one. -/
abbrev hs0_16 (t : Fin cfg0.N) : (ms0_16 t).IsWhole := hstage0_16 ((cfg0.slots t 16).cast nbuf0_16)
/-- The staging buffer of window 17 at a point. -/
abbrev ms0_17 (t : Fin cfg0.N) : Memref sig .tc .vmem S1x512x128 .bf16 := win0_17.stage (cfg0.slots t 17)
/-- That buffer of window 17 is a whole one. -/
abbrev hs0_17 (t : Fin cfg0.N) : (ms0_17 t).IsWhole := hstage0_17 ((cfg0.slots t 17).cast nbuf0_17)
/-- The scratch of normed blocks. -/
abbrev scM0_0 : Memref sig .tc .vmem S2x512x1024 .bf16 := Memref.whole cc0_scratch0
/-- The scratch of the carried sums. -/
abbrev scM0_1 : Memref sig .tc .vmem S1x128 .f32 := Memref.whole cc0_scratch1
/-- The view of the scratch of normed blocks. -/
abbrev VS0_0 : View sig .tc .vmem S2x512x1024 .bf16 := scM0_0.view
/-- The view of the scratch of carried sums. -/
abbrev VS0_1 : View sig .tc .vmem S1x128 .f32 := scM0_1.view

/-- The scratch buffers before the first point. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelInIdeal.In

end
-- ==== Proof.InRunA.lean ====
/- The body at the first point: the two norms, the projections and their stores. -/
module

public import proofs.«01_k».proof.Proof.InRuns

@[expose] public section

set_option maxRecDepth 16384

noncomputable section

namespace Cert.KernelInIdeal.In

open Cert.KernelInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x8192 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S512x512 .bf16) (harg13 : arg13.IsWhole) (arg14 : Memref sig .tc .vmem S512x6144 .bf16) (harg14 : arg14.IsWhole) (arg15 : Memref sig .tc .vmem S1x1x1024x512 .bf16) (harg15 : arg15.IsWhole) (arg16 : Memref sig .tc .vmem S1x1024x512 .bf16) (harg16 : arg16.IsWhole) (arg17 : Memref sig .tc .vmem S1x1x128x512 .f32) (harg17 : arg17.IsWhole) (arg18 : Memref sig .tc .vmem S1x512x128 .bf16) (harg18 : arg18.IsWhole) (arg19 : Memref sig .tc .vmem S2x512x1024 .bf16) (harg19 : arg19.IsWhole) (arg20 : Memref sig .tc .vmem S1x128 .f32) (harg20 : arg20.IsWhole)
set_option maxHeartbeats 1000000 in set_option sl_exec.closedPieces true in
/-- The body's run at the first point, with the stores it makes found. -/
noncomputable def kernelRun0_A (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs1 : Vec F S1x128 .f32) :
    Σ' (L13 : List (View.Piece (Elt F) S512x6144 .bf16)), Σ' (L14 : List (View.Piece (Elt F) S1x1x1024x512 .bf16)), Σ' (L15 : List (View.Piece (Elt F) S1x1024x512 .bf16)), Σ' (L16 : List (View.Piece (Elt F) S1x1x128x512 .f32)), Σ' (LS0 : List (View.Piece (Elt F) S2x512x1024 .bf16)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ d, owns (c : Thread nD τ) arg18 fullShare d) ∗ (∃ f, arg19.view.loc (c : Thread nD τ) ↦[arg19.view.set]{fullShare} arg19.view.writes (Elt F) f LS0) ∗ (arg20.view.loc (c : Thread nD τ) ↦[arg20.view.set]{fullShare} arg20.view.writes (Elt F) (harg20.unread xs1) LS1)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, fun E K => ?run⟩
  case run =>
    letI : ClosedOff (k0_off1 i) := ⟨![0, 0, 0], hl0⟩
    letI : ClosedOff (k0_off2 i) := ⟨![1, 0, 0], hl1⟩
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg20.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]
    · iexists _, _; isplitr; swap; · iexact H17
      ipureintro; rfl
    isplitl [HS0]; · iexists _; iexact HS0
    iexact HS1

end Cert.KernelInIdeal.In

end
-- ==== Proof.InRunB.lean ====
/- The body at a later odd point: it reads the second slot of the scratch and fills the first. -/
module

public import proofs.«01_k».proof.Proof.InRunA

@[expose] public section

set_option maxRecDepth 16384

noncomputable section

namespace Cert.KernelInIdeal.In

open Cert.KernelInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x8192 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S512x512 .bf16) (harg13 : arg13.IsWhole) (arg14 : Memref sig .tc .vmem S512x6144 .bf16) (harg14 : arg14.IsWhole) (arg15 : Memref sig .tc .vmem S1x1x1024x512 .bf16) (harg15 : arg15.IsWhole) (arg16 : Memref sig .tc .vmem S1x1024x512 .bf16) (harg16 : arg16.IsWhole) (arg17 : Memref sig .tc .vmem S1x1x128x512 .f32) (harg17 : arg17.IsWhole) (arg18 : Memref sig .tc .vmem S1x512x128 .bf16) (harg18 : arg18.IsWhole) (arg19 : Memref sig .tc .vmem S2x512x1024 .bf16) (harg19 : arg19.IsWhole) (arg20 : Memref sig .tc .vmem S1x128 .f32) (harg20 : arg20.IsWhole)
set_option maxHeartbeats 1000000 in set_option sl_exec.closedPieces true in
/-- The body's run at a later odd point, with the stores it makes found. -/
noncomputable def kernelRun0_B (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) :
    Σ' (L13 : List (View.Piece (Elt F) S512x6144 .bf16)), Σ' (L14 : List (View.Piece (Elt F) S1x1x1024x512 .bf16)), Σ' (L15 : List (View.Piece (Elt F) S1x1024x512 .bf16)), Σ' (L16 : List (View.Piece (Elt F) S1x1x128x512 .f32)), Σ' (LS0 : List (View.Piece (Elt F) S2x512x1024 .bf16)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs0 ∗ owns (c : Thread nD τ) arg20 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ d, owns (c : Thread nD τ) arg18 fullShare d) ∗ (arg19.view.loc (c : Thread nD τ) ↦[arg19.view.set]{fullShare} arg19.view.writes (Elt F) (harg19.unread xs0) LS0) ∗ (arg20.view.loc (c : Thread nD τ) ↦[arg20.view.set]{fullShare} arg20.view.writes (Elt F) (harg20.unread xs1) LS1)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, fun E K => ?run⟩
  case run =>
    letI : ClosedOff (k0_off1 i) := ⟨![1, 0, 0], hl0⟩
    letI : ClosedOff (k0_off2 i) := ⟨![0, 0, 0], hl1⟩
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg19.eq_unread hfs0; obtain rfl := harg20.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]
    · iexists _, _; isplitr; swap; · iexact H17
      ipureintro; rfl
    isplitl [HS0]; · iexact HS0
    iexact HS1

end Cert.KernelInIdeal.In

end
-- ==== Proof.InRunC.lean ====
/- The body at a later even point: it reads the first slot of the scratch and fills the second. -/
module

public import proofs.«01_k».proof.Proof.InRunB

@[expose] public section

set_option maxRecDepth 16384

noncomputable section

namespace Cert.KernelInIdeal.In

open Cert.KernelInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x8192 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S512x512 .bf16) (harg13 : arg13.IsWhole) (arg14 : Memref sig .tc .vmem S512x6144 .bf16) (harg14 : arg14.IsWhole) (arg15 : Memref sig .tc .vmem S1x1x1024x512 .bf16) (harg15 : arg15.IsWhole) (arg16 : Memref sig .tc .vmem S1x1024x512 .bf16) (harg16 : arg16.IsWhole) (arg17 : Memref sig .tc .vmem S1x1x128x512 .f32) (harg17 : arg17.IsWhole) (arg18 : Memref sig .tc .vmem S1x512x128 .bf16) (harg18 : arg18.IsWhole) (arg19 : Memref sig .tc .vmem S2x512x1024 .bf16) (harg19 : arg19.IsWhole) (arg20 : Memref sig .tc .vmem S1x128 .f32) (harg20 : arg20.IsWhole)
set_option maxHeartbeats 1000000 in set_option sl_exec.closedPieces true in
/-- The body's run at a later even point, with the stores it makes found. -/
noncomputable def kernelRun0_C (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) :
    Σ' (L13 : List (View.Piece (Elt F) S512x6144 .bf16)), Σ' (L14 : List (View.Piece (Elt F) S1x1x1024x512 .bf16)), Σ' (L15 : List (View.Piece (Elt F) S1x1024x512 .bf16)), Σ' (L16 : List (View.Piece (Elt F) S1x1x128x512 .f32)), Σ' (LS0 : List (View.Piece (Elt F) S2x512x1024 .bf16)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xs0 ∗ owns (c : Thread nD τ) arg20 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ d, owns (c : Thread nD τ) arg18 fullShare d) ∗ (arg19.view.loc (c : Thread nD τ) ↦[arg19.view.set]{fullShare} arg19.view.writes (Elt F) (harg19.unread xs0) LS0) ∗ (arg20.view.loc (c : Thread nD τ) ↦[arg20.view.set]{fullShare} arg20.view.writes (Elt F) (harg20.unread xs1) LS1)) -∗ K ⟨⟩))
          ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, ?_, fun E K => ?run⟩
  case run =>
    letI : ClosedOff (k0_off1 i) := ⟨![0, 0, 0], hl0⟩
    letI : ClosedOff (k0_off2 i) := ⟨![1, 0, 0], hl1⟩
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg19.eq_unread hfs0; obtain rfl := harg20.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]
    · iexists _, _; isplitr; swap; · iexact H17
      ipureintro; rfl
    isplitl [HS0]; · iexact HS0
    iexact HS1

end Cert.KernelInIdeal.In

end
-- ==== Proof.InOuts.lean ====
/- What each point of the first norm and projections leaves: its named blocks, the scratch and the carry, and that the first point does not read the carry. -/
module

public import proofs.«01_k».proof.Proof.InRunC
public import Idealize.ShloMosaic.Lib.Pipeline.ValueKit
public import Idealize.ShloMosaic.Lib.Pointwise
public import Idealize.ShloMosaic.Lib.Claim

@[expose] public section

set_option maxRecDepth 16384

noncomputable section

namespace Cert.KernelInIdeal.In

open Cert.KernelInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section CaseA

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x8192 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S512x512 .bf16) (harg13 : arg13.IsWhole) (arg14 : Memref sig .tc .vmem S512x6144 .bf16) (harg14 : arg14.IsWhole) (arg15 : Memref sig .tc .vmem S1x1x1024x512 .bf16) (harg15 : arg15.IsWhole) (arg16 : Memref sig .tc .vmem S1x1024x512 .bf16) (harg16 : arg16.IsWhole) (arg17 : Memref sig .tc .vmem S1x1x128x512 .f32) (harg17 : arg17.IsWhole) (arg18 : Memref sig .tc .vmem S1x512x128 .bf16) (harg18 : arg18.IsWhole) (arg19 : Memref sig .tc .vmem S2x512x1024 .bf16) (harg19 : arg19.IsWhole) (arg20 : Memref sig .tc .vmem S1x128 .f32) (harg20 : arg20.IsWhole)

/-- The stores at the first point fill the joined block. -/
theorem cover0_A_13 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs1 : Vec F S1x128 .f32) (y : S512x6144.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12 xs1).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12 xs1).1 ![512, 128] (by sl_kernel_rfl) y

/-- What the first point leaves in the joined block. -/
def out0_A_13 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs1 : Vec F S1x128 .f32) : Vec F S512x6144 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12 xs1).1)

/-- The stores at the first point fill the query block. -/
theorem cover0_A_14 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs1 : Vec F S1x128 .f32) (y : S1x1x1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12 xs1).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12 xs1).2.1 S1x1x512x512.size (by sl_kernel_rfl) y

/-- What the first point leaves in the query block. -/
def out0_A_14 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs1 : Vec F S1x128 .f32) : Vec F S1x1x1024x512 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12 xs1).2.1)

/-- The stores at the first point fill the value block. -/
theorem cover0_A_15 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs1 : Vec F S1x128 .f32) (y : S1x1024x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12 xs1).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12 xs1).2.2.1 S1x512x512.size (by sl_kernel_rfl) y

/-- What the first point leaves in the value block. -/
def out0_A_15 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs1 : Vec F S1x128 .f32) : Vec F S1x1024x512 .bf16 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12 xs1).2.2.1)

/-- The stores at the first point fill the block of sums. -/
theorem cover0_A_16 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs1 : Vec F S1x128 .f32) (y : S1x1x128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12 xs1).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12 xs1).2.2.2.1 S1x1x128x512.size (by sl_kernel_rfl) y

/-- What the first point leaves in the block of sums. -/
def out0_A_16 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs1 : Vec F S1x128 .f32) : Vec F S1x1x128x512 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12 xs1).2.2.2.1)

/-- The stores at the first point fill the scratch. -/
theorem scover0_A_0 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs1 : Vec F S1x128 .f32) (y : S2x512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12 xs1).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12 xs1).2.2.2.2.1 S1x512x1024.size (by sl_kernel_rfl) y

/-- What the first point leaves in the scratch. -/
def sout0_A_0 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs1 : Vec F S1x128 .f32) : Vec F S2x512x1024 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12 xs1).2.2.2.2.1)

/-- What the first point leaves in the carry. -/
def sout0_A_1 (hc0 : cond0_0 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs1 : Vec F S1x128 .f32) : Vec F S1x128 .f32 :=
  arg20.view.read (Elt F) (arg20.view.writes (Elt F) (harg20.unread xs1) (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hl0 hl1 x0 x1 x2 x3 x4 x5 x6 x7 x8 x9 x10 x11 x12 xs1).2.2.2.2.2.1)

end CaseA

section CaseB

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x8192 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S512x512 .bf16) (harg13 : arg13.IsWhole) (arg14 : Memref sig .tc .vmem S512x6144 .bf16) (harg14 : arg14.IsWhole) (arg15 : Memref sig .tc .vmem S1x1x1024x512 .bf16) (harg15 : arg15.IsWhole) (arg16 : Memref sig .tc .vmem S1x1024x512 .bf16) (harg16 : arg16.IsWhole) (arg17 : Memref sig .tc .vmem S1x1x128x512 .f32) (harg17 : arg17.IsWhole) (arg18 : Memref sig .tc .vmem S1x512x128 .bf16) (harg18 : arg18.IsWhole) (arg19 : Memref sig .tc .vmem S2x512x1024 .bf16) (harg19 : arg19.IsWhole) (arg20 : Memref sig .tc .vmem S1x128 .f32) (harg20 : arg20.IsWhole)

/-- The stores at a later odd point fill the joined block. -/
theorem cover0_B_13 (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) (y : S512x6144.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).1 ![512, 128] (by sl_kernel_rfl) y

/-- What a later odd point leaves in the joined block. -/
def out0_B_13 (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) : Vec F S512x6144 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).1)

/-- The stores at a later odd point fill the query block. -/
theorem cover0_B_14 (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) (y : S1x1x1024x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.1 S1x1x512x512.size (by sl_kernel_rfl) y

/-- What a later odd point leaves in the query block. -/
def out0_B_14 (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) : Vec F S1x1x1024x512 .bf16 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.1)

/-- The stores at a later odd point fill the value block. -/
theorem cover0_B_15 (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) (y : S1x1024x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.2.1 S1x512x512.size (by sl_kernel_rfl) y

/-- What a later odd point leaves in the value block. -/
def out0_B_15 (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) : Vec F S1x1024x512 .bf16 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.2.1)

/-- The stores at a later odd point fill the block of sums. -/
theorem cover0_B_16 (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) (y : S1x1x128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.2.2.1 S1x1x128x512.size (by sl_kernel_rfl) y

/-- What a later odd point leaves in the block of sums. -/
def out0_B_16 (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) : Vec F S1x1x128x512 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.2.2.1)

/-- What a later odd point leaves in the scratch. -/
def sout0_B_0 (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) : Vec F S2x512x1024 .bf16 :=
  arg19.view.read (Elt F) (arg19.view.writes (Elt F) (harg19.unread xs0) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.2.2.2.1)

/-- What a later odd point leaves in the carry. -/
def sout0_B_1 (hc0 : ¬cond0_0 i) (hc1 : ¬cond0_1 i) (hl0 : k0_off1 i = ![1, 0, 0]) (hl1 : k0_off2 i = ![0, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) : Vec F S1x128 .f32 :=
  arg20.view.read (Elt F) (arg20.view.writes (Elt F) (harg20.unread xs1) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.2.2.2.2.1)

end CaseB

section CaseC

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1024x8192 .bf16) (harg10 : arg10.IsWhole) (arg11 : Memref sig .tc .vmem S1024x128 .bf16) (harg11 : arg11.IsWhole) (arg12 : Memref sig .tc .vmem S1x128 .f32) (harg12 : arg12.IsWhole) (arg13 : Memref sig .tc .vmem S512x512 .bf16) (harg13 : arg13.IsWhole) (arg14 : Memref sig .tc .vmem S512x6144 .bf16) (harg14 : arg14.IsWhole) (arg15 : Memref sig .tc .vmem S1x1x1024x512 .bf16) (harg15 : arg15.IsWhole) (arg16 : Memref sig .tc .vmem S1x1024x512 .bf16) (harg16 : arg16.IsWhole) (arg17 : Memref sig .tc .vmem S1x1x128x512 .f32) (harg17 : arg17.IsWhole) (arg18 : Memref sig .tc .vmem S1x512x128 .bf16) (harg18 : arg18.IsWhole) (arg19 : Memref sig .tc .vmem S2x512x1024 .bf16) (harg19 : arg19.IsWhole) (arg20 : Memref sig .tc .vmem S1x128 .f32) (harg20 : arg20.IsWhole)

/-- The stores at a later even point fill the joined block. -/
theorem cover0_C_13 (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) (y : S512x6144.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).1 ![512, 128] (by sl_kernel_rfl) y

/-- What a later even point leaves in the joined block. -/
def out0_C_13 (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) : Vec F S512x6144 .bf16 :=
  VO0_13.read (Elt F) (VO0_13.writes (Elt F) VO0_13.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).1)

/-- The stores at a later even point fill the query block. -/
theorem cover0_C_14 (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) (y : S1x1x1024x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.1 S1x1x512x512.size (by sl_kernel_rfl) y

/-- What a later even point leaves in the query block. -/
def out0_C_14 (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) : Vec F S1x1x1024x512 .bf16 :=
  VO0_14.read (Elt F) (VO0_14.writes (Elt F) VO0_14.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.1)

/-- The stores at a later even point fill the value block. -/
theorem cover0_C_15 (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) (y : S1x1024x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.2.1 S1x512x512.size (by sl_kernel_rfl) y

/-- What a later even point leaves in the value block. -/
def out0_C_15 (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) : Vec F S1x1024x512 .bf16 :=
  VO0_15.read (Elt F) (VO0_15.writes (Elt F) VO0_15.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.2.1)

/-- The stores at a later even point fill the block of sums. -/
theorem cover0_C_16 (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) (y : S1x1x128x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.2.2.1 S1x1x128x512.size (by sl_kernel_rfl) y

/-- What a later even point leaves in the block of sums. -/
def out0_C_16 (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) : Vec F S1x1x128x512 .f32 :=
  VO0_16.read (Elt F) (VO0_16.writes (Elt F) VO0_16.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.2.2.1)

/-- What a later even point leaves in the scratch. -/
def sout0_C_0 (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) : Vec F S2x512x1024 .bf16 :=
  arg19.view.read (Elt F) (arg19.view.writes (Elt F) (harg19.unread xs0) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.2.2.2.1)

/-- What a later even point leaves in the carry. -/
def sout0_C_1 (hc0 : ¬cond0_0 i) (hc1 : cond0_1 i) (hl0 : k0_off1 i = ![0, 0, 0]) (hl1 : k0_off2 i = ![1, 0, 0])
    (x0 : Vec F S512x1024 .f32) (x1 : Vec F S512x1024 .f32) (x2 : Vec F S1x1024 .f32) (x3 : Vec F S1x1x1024 .f32) (x4 : Vec F S1x1x1024 .f32) (x5 : Vec F S1x1x1024 .f32) (x6 : Vec F S1x1x1024 .f32) (x7 : Vec F S512x128 .f32) (x8 : Vec F S512x128 .f32) (x9 : Vec F S1024x8192 .bf16) (x10 : Vec F S1024x128 .bf16) (x11 : Vec F S1x128 .f32) (x12 : Vec F S512x512 .bf16) (xs0 : Vec F S2x512x1024 .bf16) (xs1 : Vec F S1x128 .f32) : Vec F S1x128 .f32 :=
  arg20.view.read (Elt F) (arg20.view.writes (Elt F) (harg20.unread xs1) (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 hl0 hl1 x0 x1 x2 x3 x4 x5 x6 x7 x8 x9 x10 x11 x12 xs0 xs1).2.2.2.2.2.1)

end CaseC

/-- The slot read at the first point. -/
theorem hoff0_k0_off1_c0 : ∀ t : Fin cfg0.N, t.val % 32 = 0 → k0_off1 (grid0.coords t) = ![0, 0, 0] := by
  decide +kernel

/-- The slot filled at the first point. -/
theorem hoff0_k0_off2_c0 : ∀ t : Fin cfg0.N, t.val % 32 = 0 → k0_off2 (grid0.coords t) = ![1, 0, 0] := by
  decide +kernel

/-- The slot read at an odd point. -/
theorem hoff0_k0_off1_n1 : ∀ t : Fin cfg0.N, ¬(t.val % 2 = 0) → k0_off1 (grid0.coords t) = ![1, 0, 0] := by
  decide +kernel

/-- The slot filled at an odd point. -/
theorem hoff0_k0_off2_n1 : ∀ t : Fin cfg0.N, ¬(t.val % 2 = 0) → k0_off2 (grid0.coords t) = ![0, 0, 0] := by
  decide +kernel

/-- The slot read at an even point. -/
theorem hoff0_k0_off1_c1 : ∀ t : Fin cfg0.N, t.val % 2 = 0 → k0_off1 (grid0.coords t) = ![0, 0, 0] := by
  decide +kernel

/-- The slot filled at an even point. -/
theorem hoff0_k0_off2_c1 : ∀ t : Fin cfg0.N, t.val % 2 = 0 → k0_off2 (grid0.coords t) = ![1, 0, 0] := by
  decide +kernel

/-- The carry counted on at the first point: zero. Nothing is read of it there. -/
def carry0 : Vec F S1x128 .f32 := broadcast S1x128 (Scalar.ofBits .f32 0x00000000#32)

/-- What is left after a point: the joined, query, value and sums blocks, the scratch of normed blocks, and the carry. -/
def outsAt0 (c : Dev nD) : (n : ℕ) → n < cfg0.N → Vec F S512x6144 .bf16 × Vec F S1x1x1024x512 .bf16 × Vec F S1x1024x512 .bf16 × Vec F S1x1x128x512 .f32 × Vec F S2x512x1024 .bf16 × Vec F S1x128 .f32
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (hoff0_k0_off1_c0 ⟨0, hn⟩ (Nat.zero_mod _)) (hoff0_k0_off2_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) carry0, out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (hoff0_k0_off1_c0 ⟨0, hn⟩ (Nat.zero_mod _)) (hoff0_k0_off2_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) carry0, out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (hoff0_k0_off1_c0 ⟨0, hn⟩ (Nat.zero_mod _)) (hoff0_k0_off2_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) carry0, out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (hoff0_k0_off1_c0 ⟨0, hn⟩ (Nat.zero_mod _)) (hoff0_k0_off2_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) carry0, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (hoff0_k0_off1_c0 ⟨0, hn⟩ (Nat.zero_mod _)) (hoff0_k0_off2_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) carry0, sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) scM0_0 (Memref.isWhole_whole _) scM0_1 (Memref.isWhole_whole _) ((hcond0_0 ⟨0, hn⟩).mpr (Nat.zero_mod _)) (hoff0_k0_off1_c0 ⟨0, hn⟩ (Nat.zero_mod _)) (hoff0_k0_off2_c0 ⟨0, hn⟩ (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) carry0)
  | n + 1, hn =>
    if h0 : (n + 1) % 32 = 0 then
      (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (hoff0_k0_off1_c0 ⟨n + 1, hn⟩ h0) (hoff0_k0_off2_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) carry0, out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (hoff0_k0_off1_c0 ⟨n + 1, hn⟩ h0) (hoff0_k0_off2_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) carry0, out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (hoff0_k0_off1_c0 ⟨n + 1, hn⟩ h0) (hoff0_k0_off2_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) carry0, out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (hoff0_k0_off1_c0 ⟨n + 1, hn⟩ h0) (hoff0_k0_off2_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) carry0, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (hoff0_k0_off1_c0 ⟨n + 1, hn⟩ h0) (hoff0_k0_off2_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) carry0, sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) ((hcond0_0 ⟨n + 1, hn⟩).mpr h0) (hoff0_k0_off1_c0 ⟨n + 1, hn⟩ h0) (hoff0_k0_off2_c0 ⟨n + 1, hn⟩ h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) carry0)
    else
      if h1 : (n + 1) % 2 = 0 then
        (out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off1_c1 ⟨n + 1, hn⟩ h1) (hoff0_k0_off2_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) ((outsAt0 c n (Nat.lt_of_succ_lt hn)).2.2.2.2.1) ((outsAt0 c n (Nat.lt_of_succ_lt hn)).2.2.2.2.2), out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off1_c1 ⟨n + 1, hn⟩ h1) (hoff0_k0_off2_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) ((outsAt0 c n (Nat.lt_of_succ_lt hn)).2.2.2.2.1) ((outsAt0 c n (Nat.lt_of_succ_lt hn)).2.2.2.2.2), out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off1_c1 ⟨n + 1, hn⟩ h1) (hoff0_k0_off2_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) ((outsAt0 c n (Nat.lt_of_succ_lt hn)).2.2.2.2.1) ((outsAt0 c n (Nat.lt_of_succ_lt hn)).2.2.2.2.2), out0_C_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off1_c1 ⟨n + 1, hn⟩ h1) (hoff0_k0_off2_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) ((outsAt0 c n (Nat.lt_of_succ_lt hn)).2.2.2.2.1) ((outsAt0 c n (Nat.lt_of_succ_lt hn)).2.2.2.2.2), sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off1_c1 ⟨n + 1, hn⟩ h1) (hoff0_k0_off2_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) ((outsAt0 c n (Nat.lt_of_succ_lt hn)).2.2.2.2.1) ((outsAt0 c n (Nat.lt_of_succ_lt hn)).2.2.2.2.2), sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) ((hcond0_1 ⟨n + 1, hn⟩).mpr h1) (hoff0_k0_off1_c1 ⟨n + 1, hn⟩ h1) (hoff0_k0_off2_c1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) ((outsAt0 c n (Nat.lt_of_succ_lt hn)).2.2.2.2.1) ((outsAt0 c n (Nat.lt_of_succ_lt hn)).2.2.2.2.2))
      else
        (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off1_n1 ⟨n + 1, hn⟩ h1) (hoff0_k0_off2_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) ((outsAt0 c n (Nat.lt_of_succ_lt hn)).2.2.2.2.1) ((outsAt0 c n (Nat.lt_of_succ_lt hn)).2.2.2.2.2), out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off1_n1 ⟨n + 1, hn⟩ h1) (hoff0_k0_off2_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) ((outsAt0 c n (Nat.lt_of_succ_lt hn)).2.2.2.2.1) ((outsAt0 c n (Nat.lt_of_succ_lt hn)).2.2.2.2.2), out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off1_n1 ⟨n + 1, hn⟩ h1) (hoff0_k0_off2_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) ((outsAt0 c n (Nat.lt_of_succ_lt hn)).2.2.2.2.1) ((outsAt0 c n (Nat.lt_of_succ_lt hn)).2.2.2.2.2), out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off1_n1 ⟨n + 1, hn⟩ h1) (hoff0_k0_off2_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) ((outsAt0 c n (Nat.lt_of_succ_lt hn)).2.2.2.2.1) ((outsAt0 c n (Nat.lt_of_succ_lt hn)).2.2.2.2.2), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off1_n1 ⟨n + 1, hn⟩ h1) (hoff0_k0_off2_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) ((outsAt0 c n (Nat.lt_of_succ_lt hn)).2.2.2.2.1) ((outsAt0 c n (Nat.lt_of_succ_lt hn)).2.2.2.2.2), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (hoff0_k0_off1_n1 ⟨n + 1, hn⟩ h1) (hoff0_k0_off2_n1 ⟨n + 1, hn⟩ h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) ((outsAt0 c n (Nat.lt_of_succ_lt hn)).2.2.2.2.1) ((outsAt0 c n (Nat.lt_of_succ_lt hn)).2.2.2.2.2))

/-- What is left after the first point. -/
theorem outsAt0_A0 (c : Dev nD) (t : Fin cfg0.N) (h0 : t.val % 32 = 0) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) carry0, out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) carry0, out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) carry0, out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) carry0, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) carry0, sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) carry0) := by
  obtain ⟨n, hn⟩ := t
  cases n with
  | zero => exact rfl
  | succ n => exact (dif_pos h0).trans rfl

/-- The carry is not read where the point is the first of its batch row. -/
theorem pay28_first (v147 : FVec F S512x128 .f32) (a b z : BitVec 32) (y w : Vec F S1x128 .f32)
    (h : Scalar.cmpi .eq (Scalar.select (Scalar.andi (Scalar.xori (Scalar.cmpi .slt b 0#32) (Scalar.cmpi .slt a 0#32)) (Scalar.cmpi .ne b z)) (Scalar.addi b a) b) 0#32 = 1#1) :
    k0_pay28 v147 a b z y = k0_pay28 v147 a b z w := by
  unfold k0_pay28
  dsimp only
  rw [h]
  rfl

/-- Whatever the carry was, after one whole store it is what was stored. -/
theorem carry_whole (f) (inb) (P : FVec F S1x128 .f32) :
    View.read (Elt F) (View.whole cc0_scratch1) ((View.whole cc0_scratch1).writes (Elt F) f [⟨Rect.unit (s := S1x128) ![0, 0] ![1, 128] inb, P⟩]) = P := by
  funext j
  have e : j = (Rect.unit (s := S1x128) ![0, 0] ![1, 128] inb).emb j := by
    funext a
    refine Fin.ext (Eq.trans ?_ (Rect.idx_unit_val _ _ inb j a).symm)
    match a with
    | 0 => exact (Nat.zero_add _).symm
    | 1 => exact (Nat.zero_add _).symm
  conv_lhs => rw [e]
  exact View.read_writes_cons_emb _ _ _ _ _ _

/-- At the first point the carry is not read. -/
theorem first_at : ∀ t : Fin cfg0.N, t.val % 32 = 0 → Scalar.cmpi .eq (Scalar.select (Scalar.andi (Scalar.xori (Scalar.cmpi .slt (Scalar.remsi (BitVec.ofNat 32 (grid0.coords t 0).val) (16#32)) 0#32) (Scalar.cmpi .slt (16#32) 0#32)) (Scalar.cmpi .ne (Scalar.remsi (BitVec.ofNat 32 (grid0.coords t 0).val) (16#32)) 0#32)) (Scalar.addi (Scalar.remsi (BitVec.ofNat 32 (grid0.coords t 0).val) (16#32)) (16#32)) (Scalar.remsi (BitVec.ofNat 32 (grid0.coords t 0).val) (16#32))) 0#32 = 1#1 := by
  decide +kernel

/-- The block of sums at the first point does not depend on the carry. -/
theorem out0_A_16_first (c : Dev nD) (t : Fin cfg0.N) (h0 : t.val % 32 = 0) (y z : Vec F S1x128 .f32) :
    out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) z := by
  unfold out0_A_16 kernelRun0_A
  dsimp only
  simp only [k0_pay33, k0_pay32]
  rw [pay28_first _ (16#32) (kernelRun0_A.sl.v150 (grid0.coords t)) (0#32) _ _ (first_at t h0)]

/-- The carry left at the first point does not depend on the carry before it. -/
theorem sout0_A_1_first (c : Dev nD) (t : Fin cfg0.N) (h0 : t.val % 32 = 0) (y z : Vec F S1x128 .f32) :
    sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) z := by
  unfold sout0_A_1 kernelRun0_A
  dsimp only
  simp only [k0_pay29]
  refine (carry_whole _ _ _).trans (Eq.trans ?_ (carry_whole _ _ _).symm)
  rw [pay28_first _ (16#32) (kernelRun0_A.sl.v150 (grid0.coords t)) (0#32) _ _ (first_at t h0)]

/-- The joined block at the first point does not depend on the carry. -/
theorem out0_A_13_first (c : Dev nD) (t : Fin cfg0.N) (h0 : t.val % 32 = 0) (y z : Vec F S1x128 .f32) :
    out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) z := by
  unfold out0_A_13 kernelRun0_A
  dsimp only

/-- The block of queries at the first point does not depend on the carry. -/
theorem out0_A_14_first (c : Dev nD) (t : Fin cfg0.N) (h0 : t.val % 32 = 0) (y z : Vec F S1x128 .f32) :
    out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) z := by
  unfold out0_A_14 kernelRun0_A
  dsimp only

/-- The block of values at the first point does not depend on the carry. -/
theorem out0_A_15_first (c : Dev nD) (t : Fin cfg0.N) (h0 : t.val % 32 = 0) (y z : Vec F S1x128 .f32) :
    out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) z := by
  unfold out0_A_15 kernelRun0_A
  dsimp only

/-- The scratch left at the first point does not depend on the carry. -/
theorem sout0_A_0_first (c : Dev nD) (t : Fin cfg0.N) (h0 : t.val % 32 = 0) (y z : Vec F S1x128 .f32) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) z := by
  unfold sout0_A_0 kernelRun0_A
  dsimp only

/-- What is left after the first point, whatever the carry was. -/
theorem outsAt0_A (c : Dev nD) (t : Fin cfg0.N) (h0 : t.val % 32 = 0) (xs1 : Vec F S1x128 .f32) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs1, out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs1, out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs1, out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs1, sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs1, sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs1) := by
  rw [outsAt0_A0 m c t h0, out0_A_13_first m c t h0 _ xs1, out0_A_14_first m c t h0 _ xs1, out0_A_15_first m c t h0 _ xs1, out0_A_16_first m c t h0 _ xs1,
    sout0_A_0_first m c t h0 _ xs1, sout0_A_1_first m c t h0 _ xs1]

end Cert.KernelInIdeal.In

end
-- ==== Proof.InFrame.lean ====
/- The run of the first norm and projections: what the later points leave, the body at every point, and the whole launch. The last result is left unnamed. -/
module

public import proofs.«01_k».proof.Proof.InOuts

@[expose] public section

set_option maxRecDepth 16384

noncomputable section

namespace Cert.KernelInIdeal.In

open Cert.KernelInIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is left after a later odd point. -/
theorem outsAt0_B (c : Dev nD) (t : Fin cfg0.N) (h0 : ¬t.val % 32 = 0) (h1 : ¬t.val % 2 = 0) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (hoff0_k0_off1_n1 t h1) (hoff0_k0_off2_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2), out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (hoff0_k0_off1_n1 t h1) (hoff0_k0_off2_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2), out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (hoff0_k0_off1_n1 t h1) (hoff0_k0_off2_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2), out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (hoff0_k0_off1_n1 t h1) (hoff0_k0_off2_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (hoff0_k0_off1_n1 t h1) (hoff0_k0_off2_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) (fun h => h1 ((hcond0_1 t).mp h)) (hoff0_k0_off1_n1 t h1) (hoff0_k0_off2_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2)) := by
  obtain ⟨n, hn⟩ := t
  cases n with
  | zero => exact (by exfalso; (try dsimp only at h0); exact absurd (Nat.zero_mod _) h0)
  | succ n => exact (dif_neg h0).trans ((dif_neg h1).trans rfl)

/-- What is left after a later even point. -/
theorem outsAt0_C (c : Dev nD) (t : Fin cfg0.N) (h0 : ¬t.val % 32 = 0) (h1 : t.val % 2 = 0) :
    outsAt0 m c t.val t.isLt = (out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (hoff0_k0_off1_c1 t h1) (hoff0_k0_off2_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2), out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (hoff0_k0_off1_c1 t h1) (hoff0_k0_off2_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2), out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (hoff0_k0_off1_c1 t h1) (hoff0_k0_off2_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2), out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (hoff0_k0_off1_c1 t h1) (hoff0_k0_off2_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2), sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (hoff0_k0_off1_c1 t h1) (hoff0_k0_off2_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2), sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) (fun h => h0 ((hcond0_0 t).mp h)) ((hcond0_1 t).mpr h1) (hoff0_k0_off1_c1 t h1) (hoff0_k0_off2_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((outsAt0 m c (t.val - 1) (Nat.lt_of_le_of_lt (Nat.sub_le _ _) t.isLt)).2.2.2.2.1) ((outsAt0 m c (t.val - 1) (Nat.lt_of_le_of_lt (Nat.sub_le _ _) t.isLt)).2.2.2.2.2)) := by
  obtain ⟨n, hn⟩ := t
  cases n with
  | zero => exact (by exfalso; (try dsimp only at h0); exact absurd (Nat.zero_mod _) h0)
  | succ n => exact (dif_neg h0).trans ((dif_pos h1).trans rfl)

/-- What the scratch holds between points. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r))

/-- Before the first point. -/
theorem PhiS_zero (c : Dev nD) (n : ℕ) (h : n ≤ cfg0.N) (hz : n = 0) : PhiS m c n h = Pipeline.ΦA spec0 c := by
  subst hz; rfl

/-- After a point. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r)) := rfl

/-- Before a later point. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r)) := by
  cases n with
  | zero => exact absurd rfl hz
  | succ n => rfl

/-- The window whose contents are left unnamed: the last result. -/
def forgets0 : Fin 18 → Bool := fun w => w.val == 17
/-- Window 13 is not left unnamed. -/
theorem forgets0_13 : forgets0 (13 : Fin 18) = false := by decide
/-- Window 14 is not left unnamed. -/
theorem forgets0_14 : forgets0 (14 : Fin 18) = false := by decide
/-- Window 15 is not left unnamed. -/
theorem forgets0_15 : forgets0 (15 : Fin 18) = false := by decide
/-- Window 16 is not left unnamed. -/
theorem forgets0_16 : forgets0 (16 : Fin 18) = false := by decide

/-- The contents of every block at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, _⟩ => (outsAt0 m c t.val t.isLt).2.2.2.1
    | ⟨17, h⟩ => Pipeline.Dat.unnamed (cfg := cfg0) ⟨17, h⟩ t
    | ⟨_ + 18, h⟩ => absurd h (Nat.not_lt.2 (Nat.le_add_left _ _))
  Φ t := PhiS m c t.val (Nat.le_of_lt_succ t.isLt)
  q w := Pipeline.shareOf spec0 w
  owed _ := 0

/-- The arrays the launch starts from. -/
theorem A_eq (c : Dev nD) (w : Fin cfg0.W) : (dats m 0 c).A w = V m c (Pipeline.arrRef spec0 w) := by
  dsimp only [dats]

/-- Before a point, by its number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- The contents of window 0's block after a point. -/
theorem after0_0 (c : Dev nD) (t : Fin cfg0.N) : (dats m 0 c).after 0 t = iblk m c 0 t := by dsimp only [dats]
/-- The contents of window 1's block after a point. -/
theorem after0_1 (c : Dev nD) (t : Fin cfg0.N) : (dats m 0 c).after 1 t = iblk m c 1 t := by dsimp only [dats]
/-- The contents of window 2's block after a point. -/
theorem after0_2 (c : Dev nD) (t : Fin cfg0.N) : (dats m 0 c).after 2 t = iblk m c 2 t := by dsimp only [dats]
/-- The contents of window 3's block after a point. -/
theorem after0_3 (c : Dev nD) (t : Fin cfg0.N) : (dats m 0 c).after 3 t = iblk m c 3 t := by dsimp only [dats]
/-- The contents of window 4's block after a point. -/
theorem after0_4 (c : Dev nD) (t : Fin cfg0.N) : (dats m 0 c).after 4 t = iblk m c 4 t := by dsimp only [dats]
/-- The contents of window 5's block after a point. -/
theorem after0_5 (c : Dev nD) (t : Fin cfg0.N) : (dats m 0 c).after 5 t = iblk m c 5 t := by dsimp only [dats]
/-- The contents of window 6's block after a point. -/
theorem after0_6 (c : Dev nD) (t : Fin cfg0.N) : (dats m 0 c).after 6 t = iblk m c 6 t := by dsimp only [dats]
/-- The contents of window 7's block after a point. -/
theorem after0_7 (c : Dev nD) (t : Fin cfg0.N) : (dats m 0 c).after 7 t = iblk m c 7 t := by dsimp only [dats]
/-- The contents of window 8's block after a point. -/
theorem after0_8 (c : Dev nD) (t : Fin cfg0.N) : (dats m 0 c).after 8 t = iblk m c 8 t := by dsimp only [dats]
/-- The contents of window 9's block after a point. -/
theorem after0_9 (c : Dev nD) (t : Fin cfg0.N) : (dats m 0 c).after 9 t = iblk m c 9 t := by dsimp only [dats]
/-- The contents of window 10's block after a point. -/
theorem after0_10 (c : Dev nD) (t : Fin cfg0.N) : (dats m 0 c).after 10 t = iblk m c 10 t := by dsimp only [dats]
/-- The contents of window 11's block after a point. -/
theorem after0_11 (c : Dev nD) (t : Fin cfg0.N) : (dats m 0 c).after 11 t = iblk m c 11 t := by dsimp only [dats]
/-- The contents of window 12's block after a point. -/
theorem after0_12 (c : Dev nD) (t : Fin cfg0.N) : (dats m 0 c).after 12 t = iblk m c 12 t := by dsimp only [dats]
/-- The contents of window 13's block after a point. -/
theorem after0_13 (c : Dev nD) (t : Fin cfg0.N) : (dats m 0 c).after 13 t = (outsAt0 m c t.val t.isLt).1 := by dsimp only [dats]
/-- The contents of window 14's block after a point. -/
theorem after0_14 (c : Dev nD) (t : Fin cfg0.N) : (dats m 0 c).after 14 t = (outsAt0 m c t.val t.isLt).2.1 := by dsimp only [dats]
/-- The contents of window 15's block after a point. -/
theorem after0_15 (c : Dev nD) (t : Fin cfg0.N) : (dats m 0 c).after 15 t = (outsAt0 m c t.val t.isLt).2.2.1 := by dsimp only [dats]
/-- The contents of window 16's block after a point. -/
theorem after0_16 (c : Dev nD) (t : Fin cfg0.N) : (dats m 0 c).after 16 t = (outsAt0 m c t.val t.isLt).2.2.2.1 := by dsimp only [dats]

/-- The contents of window 0's block before a point. -/
theorem before0_0 (c : Dev nD) (t : Fin cfg0.N) (d) : (dats m 0 c).before 0 t d = iblk m c 0 t :=
  before0_0_of m (dats m 0 c) (A_eq m c 0) (after0_0 m c) t d
/-- The contents of window 1's block before a point. -/
theorem before0_1 (c : Dev nD) (t : Fin cfg0.N) (d) : (dats m 0 c).before 1 t d = iblk m c 1 t :=
  before0_1_of m (dats m 0 c) (A_eq m c 1) (after0_1 m c) t d
/-- The contents of window 2's block before a point. -/
theorem before0_2 (c : Dev nD) (t : Fin cfg0.N) (d) : (dats m 0 c).before 2 t d = iblk m c 2 t :=
  before0_2_of m (dats m 0 c) (A_eq m c 2) (after0_2 m c) t d
/-- The contents of window 3's block before a point. -/
theorem before0_3 (c : Dev nD) (t : Fin cfg0.N) (d) : (dats m 0 c).before 3 t d = iblk m c 3 t :=
  before0_3_of m (dats m 0 c) (A_eq m c 3) (after0_3 m c) t d
/-- The contents of window 4's block before a point. -/
theorem before0_4 (c : Dev nD) (t : Fin cfg0.N) (d) : (dats m 0 c).before 4 t d = iblk m c 4 t :=
  before0_4_of m (dats m 0 c) (A_eq m c 4) (after0_4 m c) t d
/-- The contents of window 5's block before a point. -/
theorem before0_5 (c : Dev nD) (t : Fin cfg0.N) (d) : (dats m 0 c).before 5 t d = iblk m c 5 t :=
  before0_5_of m (dats m 0 c) (A_eq m c 5) (after0_5 m c) t d
/-- The contents of window 6's block before a point. -/
theorem before0_6 (c : Dev nD) (t : Fin cfg0.N) (d) : (dats m 0 c).before 6 t d = iblk m c 6 t :=
  before0_6_of m (dats m 0 c) (A_eq m c 6) (after0_6 m c) t d
/-- The contents of window 7's block before a point. -/
theorem before0_7 (c : Dev nD) (t : Fin cfg0.N) (d) : (dats m 0 c).before 7 t d = iblk m c 7 t :=
  before0_7_of m (dats m 0 c) (A_eq m c 7) (after0_7 m c) t d
/-- The contents of window 8's block before a point. -/
theorem before0_8 (c : Dev nD) (t : Fin cfg0.N) (d) : (dats m 0 c).before 8 t d = iblk m c 8 t :=
  before0_8_of m (dats m 0 c) (A_eq m c 8) (after0_8 m c) t d
/-- The contents of window 9's block before a point. -/
theorem before0_9 (c : Dev nD) (t : Fin cfg0.N) (d) : (dats m 0 c).before 9 t d = iblk m c 9 t :=
  before0_9_of m (dats m 0 c) (A_eq m c 9) (after0_9 m c) t d
/-- The contents of window 10's block before a point. -/
theorem before0_10 (c : Dev nD) (t : Fin cfg0.N) (d) : (dats m 0 c).before 10 t d = iblk m c 10 t :=
  before0_10_of m (dats m 0 c) (A_eq m c 10) (after0_10 m c) t d
/-- The contents of window 11's block before a point. -/
theorem before0_11 (c : Dev nD) (t : Fin cfg0.N) (d) : (dats m 0 c).before 11 t d = iblk m c 11 t :=
  before0_11_of m (dats m 0 c) (A_eq m c 11) (after0_11 m c) t d
/-- The contents of window 12's block before a point. -/
theorem before0_12 (c : Dev nD) (t : Fin cfg0.N) (d) : (dats m 0 c).before 12 t d = iblk m c 12 t :=
  before0_12_of m (dats m 0 c) (A_eq m c 12) (after0_12 m c) t d

/-- What the body finds at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare d))

/-- What the body leaves at a point. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ (∃ d, owns (c : Thread nD τ) (ms0_17 t) fullShare d))

set_option maxHeartbeats 24000000 in
/-- The body at every point leaves what is named. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      iintro ⟨⟨⟨HS0, ⟨%ds1, HS1⟩⟩, Hg⟩, Hrest⟩
      rw [outsAt0_A m c t h0 ds1]
      unfold out0_A_13 out0_A_14 out0_A_15 out0_A_16 sout0_A_0 sout0_A_1; (try dsimp only)
      icases Hrest with ⟨Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_A c (grid0.coords t) _ _ _ _ _ _ _ _ _ _ _ _ _ _ _ _ _ _ _ _ _ _ _ _ _ _ _ _ _ _ _ _ _ _ _ _ _ _ _ _ ((hcond0_0 t).mpr h0) (hoff0_k0_off1_c0 t h0) (hoff0_k0_off2_c0 t h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ds1).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      iintro ⟨H0, H1, H2, H3, H4, H5, H6, H7, H8, H9, H10, H11, H12, ⟨%e13, H13⟩, ⟨%e14, H14⟩, ⟨%e15, H15⟩, ⟨%e16, H16⟩, H17, ⟨%es0, HS0⟩, HS1⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _)
      iexact H17
    · exfalso; have hN : t.val < 32 := lt_of_lt_of_eq t.isLt (show cfg0.N = 32 from N_0); omega
  · by_cases h1 : t.val % 2 = 0
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        unfold out0_C_13 out0_C_14 out0_C_15 out0_C_16 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_C c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (hoff0_k0_off1_c1 t h1) (hoff0_k0_off2_c1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        isplitl [H15]; · iexists _; iexact H15
        isplitl [H16]; · iexists _; iexact H16
        isplitl [H17]; · iexists _; iexact H17
        isplitl [HS0]; · iexact HS0
        isplitl [HS1]; · iexact HS1
        iintro ⟨H0, H1, H2, H3, H4, H5, H6, H7, H8, H9, H10, H11, H12, ⟨%e13, H13⟩, ⟨%e14, H14⟩, ⟨%e15, H15⟩, ⟨%e16, H16⟩, H17, HS0, HS1⟩
        isplitl [HS0 HS1 Hg]
        · isplitl [HS0 HS1]
          · isplitl [HS0]
            · unfold owns; iexists _; isplitr
              swap; · iexact HS0
              ipureintro; rfl
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]
        · unfold owns; iexists _; isplitr
          swap; · iexact H13
          ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_C_14 c _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact H17
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold out0_B_13 out0_B_14 out0_B_15 out0_B_16 sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
        iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (hoff0_k0_off1_n1 t h1) (hoff0_k0_off2_n1 t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        isplitl [H15]; · iexists _; iexact H15
        isplitl [H16]; · iexists _; iexact H16
        isplitl [H17]; · iexists _; iexact H17
        isplitl [HS0]; · iexact HS0
        isplitl [HS1]; · iexact HS1
        iintro ⟨H0, H1, H2, H3, H4, H5, H6, H7, H8, H9, H10, H11, H12, ⟨%e13, H13⟩, ⟨%e14, H14⟩, ⟨%e15, H15⟩, ⟨%e16, H16⟩, H17, HS0, HS1⟩
        isplitl [HS0 HS1 Hg]
        · isplitl [HS0 HS1]
          · isplitl [HS0]
            · unfold owns; iexists _; isplitr
              swap; · iexact HS0
              ipureintro; rfl
            unfold owns; iexists _; isplitr
            swap; · iexact HS1
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]
        · unfold owns; iexists _; isplitr
          swap; · iexact H13
          ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _)
        isplitl [H16]
        · unfold owns; iexists _; isplitr
          swap; · iexact H16
          ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact H17

/-- The body's definition at a point. -/
theorem defs₀_row (t : Fin cfg0.N) :
    defs₀ (F := F) .tc cfg0.body (cfg0.bodyArgs t (cfg0.slots t)) = bodyAt0 t := by
  unfold defs₀; rw [Defs.onTc_tc]

/-- The body at every point, as the launch asks for it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- The launch starts with the scratch at any contents. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- The scratch is given back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The scratch is given back after the last point. -/
theorem hout (c : Dev nD) : (dats m 0 c).Φ (Fin.last cfg0.N) ⊢ Pipeline.ΦA spec0 c :=
  Phi_out m c _ (by rw [Fin.val_last]; have : cfg0.N = 32 := N_0; omega)
set_option backward.isDefEq.respectTransparency.types false in
/-- The whole launch leaves the named contents, and every semaphore at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- The whole launch leaves the named contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Every argument is left as it was. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- Every argument is left as it was and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelInIdeal.In

end
-- ==== Proof.InRow.lean ====
/- The first norm and the projections on one token: what both programs compute from the token's own rows, the weights and its angles, over the extended reals. -/
module

public import proofs.«01_k».proof.Proof.TailRow

@[expose] public section

noncomputable section

open Idealize.ShloMosaic

namespace Cert.InRow

open Cert.TailRow

/-- The number the second rotary heads are multiplied by. -/
abbrev rkScale : EReal := Ideal.ofBits .f32 0x3DB504F3#32

/-- The number the queries are multiplied by. -/
abbrev qScale : EReal := Ideal.ofBits .f32 0x3E0293EE#32

/-- One column of a row's product with a matrix. -/
def proj {N : ℕ} (H : Fin 1024 → EReal) (W : Fin 1024 → Fin N → EReal) (n : Fin N) : EReal := ∑ k, H k * W k n

/-- Column `d` of a head of 128 columns turned by the angles `G`: the first half of the head against the second. -/
def turn (A : Fin 128 → EReal) (G : Fin 64 → EReal) (d : Fin 128) : EReal :=
  if h : d.val < 64 then A d * Ideal.cos (G ⟨d.val, h⟩) - A ⟨d.val + 64, by omega⟩ * Ideal.sin (G ⟨d.val, h⟩)
  else A ⟨d.val - 64, by omega⟩ * Ideal.sin (G ⟨d.val - 64, by omega⟩) + A d * Ideal.cos (G ⟨d.val - 64, by omega⟩)

/-- The 128 columns of a projected row from column `o` on. -/
def head (P : Fin 8200 → EReal) (o : Fin 1024) (d : Fin 128) : EReal := P ⟨o.val + d.val, by omega⟩

/-- One column of the joined result: two groups of turned heads, two plain parts, one part times its own logistic function, two logistic parts. -/
def zcol (P : Fin 8200 → EReal) (G : Fin 64 → EReal) (n : Fin 6144) : EReal :=
  if h : n.val < 512 then turn (head P ⟨n.val / 128 * 128, by omega⟩) G ⟨n.val % 128, by omega⟩
  else if h : n.val < 1024 then turn (head P ⟨n.val / 128 * 128, by omega⟩) G ⟨n.val % 128, by omega⟩ * rkScale
  else if h : n.val < 2048 then P ⟨n.val, by omega⟩
  else if h : n.val < 3072 then P ⟨n.val, by omega⟩ * Ideal.logistic (P ⟨n.val, by omega⟩)
  else if h : n.val < 4096 then P ⟨n.val + 1024, by omega⟩
  else Ideal.logistic (P ⟨n.val + 2056, by omega⟩)

/-- The number the gates' sums are multiplied by. -/
abbrev fScale : EReal := Ideal.ofBits .f32 0x3FB8AA3B#32

/-- The logarithm of the logistic function, as both programs compute it. -/
def logF (x : EReal) : EReal := min x 0 - Ideal.log (1 + Ideal.exp (-max x (-x)))

/-- The argument of a gate: six of a head's sixteen lanes hold the head's column and its bias, the others nothing. -/
def gate (P : Fin 8200 → EReal) (B : Fin 8 → EReal) (l : Fin 128) : EReal :=
  if l.val % 16 < 6 then P ⟨6144 + l.val / 16, by omega⟩ + B ⟨l.val / 16, by omega⟩ else 0

end Cert.InRow

end
-- ==== Proof.InGate.lean ====
/- The gates' sums of one block of the first norm and projections: the body's payloads at an index. -/
module

public import proofs.«01_k».proof.Proof.InFrame
public import proofs.«01_k».proof.Proof.InRow
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.KernelInIdeal.In

open Cert.KernelInIdeal Cert.KernelInIdeal.Gen Cert.TailRow Cert.InRow

/-- The argument of the gate in lane `l` of row `r`, from a normed block, the gates' weights and their biases. -/
def bgate (XS : FVec Ideal S1x512x1024 .bf16) (W : FVec Ideal S1024x128 .bf16) (B : FVec Ideal S1x128 .f32) (r : Fin 512) (l : Fin 128) : EReal :=
  (∑ k, XS (ix3 0 r k) * W (ix2 k l)) + B (ix2 0 l)

/-- The sum of the rows a mask keeps for row `r`, from what came in. -/
def csum (XS : FVec Ideal S1x512x1024 .bf16) (W : FVec Ideal S1024x128 .bf16) (B : FVec Ideal S1x128 .f32) (T : FVec Ideal S512x512 .bf16) (C : Fin 128 → EReal)
    (r : Fin 512) (l : Fin 128) : EReal :=
  (∑ x, T (ix2 r x) * logF (bgate XS W B x l)) + C l

/-- The logarithms of the gates, at an index. -/
theorem pay8_at (XS : FVec Ideal S1x512x1024 .bf16) (W : FVec Ideal S1024x128 .bf16) (B : FVec Ideal S1x128 .f32) (r : Fin 512) (l : Fin 128) :
    k0_pay8 (F := Ideal) (k0_pay3 XS) W B (ix2 r l) = logF (bgate XS W B r l) := by
  unfold logF bgate
  pointwise [k0_pay8, k0_pay3]
  rw [zero_sub]
  rfl

/-- The logarithm of a logistic function is below the top. -/
theorem logF_ne_top (x : EReal) : logF x ≠ ⊤ := by
  unfold logF
  have h1 : min x 0 ≠ ⊤ := ne_of_lt (lt_of_le_of_lt (min_le_right _ _) EReal.zero_lt_top)
  have h2 : Ideal.log (1 + Ideal.exp (-max x (-x))) ≠ ⊥ := by
    generalize -max x (-x) = y
    induction y using EReal.rec with
    | bot =>
      rw [Ideal.exp_bot, add_zero, ← EReal.coe_one, Ideal.log_coe, if_neg (by norm_num)]
      exact EReal.coe_ne_bot _
    | top =>
      rw [Ideal.exp_top, ← EReal.coe_one, EReal.coe_add_top, Ideal.log_top]
      exact top_ne_bot
    | coe r =>
      rw [Ideal.exp_coe, ← EReal.coe_one, ← EReal.coe_add, Ideal.log_coe, if_neg (by have := Real.exp_pos r; linarith)]
      exact EReal.coe_ne_bot _
  rw [sub_eq_add_neg]
  exact (EReal.add_lt_top h1 (by simpa using h2)).ne

/-- The three parts of a number that is its own rounding, each kept or dropped, are the number kept or dropped. -/
theorem parts (T a : EReal) (hT : T = 0 ∨ T = 1) (ha : a ≠ ⊤) : T * a + T * (a - a) + T * ((a - a) - (a - a)) = T * a := by
  rcases hT with rfl | rfl
  · simp
  · simp only [one_mul]
    induction a using EReal.rec with
    | bot => rfl
    | top => exact absurd rfl ha
    | coe a => norm_cast; simp

/-- The sums of a block before what came in, at an index. -/
theorem pay27_at (XS : FVec Ideal S1x512x1024 .bf16) (W : FVec Ideal S1024x128 .bf16) (B : FVec Ideal S1x128 .f32) (T : FVec Ideal S512x512 .bf16)
    (hT : ∀ r x, T (ix2 r x) = 0 ∨ T (ix2 r x) = 1) (r : Fin 512) (l : Fin 128) :
    k0_pay27 (F := Ideal) (k0_pay9 (k0_pay3 XS) W B) (k0_pay11 (k0_pay3 XS) W B) (k0_pay12 (k0_pay3 XS) W B) T (ix2 r l)
      = ∑ x, T (ix2 r x) * logF (bgate XS W B x l) := by
  have e9 : ∀ x, k0_pay9 (F := Ideal) (k0_pay3 XS) W B (ix2 x l) = k0_pay8 (F := Ideal) (k0_pay3 XS) W B (ix2 x l) := fun x => rfl
  have e11 : ∀ x, k0_pay11 (F := Ideal) (k0_pay3 XS) W B (ix2 x l) = k0_pay8 (F := Ideal) (k0_pay3 XS) W B (ix2 x l) - k0_pay8 (F := Ideal) (k0_pay3 XS) W B (ix2 x l) := fun x => rfl
  have e12 : ∀ x, k0_pay12 (F := Ideal) (k0_pay3 XS) W B (ix2 x l) = (k0_pay8 (F := Ideal) (k0_pay3 XS) W B (ix2 x l) - k0_pay8 (F := Ideal) (k0_pay3 XS) W B (ix2 x l))
      - (k0_pay8 (F := Ideal) (k0_pay3 XS) W B (ix2 x l) - k0_pay8 (F := Ideal) (k0_pay3 XS) W B (ix2 x l)) := fun x => rfl
  pointwise [k0_pay27]
  simp only [e9, e11, e12, pay8_at]
  rw [← Finset.sum_add_distrib, ← Finset.sum_add_distrib]
  exact Finset.sum_congr rfl fun x _ => parts _ _ (hT r x) (logF_ne_top _)

/-- Whether a point is the first of its batch row, as the body computes it from the grid coordinate `g`. -/
abbrev isFirst (g : BitVec 32) : BitVec 1 :=
  Scalar.cmpi .eq (Scalar.select (Scalar.andi (Scalar.xori (Scalar.cmpi .slt (Scalar.remsi g 16#32) 0#32) (Scalar.cmpi .slt 16#32 0#32))
    (Scalar.cmpi .ne (Scalar.remsi g 16#32) 0#32)) (Scalar.addi (Scalar.remsi g 16#32) 16#32) (Scalar.remsi g 16#32)) 0#32

/-- The points that are the first of their batch rows, decided. -/
theorem isFirst_eq : ∀ t : Fin cfg0.N, isFirst (BitVec.ofNat 32 (grid0.coords t 0).val) = BitVec.ofBool (decide (t.val % 16 = 0)) :=
  (by decide +kernel : ∀ t : Fin grid0.N, _)

/-- The sums of a block, at an index. -/
theorem pay28_at (XS : FVec Ideal S1x512x1024 .bf16) (W : FVec Ideal S1024x128 .bf16) (B : FVec Ideal S1x128 .f32) (T : FVec Ideal S512x512 .bf16)
    (hT : ∀ r x, T (ix2 r x) = 0 ∨ T (ix2 r x) = 1) (X : FVec Ideal S1x128 .f32) (t : Fin cfg0.N) (b : BitVec 32)
    (hb : b = Scalar.remsi (BitVec.ofNat 32 (grid0.coords t 0).val) 16#32) (r : Fin 512) (l : Fin 128) :
    k0_pay28 (F := Ideal) (k0_pay27 (k0_pay9 (k0_pay3 XS) W B) (k0_pay11 (k0_pay3 XS) W B) (k0_pay12 (k0_pay3 XS) W B) T) 16#32 b 0#32 X (ix2 r l)
      = csum XS W B T (fun l => if t.val % 16 = 0 then 0 else X (ix2 0 l)) r l := by
  unfold csum
  subst hb
  pointwise [k0_pay28]
  rw [pay27_at XS W B T hT]
  refine congrArg (_ + ·) ?_
  show Scalar.select (isFirst (BitVec.ofNat 32 (grid0.coords t 0).val)) _ _ = _
  rw [isFirst_eq, WordCmp.select_decide]

/-- The block of sums stored, at an index. -/
theorem pay33_at (v : FVec Ideal S512x128 .f32) (a b z) (X : FVec Ideal S1x128 .f32) (y : S1x1x128x512.Idx) :
    k0_pay33 (F := Ideal) v a b z X y = k0_pay28 (F := Ideal) v a b z X (ix2 (y 3) (y 2)) * fScale := by
  pointwise [k0_pay33, k0_pay32]

/-- The carry stored, at an index. -/
theorem pay29_at (v : FVec Ideal S512x128 .f32) (a b z) (X : FVec Ideal S1x128 .f32) (l : Fin 128) :
    k0_pay29 (F := Ideal) v a b z X (ix2 0 l) = k0_pay28 (F := Ideal) v a b z X (ix2 511 l) := by
  pointwise [k0_pay29]

end Cert.KernelInIdeal.In

end
-- ==== Proof.InPay.lean ====
/- One block of the first norm and projections: the body's payloads at an index, and the blocks and the scratch a point leaves. -/
module

public import proofs.«01_k».proof.Proof.InFrame
public import proofs.«01_k».proof.Proof.InRow
public import proofs.«01_k».proof.Proof.InGate
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelInIdeal.In

open Cert.KernelInIdeal Cert.KernelInIdeal.Gen Cert.TailRow Cert.InRow

variable (m : (ℓ : Loc nD τ sig) → Buf (Elt Ideal) ℓ)

/-- Column `n` of row `r` of a normed block, projected by a weight block. -/
def bproj (XS : FVec Ideal S1x512x1024 .bf16) (W : FVec Ideal S1024x8192 .bf16) (r : Fin 512) (n : Fin 8192) : EReal :=
  proj (fun k => XS (ix3 0 r k)) (fun k j => W (ix2 k j)) n

/-- A rotary column from a projected row: the column by the first table, and the column half a head away by the second. -/
def spin (P : Fin 8192 → EReal) (C S : Fin 128 → EReal) (n : Fin 1024) : EReal :=
  P ⟨n.val, by omega⟩ * C ⟨n.val % 128, by omega⟩ + P ⟨n.val / 128 * 128 + (n.val % 128 + 64) % 128, by omega⟩ * S ⟨n.val % 128, by omega⟩

/-- One column of the joined result, from a projected row and the two tables' rows. -/
def zrow (P : Fin 8192 → EReal) (C S : Fin 128 → EReal) (n : Fin 6144) : EReal :=
  if h : n.val < 512 then spin P C S ⟨n.val, by omega⟩
  else if h : n.val < 1024 then spin P C S ⟨n.val, by omega⟩ * rkScale
  else if h : n.val < 2048 then P ⟨n.val, by omega⟩
  else if h : n.val < 3072 then P ⟨n.val, by omega⟩ * Ideal.logistic (P ⟨n.val, by omega⟩)
  else if h : n.val < 4096 then P ⟨n.val + 1024, by omega⟩
  else Ideal.logistic (P ⟨n.val + 2048, by omega⟩)

/-- The joined block. -/
def zblk (XS : FVec Ideal S1x512x1024 .bf16) (C S : FVec Ideal S512x128 .f32) (W : FVec Ideal S1024x8192 .bf16) : S512x6144.Idx → EReal := fun y =>
  zrow (bproj XS W (y 0)) (fun d => C (ix2 (y 0) d)) (fun d => S (ix2 (y 0) d)) (y 1)

/-- The block of scaled queries, a column for each token. -/
def qblk (XS : FVec Ideal S1x512x1024 .bf16) (W : FVec Ideal S1024x8192 .bf16) : S1x1x1024x512.Idx → EReal := fun y =>
  bproj XS W (y 3) ⟨3072 + (y 2).val, by have h : (y 2).val < 1024 := (y 2).isLt; omega⟩ * qScale

/-- The block of values, a column for each token. -/
def vblk (XS : FVec Ideal S1x512x1024 .bf16) (W : FVec Ideal S1024x8192 .bf16) : S1x1024x512.Idx → EReal := fun y =>
  bproj XS W (y 2) ⟨5120 + (y 1).val, by have h : (y 1).val < 1024 := (y 1).isLt; omega⟩

/-- A rotary column, with its places named. -/
theorem spin_of (P : Fin 8192 → EReal) (C S : Fin 128 → EReal) (n : Fin 1024) (a b : Fin 8192) (d : Fin 128) (ea : a.val = n.val)
    (eb : b.val = n.val / 128 * 128 + (n.val % 128 + 64) % 128) (ed : d.val = n.val % 128) : P a * C d + P b * S d = spin P C S n := by
  obtain ⟨a, ha⟩ := a
  obtain ⟨b, hb⟩ := b
  obtain ⟨d, hd⟩ := d
  subst ea eb ed
  rfl

/-- The joined columns from the first rotary group. -/
theorem zrow_rq (P C S) (n : Fin 6144) (k : Fin 1024) (e : n.val = k.val) (h : k.val < 512) : zrow P C S n = spin P C S k := by
  obtain ⟨n, hn⟩ := n
  subst e
  unfold zrow; rw [dif_pos h]

/-- The joined columns from the second rotary group. -/
theorem zrow_rk (P C S) (n : Fin 6144) (k : Fin 1024) (e : n.val = k.val) (h : 512 ≤ k.val) : zrow P C S n = spin P C S k * rkScale := by
  obtain ⟨n, hn⟩ := n
  subst e
  unfold zrow; rw [dif_neg (show ¬ k.val < 512 by omega), dif_pos k.isLt]

/-- The joined columns of the first plain part. -/
theorem zrow_rv (P C S) (n : Fin 6144) (j : Fin 8192) (e : j.val = n.val) (h : 1024 ≤ n.val) (g : n.val < 2048) : zrow P C S n = P j := by
  obtain ⟨j, hj⟩ := j
  subst e
  unfold zrow; rw [dif_neg (by omega), dif_neg (by omega), dif_pos g]

/-- The joined columns of the part times its logistic function. -/
theorem zrow_rg (P C S) (n : Fin 6144) (j : Fin 8192) (e : j.val = n.val) (h : 2048 ≤ n.val) (g : n.val < 3072) :
    zrow P C S n = P j * Ideal.logistic (P j) := by
  obtain ⟨j, hj⟩ := j
  subst e
  unfold zrow; rw [dif_neg (by omega), dif_neg (by omega), dif_neg (by omega), dif_pos g]

/-- The joined columns of the second plain part. -/
theorem zrow_fk (P C S) (n : Fin 6144) (j : Fin 8192) (e : j.val = n.val + 1024) (h : 3072 ≤ n.val) (g : n.val < 4096) : zrow P C S n = P j := by
  obtain ⟨j, hj⟩ := j
  subst e
  unfold zrow; rw [dif_neg (by omega), dif_neg (by omega), dif_neg (by omega), dif_neg (by omega), dif_pos g]

/-- The joined columns of the two logistic parts. -/
theorem zrow_g (P C S) (n : Fin 6144) (j : Fin 8192) (e : j.val = n.val + 2048) (h : 4096 ≤ n.val) : zrow P C S n = Ideal.logistic (P j) := by
  obtain ⟨j, hj⟩ := j
  subst e
  unfold zrow; rw [dif_neg (by omega), dif_neg (by omega), dif_neg (by omega), dif_neg (by omega), dif_neg (by omega)]

/-- The tile of the joined block from column 5632 on, at an index. -/
theorem t5632 (XS : FVec Ideal S1x512x1024 .bf16) (C S : FVec Ideal S512x128 .f32) (W : FVec Ideal S1024x8192 .bf16) (r : Fin 512) (n : Fin 512) :
    k0_pay50 (F := Ideal) (k0_pay49 (k0_pay3 XS) (View.ld (Val := Elt Ideal) (e' := .bf16) W (Rect.unit ![0, 7680] ![1024, 512] inb_S1024x8192_S1024x512_0_7680))) (FloatOps.ofBits FTy.f32 1056964608#32) (ix2 r n)
    = Ideal.logistic (bproj XS W r ⟨7680 + n.val, by omega⟩) := by
  unfold bproj proj
  pointwise [k0_pay50, k0_pay49, k0_pay3]
  rw [tanh_half]

/-- The tile of the joined block from column 5632 on, at its place. -/
theorem z5632 (XS : FVec Ideal S1x512x1024 .bf16) (C S : FVec Ideal S512x128 .f32) (W : FVec Ideal S1024x8192 .bf16) (x : S512x512.Idx) (y : S512x6144.Idx)
    (h0 : (y 0).val = (x 0).val) (h1 : (y 1).val = 5632 + (x 1).val) :
    k0_pay50 (F := Ideal) (k0_pay49 (k0_pay3 XS) (View.ld (Val := Elt Ideal) (e' := .bf16) W (Rect.unit ![0, 7680] ![1024, 512] inb_S1024x8192_S1024x512_0_7680))) (FloatOps.ofBits FTy.f32 1056964608#32) x = zblk XS C S W y := by
  have hx : (x 1).val < 512 := (x 1).isLt
  have e : x = ix2 (x 0) (x 1) := by funext a; fin_cases a <;> rfl
  have f0 : x 0 = y 0 := Fin.ext h0.symm
  refine ((congrArg _ e).trans (t5632 XS C S W (x 0) (x 1))).trans ?_
  rw [f0]
  exact (zrow_g _ _ _ (y 1) (⟨7680 + (x 1).val, by omega⟩ : Fin 8192) (by show 7680 + (x 1).val = (y 1).val + 2048; omega) (by omega)).symm

/-- The tile of the joined block from column 5120 on, at an index. -/
theorem t5120 (XS : FVec Ideal S1x512x1024 .bf16) (C S : FVec Ideal S512x128 .f32) (W : FVec Ideal S1024x8192 .bf16) (r : Fin 512) (n : Fin 512) :
    k0_pay48 (F := Ideal) (k0_pay3 XS) (View.ld (Val := Elt Ideal) (e' := .bf16) W (Rect.unit ![0, 7168] ![1024, 512] inb_S1024x8192_S1024x512_0_7168)) (ix2 r n)
    = Ideal.logistic (bproj XS W r ⟨7168 + n.val, by omega⟩) := by
  unfold bproj proj
  pointwise [k0_pay48, k0_pay3]
  rw [tanh_half]

/-- The tile of the joined block from column 5120 on, at its place. -/
theorem z5120 (XS : FVec Ideal S1x512x1024 .bf16) (C S : FVec Ideal S512x128 .f32) (W : FVec Ideal S1024x8192 .bf16) (x : S512x512.Idx) (y : S512x6144.Idx)
    (h0 : (y 0).val = (x 0).val) (h1 : (y 1).val = 5120 + (x 1).val) :
    k0_pay48 (F := Ideal) (k0_pay3 XS) (View.ld (Val := Elt Ideal) (e' := .bf16) W (Rect.unit ![0, 7168] ![1024, 512] inb_S1024x8192_S1024x512_0_7168)) x = zblk XS C S W y := by
  have hx : (x 1).val < 512 := (x 1).isLt
  have e : x = ix2 (x 0) (x 1) := by funext a; fin_cases a <;> rfl
  have f0 : x 0 = y 0 := Fin.ext h0.symm
  refine ((congrArg _ e).trans (t5120 XS C S W (x 0) (x 1))).trans ?_
  rw [f0]
  exact (zrow_g _ _ _ (y 1) (⟨7168 + (x 1).val, by omega⟩ : Fin 8192) (by show 7168 + (x 1).val = (y 1).val + 2048; omega) (by omega)).symm

/-- The tile of the joined block from column 4608 on, at an index. -/
theorem t4608 (XS : FVec Ideal S1x512x1024 .bf16) (C S : FVec Ideal S512x128 .f32) (W : FVec Ideal S1024x8192 .bf16) (r : Fin 512) (n : Fin 512) :
    k0_pay47 (F := Ideal) (k0_pay3 XS) (View.ld (Val := Elt Ideal) (e' := .bf16) W (Rect.unit ![0, 6656] ![1024, 512] inb_S1024x8192_S1024x512_0_6656)) (ix2 r n)
    = Ideal.logistic (bproj XS W r ⟨6656 + n.val, by omega⟩) := by
  unfold bproj proj
  pointwise [k0_pay47, k0_pay3]
  rw [tanh_half]

/-- The tile of the joined block from column 4608 on, at its place. -/
theorem z4608 (XS : FVec Ideal S1x512x1024 .bf16) (C S : FVec Ideal S512x128 .f32) (W : FVec Ideal S1024x8192 .bf16) (x : S512x512.Idx) (y : S512x6144.Idx)
    (h0 : (y 0).val = (x 0).val) (h1 : (y 1).val = 4608 + (x 1).val) :
    k0_pay47 (F := Ideal) (k0_pay3 XS) (View.ld (Val := Elt Ideal) (e' := .bf16) W (Rect.unit ![0, 6656] ![1024, 512] inb_S1024x8192_S1024x512_0_6656)) x = zblk XS C S W y := by
  have hx : (x 1).val < 512 := (x 1).isLt
  have e : x = ix2 (x 0) (x 1) := by funext a; fin_cases a <;> rfl
  have f0 : x 0 = y 0 := Fin.ext h0.symm
  refine ((congrArg _ e).trans (t4608 XS C S W (x 0) (x 1))).trans ?_
  rw [f0]
  exact (zrow_g _ _ _ (y 1) (⟨6656 + (x 1).val, by omega⟩ : Fin 8192) (by show 6656 + (x 1).val = (y 1).val + 2048; omega) (by omega)).symm

/-- The tile of the joined block from column 4096 on, at an index. -/
theorem t4096 (XS : FVec Ideal S1x512x1024 .bf16) (C S : FVec Ideal S512x128 .f32) (W : FVec Ideal S1024x8192 .bf16) (r : Fin 512) (n : Fin 512) :
    k0_pay46 (F := Ideal) (k0_pay45 (k0_pay3 XS) (View.ld (Val := Elt Ideal) (e' := .bf16) W (Rect.unit ![0, 6144] ![1024, 512] inb_S1024x8192_S1024x512_0_6144))) (FloatOps.ofBits FTy.f32 1056964608#32) (ix2 r n)
    = Ideal.logistic (bproj XS W r ⟨6144 + n.val, by omega⟩) := by
  unfold bproj proj
  pointwise [k0_pay46, k0_pay45, k0_pay3]
  rw [tanh_half]

/-- The tile of the joined block from column 4096 on, at its place. -/
theorem z4096 (XS : FVec Ideal S1x512x1024 .bf16) (C S : FVec Ideal S512x128 .f32) (W : FVec Ideal S1024x8192 .bf16) (x : S512x512.Idx) (y : S512x6144.Idx)
    (h0 : (y 0).val = (x 0).val) (h1 : (y 1).val = 4096 + (x 1).val) :
    k0_pay46 (F := Ideal) (k0_pay45 (k0_pay3 XS) (View.ld (Val := Elt Ideal) (e' := .bf16) W (Rect.unit ![0, 6144] ![1024, 512] inb_S1024x8192_S1024x512_0_6144))) (FloatOps.ofBits FTy.f32 1056964608#32) x = zblk XS C S W y := by
  have hx : (x 1).val < 512 := (x 1).isLt
  have e : x = ix2 (x 0) (x 1) := by funext a; fin_cases a <;> rfl
  have f0 : x 0 = y 0 := Fin.ext h0.symm
  refine ((congrArg _ e).trans (t4096 XS C S W (x 0) (x 1))).trans ?_
  rw [f0]
  exact (zrow_g _ _ _ (y 1) (⟨6144 + (x 1).val, by omega⟩ : Fin 8192) (by show 6144 + (x 1).val = (y 1).val + 2048; omega) (by omega)).symm

/-- The tile of the joined block from column 2560 on, at an index. -/
theorem t2560 (XS : FVec Ideal S1x512x1024 .bf16) (C S : FVec Ideal S512x128 .f32) (W : FVec Ideal S1024x8192 .bf16) (r : Fin 512) (n : Fin 512) :
    k0_pay42 (F := Ideal) (k0_pay41 (k0_pay3 XS) (View.ld (Val := Elt Ideal) (e' := .bf16) W (Rect.unit ![0, 2560] ![1024, 512] inb_S1024x8192_S1024x512_0_2560))) (ix2 r n)
    = bproj XS W r ⟨2560 + n.val, by omega⟩ * Ideal.logistic (bproj XS W r ⟨2560 + n.val, by omega⟩) := by
  unfold bproj proj
  pointwise [k0_pay42, k0_pay41, k0_pay3]
  rw [tanh_half]

/-- The tile of the joined block from column 2560 on, at its place. -/
theorem z2560 (XS : FVec Ideal S1x512x1024 .bf16) (C S : FVec Ideal S512x128 .f32) (W : FVec Ideal S1024x8192 .bf16) (x : S512x512.Idx) (y : S512x6144.Idx)
    (h0 : (y 0).val = (x 0).val) (h1 : (y 1).val = 2560 + (x 1).val) :
    k0_pay42 (F := Ideal) (k0_pay41 (k0_pay3 XS) (View.ld (Val := Elt Ideal) (e' := .bf16) W (Rect.unit ![0, 2560] ![1024, 512] inb_S1024x8192_S1024x512_0_2560))) x = zblk XS C S W y := by
  have hx : (x 1).val < 512 := (x 1).isLt
  have e : x = ix2 (x 0) (x 1) := by funext a; fin_cases a <;> rfl
  have f0 : x 0 = y 0 := Fin.ext h0.symm
  refine ((congrArg _ e).trans (t2560 XS C S W (x 0) (x 1))).trans ?_
  rw [f0]
  exact (zrow_rg _ _ _ (y 1) (⟨2560 + (x 1).val, by omega⟩ : Fin 8192) (by show 2560 + (x 1).val = (y 1).val; omega) (by omega) (by omega)).symm

/-- The tile of the joined block from column 2048 on, at an index. -/
theorem t2048 (XS : FVec Ideal S1x512x1024 .bf16) (C S : FVec Ideal S512x128 .f32) (W : FVec Ideal S1024x8192 .bf16) (r : Fin 512) (n : Fin 512) :
    k0_pay40 (F := Ideal) (k0_pay3 XS) (View.ld (Val := Elt Ideal) (e' := .bf16) W (Rect.unit ![0, 2048] ![1024, 512] inb_S1024x8192_S1024x512_0_2048)) (ix2 r n)
    = bproj XS W r ⟨2048 + n.val, by omega⟩ * Ideal.logistic (bproj XS W r ⟨2048 + n.val, by omega⟩) := by
  unfold bproj proj
  pointwise [k0_pay40, k0_pay3]
  rw [tanh_half]

/-- The tile of the joined block from column 2048 on, at its place. -/
theorem z2048 (XS : FVec Ideal S1x512x1024 .bf16) (C S : FVec Ideal S512x128 .f32) (W : FVec Ideal S1024x8192 .bf16) (x : S512x512.Idx) (y : S512x6144.Idx)
    (h0 : (y 0).val = (x 0).val) (h1 : (y 1).val = 2048 + (x 1).val) :
    k0_pay40 (F := Ideal) (k0_pay3 XS) (View.ld (Val := Elt Ideal) (e' := .bf16) W (Rect.unit ![0, 2048] ![1024, 512] inb_S1024x8192_S1024x512_0_2048)) x = zblk XS C S W y := by
  have hx : (x 1).val < 512 := (x 1).isLt
  have e : x = ix2 (x 0) (x 1) := by funext a; fin_cases a <;> rfl
  have f0 : x 0 = y 0 := Fin.ext h0.symm
  refine ((congrArg _ e).trans (t2048 XS C S W (x 0) (x 1))).trans ?_
  rw [f0]
  exact (zrow_rg _ _ _ (y 1) (⟨2048 + (x 1).val, by omega⟩ : Fin 8192) (by show 2048 + (x 1).val = (y 1).val; omega) (by omega) (by omega)).symm

/-- The tile of the joined block from column 3584 on, at an index. -/
theorem t3584 (XS : FVec Ideal S1x512x1024 .bf16) (C S : FVec Ideal S512x128 .f32) (W : FVec Ideal S1024x8192 .bf16) (r : Fin 512) (n : Fin 512) :
    k0_pay39 (F := Ideal) (k0_pay3 XS) (View.ld (Val := Elt Ideal) (e' := .bf16) W (Rect.unit ![0, 4608] ![1024, 512] inb_S1024x8192_S1024x512_0_4608)) (ix2 r n)
    = bproj XS W r ⟨4608 + n.val, by omega⟩ := by
  unfold bproj proj
  pointwise [k0_pay39, k0_pay3]

/-- The tile of the joined block from column 3584 on, at its place. -/
theorem z3584 (XS : FVec Ideal S1x512x1024 .bf16) (C S : FVec Ideal S512x128 .f32) (W : FVec Ideal S1024x8192 .bf16) (x : S512x512.Idx) (y : S512x6144.Idx)
    (h0 : (y 0).val = (x 0).val) (h1 : (y 1).val = 3584 + (x 1).val) :
    k0_pay39 (F := Ideal) (k0_pay3 XS) (View.ld (Val := Elt Ideal) (e' := .bf16) W (Rect.unit ![0, 4608] ![1024, 512] inb_S1024x8192_S1024x512_0_4608)) x = zblk XS C S W y := by
  have hx : (x 1).val < 512 := (x 1).isLt
  have e : x = ix2 (x 0) (x 1) := by funext a; fin_cases a <;> rfl
  have f0 : x 0 = y 0 := Fin.ext h0.symm
  refine ((congrArg _ e).trans (t3584 XS C S W (x 0) (x 1))).trans ?_
  rw [f0]
  exact (zrow_fk _ _ _ (y 1) (⟨4608 + (x 1).val, by omega⟩ : Fin 8192) (by show 4608 + (x 1).val = (y 1).val + 1024; omega) (by omega) (by omega)).symm

/-- The tile of the joined block from column 3072 on, at an index. -/
theorem t3072 (XS : FVec Ideal S1x512x1024 .bf16) (C S : FVec Ideal S512x128 .f32) (W : FVec Ideal S1024x8192 .bf16) (r : Fin 512) (n : Fin 512) :
    k0_pay38 (F := Ideal) (k0_pay3 XS) (View.ld (Val := Elt Ideal) (e' := .bf16) W (Rect.unit ![0, 4096] ![1024, 512] inb_S1024x8192_S1024x512_0_4096)) (ix2 r n)
    = bproj XS W r ⟨4096 + n.val, by omega⟩ := by
  unfold bproj proj
  pointwise [k0_pay38, k0_pay3]

/-- The tile of the joined block from column 3072 on, at its place. -/
theorem z3072 (XS : FVec Ideal S1x512x1024 .bf16) (C S : FVec Ideal S512x128 .f32) (W : FVec Ideal S1024x8192 .bf16) (x : S512x512.Idx) (y : S512x6144.Idx)
    (h0 : (y 0).val = (x 0).val) (h1 : (y 1).val = 3072 + (x 1).val) :
    k0_pay38 (F := Ideal) (k0_pay3 XS) (View.ld (Val := Elt Ideal) (e' := .bf16) W (Rect.unit ![0, 4096] ![1024, 512] inb_S1024x8192_S1024x512_0_4096)) x = zblk XS C S W y := by
  have hx : (x 1).val < 512 := (x 1).isLt
  have e : x = ix2 (x 0) (x 1) := by funext a; fin_cases a <;> rfl
  have f0 : x 0 = y 0 := Fin.ext h0.symm
  refine ((congrArg _ e).trans (t3072 XS C S W (x 0) (x 1))).trans ?_
  rw [f0]
  exact (zrow_fk _ _ _ (y 1) (⟨4096 + (x 1).val, by omega⟩ : Fin 8192) (by show 4096 + (x 1).val = (y 1).val + 1024; omega) (by omega) (by omega)).symm

/-- The tile of the joined block from column 1536 on, at an index. -/
theorem t1536 (XS : FVec Ideal S1x512x1024 .bf16) (C S : FVec Ideal S512x128 .f32) (W : FVec Ideal S1024x8192 .bf16) (r : Fin 512) (n : Fin 512) :
    k0_pay31 (F := Ideal) (k0_pay3 XS) (View.ld (Val := Elt Ideal) (e' := .bf16) W (Rect.unit ![0, 1536] ![1024, 512] inb_S1024x8192_S1024x512_0_1536)) (ix2 r n)
    = bproj XS W r ⟨1536 + n.val, by omega⟩ := by
  unfold bproj proj
  pointwise [k0_pay31, k0_pay3]

/-- The tile of the joined block from column 1536 on, at its place. -/
theorem z1536 (XS : FVec Ideal S1x512x1024 .bf16) (C S : FVec Ideal S512x128 .f32) (W : FVec Ideal S1024x8192 .bf16) (x : S512x512.Idx) (y : S512x6144.Idx)
    (h0 : (y 0).val = (x 0).val) (h1 : (y 1).val = 1536 + (x 1).val) :
    k0_pay31 (F := Ideal) (k0_pay3 XS) (View.ld (Val := Elt Ideal) (e' := .bf16) W (Rect.unit ![0, 1536] ![1024, 512] inb_S1024x8192_S1024x512_0_1536)) x = zblk XS C S W y := by
  have hx : (x 1).val < 512 := (x 1).isLt
  have e : x = ix2 (x 0) (x 1) := by funext a; fin_cases a <;> rfl
  have f0 : x 0 = y 0 := Fin.ext h0.symm
  refine ((congrArg _ e).trans (t1536 XS C S W (x 0) (x 1))).trans ?_
  rw [f0]
  exact (zrow_rv _ _ _ (y 1) (⟨1536 + (x 1).val, by omega⟩ : Fin 8192) (by show 1536 + (x 1).val = (y 1).val; omega) (by omega) (by omega)).symm

/-- The tile of the joined block from column 1024 on, at an index. -/
theorem t1024 (XS : FVec Ideal S1x512x1024 .bf16) (C S : FVec Ideal S512x128 .f32) (W : FVec Ideal S1024x8192 .bf16) (r : Fin 512) (n : Fin 512) :
    k0_pay30 (F := Ideal) (k0_pay3 XS) (View.ld (Val := Elt Ideal) (e' := .bf16) W (Rect.unit ![0, 1024] ![1024, 512] inb_S1024x8192_S1024x512_0_1024)) (ix2 r n)
    = bproj XS W r ⟨1024 + n.val, by omega⟩ := by
  unfold bproj proj
  pointwise [k0_pay30, k0_pay3]

/-- The tile of the joined block from column 1024 on, at its place. -/
theorem z1024 (XS : FVec Ideal S1x512x1024 .bf16) (C S : FVec Ideal S512x128 .f32) (W : FVec Ideal S1024x8192 .bf16) (x : S512x512.Idx) (y : S512x6144.Idx)
    (h0 : (y 0).val = (x 0).val) (h1 : (y 1).val = 1024 + (x 1).val) :
    k0_pay30 (F := Ideal) (k0_pay3 XS) (View.ld (Val := Elt Ideal) (e' := .bf16) W (Rect.unit ![0, 1024] ![1024, 512] inb_S1024x8192_S1024x512_0_1024)) x = zblk XS C S W y := by
  have hx : (x 1).val < 512 := (x 1).isLt
  have e : x = ix2 (x 0) (x 1) := by funext a; fin_cases a <;> rfl
  have f0 : x 0 = y 0 := Fin.ext h0.symm
  refine ((congrArg _ e).trans (t1024 XS C S W (x 0) (x 1))).trans ?_
  rw [f0]
  exact (zrow_rv _ _ _ (y 1) (⟨1024 + (x 1).val, by omega⟩ : Fin 8192) (by show 1024 + (x 1).val = (y 1).val; omega) (by omega) (by omega)).symm

/-- The tile of the joined block from column 896 on, at an index. -/
theorem t896 (XS : FVec Ideal S1x512x1024 .bf16) (C S : FVec Ideal S512x128 .f32) (W : FVec Ideal S1024x8192 .bf16) (r : Fin 512) (n : Fin 128) :
    k0_pay26 (F := Ideal) (k0_pay4 C) (k0_pay5 S) (k0_pay21 (k0_pay3 XS) (View.ld (Val := Elt Ideal) (e' := .bf16) W (Rect.unit ![0, 512] ![1024, 512] inb_S1024x8192_S1024x512_0_512))) (ix2 r n)
    = spin (bproj XS W r) (fun d => C (ix2 r d)) (fun d => S (ix2 r d)) ⟨896 + n.val, by omega⟩ * rkScale := by
  refine Eq.trans ?_ (congrArg (· * rkScale) (spin_of (bproj XS W r) (fun d => C (ix2 r d)) (fun d => S (ix2 r d)) (⟨896 + n.val, by omega⟩ : Fin 1024) ⟨512 + (384 + n.val), by omega⟩ ⟨512 + (384 + (n.val + 128 - 64) % 128), by omega⟩ n (by show 512 + (384 + n.val) = 896 + n.val; omega) (by show 512 + (384 + (n.val + 128 - 64) % 128) = (896 + n.val) / 128 * 128 + ((896 + n.val) % 128 + 64) % 128; omega) (by show n.val = (896 + n.val) % 128; omega)))
  unfold bproj proj
  pointwise [k0_pay26, k0_pay4, k0_pay5, k0_pay21, k0_pay3]

/-- The tile of the joined block from column 896 on, at its place. -/
theorem z896 (XS : FVec Ideal S1x512x1024 .bf16) (C S : FVec Ideal S512x128 .f32) (W : FVec Ideal S1024x8192 .bf16) (x : S512x128.Idx) (y : S512x6144.Idx)
    (h0 : (y 0).val = (x 0).val) (h1 : (y 1).val = 896 + (x 1).val) :
    k0_pay26 (F := Ideal) (k0_pay4 C) (k0_pay5 S) (k0_pay21 (k0_pay3 XS) (View.ld (Val := Elt Ideal) (e' := .bf16) W (Rect.unit ![0, 512] ![1024, 512] inb_S1024x8192_S1024x512_0_512))) x = zblk XS C S W y := by
  have hx : (x 1).val < 128 := (x 1).isLt
  have e : x = ix2 (x 0) (x 1) := by funext a; fin_cases a <;> rfl
  have f0 : x 0 = y 0 := Fin.ext h0.symm
  refine ((congrArg _ e).trans (t896 XS C S W (x 0) (x 1))).trans ?_
  rw [f0]
  exact (zrow_rk _ _ _ (y 1) (⟨896 + (x 1).val, by omega⟩ : Fin 1024) h1 (by show 512 ≤ 896 + (x 1).val; omega)).symm

/-- The tile of the joined block from column 768 on, at an index. -/
theorem t768 (XS : FVec Ideal S1x512x1024 .bf16) (C S : FVec Ideal S512x128 .f32) (W : FVec Ideal S1024x8192 .bf16) (r : Fin 512) (n : Fin 128) :
    k0_pay25 (F := Ideal) (k0_pay4 C) (k0_pay5 S) (k0_pay21 (k0_pay3 XS) (View.ld (Val := Elt Ideal) (e' := .bf16) W (Rect.unit ![0, 512] ![1024, 512] inb_S1024x8192_S1024x512_0_512))) (ix2 r n)
    = spin (bproj XS W r) (fun d => C (ix2 r d)) (fun d => S (ix2 r d)) ⟨768 + n.val, by omega⟩ * rkScale := by
  refine Eq.trans ?_ (congrArg (· * rkScale) (spin_of (bproj XS W r) (fun d => C (ix2 r d)) (fun d => S (ix2 r d)) (⟨768 + n.val, by omega⟩ : Fin 1024) ⟨512 + (256 + n.val), by omega⟩ ⟨512 + (256 + (n.val + 128 - 64) % 128), by omega⟩ n (by show 512 + (256 + n.val) = 768 + n.val; omega) (by show 512 + (256 + (n.val + 128 - 64) % 128) = (768 + n.val) / 128 * 128 + ((768 + n.val) % 128 + 64) % 128; omega) (by show n.val = (768 + n.val) % 128; omega)))
  unfold bproj proj
  pointwise [k0_pay25, k0_pay4, k0_pay5, k0_pay21, k0_pay3]

/-- The tile of the joined block from column 768 on, at its place. -/
theorem z768 (XS : FVec Ideal S1x512x1024 .bf16) (C S : FVec Ideal S512x128 .f32) (W : FVec Ideal S1024x8192 .bf16) (x : S512x128.Idx) (y : S512x6144.Idx)
    (h0 : (y 0).val = (x 0).val) (h1 : (y 1).val = 768 + (x 1).val) :
    k0_pay25 (F := Ideal) (k0_pay4 C) (k0_pay5 S) (k0_pay21 (k0_pay3 XS) (View.ld (Val := Elt Ideal) (e' := .bf16) W (Rect.unit ![0, 512] ![1024, 512] inb_S1024x8192_S1024x512_0_512))) x = zblk XS C S W y := by
  have hx : (x 1).val < 128 := (x 1).isLt
  have e : x = ix2 (x 0) (x 1) := by funext a; fin_cases a <;> rfl
  have f0 : x 0 = y 0 := Fin.ext h0.symm
  refine ((congrArg _ e).trans (t768 XS C S W (x 0) (x 1))).trans ?_
  rw [f0]
  exact (zrow_rk _ _ _ (y 1) (⟨768 + (x 1).val, by omega⟩ : Fin 1024) h1 (by show 512 ≤ 768 + (x 1).val; omega)).symm

/-- The tile of the joined block from column 640 on, at an index. -/
theorem t640 (XS : FVec Ideal S1x512x1024 .bf16) (C S : FVec Ideal S512x128 .f32) (W : FVec Ideal S1024x8192 .bf16) (r : Fin 512) (n : Fin 128) :
    k0_pay24 (F := Ideal) (k0_pay4 C) (k0_pay5 S) (k0_pay23 (k0_pay3 XS) (View.ld (Val := Elt Ideal) (e' := .bf16) W (Rect.unit ![0, 512] ![1024, 512] inb_S1024x8192_S1024x512_0_512))) (ix2 r n)
    = spin (bproj XS W r) (fun d => C (ix2 r d)) (fun d => S (ix2 r d)) ⟨640 + n.val, by omega⟩ * rkScale := by
  refine Eq.trans ?_ (congrArg (· * rkScale) (spin_of (bproj XS W r) (fun d => C (ix2 r d)) (fun d => S (ix2 r d)) (⟨640 + n.val, by omega⟩ : Fin 1024) ⟨512 + (128 + n.val), by omega⟩ ⟨512 + (128 + (n.val + 128 - 64) % 128), by omega⟩ n (by show 512 + (128 + n.val) = 640 + n.val; omega) (by show 512 + (128 + (n.val + 128 - 64) % 128) = (640 + n.val) / 128 * 128 + ((640 + n.val) % 128 + 64) % 128; omega) (by show n.val = (640 + n.val) % 128; omega)))
  unfold bproj proj
  pointwise [k0_pay24, k0_pay4, k0_pay5, k0_pay23, k0_pay21, k0_pay3]

/-- The tile of the joined block from column 640 on, at its place. -/
theorem z640 (XS : FVec Ideal S1x512x1024 .bf16) (C S : FVec Ideal S512x128 .f32) (W : FVec Ideal S1024x8192 .bf16) (x : S512x128.Idx) (y : S512x6144.Idx)
    (h0 : (y 0).val = (x 0).val) (h1 : (y 1).val = 640 + (x 1).val) :
    k0_pay24 (F := Ideal) (k0_pay4 C) (k0_pay5 S) (k0_pay23 (k0_pay3 XS) (View.ld (Val := Elt Ideal) (e' := .bf16) W (Rect.unit ![0, 512] ![1024, 512] inb_S1024x8192_S1024x512_0_512))) x = zblk XS C S W y := by
  have hx : (x 1).val < 128 := (x 1).isLt
  have e : x = ix2 (x 0) (x 1) := by funext a; fin_cases a <;> rfl
  have f0 : x 0 = y 0 := Fin.ext h0.symm
  refine ((congrArg _ e).trans (t640 XS C S W (x 0) (x 1))).trans ?_
  rw [f0]
  exact (zrow_rk _ _ _ (y 1) (⟨640 + (x 1).val, by omega⟩ : Fin 1024) h1 (by show 512 ≤ 640 + (x 1).val; omega)).symm

/-- The tile of the joined block from column 512 on, at an index. -/
theorem t512 (XS : FVec Ideal S1x512x1024 .bf16) (C S : FVec Ideal S512x128 .f32) (W : FVec Ideal S1024x8192 .bf16) (r : Fin 512) (n : Fin 128) :
    k0_pay22 (F := Ideal) (k0_pay3 XS) (k0_pay4 C) (k0_pay5 S) (View.ld (Val := Elt Ideal) (e' := .bf16) W (Rect.unit ![0, 512] ![1024, 512] inb_S1024x8192_S1024x512_0_512)) (ix2 r n)
    = spin (bproj XS W r) (fun d => C (ix2 r d)) (fun d => S (ix2 r d)) ⟨512 + n.val, by omega⟩ * rkScale := by
  refine Eq.trans ?_ (congrArg (· * rkScale) (spin_of (bproj XS W r) (fun d => C (ix2 r d)) (fun d => S (ix2 r d)) (⟨512 + n.val, by omega⟩ : Fin 1024) ⟨512 + n.val, by omega⟩ ⟨512 + (n.val + 128 - 64) % 128, by omega⟩ n (by show 512 + n.val = 512 + n.val; omega) (by show 512 + (n.val + 128 - 64) % 128 = (512 + n.val) / 128 * 128 + ((512 + n.val) % 128 + 64) % 128; omega) (by show n.val = (512 + n.val) % 128; omega)))
  unfold bproj proj
  pointwise [k0_pay22, k0_pay4, k0_pay5, k0_pay21, k0_pay3]

/-- The tile of the joined block from column 512 on, at its place. -/
theorem z512 (XS : FVec Ideal S1x512x1024 .bf16) (C S : FVec Ideal S512x128 .f32) (W : FVec Ideal S1024x8192 .bf16) (x : S512x128.Idx) (y : S512x6144.Idx)
    (h0 : (y 0).val = (x 0).val) (h1 : (y 1).val = 512 + (x 1).val) :
    k0_pay22 (F := Ideal) (k0_pay3 XS) (k0_pay4 C) (k0_pay5 S) (View.ld (Val := Elt Ideal) (e' := .bf16) W (Rect.unit ![0, 512] ![1024, 512] inb_S1024x8192_S1024x512_0_512)) x = zblk XS C S W y := by
  have hx : (x 1).val < 128 := (x 1).isLt
  have e : x = ix2 (x 0) (x 1) := by funext a; fin_cases a <;> rfl
  have f0 : x 0 = y 0 := Fin.ext h0.symm
  refine ((congrArg _ e).trans (t512 XS C S W (x 0) (x 1))).trans ?_
  rw [f0]
  exact (zrow_rk _ _ _ (y 1) (⟨512 + (x 1).val, by omega⟩ : Fin 1024) h1 (by show 512 ≤ 512 + (x 1).val; omega)).symm

/-- The tile of the joined block from column 384 on, at an index. -/
theorem t384 (XS : FVec Ideal S1x512x1024 .bf16) (C S : FVec Ideal S512x128 .f32) (W : FVec Ideal S1024x8192 .bf16) (r : Fin 512) (n : Fin 128) :
    k0_pay20 (F := Ideal) (k0_pay4 C) (k0_pay5 S) (k0_pay13 (k0_pay3 XS) (View.ld (Val := Elt Ideal) (e' := .bf16) W (Rect.unit ![0, 0] ![1024, 512] inb_S1024x8192_S1024x512_0_0))) (ix2 r n)
    = spin (bproj XS W r) (fun d => C (ix2 r d)) (fun d => S (ix2 r d)) ⟨384 + n.val, by omega⟩ := by
  refine Eq.trans ?_ (spin_of (bproj XS W r) (fun d => C (ix2 r d)) (fun d => S (ix2 r d)) (⟨384 + n.val, by omega⟩ : Fin 1024) ⟨384 + n.val, by omega⟩ ⟨384 + (n.val + 128 - 64) % 128, by omega⟩ n (by show 384 + n.val = 384 + n.val; omega) (by show 384 + (n.val + 128 - 64) % 128 = (384 + n.val) / 128 * 128 + ((384 + n.val) % 128 + 64) % 128; omega) (by show n.val = (384 + n.val) % 128; omega))
  unfold bproj proj
  pointwise [k0_pay20, k0_pay4, k0_pay5, k0_pay13, k0_pay3]

/-- The tile of the joined block from column 384 on, at its place. -/
theorem z384 (XS : FVec Ideal S1x512x1024 .bf16) (C S : FVec Ideal S512x128 .f32) (W : FVec Ideal S1024x8192 .bf16) (x : S512x128.Idx) (y : S512x6144.Idx)
    (h0 : (y 0).val = (x 0).val) (h1 : (y 1).val = 384 + (x 1).val) :
    k0_pay20 (F := Ideal) (k0_pay4 C) (k0_pay5 S) (k0_pay13 (k0_pay3 XS) (View.ld (Val := Elt Ideal) (e' := .bf16) W (Rect.unit ![0, 0] ![1024, 512] inb_S1024x8192_S1024x512_0_0))) x = zblk XS C S W y := by
  have hx : (x 1).val < 128 := (x 1).isLt
  have e : x = ix2 (x 0) (x 1) := by funext a; fin_cases a <;> rfl
  have f0 : x 0 = y 0 := Fin.ext h0.symm
  refine ((congrArg _ e).trans (t384 XS C S W (x 0) (x 1))).trans ?_
  rw [f0]
  exact (zrow_rq _ _ _ (y 1) (⟨384 + (x 1).val, by omega⟩ : Fin 1024) h1 (by show 384 + (x 1).val < 512; omega)).symm

/-- The tile of the joined block from column 256 on, at an index. -/
theorem t256 (XS : FVec Ideal S1x512x1024 .bf16) (C S : FVec Ideal S512x128 .f32) (W : FVec Ideal S1024x8192 .bf16) (r : Fin 512) (n : Fin 128) :
    k0_pay19 (F := Ideal) (k0_pay4 C) (k0_pay5 S) (k0_pay13 (k0_pay3 XS) (View.ld (Val := Elt Ideal) (e' := .bf16) W (Rect.unit ![0, 0] ![1024, 512] inb_S1024x8192_S1024x512_0_0))) (ix2 r n)
    = spin (bproj XS W r) (fun d => C (ix2 r d)) (fun d => S (ix2 r d)) ⟨256 + n.val, by omega⟩ := by
  refine Eq.trans ?_ (spin_of (bproj XS W r) (fun d => C (ix2 r d)) (fun d => S (ix2 r d)) (⟨256 + n.val, by omega⟩ : Fin 1024) ⟨256 + n.val, by omega⟩ ⟨256 + (n.val + 128 - 64) % 128, by omega⟩ n (by show 256 + n.val = 256 + n.val; omega) (by show 256 + (n.val + 128 - 64) % 128 = (256 + n.val) / 128 * 128 + ((256 + n.val) % 128 + 64) % 128; omega) (by show n.val = (256 + n.val) % 128; omega))
  unfold bproj proj
  pointwise [k0_pay19, k0_pay4, k0_pay5, k0_pay13, k0_pay3]

/-- The tile of the joined block from column 256 on, at its place. -/
theorem z256 (XS : FVec Ideal S1x512x1024 .bf16) (C S : FVec Ideal S512x128 .f32) (W : FVec Ideal S1024x8192 .bf16) (x : S512x128.Idx) (y : S512x6144.Idx)
    (h0 : (y 0).val = (x 0).val) (h1 : (y 1).val = 256 + (x 1).val) :
    k0_pay19 (F := Ideal) (k0_pay4 C) (k0_pay5 S) (k0_pay13 (k0_pay3 XS) (View.ld (Val := Elt Ideal) (e' := .bf16) W (Rect.unit ![0, 0] ![1024, 512] inb_S1024x8192_S1024x512_0_0))) x = zblk XS C S W y := by
  have hx : (x 1).val < 128 := (x 1).isLt
  have e : x = ix2 (x 0) (x 1) := by funext a; fin_cases a <;> rfl
  have f0 : x 0 = y 0 := Fin.ext h0.symm
  refine ((congrArg _ e).trans (t256 XS C S W (x 0) (x 1))).trans ?_
  rw [f0]
  exact (zrow_rq _ _ _ (y 1) (⟨256 + (x 1).val, by omega⟩ : Fin 1024) h1 (by show 256 + (x 1).val < 512; omega)).symm

/-- The tile of the joined block from column 128 on, at an index. -/
theorem t128 (XS : FVec Ideal S1x512x1024 .bf16) (C S : FVec Ideal S512x128 .f32) (W : FVec Ideal S1024x8192 .bf16) (r : Fin 512) (n : Fin 128) :
    k0_pay18 (F := Ideal) (k0_pay4 C) (k0_pay5 S) (k0_pay13 (k0_pay3 XS) (View.ld (Val := Elt Ideal) (e' := .bf16) W (Rect.unit ![0, 0] ![1024, 512] inb_S1024x8192_S1024x512_0_0))) (ix2 r n)
    = spin (bproj XS W r) (fun d => C (ix2 r d)) (fun d => S (ix2 r d)) ⟨128 + n.val, by omega⟩ := by
  refine Eq.trans ?_ (spin_of (bproj XS W r) (fun d => C (ix2 r d)) (fun d => S (ix2 r d)) (⟨128 + n.val, by omega⟩ : Fin 1024) ⟨128 + n.val, by omega⟩ ⟨128 + (n.val + 128 - 64) % 128, by omega⟩ n (by show 128 + n.val = 128 + n.val; omega) (by show 128 + (n.val + 128 - 64) % 128 = (128 + n.val) / 128 * 128 + ((128 + n.val) % 128 + 64) % 128; omega) (by show n.val = (128 + n.val) % 128; omega))
  unfold bproj proj
  pointwise [k0_pay18, k0_pay4, k0_pay5, k0_pay13, k0_pay3]

/-- The tile of the joined block from column 128 on, at its place. -/
theorem z128 (XS : FVec Ideal S1x512x1024 .bf16) (C S : FVec Ideal S512x128 .f32) (W : FVec Ideal S1024x8192 .bf16) (x : S512x128.Idx) (y : S512x6144.Idx)
    (h0 : (y 0).val = (x 0).val) (h1 : (y 1).val = 128 + (x 1).val) :
    k0_pay18 (F := Ideal) (k0_pay4 C) (k0_pay5 S) (k0_pay13 (k0_pay3 XS) (View.ld (Val := Elt Ideal) (e' := .bf16) W (Rect.unit ![0, 0] ![1024, 512] inb_S1024x8192_S1024x512_0_0))) x = zblk XS C S W y := by
  have hx : (x 1).val < 128 := (x 1).isLt
  have e : x = ix2 (x 0) (x 1) := by funext a; fin_cases a <;> rfl
  have f0 : x 0 = y 0 := Fin.ext h0.symm
  refine ((congrArg _ e).trans (t128 XS C S W (x 0) (x 1))).trans ?_
  rw [f0]
  exact (zrow_rq _ _ _ (y 1) (⟨128 + (x 1).val, by omega⟩ : Fin 1024) h1 (by show 128 + (x 1).val < 512; omega)).symm

/-- The tile of the joined block from column 0 on, at an index. -/
theorem t0 (XS : FVec Ideal S1x512x1024 .bf16) (C S : FVec Ideal S512x128 .f32) (W : FVec Ideal S1024x8192 .bf16) (r : Fin 512) (n : Fin 128) :
    k0_pay17 (F := Ideal) (k0_pay15 (k0_pay3 XS) (k0_pay4 C) (View.ld (Val := Elt Ideal) (e' := .bf16) W (Rect.unit ![0, 0] ![1024, 512] inb_S1024x8192_S1024x512_0_0))) (k0_pay16 (k0_pay3 XS) (k0_pay5 S) (View.ld (Val := Elt Ideal) (e' := .bf16) W (Rect.unit ![0, 0] ![1024, 512] inb_S1024x8192_S1024x512_0_0))) (ix2 r n)
    = spin (bproj XS W r) (fun d => C (ix2 r d)) (fun d => S (ix2 r d)) ⟨n.val, by omega⟩ := by
  refine Eq.trans ?_ (spin_of (bproj XS W r) (fun d => C (ix2 r d)) (fun d => S (ix2 r d)) (⟨n.val, by omega⟩ : Fin 1024) ⟨n.val, by omega⟩ ⟨(n.val + 128 - 64) % 128, by omega⟩ n (by show n.val = n.val; omega) (by show (n.val + 128 - 64) % 128 = (n.val) / 128 * 128 + ((n.val) % 128 + 64) % 128; omega) (by show n.val = (n.val) % 128; omega))
  unfold bproj proj
  pointwise [k0_pay17, k0_pay15, k0_pay16, k0_pay14, k0_pay4, k0_pay5, k0_pay13, k0_pay3]

/-- The tile of the joined block from column 0 on, at its place. -/
theorem z0 (XS : FVec Ideal S1x512x1024 .bf16) (C S : FVec Ideal S512x128 .f32) (W : FVec Ideal S1024x8192 .bf16) (x : S512x128.Idx) (y : S512x6144.Idx)
    (h0 : (y 0).val = (x 0).val) (h1 : (y 1).val = (x 1).val) :
    k0_pay17 (F := Ideal) (k0_pay15 (k0_pay3 XS) (k0_pay4 C) (View.ld (Val := Elt Ideal) (e' := .bf16) W (Rect.unit ![0, 0] ![1024, 512] inb_S1024x8192_S1024x512_0_0))) (k0_pay16 (k0_pay3 XS) (k0_pay5 S) (View.ld (Val := Elt Ideal) (e' := .bf16) W (Rect.unit ![0, 0] ![1024, 512] inb_S1024x8192_S1024x512_0_0))) x = zblk XS C S W y := by
  have hx : (x 1).val < 128 := (x 1).isLt
  have e : x = ix2 (x 0) (x 1) := by funext a; fin_cases a <;> rfl
  have f0 : x 0 = y 0 := Fin.ext h0.symm
  refine ((congrArg _ e).trans (t0 XS C S W (x 0) (x 1))).trans ?_
  rw [f0]
  exact (zrow_rq _ _ _ (y 1) (⟨(x 1).val, by omega⟩ : Fin 1024) h1 (by show (x 1).val < 512; omega)).symm

set_option maxHeartbeats 2000000 in
/-- The stored tiles make up the joined block. -/
theorem z_of (XS : FVec Ideal S1x512x1024 .bf16) (C S : FVec Ideal S512x128 .f32) (W : FVec Ideal S1024x8192 .bf16) (y : S512x6144.Idx) :
    View.canon (Val := Elt Ideal) (e := .bf16)
      [⟨Rect.unit ![0, 5632] ![512, 512] inb_S512x6144_S512x512_0_5632, k0_pay50 (F := Ideal) (k0_pay49 (k0_pay3 XS) (View.ld (Val := Elt Ideal) (e' := .bf16) W (Rect.unit ![0, 7680] ![1024, 512] inb_S1024x8192_S1024x512_0_7680))) (FloatOps.ofBits FTy.f32 1056964608#32)⟩,
        ⟨Rect.unit ![0, 5120] ![512, 512] inb_S512x6144_S512x512_0_5120, k0_pay48 (F := Ideal) (k0_pay3 XS) (View.ld (Val := Elt Ideal) (e' := .bf16) W (Rect.unit ![0, 7168] ![1024, 512] inb_S1024x8192_S1024x512_0_7168))⟩,
        ⟨Rect.unit ![0, 4608] ![512, 512] inb_S512x6144_S512x512_0_4608, k0_pay47 (F := Ideal) (k0_pay3 XS) (View.ld (Val := Elt Ideal) (e' := .bf16) W (Rect.unit ![0, 6656] ![1024, 512] inb_S1024x8192_S1024x512_0_6656))⟩,
        ⟨Rect.unit ![0, 4096] ![512, 512] inb_S512x6144_S512x512_0_4096, k0_pay46 (F := Ideal) (k0_pay45 (k0_pay3 XS) (View.ld (Val := Elt Ideal) (e' := .bf16) W (Rect.unit ![0, 6144] ![1024, 512] inb_S1024x8192_S1024x512_0_6144))) (FloatOps.ofBits FTy.f32 1056964608#32)⟩,
        ⟨Rect.unit ![0, 2560] ![512, 512] inb_S512x6144_S512x512_0_2560, k0_pay42 (F := Ideal) (k0_pay41 (k0_pay3 XS) (View.ld (Val := Elt Ideal) (e' := .bf16) W (Rect.unit ![0, 2560] ![1024, 512] inb_S1024x8192_S1024x512_0_2560)))⟩,
        ⟨Rect.unit ![0, 2048] ![512, 512] inb_S512x6144_S512x512_0_2048, k0_pay40 (F := Ideal) (k0_pay3 XS) (View.ld (Val := Elt Ideal) (e' := .bf16) W (Rect.unit ![0, 2048] ![1024, 512] inb_S1024x8192_S1024x512_0_2048))⟩,
        ⟨Rect.unit ![0, 3584] ![512, 512] inb_S512x6144_S512x512_0_3584, k0_pay39 (F := Ideal) (k0_pay3 XS) (View.ld (Val := Elt Ideal) (e' := .bf16) W (Rect.unit ![0, 4608] ![1024, 512] inb_S1024x8192_S1024x512_0_4608))⟩,
        ⟨Rect.unit ![0, 3072] ![512, 512] inb_S512x6144_S512x512_0_3072, k0_pay38 (F := Ideal) (k0_pay3 XS) (View.ld (Val := Elt Ideal) (e' := .bf16) W (Rect.unit ![0, 4096] ![1024, 512] inb_S1024x8192_S1024x512_0_4096))⟩,
        ⟨Rect.unit ![0, 1536] ![512, 512] inb_S512x6144_S512x512_0_1536, k0_pay31 (F := Ideal) (k0_pay3 XS) (View.ld (Val := Elt Ideal) (e' := .bf16) W (Rect.unit ![0, 1536] ![1024, 512] inb_S1024x8192_S1024x512_0_1536))⟩,
        ⟨Rect.unit ![0, 1024] ![512, 512] inb_S512x6144_S512x512_0_1024, k0_pay30 (F := Ideal) (k0_pay3 XS) (View.ld (Val := Elt Ideal) (e' := .bf16) W (Rect.unit ![0, 1024] ![1024, 512] inb_S1024x8192_S1024x512_0_1024))⟩,
        ⟨Rect.unit ![0, 896] ![512, 128] inb_S512x6144_S512x128_0_896, k0_pay26 (F := Ideal) (k0_pay4 C) (k0_pay5 S) (k0_pay21 (k0_pay3 XS) (View.ld (Val := Elt Ideal) (e' := .bf16) W (Rect.unit ![0, 512] ![1024, 512] inb_S1024x8192_S1024x512_0_512)))⟩,
        ⟨Rect.unit ![0, 768] ![512, 128] inb_S512x6144_S512x128_0_768, k0_pay25 (F := Ideal) (k0_pay4 C) (k0_pay5 S) (k0_pay21 (k0_pay3 XS) (View.ld (Val := Elt Ideal) (e' := .bf16) W (Rect.unit ![0, 512] ![1024, 512] inb_S1024x8192_S1024x512_0_512)))⟩,
        ⟨Rect.unit ![0, 640] ![512, 128] inb_S512x6144_S512x128_0_640, k0_pay24 (F := Ideal) (k0_pay4 C) (k0_pay5 S) (k0_pay23 (k0_pay3 XS) (View.ld (Val := Elt Ideal) (e' := .bf16) W (Rect.unit ![0, 512] ![1024, 512] inb_S1024x8192_S1024x512_0_512)))⟩,
        ⟨Rect.unit ![0, 512] ![512, 128] inb_S512x6144_S512x128_0_512, k0_pay22 (F := Ideal) (k0_pay3 XS) (k0_pay4 C) (k0_pay5 S) (View.ld (Val := Elt Ideal) (e' := .bf16) W (Rect.unit ![0, 512] ![1024, 512] inb_S1024x8192_S1024x512_0_512))⟩,
        ⟨Rect.unit ![0, 384] ![512, 128] inb_S512x6144_S512x128_0_384, k0_pay20 (F := Ideal) (k0_pay4 C) (k0_pay5 S) (k0_pay13 (k0_pay3 XS) (View.ld (Val := Elt Ideal) (e' := .bf16) W (Rect.unit ![0, 0] ![1024, 512] inb_S1024x8192_S1024x512_0_0)))⟩,
        ⟨Rect.unit ![0, 256] ![512, 128] inb_S512x6144_S512x128_0_256, k0_pay19 (F := Ideal) (k0_pay4 C) (k0_pay5 S) (k0_pay13 (k0_pay3 XS) (View.ld (Val := Elt Ideal) (e' := .bf16) W (Rect.unit ![0, 0] ![1024, 512] inb_S1024x8192_S1024x512_0_0)))⟩,
        ⟨Rect.unit ![0, 128] ![512, 128] inb_S512x6144_S512x128_0_128, k0_pay18 (F := Ideal) (k0_pay4 C) (k0_pay5 S) (k0_pay13 (k0_pay3 XS) (View.ld (Val := Elt Ideal) (e' := .bf16) W (Rect.unit ![0, 0] ![1024, 512] inb_S1024x8192_S1024x512_0_0)))⟩,
        ⟨Rect.unit ![0, 0] ![512, 128] inb_S512x6144_S512x128_0_0, k0_pay17 (F := Ideal) (k0_pay15 (k0_pay3 XS) (k0_pay4 C) (View.ld (Val := Elt Ideal) (e' := .bf16) W (Rect.unit ![0, 0] ![1024, 512] inb_S1024x8192_S1024x512_0_0))) (k0_pay16 (k0_pay3 XS) (k0_pay5 S) (View.ld (Val := Elt Ideal) (e' := .bf16) W (Rect.unit ![0, 0] ![1024, 512] inb_S1024x8192_S1024x512_0_0)))⟩] y
    = zblk XS C S W y := by
  canon_tiles x h using View.cover_of_tiledBy _ ![512, 128] (by sl_kernel_rfl) y
  · exact z5632 XS C S W x y h0 h1
  · exact z5120 XS C S W x y h0 h1
  · exact z4608 XS C S W x y h0 h1
  · exact z4096 XS C S W x y h0 h1
  · exact z2560 XS C S W x y h0 h1
  · exact z2048 XS C S W x y h0 h1
  · exact z3584 XS C S W x y h0 h1
  · exact z3072 XS C S W x y h0 h1
  · exact z1536 XS C S W x y h0 h1
  · exact z1024 XS C S W x y h0 h1
  · exact z896 XS C S W x y h0 h1
  · exact z768 XS C S W x y h0 h1
  · exact z640 XS C S W x y h0 h1
  · exact z512 XS C S W x y h0 h1
  · exact z384 XS C S W x y h0 h1
  · exact z256 XS C S W x y h0 h1
  · exact z128 XS C S W x y h0 h1
  · exact z0 XS C S W x y h0 h1

/-- The tile of queries from row 0 on, at an index. -/
theorem tq0 (XS : FVec Ideal S1x512x1024 .bf16) (W : FVec Ideal S1024x8192 .bf16) (r n : Fin 512) :
    k0_pay51 (F := Ideal) (k0_pay3 XS) (View.ld (Val := Elt Ideal) (e' := .bf16) W (Rect.unit ![0, 3072] ![1024, 512] inb_S1024x8192_S1024x512_0_3072)) (ix4 0 0 n r)
    = bproj XS W r ⟨3072 + n.val, by omega⟩ * qScale := by
  unfold bproj proj
  pointwise [k0_pay51, k0_pay3]

/-- The tile of queries from row 0 on, at its place. -/
theorem zq0 (XS : FVec Ideal S1x512x1024 .bf16) (W : FVec Ideal S1024x8192 .bf16) (x : S1x1x512x512.Idx) (y : S1x1x1024x512.Idx) (h2 : (y 2).val = (x 2).val) (h3 : (y 3).val = (x 3).val) :
    k0_pay51 (F := Ideal) (k0_pay3 XS) (View.ld (Val := Elt Ideal) (e' := .bf16) W (Rect.unit ![0, 3072] ![1024, 512] inb_S1024x8192_S1024x512_0_3072)) x = qblk XS W y := by
  have e : x = (ix4 0 0 (x 2) (x 3)) := by
    funext a
    match a with
    | 0 => exact Subsingleton.elim (α := Fin 1) _ _
    | 1 => exact Subsingleton.elim (α := Fin 1) _ _
    | 2 => rfl
    | 3 => rfl
  have hx : (x 2).val < 512 := (x 2).isLt
  have f0 : x 3 = y 3 := Fin.ext h3.symm
  refine ((congrArg _ e).trans (tq0 XS W (x 3) (x 2))).trans ?_
  rw [f0]
  exact congrArg (fun j => bproj XS W (y 3) j * qScale) (Fin.ext (by show 3072 + (x 2).val = 3072 + (y 2).val; omega))

/-- The tile of queries from row 512 on, at an index. -/
theorem tq512 (XS : FVec Ideal S1x512x1024 .bf16) (W : FVec Ideal S1024x8192 .bf16) (r n : Fin 512) :
    k0_pay52 (F := Ideal) (k0_pay3 XS) (View.ld (Val := Elt Ideal) (e' := .bf16) W (Rect.unit ![0, 3584] ![1024, 512] inb_S1024x8192_S1024x512_0_3584)) (ix4 0 0 n r)
    = bproj XS W r ⟨3584 + n.val, by omega⟩ * qScale := by
  unfold bproj proj
  pointwise [k0_pay52, k0_pay3]

/-- The tile of queries from row 512 on, at its place. -/
theorem zq512 (XS : FVec Ideal S1x512x1024 .bf16) (W : FVec Ideal S1024x8192 .bf16) (x : S1x1x512x512.Idx) (y : S1x1x1024x512.Idx) (h2 : (y 2).val = 512 + (x 2).val) (h3 : (y 3).val = (x 3).val) :
    k0_pay52 (F := Ideal) (k0_pay3 XS) (View.ld (Val := Elt Ideal) (e' := .bf16) W (Rect.unit ![0, 3584] ![1024, 512] inb_S1024x8192_S1024x512_0_3584)) x = qblk XS W y := by
  have e : x = (ix4 0 0 (x 2) (x 3)) := by
    funext a
    match a with
    | 0 => exact Subsingleton.elim (α := Fin 1) _ _
    | 1 => exact Subsingleton.elim (α := Fin 1) _ _
    | 2 => rfl
    | 3 => rfl
  have hx : (x 2).val < 512 := (x 2).isLt
  have f0 : x 3 = y 3 := Fin.ext h3.symm
  refine ((congrArg _ e).trans (tq512 XS W (x 3) (x 2))).trans ?_
  rw [f0]
  exact congrArg (fun j => bproj XS W (y 3) j * qScale) (Fin.ext (by show 3584 + (x 2).val = 3072 + (y 2).val; omega))

/-- The tile of values from row 0 on, at an index. -/
theorem tv0 (XS : FVec Ideal S1x512x1024 .bf16) (W : FVec Ideal S1024x8192 .bf16) (r n : Fin 512) :
    k0_pay43 (F := Ideal) (k0_pay3 XS) (View.ld (Val := Elt Ideal) (e' := .bf16) W (Rect.unit ![0, 5120] ![1024, 512] inb_S1024x8192_S1024x512_0_5120)) (ix3 0 n r)
    = bproj XS W r ⟨5120 + n.val, by omega⟩ := by
  unfold bproj proj
  pointwise [k0_pay43, k0_pay3]

/-- The tile of values from row 0 on, at its place. -/
theorem zv0 (XS : FVec Ideal S1x512x1024 .bf16) (W : FVec Ideal S1024x8192 .bf16) (x : S1x512x512.Idx) (y : S1x1024x512.Idx) (h1 : (y 1).val = (x 1).val) (h2 : (y 2).val = (x 2).val) :
    k0_pay43 (F := Ideal) (k0_pay3 XS) (View.ld (Val := Elt Ideal) (e' := .bf16) W (Rect.unit ![0, 5120] ![1024, 512] inb_S1024x8192_S1024x512_0_5120)) x = vblk XS W y := by
  have e : x = (ix3 0 (x 1) (x 2)) := by
    funext a
    match a with
    | 0 => exact Subsingleton.elim (α := Fin 1) _ _
    | 1 => rfl
    | 2 => rfl
  have hx : (x 1).val < 512 := (x 1).isLt
  have f0 : x 2 = y 2 := Fin.ext h2.symm
  refine ((congrArg _ e).trans (tv0 XS W (x 2) (x 1))).trans ?_
  rw [f0]
  exact congrArg (fun j => bproj XS W (y 2) j) (Fin.ext (by show 5120 + (x 1).val = 5120 + (y 1).val; omega))

/-- The tile of values from row 512 on, at an index. -/
theorem tv512 (XS : FVec Ideal S1x512x1024 .bf16) (W : FVec Ideal S1024x8192 .bf16) (r n : Fin 512) :
    k0_pay44 (F := Ideal) (k0_pay3 XS) (View.ld (Val := Elt Ideal) (e' := .bf16) W (Rect.unit ![0, 5632] ![1024, 512] inb_S1024x8192_S1024x512_0_5632)) (ix3 0 n r)
    = bproj XS W r ⟨5632 + n.val, by omega⟩ := by
  unfold bproj proj
  pointwise [k0_pay44, k0_pay3]

/-- The tile of values from row 512 on, at its place. -/
theorem zv512 (XS : FVec Ideal S1x512x1024 .bf16) (W : FVec Ideal S1024x8192 .bf16) (x : S1x512x512.Idx) (y : S1x1024x512.Idx) (h1 : (y 1).val = 512 + (x 1).val) (h2 : (y 2).val = (x 2).val) :
    k0_pay44 (F := Ideal) (k0_pay3 XS) (View.ld (Val := Elt Ideal) (e' := .bf16) W (Rect.unit ![0, 5632] ![1024, 512] inb_S1024x8192_S1024x512_0_5632)) x = vblk XS W y := by
  have e : x = (ix3 0 (x 1) (x 2)) := by
    funext a
    match a with
    | 0 => exact Subsingleton.elim (α := Fin 1) _ _
    | 1 => rfl
    | 2 => rfl
  have hx : (x 1).val < 512 := (x 1).isLt
  have f0 : x 2 = y 2 := Fin.ext h2.symm
  refine ((congrArg _ e).trans (tv512 XS W (x 2) (x 1))).trans ?_
  rw [f0]
  exact congrArg (fun j => bproj XS W (y 2) j) (Fin.ext (by show 5632 + (x 1).val = 5120 + (y 1).val; omega))

/-- The stored tiles make up the block of queries. -/
theorem q_of (XS : FVec Ideal S1x512x1024 .bf16) (W : FVec Ideal S1024x8192 .bf16) (y : S1x1x1024x512.Idx) :
    View.canon (Val := Elt Ideal) (e := .bf16)
      [⟨Rect.unit ![0, 0, 512, 0] ![1, 1, 512, 512] inb_S1x1x1024x512_S1x1x512x512_0_0_512_0, k0_pay52 (F := Ideal) (k0_pay3 XS) (View.ld (Val := Elt Ideal) (e' := .bf16) W (Rect.unit ![0, 3584] ![1024, 512] inb_S1024x8192_S1024x512_0_3584))⟩,
        ⟨Rect.unit ![0, 0, 0, 0] ![1, 1, 512, 512] inb_S1x1x1024x512_S1x1x512x512_0_0_0_0, k0_pay51 (F := Ideal) (k0_pay3 XS) (View.ld (Val := Elt Ideal) (e' := .bf16) W (Rect.unit ![0, 3072] ![1024, 512] inb_S1024x8192_S1024x512_0_3072))⟩] y
    = qblk XS W y := by
  canon_tiles x h
  · exact zq512 XS W x y h2 h3
  · exact zq0 XS W x y h2 h3

/-- The stored tiles make up the block of values. -/
theorem v_of (XS : FVec Ideal S1x512x1024 .bf16) (W : FVec Ideal S1024x8192 .bf16) (y : S1x1024x512.Idx) :
    View.canon (Val := Elt Ideal) (e := .bf16)
      [⟨Rect.unit ![0, 512, 0] ![1, 512, 512] inb_S1x1024x512_S1x512x512_0_512_0, k0_pay44 (F := Ideal) (k0_pay3 XS) (View.ld (Val := Elt Ideal) (e' := .bf16) W (Rect.unit ![0, 5632] ![1024, 512] inb_S1024x8192_S1024x512_0_5632))⟩,
        ⟨Rect.unit ![0, 0, 0] ![1, 512, 512] inb_S1x1024x512_S1x512x512_0_0_0, k0_pay43 (F := Ideal) (k0_pay3 XS) (View.ld (Val := Elt Ideal) (e' := .bf16) W (Rect.unit ![0, 5120] ![1024, 512] inb_S1024x8192_S1024x512_0_5120))⟩] y
    = vblk XS W y := by
  canon_tiles x h
  · exact zv512 XS W x y h1 h2
  · exact zv0 XS W x y h1 h2

/-- The first block normalised and modulated, at an index. -/
theorem normed0 (X N A B) (r : Fin 512) (k : Fin 1024) : k0_pay2 (F := Ideal) X N A B (ix3 0 r k)
    = hid (fun k => X (ix2 r k)) (fun k => N (ix2 0 k)) (fun k => A (ix3 0 0 k)) (fun k => B (ix3 0 0 k)) k := by
  unfold hid scale
  pointwise [k0_pay2]

/-- A next block normalised and modulated, at an index. -/
theorem normed1 (X N A B) (r : Fin 512) (k : Fin 1024) : k0_pay1 (F := Ideal) (k0_pay7 (k0_pay6 X N) A B) (ix3 0 r k)
    = hid (fun k => X (ix2 r k)) (fun k => N (ix2 0 k)) (fun k => A (ix3 0 0 k)) (fun k => B (ix3 0 0 k)) k := by
  unfold hid scale
  pointwise [k0_pay1, k0_pay7, k0_pay6]

/-- The slot of the scratch a grid point reads, decided. -/
theorem off1 : ∀ t : Fin cfg0.N, k0_off1 (grid0.coords t) = ![t.val % 2, 0, 0] :=
  (by decide +kernel : ∀ t : Fin grid0.N, _)

/-- The first slot read just after it was filled. -/
theorem slot_filled (off : Fin 3 → ℕ) (e : off = ![0, 0, 0]) (inb) (P : FVec Ideal S1x512x1024 .bf16) :
    (View.whole cc0_scratch0).readCov (Val := Elt Ideal) [⟨Rect.unit ![0, 0, 0] ![1, 512, 1024] inb_S2x512x1024_S1x512x1024_0_0_0, P⟩]
      (Rect.unit off ![1, 512, 1024] inb).toLoadRect = P := by
  subst e
  exact View.readCov_cons_toLoadRect _ _ _ _

/-- An index of a slot of the scratch, by its place. -/
theorem slot_emb (a : ℕ) (inb) (s : Fin 2) (e : s.val = a) (r : Fin 512) (k : Fin 1024) :
    (ix3 s r k : S2x512x1024.Idx) = (Rect.unit (s := S2x512x1024) ![a, 0, 0] ![1, 512, 1024] inb).emb (ix3 0 r k) := by
  subst e
  funext i
  refine Fin.ext (Eq.trans ?_ (Rect.idx_unit_val _ _ inb (ix3 0 r k) i).symm)
  match i with
  | 0 => rfl
  | 1 => exact (Nat.zero_add _).symm
  | 2 => exact (Nat.zero_add _).symm

set_option maxHeartbeats 2000000 in
/-- After a point the slot the next point reads holds the next block normalised and modulated. -/
theorem kept (c : Dev nD) (t : Fin cfg0.N) (s : Fin 2) (e : s.val = (t.val + 1) % 2) (r : Fin 512) (k : Fin 1024) :
    (outsAt0 m c t.val t.isLt).2.2.2.2.1 (ix3 s r k)
    = hid (fun k => iblk m c 1 t (ix2 r k)) (fun k => iblk m c 2 t (ix2 0 k)) (fun k => iblk m c 5 t (ix3 0 0 k)) (fun k => iblk m c 6 t (ix3 0 0 k)) k := by
  by_cases h0 : t.val % 32 = 0
  · rw [outsAt0_A0 m c t h0]
    frame_out
    refine Eq.trans ?_ (normed1 (iblk m c 1 t) (iblk m c 2 t) (iblk m c 5 t) (iblk m c 6 t) r k)
    generalize k0_pay1 (F := Ideal) _ = P
    rw [slot_emb 1 (by decide) s (by omega) r k]
    exact View.canon_cons_emb _ _ _ _
  · by_cases h1 : t.val % 2 = 0
    · rw [outsAt0_C m c t h0 h1]
      frame_out
      refine Eq.trans ?_ (normed1 (iblk m c 1 t) (iblk m c 2 t) (iblk m c 5 t) (iblk m c 6 t) r k)
      generalize k0_pay1 (F := Ideal) _ = P
      rw [slot_emb 1 (by decide) s (by omega) r k]
      exact View.read_writes_cons_emb _ _ _ _ _ _
    · rw [outsAt0_B m c t h0 h1]
      frame_out
      refine Eq.trans ?_ (normed1 (iblk m c 1 t) (iblk m c 2 t) (iblk m c 5 t) (iblk m c 6 t) r k)
      generalize k0_pay1 (F := Ideal) _ = P
      rw [slot_emb 0 inb_S2x512x1024_S1x512x1024_0_0_0 s (by omega) r k]
      exact View.read_writes_cons_emb _ _ _ _ _ _

/-- A slot read from the scratch a point finds. -/
theorem slot_read (X : FVec Ideal S2x512x1024 .bf16) (off : Fin 3 → ℕ) (s : Fin 2) (e : off = ![s.val, 0, 0]) (inb) (r : Fin 512) (k : Fin 1024) :
    View.ld (Val := Elt Ideal) (e' := .bf16) X (Rect.unit (s := S2x512x1024) off ![1, 512, 1024] inb) (ix3 0 r k) = X (ix3 s r k) := by
  subst e
  refine View.ld_unit_apply_of _ _ _ _ _ (ix3 s r k) fun a => ?_
  match a with
  | 0 => rfl
  | 1 => exact (Nat.zero_add _).symm
  | 2 => exact (Nat.zero_add _).symm

set_option maxHeartbeats 2000000 in
/-- What the first point leaves: the three blocks of the normed block it makes itself. -/
theorem left_first (c : Dev nD) (t : Fin cfg0.N) (h0 : t.val % 32 = 0) :
    (∀ y, (dats m 0 c).after 13 t y = zblk (k0_pay2 (F := Ideal) (iblk m c 0 t) (iblk m c 2 t) (iblk m c 3 t) (iblk m c 4 t)) (iblk m c 7 t) (iblk m c 8 t) (iblk m c 9 t) y)
    ∧ (∀ y, (dats m 0 c).after 14 t y = qblk (k0_pay2 (F := Ideal) (iblk m c 0 t) (iblk m c 2 t) (iblk m c 3 t) (iblk m c 4 t)) (iblk m c 9 t) y)
    ∧ ∀ y, (dats m 0 c).after 15 t y = vblk (k0_pay2 (F := Ideal) (iblk m c 0 t) (iblk m c 2 t) (iblk m c 3 t) (iblk m c 4 t)) (iblk m c 9 t) y := by
  have e : k0_off1 (grid0.coords t) = ![0, 0, 0] := (off1 t).trans (by rw [show t.val % 2 = 0 by omega])
  refine ⟨fun y => ?_, fun y => ?_, fun y => ?_⟩
  · rw [after0_13, outsAt0_A0 m c t h0]
    frame_out
    simp only [slot_filled _ e]
    exact z_of _ _ _ _ y
  · rw [after0_14, outsAt0_A0 m c t h0]
    frame_out
    simp only [slot_filled _ e]
    exact q_of _ _ y
  · rw [after0_15, outsAt0_A0 m c t h0]
    frame_out
    simp only [slot_filled _ e]
    exact v_of _ _ y

set_option maxHeartbeats 2000000 in
/-- What a later point leaves: the three blocks of the normed block in the slot it reads. -/
theorem left_later (c : Dev nD) (t : Fin cfg0.N) (h0 : ¬t.val % 32 = 0) (hp : t.val - 1 < cfg0.N) (inb) :
    (∀ y, (dats m 0 c).after 13 t y = zblk (View.ld (Val := Elt Ideal) (e' := .bf16) (outsAt0 m c (t.val - 1) hp).2.2.2.2.1 (Rect.unit (s := S2x512x1024) (k0_off1 (grid0.coords t)) ![1, 512, 1024] inb)) (iblk m c 7 t) (iblk m c 8 t) (iblk m c 9 t) y)
    ∧ (∀ y, (dats m 0 c).after 14 t y = qblk (View.ld (Val := Elt Ideal) (e' := .bf16) (outsAt0 m c (t.val - 1) hp).2.2.2.2.1 (Rect.unit (s := S2x512x1024) (k0_off1 (grid0.coords t)) ![1, 512, 1024] inb)) (iblk m c 9 t) y)
    ∧ ∀ y, (dats m 0 c).after 15 t y = vblk (View.ld (Val := Elt Ideal) (e' := .bf16) (outsAt0 m c (t.val - 1) hp).2.2.2.2.1 (Rect.unit (s := S2x512x1024) (k0_off1 (grid0.coords t)) ![1, 512, 1024] inb)) (iblk m c 9 t) y := by
  by_cases h1 : t.val % 2 = 0
  · refine ⟨fun y => ?_, fun y => ?_, fun y => ?_⟩
    · rw [after0_13, outsAt0_C m c t h0 h1]
      frame_out
      simp only [read_unread_whole]
      exact z_of _ _ _ _ y
    · rw [after0_14, outsAt0_C m c t h0 h1]
      frame_out
      simp only [read_unread_whole]
      exact q_of _ _ y
    · rw [after0_15, outsAt0_C m c t h0 h1]
      frame_out
      simp only [read_unread_whole]
      exact v_of _ _ y
  · refine ⟨fun y => ?_, fun y => ?_, fun y => ?_⟩
    · rw [after0_13, outsAt0_B m c t h0 h1]
      frame_out
      simp only [read_unread_whole]
      exact z_of _ _ _ _ y
    · rw [after0_14, outsAt0_B m c t h0 h1]
      frame_out
      simp only [read_unread_whole]
      exact q_of _ _ y
    · rw [after0_15, outsAt0_B m c t h0 h1]
      frame_out
      simp only [read_unread_whole]
      exact v_of _ _ y

end Cert.KernelInIdeal.In

end
-- ==== Proof.InSums.lean ====
/- The gates' sums a point of the first norm and projections leaves, and its carry. -/
module

public import proofs.«01_k».proof.Proof.InPay

@[expose] public section

set_option maxRecDepth 16384

noncomputable section

open Idealize.ShloMosaic Idealize.ShloMosaic.TcCoe Idealize.SL.Sem
open Idealize.ShloMosaic.Pipeline (Dat)

namespace Cert.KernelInIdeal.In

open Cert.KernelInIdeal Cert.KernelInIdeal.Gen Cert.TailRow Cert.InRow

variable (m : (ℓ : Loc nD τ sig) → Buf (Elt Ideal) ℓ)

set_option maxHeartbeats 2000000 in
/-- The sums the first point leaves, and its carry: those of the normed block it makes itself, from nothing. -/
theorem sums_first (c : Dev nD) (t : Fin cfg0.N) (h0 : t.val % 32 = 0) (hT : ∀ r x, iblk m c 12 t (ix2 r x) = (0 : EReal) ∨ iblk m c 12 t (ix2 r x) = (1 : EReal)) :
    (∀ y, (dats m 0 c).after 16 t y = csum (k0_pay2 (F := Ideal) (iblk m c 0 t) (iblk m c 2 t) (iblk m c 3 t) (iblk m c 4 t)) (iblk m c 10 t) (iblk m c 11 t) (iblk m c 12 t) (fun l => 0) (y 3) (y 2) * fScale)
    ∧ ∀ l, (outsAt0 m c t.val t.isLt).2.2.2.2.2 (ix2 0 l) = csum (k0_pay2 (F := Ideal) (iblk m c 0 t) (iblk m c 2 t) (iblk m c 3 t) (iblk m c 4 t)) (iblk m c 10 t) (iblk m c 11 t) (iblk m c 12 t) (fun l => 0) 511 l := by
  have e : k0_off1 (grid0.coords t) = ![0, 0, 0] := (off1 t).trans (by rw [show t.val % 2 = 0 by omega])
  have h16 : t.val % 16 = 0 := by omega
  refine ⟨fun y => ?_, fun l => ?_⟩
  · rw [after0_16, outsAt0_A0 m c t h0]
    frame_out
    simp only [slot_filled _ e]
    refine (pay33_at _ _ _ _ _ y).trans ?_
    refine congrArg (· * fScale) ((pay28_at _ _ _ _ hT _ t _ rfl (y 3) (y 2)).trans ?_)
    simp only [if_pos h16]
  · rw [outsAt0_A0 m c t h0]
    frame_out
    simp only [slot_filled _ e]
    refine (congrFun (carry_whole _ _ _) (ix2 0 l)).trans ?_
    refine (pay29_at _ _ _ _ _ l).trans ?_
    refine (pay28_at _ _ _ _ hT _ t _ rfl 511 l).trans ?_
    simp only [if_pos h16]

set_option maxHeartbeats 2000000 in
/-- The sums a later point leaves, and its carry: those of the normed block in the slot it reads, from the carry it finds unless it is the first of its batch row. -/
theorem sums_later (c : Dev nD) (t : Fin cfg0.N) (h0 : ¬t.val % 32 = 0) (hp : t.val - 1 < cfg0.N) (inb) (hT : ∀ r x, iblk m c 12 t (ix2 r x) = (0 : EReal) ∨ iblk m c 12 t (ix2 r x) = (1 : EReal)) :
    (∀ y, (dats m 0 c).after 16 t y = csum (View.ld (Val := Elt Ideal) (e' := .bf16) (outsAt0 m c (t.val - 1) hp).2.2.2.2.1 (Rect.unit (s := S2x512x1024) (k0_off1 (grid0.coords t)) ![1, 512, 1024] inb)) (iblk m c 10 t) (iblk m c 11 t) (iblk m c 12 t)
        (fun l => if t.val % 16 = 0 then 0 else (outsAt0 m c (t.val - 1) hp).2.2.2.2.2 (ix2 0 l)) (y 3) (y 2) * fScale)
    ∧ ∀ l, (outsAt0 m c t.val t.isLt).2.2.2.2.2 (ix2 0 l) = csum (View.ld (Val := Elt Ideal) (e' := .bf16) (outsAt0 m c (t.val - 1) hp).2.2.2.2.1 (Rect.unit (s := S2x512x1024) (k0_off1 (grid0.coords t)) ![1, 512, 1024] inb)) (iblk m c 10 t) (iblk m c 11 t) (iblk m c 12 t)
        (fun l => if t.val % 16 = 0 then 0 else (outsAt0 m c (t.val - 1) hp).2.2.2.2.2 (ix2 0 l)) 511 l := by
  by_cases h1 : t.val % 2 = 0
  · refine ⟨fun y => ?_, fun l => ?_⟩
    · rw [after0_16, outsAt0_C m c t h0 h1]
      frame_out
      simp only [read_unread_whole]
      refine (pay33_at _ _ _ _ _ y).trans ?_
      exact congrArg (· * fScale) (pay28_at _ _ _ _ hT _ t _ rfl (y 3) (y 2))
    · rw [outsAt0_C m c t h0 h1]
      frame_out
      simp only [read_unread_whole]
      refine (congrFun (carry_whole _ _ _) (ix2 0 l)).trans ?_
      refine (pay29_at _ _ _ _ _ l).trans ?_
      exact pay28_at _ _ _ _ hT _ t _ rfl 511 l
  · refine ⟨fun y => ?_, fun l => ?_⟩
    · rw [after0_16, outsAt0_B m c t h0 h1]
      frame_out
      simp only [read_unread_whole]
      refine (pay33_at _ _ _ _ _ y).trans ?_
      exact congrArg (· * fScale) (pay28_at _ _ _ _ hT _ t _ rfl (y 3) (y 2))
    · rw [outsAt0_B m c t h0 h1]
      frame_out
      simp only [read_unread_whole]
      refine (congrFun (carry_whole _ _ _) (ix2 0 l)).trans ?_
      refine (pay29_at _ _ _ _ _ l).trans ?_
      exact pay28_at _ _ _ _ hT _ t _ rfl 511 l

end Cert.KernelInIdeal.In

end
-- ==== Proof.InRef.lean ====
/- The first norm and the projections by the reference: its composed terms, stage by stage, read at an index. -/
module

public import proofs.«01_k».proof.Proof.Gen.ReferenceInIdeal.Run
public import proofs.«01_k».proof.Proof.InRow
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.ReferenceInIdeal.In

open Cert.ReferenceInIdeal Cert.ReferenceInIdeal.Gen Cert.ReferenceInIdeal.Value Cert.TailRow Cert.InRow

/-- The reference's term for the normalised, modulated rows. -/
def H (a0 : FVec Ideal S2x8192x1024 .f32) (a1 : FVec Ideal S2x6144 .f32) (a2 : FVec Ideal S1x1024 .f32) : FVec Ideal S2x8192x1024 .f32 :=
  addf (mulf (mulf (mulf a0 (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf a0 a0) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (shapeCast S1024 a2 shapeCasts_S1x1024_S1024)))) (broadcastInDim S2x8192x1024 ![0, 1, 2] bcast_S2x1x1024_S2x8192x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 1024] a1 slices_S2x6144_S2x1024_0_1024))))) (broadcastInDim S2x8192x1024 ![0, 1, 2] bcast_S2x1x1024_S2x8192x1024_0_1_2 (broadcastInDim S2x1x1024 ![0, 2] bcast_S2x1024_S2x1x1024_0_2 (extractStridedSlice S2x1024 ![0, 0] a1 slices_S2x6144_S2x1024_0_0)))

/-- The reference's term for the projected rows. -/
def Z (h : FVec Ideal S2x8192x1024 .f32) (a3 : FVec Ideal S1x1024x8200 .f32) : FVec Ideal S2x8192x8200 .f32 :=
  Host.dotGeneral dot_S2x8192x1024_S1024x8200_S2x8192x8200_2_0_01_1_n_n none h (shapeCast S1024x8200 a3 shapeCasts_S1x1024x8200_S1024x8200)

/-- The reference's term for the angles of the tokens. -/
def ANG : FVec Ideal S8192x64 .f32 :=
  mulf (broadcastInDim S8192x64 ![0, 1] bcast_S8192x1_S8192x64_0_1 (broadcastInDim S8192x1 ![0] bcast_S8192_S8192x1_0 (sitofp .f32 (iotaInDim S8192 32 0)))) (broadcastInDim S8192x64 ![0, 1] bcast_S1x64_S8192x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32))))))

/-- The reference's term for the first group of turned heads. -/
def RQ (z : FVec Ideal S2x8192x8200 .f32) (g : FVec Ideal S8192x64 .f32) : FVec Ideal S2x8192x512 .f32 :=
  shapeCast S2x8192x512 (fn_main_v70 (F := Ideal) (subf (mulf (extractStridedSlice S2x8192x4x64 ![0, 0, 0, 0] (shapeCast S2x8192x4x128 (extractStridedSlice S2x8192x512 ![0, 0, 0] z slices_S2x8192x8200_S2x8192x512_0_0_0) shapeCasts_S2x8192x512_S2x8192x4x128) slices_S2x8192x4x128_S2x8192x4x64_0_0_0_0) (broadcastInDim S2x8192x4x64 ![0, 1, 2, 3] bcast_S1x8192x1x64_S2x8192x4x64_0_1_2_3 (broadcastInDim S1x8192x1x64 ![1, 3] bcast_S8192x64_S1x8192x1x64_1_3 (Host.cos g)))) (mulf (extractStridedSlice S2x8192x4x64 ![0, 0, 0, 64] (shapeCast S2x8192x4x128 (extractStridedSlice S2x8192x512 ![0, 0, 0] z slices_S2x8192x8200_S2x8192x512_0_0_0) shapeCasts_S2x8192x512_S2x8192x4x128) slices_S2x8192x4x128_S2x8192x4x64_0_0_0_64) (broadcastInDim S2x8192x4x64 ![0, 1, 2, 3] bcast_S1x8192x1x64_S2x8192x4x64_0_1_2_3 (broadcastInDim S1x8192x1x64 ![1, 3] bcast_S8192x64_S1x8192x1x64_1_3 (Host.sin g))))) (addf (mulf (extractStridedSlice S2x8192x4x64 ![0, 0, 0, 0] (shapeCast S2x8192x4x128 (extractStridedSlice S2x8192x512 ![0, 0, 0] z slices_S2x8192x8200_S2x8192x512_0_0_0) shapeCasts_S2x8192x512_S2x8192x4x128) slices_S2x8192x4x128_S2x8192x4x64_0_0_0_0) (broadcastInDim S2x8192x4x64 ![0, 1, 2, 3] bcast_S1x8192x1x64_S2x8192x4x64_0_1_2_3 (broadcastInDim S1x8192x1x64 ![1, 3] bcast_S8192x64_S1x8192x1x64_1_3 (Host.sin g)))) (mulf (extractStridedSlice S2x8192x4x64 ![0, 0, 0, 64] (shapeCast S2x8192x4x128 (extractStridedSlice S2x8192x512 ![0, 0, 0] z slices_S2x8192x8200_S2x8192x512_0_0_0) shapeCasts_S2x8192x512_S2x8192x4x128) slices_S2x8192x4x128_S2x8192x4x64_0_0_0_64) (broadcastInDim S2x8192x4x64 ![0, 1, 2, 3] bcast_S1x8192x1x64_S2x8192x4x64_0_1_2_3 (broadcastInDim S1x8192x1x64 ![1, 3] bcast_S8192x64_S1x8192x1x64_1_3 (Host.cos g)))))) shapeCasts_S2x8192x4x128_S2x8192x512

/-- The reference's term for the second group of turned heads. -/
def RK (z : FVec Ideal S2x8192x8200 .f32) (g : FVec Ideal S8192x64 .f32) : FVec Ideal S2x8192x512 .f32 :=
  shapeCast S2x8192x512 (mulf (fn_main_v102 (F := Ideal) (subf (mulf (extractStridedSlice S2x8192x4x64 ![0, 0, 0, 0] (shapeCast S2x8192x4x128 (extractStridedSlice S2x8192x512 ![0, 0, 512] z slices_S2x8192x8200_S2x8192x512_0_0_512) shapeCasts_S2x8192x512_S2x8192x4x128) slices_S2x8192x4x128_S2x8192x4x64_0_0_0_0) (broadcastInDim S2x8192x4x64 ![0, 1, 2, 3] bcast_S1x8192x1x64_S2x8192x4x64_0_1_2_3 (broadcastInDim S1x8192x1x64 ![1, 3] bcast_S8192x64_S1x8192x1x64_1_3 (Host.cos g)))) (mulf (extractStridedSlice S2x8192x4x64 ![0, 0, 0, 64] (shapeCast S2x8192x4x128 (extractStridedSlice S2x8192x512 ![0, 0, 512] z slices_S2x8192x8200_S2x8192x512_0_0_512) shapeCasts_S2x8192x512_S2x8192x4x128) slices_S2x8192x4x128_S2x8192x4x64_0_0_0_64) (broadcastInDim S2x8192x4x64 ![0, 1, 2, 3] bcast_S1x8192x1x64_S2x8192x4x64_0_1_2_3 (broadcastInDim S1x8192x1x64 ![1, 3] bcast_S8192x64_S1x8192x1x64_1_3 (Host.sin g))))) (addf (mulf (extractStridedSlice S2x8192x4x64 ![0, 0, 0, 0] (shapeCast S2x8192x4x128 (extractStridedSlice S2x8192x512 ![0, 0, 512] z slices_S2x8192x8200_S2x8192x512_0_0_512) shapeCasts_S2x8192x512_S2x8192x4x128) slices_S2x8192x4x128_S2x8192x4x64_0_0_0_0) (broadcastInDim S2x8192x4x64 ![0, 1, 2, 3] bcast_S1x8192x1x64_S2x8192x4x64_0_1_2_3 (broadcastInDim S1x8192x1x64 ![1, 3] bcast_S8192x64_S1x8192x1x64_1_3 (Host.sin g)))) (mulf (extractStridedSlice S2x8192x4x64 ![0, 0, 0, 64] (shapeCast S2x8192x4x128 (extractStridedSlice S2x8192x512 ![0, 0, 512] z slices_S2x8192x8200_S2x8192x512_0_0_512) shapeCasts_S2x8192x512_S2x8192x4x128) slices_S2x8192x4x128_S2x8192x4x64_0_0_0_64) (broadcastInDim S2x8192x4x64 ![0, 1, 2, 3] bcast_S1x8192x1x64_S2x8192x4x64_0_1_2_3 (broadcastInDim S1x8192x1x64 ![1, 3] bcast_S8192x64_S1x8192x1x64_1_3 (Host.cos g)))))) (broadcastInDim S2x8192x4x128 ![] bcast_S_S2x8192x4x128 (constant S_ .f32 0x3DB504F3#32))) shapeCasts_S2x8192x4x128_S2x8192x512

/-- The reference's term for the parts joined. -/
def ZS (z : FVec Ideal S2x8192x8200 .f32) (rq rk : FVec Ideal S2x8192x512 .f32) : FVec Ideal S2x8192x6144 .f32 :=
  Cert.ReferenceInIdeal.Value.fn_main_v119 rq rk (extractStridedSlice S2x8192x1024 ![0, 0, 1024] z slices_S2x8192x8200_S2x8192x1024_0_0_1024) (mulf (extractStridedSlice S2x8192x1024 ![0, 0, 2048] z slices_S2x8192x8200_S2x8192x1024_0_0_2048) (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 2048] z slices_S2x8192x8200_S2x8192x1024_0_0_2048)))))) (extractStridedSlice S2x8192x1024 ![0, 0, 4096] z slices_S2x8192x8200_S2x8192x1024_0_0_4096) (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 6152] z slices_S2x8192x8200_S2x8192x1024_0_0_6152))))) (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf (extractStridedSlice S2x8192x1024 ![0, 0, 7176] z slices_S2x8192x8200_S2x8192x1024_0_0_7176)))))

/-- The reference's term for the joined result. -/
def OUT (zs : FVec Ideal S2x8192x6144 .f32) : FVec Ideal S16384x6144 .bf16 :=
  truncf .bf16 (shapeCast S16384x6144 zs shapeCasts_S2x8192x6144_S16384x6144) bitsLt_bf16_f32

/-- The reference's term for the queries. -/
def QT (z : FVec Ideal S2x8192x8200 .f32) : FVec Ideal S2x4x1024x2048 .bf16 :=
  truncf .bf16 (transpose S2x4x1024x2048 [0, 1, 3, 2] (shapeCast S2x4x2048x1024 (mulf (extractStridedSlice S2x8192x1024 ![0, 0, 3072] z slices_S2x8192x8200_S2x8192x1024_0_0_3072) (broadcastInDim S2x8192x1024 ![] bcast_S_S2x8192x1024 (constant S_ .f32 0x3E0293EE#32))) shapeCasts_S2x8192x1024_S2x4x2048x1024) transposes_S2x4x2048x1024_S2x4x1024x2048_0_1_3_2) bitsLt_bf16_f32

/-- The reference's term for the values. -/
def VT (z : FVec Ideal S2x8192x8200 .f32) : FVec Ideal S2x1024x8192 .bf16 :=
  truncf .bf16 (transpose S2x1024x8192 [0, 2, 1] (extractStridedSlice S2x8192x1024 ![0, 0, 5120] z slices_S2x8192x8200_S2x8192x1024_0_0_5120) transposes_S2x8192x1024_S2x1024x8192_0_2_1) bitsLt_bf16_f32

/-- The reference's term for the arguments of the gates, sixteen lanes for each head. -/
def GATE (z : FVec Ideal S2x8192x8200 .f32) (a4 : FVec Ideal S1x8 .f32) : FVec Ideal S2x8192x128 .f32 :=
  shapeCast S2x8192x128 (fn_main_v130 (F := Ideal) (shapeCast S2x8192x8x6 (broadcastInDim S2x8192x8x1x6 ![0, 1, 2, 3] bcast_S2x8192x8x1_S2x8192x8x1x6_0_1_2_3 (broadcastInDim S2x8192x8x1 ![0, 1, 2] bcast_S2x8192x8_S2x8192x8x1_0_1_2 (addf (extractStridedSlice S2x8192x8 ![0, 0, 6144] z slices_S2x8192x8200_S2x8192x8_0_0_6144) (broadcastInDim S2x8192x8 ![0, 1, 2] bcast_S1x1x8_S2x8192x8_0_1_2 (broadcastInDim S1x1x8 ![2] bcast_S8_S1x1x8_2 (shapeCast S8 a4 shapeCasts_S1x8_S8)))))) shapeCasts_S2x8192x8x1x6_S2x8192x8x6) (broadcastInDim (s := S_) S2x8192x8x10 ![] bcast_S_S2x8192x8x10 (constant (F := Ideal) S_ .f32 0x00000000#32) : FVec Ideal S2x8192x8x10 .f32)) shapeCasts_S2x8192x8x16_S2x8192x128

/-- The reference's term for the logarithms of the gates. -/
def LOGF (g : FVec Ideal S2x8192x128 .f32) : FVec Ideal S2x8192x128 .f32 :=
  subf (minimumf g (broadcastInDim S2x8192x128 ![] bcast_S_S2x8192x128 (constant S_ .f32 0x00000000#32))) (Host.log1p (Host.exp (Host.negf (Host.absf g))))

/-- The reference's term for which positions are not after which. -/
def UPTO : FVec Ideal S8192x8192 .f32 :=
  select (cmpi .sge (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))) (broadcastInDim S8192x8192 ![] bcast_S_S8192x8192 (constant S_ .f32 0x3F800000#32)) (broadcastInDim S8192x8192 ![] bcast_S_S8192x8192 (constant S_ .f32 0x00000000#32))

/-- The reference's term for the sums over the positions not after each. -/
def SUMS (l : FVec Ideal S2x8192x128 .f32) (u : FVec Ideal S8192x8192 .f32) : FVec Ideal S2x8192x128 .f32 :=
  mulf (transpose S2x8192x128 [0, 2, 1] (Host.dotGeneral dot_S2x8192x128_S8192x8192_S2x128x8192_1_1_02_0_n_n none l u) transposes_S2x128x8192_S2x8192x128_0_2_1) (broadcastInDim S2x8192x128 ![] bcast_S_S2x8192x128 (constant S_ .f32 0x3FB8AA3B#32))

/-- The reference's term for the sums laid out by blocks. -/
def FT (f : FVec Ideal S2x8192x128 .f32) : FVec Ideal S2x4x128x2048 .f32 :=
  transpose S2x4x128x2048 [0, 1, 3, 2] (shapeCast S2x4x2048x128 f shapeCasts_S2x8192x128_S2x4x2048x128) transposes_S2x4x2048x128_S2x4x128x2048_0_1_3_2

/-- The normalised, modulated row of token `s` of batch `b`, from the arguments. -/
def hidRow (a0 : FVec Ideal S2x8192x1024 .f32) (a1 : FVec Ideal S2x6144 .f32) (a2 : FVec Ideal S1x1024 .f32) (b : Fin 2) (s : Fin 8192) : Fin 1024 → EReal :=
  hid (fun k => a0 (ix3 b s k)) (fun k => a2 (ix2 0 k)) (fun k => a1 (ix2 b ⟨1024 + k.val, by omega⟩)) (fun k => a1 (ix2 b ⟨k.val, by omega⟩))

/-- The projected row of token `s` of batch `b`, from the arguments. -/
def projRow (a0 : FVec Ideal S2x8192x1024 .f32) (a1 : FVec Ideal S2x6144 .f32) (a2 : FVec Ideal S1x1024 .f32) (a3 : FVec Ideal S1x1024x8200 .f32)
    (b : Fin 2) (s : Fin 8192) : Fin 8200 → EReal :=
  proj (hidRow a0 a1 a2 b s) (fun k n => a3 (ix3 0 k n))

/-- The modulated rows of the reference, read at an index. -/
theorem H_at (a0 a1 a2) (b : Fin 2) (s : Fin 8192) (n : Fin 1024) : H a0 a1 a2 (ix3 b s n) = hidRow a0 a1 a2 b s n := by
  unfold H; pointwise
  rfl

/-- The projected rows of the reference, read at an index. -/
theorem Z_at (h a3) (b : Fin 2) (s : Fin 8192) (n : Fin 8200) : Z h a3 (ix3 b s n) = proj (fun k => h (ix3 b s k)) (fun k n => a3 (ix3 0 k n)) n := by
  unfold Z; pointwise
  rfl

/-- The first group of turned heads of the reference, read at an index. -/
theorem RQ_at (z g) (b : Fin 2) (s : Fin 8192) (n : Fin 512) : RQ z g (ix3 b s n)
    = turn (head (fun n => z (ix3 b s n)) ⟨n.val / 128 * 128, by omega⟩) (fun d => g (ix2 s d)) ⟨n.val % 128, by omega⟩ := by
  have e : ∀ (p q : ℕ) (hp : p < 8200) (hq : q < 8200), p = q → z (ix3 b s ⟨p, hp⟩) = z (ix3 b s ⟨q, hq⟩) := fun p q hp hq h => by subst h; rfl
  unfold RQ fn_main_v70; pointwise
  unfold turn head
  by_cases h : n.val % 128 < 64
  · rw [dif_pos h, dif_pos h]
    exact congrArg₂ (· - ·) (congrArg₂ (· * ·) (e _ _ _ _ (by dsimp only; omega)) rfl) (congrArg₂ (· * ·) (e _ _ _ _ (by dsimp only; omega)) rfl)
  · rw [dif_neg h, dif_neg h]
    exact congrArg₂ (· + ·) (congrArg₂ (· * ·) (e _ _ _ _ (by dsimp only)) rfl) (congrArg₂ (· * ·) (e _ _ _ _ (by dsimp only; omega)) rfl)

/-- The second group of turned heads of the reference, read at an index. -/
theorem RK_at (z g) (b : Fin 2) (s : Fin 8192) (n : Fin 512) : RK z g (ix3 b s n)
    = turn (head (fun n => z (ix3 b s n)) ⟨(512 + n.val) / 128 * 128, by omega⟩) (fun d => g (ix2 s d)) ⟨n.val % 128, by omega⟩ * rkScale := by
  have e : ∀ (p q : ℕ) (hp : p < 8200) (hq : q < 8200), p = q → z (ix3 b s ⟨p, hp⟩) = z (ix3 b s ⟨q, hq⟩) := fun p q hp hq h => by subst h; rfl
  unfold RK fn_main_v102; pointwise
  refine congrArg (· * rkScale) ?_
  unfold turn head
  by_cases h : n.val % 128 < 64
  · rw [dif_pos h, dif_pos h]
    exact congrArg₂ (· - ·) (congrArg₂ (· * ·) (e _ _ _ _ (by dsimp only; omega)) rfl) (congrArg₂ (· * ·) (e _ _ _ _ (by dsimp only; omega)) rfl)
  · rw [dif_neg h, dif_neg h]
    exact congrArg₂ (· + ·) (congrArg₂ (· * ·) (e _ _ _ _ (by dsimp only; omega)) rfl) (congrArg₂ (· * ·) (e _ _ _ _ (by dsimp only; omega)) rfl)

/-- The joined parts of the reference, read at an index. -/
theorem ZS_at (z rq rk) (b : Fin 2) (s : Fin 8192) (n : Fin 6144) : ZS z rq rk (ix3 b s n)
    = if h : n.val < 512 then rq (ix3 b s ⟨n.val, h⟩) else if h : n.val < 1024 then rk (ix3 b s ⟨n.val - 512, by omega⟩)
      else if h : n.val < 2048 then z (ix3 b s ⟨n.val, by omega⟩)
      else if h : n.val < 3072 then z (ix3 b s ⟨n.val, by omega⟩) * Ideal.logistic (z (ix3 b s ⟨n.val, by omega⟩))
      else if h : n.val < 4096 then z (ix3 b s ⟨n.val + 1024, by omega⟩)
      else Ideal.logistic (z (ix3 b s ⟨n.val + 2056, by omega⟩)) := by
  have e : ∀ (p q : ℕ) (hp : p < 8200) (hq : q < 8200), p = q → z (ix3 b s ⟨p, hp⟩) = z (ix3 b s ⟨q, hq⟩) := fun p q hp hq h => by subst h; rfl
  unfold ZS fn_main_v119; pointwise
  by_cases h1 : n.val < 512
  · rw [dif_pos h1, dif_pos h1]
  rw [dif_neg h1, dif_neg h1]
  by_cases h2 : n.val < 1024
  · rw [dif_pos (show n.val - 512 < 512 by omega), dif_pos h2]
  rw [dif_neg (show ¬ n.val - 512 < 512 by omega), dif_neg h2]
  by_cases h3 : n.val < 2048
  · rw [dif_pos (show n.val - 512 - 512 < 1024 by omega), dif_pos h3]
    exact e _ _ _ _ (by omega)
  rw [dif_neg (show ¬ n.val - 512 - 512 < 1024 by omega), dif_neg h3]
  by_cases h4 : n.val < 3072
  · rw [dif_pos (show n.val - 512 - 512 - 1024 < 1024 by omega), dif_pos h4]
    exact congrArg (fun u => u * Ideal.logistic u) (e _ _ _ _ (by omega))
  rw [dif_neg (show ¬ n.val - 512 - 512 - 1024 < 1024 by omega), dif_neg h4]
  by_cases h5 : n.val < 4096
  · rw [dif_pos (show n.val - 512 - 512 - 1024 - 1024 < 1024 by omega), dif_pos h5]
    exact e _ _ _ _ (by omega)
  rw [dif_neg (show ¬ n.val - 512 - 512 - 1024 - 1024 < 1024 by omega), dif_neg h5]
  by_cases h6 : n.val < 5120
  · rw [dif_pos (show n.val - 512 - 512 - 1024 - 1024 - 1024 < 1024 by omega)]
    exact congrArg Ideal.logistic (e _ _ _ _ (by omega))
  · rw [dif_neg (show ¬ n.val - 512 - 512 - 1024 - 1024 - 1024 < 1024 by omega)]
    exact congrArg Ideal.logistic (e _ _ _ _ (by omega))

/-- The joined result of the reference, read at an index. -/
theorem OUT_at (zs) (i : S16384x6144.Idx) : OUT zs i = zs (ix3 ⟨(i 0).val / 8192, by have h : (i 0).val < 16384 := (i 0).isLt; omega⟩ ⟨(i 0).val % 8192, by omega⟩ (i 1)) := by
  unfold OUT; pointwise

/-- The queries of the reference, read at an index. -/
theorem QT_at (z) (i : S2x4x1024x2048.Idx) : QT z i
   = z (ix3 (i 0) ⟨(i 1).val * 2048 + (i 3).val, by have h : (i 3).val < 2048 := (i 3).isLt; have h : (i 1).val < 4 := (i 1).isLt; omega⟩ ⟨3072 + (i 2).val, by have h : (i 2).val < 1024 := (i 2).isLt; omega⟩) * qScale := by
  unfold QT; pointwise

/-- The values of the reference, read at an index. -/
theorem VT_at (z) (i : S2x1024x8192.Idx) : VT z i
   = z (ix3 (i 0) (i 2) ⟨5120 + (i 1).val, by have h : (i 1).val < 1024 := (i 1).isLt; omega⟩) := by
  unfold VT; pointwise

/-- The arguments of the reference's gates, read at an index. -/
theorem GATE_at (z a4) (b : Fin 2) (s : Fin 8192) (l : Fin 128) : GATE z a4 (ix3 b s l) = gate (fun n => z (ix3 b s n)) (fun h => a4 (ix2 0 h)) l := by
  unfold GATE fn_main_v130; pointwise
  rfl

/-- The logarithms of the reference's gates, read at an index. -/
theorem LOGF_at (g) (b : Fin 2) (s : Fin 8192) (l : Fin 128) : LOGF g (ix3 b s l) = logF (g (ix3 b s l)) := by
  unfold LOGF; pointwise
  rfl

/-- Which positions are not after which, read at an index. -/
theorem UPTO_at (t s : Fin 8192) : UPTO (ix2 t s) = if s.val ≤ t.val then 1 else 0 := by
  unfold UPTO; pointwise
  rw [Idealize.ShloMosaic.WordCmp.cmpi_sge_ofNat (by omega) (by omega), Idealize.ShloMosaic.WordCmp.select_decide]

/-- The sums of the reference, read at an index. -/
theorem SUMS_at (l u) (b : Fin 2) (t : Fin 8192) (d : Fin 128) : SUMS l u (ix3 b t d) = (∑ s : Fin 8192, l (ix3 b s d) * u (ix2 t s)) * fScale := by
  unfold SUMS; pointwise

/-- The sums of the reference laid out by blocks, read at an index. -/
theorem FT_at (f) (i : S2x4x128x2048.Idx) : FT f i
    = f (ix3 (i 0) ⟨(i 1).val * 2048 + (i 3).val, by have h : (i 3).val < 2048 := (i 3).isLt; have h : (i 1).val < 4 := (i 1).isLt; omega⟩ (i 2)) := by
  unfold FT; pointwise

/-- The joined result from the arguments: row `i 0` is token `i 0 % 8192` of batch `i 0 / 8192`. -/
def SPECZ (a0 : FVec Ideal S2x8192x1024 .f32) (a1 : FVec Ideal S2x6144 .f32) (a2 : FVec Ideal S1x1024 .f32) (a3 : FVec Ideal S1x1024x8200 .f32) :
    FVec Ideal S16384x6144 .bf16 := fun i =>
  zcol (projRow a0 a1 a2 a3 ⟨(i 0).val / 8192, by have h : (i 0).val < 16384 := (i 0).isLt; omega⟩ ⟨(i 0).val % 8192, by omega⟩)
    (fun d => ANG (ix2 ⟨(i 0).val % 8192, by omega⟩ d)) (i 1)

/-- The queries from the arguments. -/
def SPECQ (a0 : FVec Ideal S2x8192x1024 .f32) (a1 : FVec Ideal S2x6144 .f32) (a2 : FVec Ideal S1x1024 .f32) (a3 : FVec Ideal S1x1024x8200 .f32) :
    FVec Ideal S2x4x1024x2048 .bf16 := fun i =>
  projRow a0 a1 a2 a3 (i 0) ⟨(i 1).val * 2048 + (i 3).val, by have h : (i 3).val < 2048 := (i 3).isLt; have h : (i 1).val < 4 := (i 1).isLt; omega⟩
    ⟨3072 + (i 2).val, by have h : (i 2).val < 1024 := (i 2).isLt; omega⟩ * qScale

/-- The values from the arguments. -/
def SPECV (a0 : FVec Ideal S2x8192x1024 .f32) (a1 : FVec Ideal S2x6144 .f32) (a2 : FVec Ideal S1x1024 .f32) (a3 : FVec Ideal S1x1024x8200 .f32) :
    FVec Ideal S2x1024x8192 .bf16 := fun i =>
  projRow a0 a1 a2 a3 (i 0) (i 2) ⟨5120 + (i 1).val, by have h : (i 1).val < 1024 := (i 1).isLt; omega⟩

/-- The logarithm of one gate of one token, from the arguments. -/
def logRow (a0 : FVec Ideal S2x8192x1024 .f32) (a1 : FVec Ideal S2x6144 .f32) (a2 : FVec Ideal S1x1024 .f32) (a3 : FVec Ideal S1x1024x8200 .f32) (a4 : FVec Ideal S1x8 .f32)
    (b : Fin 2) (s : Fin 8192) (l : Fin 128) : EReal := logF (gate (projRow a0 a1 a2 a3 b s) (fun h => a4 (ix2 0 h)) l)

/-- The gates' sums from the arguments: at each position, over the positions not after it. -/
def SPECF (a0 : FVec Ideal S2x8192x1024 .f32) (a1 : FVec Ideal S2x6144 .f32) (a2 : FVec Ideal S1x1024 .f32) (a3 : FVec Ideal S1x1024x8200 .f32) (a4 : FVec Ideal S1x8 .f32) :
    FVec Ideal S2x4x128x2048 .f32 := fun i =>
  (∑ s : Fin 8192, if s.val ≤ (i 1).val * 2048 + (i 3).val then logRow a0 a1 a2 a3 a4 (i 0) s (i 2) else 0) * fScale

/-- The projected rows of the reference from the arguments. -/
theorem ZH_at (a0 a1 a2 a3) (b : Fin 2) (s : Fin 8192) (n : Fin 8200) : Z (H a0 a1 a2) a3 (ix3 b s n) = projRow a0 a1 a2 a3 b s n := by
  simp only [Z_at, H_at]; rfl

/-- A row of the joined parts from the arguments. -/
theorem joined (a0 a1 a2 a3) (b : Fin 2) (s : Fin 8192) (n : Fin 6144) :
    ZS (Z (H a0 a1 a2) a3) (RQ (Z (H a0 a1 a2) a3) ANG) (RK (Z (H a0 a1 a2) a3) ANG) (ix3 b s n)
      = zcol (projRow a0 a1 a2 a3 b s) (fun d => ANG (ix2 s d)) n := by
  have e : (fun n => Z (H a0 a1 a2) a3 (ix3 b s n)) = projRow a0 a1 a2 a3 b s := funext fun n => ZH_at a0 a1 a2 a3 b s n
  rw [ZS_at]
  simp only [RQ_at, RK_at, e, ZH_at]
  unfold zcol
  generalize projRow a0 a1 a2 a3 b s = P
  split_ifs with h1 h2
  · rfl
  · refine congrArg (· * rkScale) (congrArg₂ (fun p q => turn (head P p) _ q) (Fin.ext ?_) (Fin.ext ?_)) <;> dsimp only <;> omega
  all_goals rfl

/-- The stages composed are the joined result from the arguments. -/
theorem stagesZ (a0 a1 a2 a3) : OUT (ZS (Z (H a0 a1 a2) a3) (RQ (Z (H a0 a1 a2) a3) ANG) (RK (Z (H a0 a1 a2) a3) ANG)) = SPECZ a0 a1 a2 a3 :=
  funext fun i => (OUT_at _ i).trans (joined a0 a1 a2 a3 _ _ (i 1))

/-- The stages composed are the queries from the arguments. -/
theorem stagesQ (a0 a1 a2 a3) : QT (Z (H a0 a1 a2) a3) = SPECQ a0 a1 a2 a3 :=
  funext fun i => (QT_at _ i).trans (congrArg (· * qScale) (ZH_at a0 a1 a2 a3 (i 0) _ _))

/-- The stages composed are the values from the arguments. -/
theorem stagesV (a0 a1 a2 a3) : VT (Z (H a0 a1 a2) a3) = SPECV a0 a1 a2 a3 :=
  funext fun i => (VT_at _ i).trans (ZH_at a0 a1 a2 a3 (i 0) (i 2) _)

/-- The stages composed are the gates' sums from the arguments. -/
theorem stagesF (a0 a1 a2 a3 a4) : FT (SUMS (LOGF (GATE (Z (H a0 a1 a2) a3) a4)) UPTO) = SPECF a0 a1 a2 a3 a4 := by
  funext i
  refine (FT_at _ i).trans ((SUMS_at _ _ _ _ _).trans (congrArg (· * fScale) (Finset.sum_congr rfl fun s _ => ?_)))
  have e : (fun n => Z (H a0 a1 a2) a3 (ix3 (i 0) s n)) = projRow a0 a1 a2 a3 (i 0) s := funext fun n => ZH_at a0 a1 a2 a3 (i 0) s n
  have g : LOGF (GATE (Z (H a0 a1 a2) a3) a4) (ix3 (i 0) s (i 2)) = logRow a0 a1 a2 a3 a4 (i 0) s (i 2) :=
    (LOGF_at _ _ _ _).trans (congrArg logF ((GATE_at _ _ _ _ _).trans (by rw [e])))
  rw [g, UPTO_at]
  dsimp only
  split_ifs
  · exact mul_one _
  · exact mul_zero _

set_option maxHeartbeats 2000000 in
/-- The reference's run at its results from the arguments. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v152) = SPECZ (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v155) = SPECQ (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v157) = SPECV (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v159) = SPECF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun r h c => ⟨(h c).1.trans (Eq.trans (show _ = OUT (ZS (Z (H (m ((c.tc : Thread nD τ).loc main_arg0)) (m ((c.tc : Thread nD τ).loc main_arg1)) (m ((c.tc : Thread nD τ).loc main_arg2))) (m ((c.tc : Thread nD τ).loc main_arg3))) (RQ (Z (H (m ((c.tc : Thread nD τ).loc main_arg0)) (m ((c.tc : Thread nD τ).loc main_arg1)) (m ((c.tc : Thread nD τ).loc main_arg2))) (m ((c.tc : Thread nD τ).loc main_arg3))) ANG) (RK (Z (H (m ((c.tc : Thread nD τ).loc main_arg0)) (m ((c.tc : Thread nD τ).loc main_arg1)) (m ((c.tc : Thread nD τ).loc main_arg2))) (m ((c.tc : Thread nD τ).loc main_arg3))) ANG)) from rfl) (stagesZ _ _ _ _)), (h c).2.1.trans (stagesQ _ _ _ _), (h c).2.2.1.trans (stagesV _ _ _ _), (h c).2.2.2.1.trans (Eq.trans (show _ = FT (SUMS (LOGF (GATE (Z (H (m ((c.tc : Thread nD τ).loc main_arg0)) (m ((c.tc : Thread nD τ).loc main_arg1)) (m ((c.tc : Thread nD τ).loc main_arg2))) (m ((c.tc : Thread nD τ).loc main_arg3))) (m ((c.tc : Thread nD τ).loc main_arg4)))) UPTO) from rfl) (stagesF _ _ _ _ _)), (h c).2.2.2.2⟩)
    (Cert.ReferenceInIdeal.Value.run (F := Ideal) m ρ)

end Cert.ReferenceInIdeal.In

end
-- ==== Proof.InIdeal.lean ====
/- The first norm and projections: what the block program leaves is the result from the arguments. -/
module

public import proofs.«01_k».proof.Proof.InSums
public import proofs.«01_k».proof.Proof.InRef

@[expose] public section

set_option maxRecDepth 16384

noncomputable section

open Idealize.ShloMosaic Idealize.ShloMosaic.TcCoe Idealize.SL.Sem
open Idealize.ShloMosaic.Pipeline (Dat)

namespace Cert.KernelInIdeal.In

open Cert.KernelInIdeal Cert.KernelInIdeal.Gen Cert.TailRow Cert.InRow
open Cert.ReferenceInIdeal.In (hidRow projRow logRow ANG SPECZ SPECQ SPECV SPECF)

variable (m : (ℓ : Loc nD τ sig) → Buf (Elt Ideal) ℓ)

/-- Every window's block at every grid point, decided. -/
theorem idx : ∀ t : Fin cfg0.N, win0_0.index t = ![0, 0]
    ∧ win0_1.index t = ![min (t.val + 1) 31, 0]
    ∧ win0_2.index t = ![0, 0]
    ∧ win0_3.index t = ![0, 0, 0]
    ∧ win0_4.index t = ![0, 0, 0]
    ∧ win0_5.index t = ![min (t.val + 1) 31 / 16, 0, 0]
    ∧ win0_6.index t = ![min (t.val + 1) 31 / 16, 0, 0]
    ∧ win0_7.index t = ![t.val % 16, 0]
    ∧ win0_8.index t = ![t.val % 16, 0]
    ∧ win0_9.index t = ![0, 0]
    ∧ win0_10.index t = ![0, 0]
    ∧ win0_11.index t = ![0, 0]
    ∧ win0_12.index t = ![0, 0]
    ∧ win0_13.index t = ![t.val, 0]
    ∧ win0_14.index t = ![t.val / 16, t.val % 16 / 4, 0, t.val % 4]
    ∧ win0_15.index t = ![t.val / 16, 0, t.val % 16]
    ∧ win0_16.index t = ![t.val / 16, t.val % 16 / 4, 0, t.val % 4] :=
  (by decide +kernel : ∀ t : Fin grid0.N, _)

/-- The column of the weights that column `n` of the joined weights is. -/
def wcol (n : Fin 8192) : Fin 8200 := if h : n.val < 6144 then ⟨n.val, by omega⟩ else ⟨n.val + 8, by omega⟩

/-- The joined weights, at the arguments. -/
theorem joinedW (c : Dev nD) (k : Fin 1024) (n : Fin 8192) :
    V m c main_v17 (ix2 k n) = m ((c : Thread nD τ).loc main_arg3) (ix3 0 k (wcol n)) := by
  entry_read
  pointwise
  unfold wcol
  by_cases h : n.val < 6144
  · rw [dif_pos h, dif_pos h]
  · rw [dif_neg h, dif_neg h]
    exact congrArg (fun q => m ((c : Thread nD τ).loc main_arg3) (ix3 0 k q)) (Fin.ext (by show 6152 + (n.val - 6144) = n.val + 8; omega))

/-- The cosine table a row reads: the cosines twice. -/
def cosRow (G : Fin 64 → EReal) (d : Fin 128) : EReal := if h : d.val < 64 then Ideal.cos (G ⟨d.val, h⟩) else Ideal.cos (G ⟨d.val - 64, by omega⟩)

/-- The sine table a row reads: the sines negated, then the sines. -/
def sinRow (G : Fin 64 → EReal) (d : Fin 128) : EReal := if h : d.val < 64 then -Ideal.sin (G ⟨d.val, h⟩) else Ideal.sin (G ⟨d.val - 64, by omega⟩)

/-- The kernel's cosine table, at the reference's angles. -/
theorem cosV (c : Dev nD) (s : Fin 8192) (d : Fin 128) : V m c main_v50 (ix2 s d) = cosRow (fun d => ANG (ix2 s d)) d := by
  unfold cosRow ANG
  entry_read
  pointwise

/-- The kernel's sine table, at the reference's angles. -/
theorem sinV (c : Dev nD) (s : Fin 8192) (d : Fin 128) : V m c main_v52 (ix2 s d) = sinRow (fun d => ANG (ix2 s d)) d := by
  unfold sinRow ANG
  entry_read
  pointwise

/-- A joined column from the kernel's tables and joined weights is the reference's. -/
theorem zrow_eq (P : Fin 8200 → EReal) (G : Fin 64 → EReal) (n : Fin 6144) :
    zrow (fun j => P (wcol j)) (cosRow G) (sinRow G) n = zcol P G n := by
  have hw : ∀ (j : Fin 8192) (i : Fin 8200), i.val = (if j.val < 6144 then j.val else j.val + 8) → P (wcol j) = P i := by
    intro j i hi
    refine congrArg P (Fin.ext ?_)
    unfold wcol
    by_cases h : j.val < 6144
    · rw [dif_pos h, hi, if_pos h]
    · rw [dif_neg h, hi, if_neg h]
  have ht : ∀ (k : Fin 1024) (o : Fin 1024) (d : Fin 128), o.val = k.val / 128 * 128 → d.val = k.val % 128 →
      spin (fun j => P (wcol j)) (cosRow G) (sinRow G) k = turn (head P o) G d := by
    intro k o d ho hd
    unfold spin turn
    obtain ⟨d, hdl⟩ := d
    subst hd
    unfold cosRow sinRow head
    have e1 : P (wcol ⟨k.val, by omega⟩) = P ⟨o.val + k.val % 128, by omega⟩ := hw _ _ (by dsimp only; rw [if_pos (by omega)]; omega)
    by_cases h : k.val % 128 < 64
    · have e2 : P (wcol ⟨k.val / 128 * 128 + (k.val % 128 + 64) % 128, by omega⟩) = P ⟨o.val + (k.val % 128 + 64), by omega⟩ :=
        hw _ _ (by dsimp only; rw [if_pos (by omega)]; omega)
      dsimp only
      rw [dif_pos h, dif_pos h, dif_pos h, e1, e2, mul_neg, sub_eq_add_neg]
    · have e2 : P (wcol ⟨k.val / 128 * 128 + (k.val % 128 + 64) % 128, by omega⟩) = P ⟨o.val + (k.val % 128 - 64), by omega⟩ :=
        hw _ _ (by dsimp only; rw [if_pos (by omega)]; omega)
      dsimp only
      rw [dif_neg h, dif_neg h, dif_neg h, e1, e2, add_comm]
  unfold zrow zcol
  by_cases h1 : n.val < 512
  · rw [dif_pos h1, dif_pos h1]
    exact ht _ _ _ rfl rfl
  rw [dif_neg h1, dif_neg h1]
  by_cases h2 : n.val < 1024
  · rw [dif_pos h2, dif_pos h2]
    exact congrArg (· * rkScale) (ht _ _ _ rfl rfl)
  rw [dif_neg h2, dif_neg h2]
  by_cases h3 : n.val < 2048
  · rw [dif_pos h3, dif_pos h3]
    exact hw _ _ (by dsimp only; rw [if_pos (by omega)])
  rw [dif_neg h3, dif_neg h3]
  by_cases h4 : n.val < 3072
  · rw [dif_pos h4, dif_pos h4]
    exact congrArg (fun p => p * Ideal.logistic p) (hw _ _ (by dsimp only; rw [if_pos (by omega)]))
  rw [dif_neg h4, dif_neg h4]
  by_cases h5 : n.val < 4096
  · rw [dif_pos h5, dif_pos h5]
    exact hw _ _ (by dsimp only; rw [if_pos (by omega)])
  rw [dif_neg h5, dif_neg h5]
  exact congrArg Ideal.logistic (hw _ _ (by dsimp only; rw [if_neg (by omega)]))

/-- Window 0's block, at the arguments. -/
theorem rd0 (c : Dev nD) (t : Fin cfg0.N) (r : Fin 512) (k : Fin 1024) :
    iblk m c 0 t (ix2 r k) = m ((c : Thread nD τ).loc main_arg0) (ix3 0 ⟨r.val, by omega⟩ k) := by
  have ht : t.val < 32 := t.isLt
  obtain ⟨e0, e1, e2, e3, e4, e5, e6, e7, e8, e9, e10, e11, e12, e13, e14, e15, e16⟩ := idx t
  have q : iblk m c 0 t (ix2 r k) = V m c main_v53 (ix2 (⟨r.val, by omega⟩ : Fin 16384) k) := by
    refine congrArg (V m c main_v53) (funext fun a => Fin.ext ?_)
    match a with
    | 0 => blk_simp [e0] <;> simp [ix1, ix2, ix3, ix4] <;> omega
    | 1 => blk_simp [e0] <;> simp [ix1, ix2, ix3, ix4] <;> omega
  rw [q]
  entry_read
  pointwise
  refine congrArg (m ((c : Thread nD τ).loc main_arg0)) (funext fun a => Fin.ext ?_)
  match a with
  | 0 => simp [ix1, ix2, ix3, ix4] <;> omega
  | 1 => simp [ix1, ix2, ix3, ix4] <;> omega
  | 2 => simp [ix1, ix2, ix3, ix4] <;> omega

/-- Window 1's block before the last point, at the arguments. -/
theorem rd1 (c : Dev nD) (t : Fin cfg0.N) (ht : t.val < 31) (r : Fin 512) (k : Fin 1024) (b : Fin 2) (s : Fin 8192) (hb : b.val * 8192 + s.val = (t.val + 1) * 512 + r.val) :
    iblk m c 1 t (ix2 r k) = m ((c : Thread nD τ).loc main_arg0) (ix3 b s k) := by
  obtain ⟨e0, e1, e2, e3, e4, e5, e6, e7, e8, e9, e10, e11, e12, e13, e14, e15, e16⟩ := idx t
  have em : min (t.val + 1) 31 = t.val + 1 := by omega
  rw [em] at e1
  have q : iblk m c 1 t (ix2 r k) = V m c main_v53 (ix2 (⟨(t.val + 1) * 512 + r.val, by omega⟩ : Fin 16384) k) := by
    refine congrArg (V m c main_v53) (funext fun a => Fin.ext ?_)
    match a with
    | 0 => blk_simp [e1] <;> simp [ix1, ix2, ix3, ix4] <;> omega
    | 1 => blk_simp [e1] <;> simp [ix1, ix2, ix3, ix4] <;> omega
  rw [q]
  entry_read
  pointwise
  refine congrArg (m ((c : Thread nD τ).loc main_arg0)) (funext fun a => Fin.ext ?_)
  match a with
  | 0 => simp [ix1, ix2, ix3, ix4] <;> omega
  | 1 => simp [ix1, ix2, ix3, ix4] <;> omega
  | 2 => simp [ix1, ix2, ix3, ix4] <;> omega

/-- Window 2's block, at the arguments. -/
theorem rd2 (c : Dev nD) (t : Fin cfg0.N) (k : Fin 1024) :
    iblk m c 2 t (ix2 0 k) = m ((c : Thread nD τ).loc main_arg2) (ix2 0 k) := by
  have ht : t.val < 32 := t.isLt
  obtain ⟨e0, e1, e2, e3, e4, e5, e6, e7, e8, e9, e10, e11, e12, e13, e14, e15, e16⟩ := idx t
  have q : iblk m c 2 t (ix2 0 k) = V m c main_v55 (ix2 0 k) := by
    refine congrArg (V m c main_v55) (funext fun a => Fin.ext ?_)
    match a with
    | 0 => blk_simp [e2] <;> simp [ix1, ix2, ix3, ix4] <;> omega
    | 1 => blk_simp [e2] <;> simp [ix1, ix2, ix3, ix4] <;> omega
  rw [q]
  entry_read
  pointwise

/-- Window 3's block, at the arguments. -/
theorem rd3 (c : Dev nD) (t : Fin cfg0.N) (k : Fin 1024) :
    iblk m c 3 t (ix3 0 0 k) = m ((c : Thread nD τ).loc main_arg1) (ix2 0 ⟨1024 + k.val, by omega⟩) := by
  have ht : t.val < 32 := t.isLt
  obtain ⟨e0, e1, e2, e3, e4, e5, e6, e7, e8, e9, e10, e11, e12, e13, e14, e15, e16⟩ := idx t
  have q : iblk m c 3 t (ix3 0 0 k) = V m c main_v7 (ix3 0 0 k) := by
    refine congrArg (V m c main_v7) (funext fun a => Fin.ext ?_)
    match a with
    | 0 => blk_simp [e3] <;> simp [ix1, ix2, ix3, ix4] <;> omega
    | 1 => blk_simp [e3] <;> simp [ix1, ix2, ix3, ix4] <;> omega
    | 2 => blk_simp [e3] <;> simp [ix1, ix2, ix3, ix4] <;> omega
  rw [q]
  entry_read
  pointwise

/-- Window 4's block, at the arguments. -/
theorem rd4 (c : Dev nD) (t : Fin cfg0.N) (k : Fin 1024) :
    iblk m c 4 t (ix3 0 0 k) = m ((c : Thread nD τ).loc main_arg1) (ix2 0 ⟨k.val, by omega⟩) := by
  have ht : t.val < 32 := t.isLt
  obtain ⟨e0, e1, e2, e3, e4, e5, e6, e7, e8, e9, e10, e11, e12, e13, e14, e15, e16⟩ := idx t
  have q : iblk m c 4 t (ix3 0 0 k) = V m c main_v6 (ix3 0 0 k) := by
    refine congrArg (V m c main_v6) (funext fun a => Fin.ext ?_)
    match a with
    | 0 => blk_simp [e4] <;> simp [ix1, ix2, ix3, ix4] <;> omega
    | 1 => blk_simp [e4] <;> simp [ix1, ix2, ix3, ix4] <;> omega
    | 2 => blk_simp [e4] <;> simp [ix1, ix2, ix3, ix4] <;> omega
  rw [q]
  entry_read
  pointwise

/-- Window 5's block before the last point, at the arguments. -/
theorem rd5 (c : Dev nD) (t : Fin cfg0.N) (ht : t.val < 31) (k : Fin 1024) (b : Fin 2) (hb : b.val = (t.val + 1) / 16) :
    iblk m c 5 t (ix3 0 0 k) = m ((c : Thread nD τ).loc main_arg1) (ix2 b ⟨1024 + k.val, by omega⟩) := by
  obtain ⟨e0, e1, e2, e3, e4, e5, e6, e7, e8, e9, e10, e11, e12, e13, e14, e15, e16⟩ := idx t
  have em : min (t.val + 1) 31 = t.val + 1 := by omega
  rw [em] at e5
  have q : iblk m c 5 t (ix3 0 0 k) = V m c main_v7 (ix3 b 0 k) := by
    refine congrArg (V m c main_v7) (funext fun a => Fin.ext ?_)
    match a with
    | 0 => blk_simp [e5] <;> simp [ix1, ix2, ix3, ix4] <;> omega
    | 1 => blk_simp [e5] <;> simp [ix1, ix2, ix3, ix4] <;> omega
    | 2 => blk_simp [e5] <;> simp [ix1, ix2, ix3, ix4] <;> omega
  rw [q]
  entry_read
  pointwise

/-- Window 6's block before the last point, at the arguments. -/
theorem rd6 (c : Dev nD) (t : Fin cfg0.N) (ht : t.val < 31) (k : Fin 1024) (b : Fin 2) (hb : b.val = (t.val + 1) / 16) :
    iblk m c 6 t (ix3 0 0 k) = m ((c : Thread nD τ).loc main_arg1) (ix2 b ⟨k.val, by omega⟩) := by
  obtain ⟨e0, e1, e2, e3, e4, e5, e6, e7, e8, e9, e10, e11, e12, e13, e14, e15, e16⟩ := idx t
  have em : min (t.val + 1) 31 = t.val + 1 := by omega
  rw [em] at e6
  have q : iblk m c 6 t (ix3 0 0 k) = V m c main_v6 (ix3 b 0 k) := by
    refine congrArg (V m c main_v6) (funext fun a => Fin.ext ?_)
    match a with
    | 0 => blk_simp [e6] <;> simp [ix1, ix2, ix3, ix4] <;> omega
    | 1 => blk_simp [e6] <;> simp [ix1, ix2, ix3, ix4] <;> omega
    | 2 => blk_simp [e6] <;> simp [ix1, ix2, ix3, ix4] <;> omega
  rw [q]
  entry_read
  pointwise

/-- Window 7's block, at the reference's angles. -/
theorem rd7 (c : Dev nD) (t : Fin cfg0.N) (r : Fin 512) (d : Fin 128) (s : Fin 8192) (hs : s.val = t.val % 16 * 512 + r.val) :
    iblk m c 7 t (ix2 r d) = cosRow (fun d => ANG (ix2 s d)) d := by
  have ht : t.val < 32 := t.isLt
  obtain ⟨e0, e1, e2, e3, e4, e5, e6, e7, e8, e9, e10, e11, e12, e13, e14, e15, e16⟩ := idx t
  have q : iblk m c 7 t (ix2 r d) = V m c main_v50 (ix2 s d) := by
    refine congrArg (V m c main_v50) (funext fun a => Fin.ext ?_)
    match a with
    | 0 => blk_simp [e7] <;> (try simp [ix1, ix2, ix3, ix4]) <;> omega
    | 1 => blk_simp [e7] <;> (try simp [ix1, ix2, ix3, ix4]) <;> omega
  exact q.trans (cosV m c s d)

/-- Window 8's block, at the reference's angles. -/
theorem rd8 (c : Dev nD) (t : Fin cfg0.N) (r : Fin 512) (d : Fin 128) (s : Fin 8192) (hs : s.val = t.val % 16 * 512 + r.val) :
    iblk m c 8 t (ix2 r d) = sinRow (fun d => ANG (ix2 s d)) d := by
  have ht : t.val < 32 := t.isLt
  obtain ⟨e0, e1, e2, e3, e4, e5, e6, e7, e8, e9, e10, e11, e12, e13, e14, e15, e16⟩ := idx t
  have q : iblk m c 8 t (ix2 r d) = V m c main_v52 (ix2 s d) := by
    refine congrArg (V m c main_v52) (funext fun a => Fin.ext ?_)
    match a with
    | 0 => blk_simp [e8] <;> (try simp [ix1, ix2, ix3, ix4]) <;> omega
    | 1 => blk_simp [e8] <;> (try simp [ix1, ix2, ix3, ix4]) <;> omega
  exact q.trans (sinV m c s d)

/-- Window 9's block, at the arguments. -/
theorem rd9 (c : Dev nD) (t : Fin cfg0.N) (k : Fin 1024) (n : Fin 8192) :
    iblk m c 9 t (ix2 k n) = m ((c : Thread nD τ).loc main_arg3) (ix3 0 k (wcol n)) := by
  have ht : t.val < 32 := t.isLt
  obtain ⟨e0, e1, e2, e3, e4, e5, e6, e7, e8, e9, e10, e11, e12, e13, e14, e15, e16⟩ := idx t
  have q : iblk m c 9 t (ix2 k n) = V m c main_v17 (ix2 k n) := by
    refine congrArg (V m c main_v17) (funext fun a => Fin.ext ?_)
    match a with
    | 0 => blk_simp [e9] <;> simp [ix1, ix2, ix3, ix4] <;> omega
    | 1 => blk_simp [e9] <;> simp [ix1, ix2, ix3, ix4] <;> omega
  exact q.trans (joinedW m c k n)

/-- The gates' weights laid out by lanes, at the arguments. -/
theorem rd10 (c : Dev nD) (t : Fin cfg0.N) (k : Fin 1024) (l : Fin 128) :
    iblk m c 10 t (ix2 k l) = if l.val % 16 < 6 then m ((c : Thread nD τ).loc main_arg3) (ix3 0 k ⟨6144 + l.val / 16, by omega⟩) else (0 : EReal) := by
  have ht : t.val < 32 := t.isLt
  obtain ⟨e0, e1, e2, e3, e4, e5, e6, e7, e8, e9, e10, e11, e12, e13, e14, e15, e16⟩ := idx t
  have q : iblk m c 10 t (ix2 k l) = V m c main_v26 (ix2 k l) := by
    refine congrArg (V m c main_v26) (funext fun a => Fin.ext ?_)
    match a with
    | 0 => blk_simp [e10] <;> simp [ix1, ix2, ix3, ix4] <;> omega
    | 1 => blk_simp [e10] <;> simp [ix1, ix2, ix3, ix4] <;> omega
  rw [q]
  entry_read
  pointwise
  by_cases h : l.val % 16 < 6
  · exact (dif_pos h).trans (if_pos h).symm
  · exact (dif_neg h).trans (if_neg h).symm

/-- The gates' biases laid out by lanes, at the arguments. -/
theorem rd11 (c : Dev nD) (t : Fin cfg0.N) (l : Fin 128) :
    iblk m c 11 t (ix2 0 l) = if l.val % 16 < 6 then m ((c : Thread nD τ).loc main_arg4) (ix2 0 ⟨l.val / 16, by omega⟩) else (0 : EReal) := by
  have ht : t.val < 32 := t.isLt
  obtain ⟨e0, e1, e2, e3, e4, e5, e6, e7, e8, e9, e10, e11, e12, e13, e14, e15, e16⟩ := idx t
  have q : iblk m c 11 t (ix2 0 l) = V m c main_v34 (ix2 0 l) := by
    refine congrArg (V m c main_v34) (funext fun a => Fin.ext ?_)
    match a with
    | 0 => blk_simp [e11] <;> simp [ix1, ix2, ix3, ix4] <;> omega
    | 1 => blk_simp [e11] <;> simp [ix1, ix2, ix3, ix4] <;> omega
  rw [q]
  entry_read
  pointwise
  by_cases h : l.val % 16 < 6
  · exact (dif_pos h).trans (if_pos h).symm
  · exact (dif_neg h).trans (if_neg h).symm

/-- The one bit as a number. -/
theorem uitofp_one : FloatOps.uitofp (F := Ideal) .bf16 (1#1 : BitVec 1) = (1 : EReal) := by
  rw [show FloatOps.uitofp (F := Ideal) .bf16 (1#1 : BitVec 1) = (((1 : ℕ) : ℝ) : EReal) from rfl]
  simp

/-- The zero bit as a number. -/
theorem uitofp_zero : FloatOps.uitofp (F := Ideal) .bf16 (0#1 : BitVec 1) = (0 : EReal) := by
  rw [show FloatOps.uitofp (F := Ideal) .bf16 (0#1 : BitVec 1) = (((0 : ℕ) : ℝ) : EReal) from rfl]
  simp

/-- The mask of a block: a row keeps the rows not after it. -/
theorem rd12 (c : Dev nD) (t : Fin cfg0.N) (r x : Fin 512) :
    iblk m c 12 t (ix2 r x) = if x.val ≤ r.val then (1 : EReal) else 0 := by
  have ht : t.val < 32 := t.isLt
  obtain ⟨e0, e1, e2, e3, e4, e5, e6, e7, e8, e9, e10, e11, e12, e13, e14, e15, e16⟩ := idx t
  have q : iblk m c 12 t (ix2 r x) = V m c main_v63 (ix2 r x) := by
    refine congrArg (V m c main_v63) (funext fun a => Fin.ext ?_)
    match a with
    | 0 => blk_simp [e12] <;> simp [ix1, ix2, ix3, ix4] <;> omega
    | 1 => blk_simp [e12] <;> simp [ix1, ix2, ix3, ix4] <;> omega
  rw [q]
  entry_read
  pointwise
  rw [WordCmp.cmpi_sge_ofNat (by omega) (by omega)]
  by_cases h : x.val ≤ r.val
  · rw [if_pos h, decide_eq_true h]; exact uitofp_one
  · rw [if_neg h, decide_eq_false h]; exact uitofp_zero

/-- The mask's entries are nothing or one. -/
theorem mask (c : Dev nD) (t : Fin cfg0.N) (r x : Fin 512) : iblk m c 12 t (ix2 r x) = (0 : EReal) ∨ iblk m c 12 t (ix2 r x) = (1 : EReal) := by
  rw [rd12 m c t r x]
  by_cases h : x.val ≤ r.val
  · exact Or.inr (if_pos h)
  · exact Or.inl (if_neg h)

/-- What a point's sums start from: nothing at the first point of a batch row, else the carry of the point before. -/
def came (c : Dev nD) (t : Fin cfg0.N) (l : Fin 128) : EReal :=
  if t.val % 16 = 0 then 0 else (outsAt0 m c (t.val - 1) (Nat.lt_of_le_of_lt (Nat.sub_le _ _) t.isLt)).2.2.2.2.2 (ix2 0 l)

/-- What a point leaves in its four result blocks, and its carry, come from one normed block: that of the point's tokens. -/
theorem left (c : Dev nD) (t : Fin cfg0.N) : ∃ XS : FVec Ideal S1x512x1024 .bf16,
    (∀ (r : Fin 512) (k : Fin 1024) (b : Fin 2) (s : Fin 8192), b.val * 8192 + s.val = t.val * 512 + r.val →
      XS (ix3 0 r k) = hidRow (m ((c : Thread nD τ).loc main_arg0)) (m ((c : Thread nD τ).loc main_arg1)) (m ((c : Thread nD τ).loc main_arg2)) b s k)
    ∧ (∀ y, (dats m 0 c).after 13 t y = zblk XS (iblk m c 7 t) (iblk m c 8 t) (iblk m c 9 t) y)
    ∧ (∀ y, (dats m 0 c).after 14 t y = qblk XS (iblk m c 9 t) y)
    ∧ (∀ y, (dats m 0 c).after 15 t y = vblk XS (iblk m c 9 t) y)
    ∧ (∀ y, (dats m 0 c).after 16 t y = csum XS (iblk m c 10 t) (iblk m c 11 t) (iblk m c 12 t) (came m c t) (y 3) (y 2) * fScale)
    ∧ ∀ l, (outsAt0 m c t.val t.isLt).2.2.2.2.2 (ix2 0 l) = csum XS (iblk m c 10 t) (iblk m c 11 t) (iblk m c 12 t) (came m c t) 511 l := by
  have ht : t.val < 32 := t.isLt
  by_cases h0 : t.val % 32 = 0
  · have ec : came m c t = fun l => 0 := funext fun l => if_pos (by omega)
    rw [ec]
    refine ⟨_, fun r k b s hb => ?_, (left_first m c t h0).1, (left_first m c t h0).2.1, (left_first m c t h0).2.2, sums_first m c t h0 (mask m c t)⟩
    obtain rfl : b = 0 := Fin.ext (by show b.val = 0; omega)
    have e : s = ⟨r.val, by omega⟩ := Fin.ext (by have hb : 0 * 8192 + s.val = t.val * 512 + r.val := hb; show s.val = r.val; omega)
    rw [e]
    refine (normed0 _ _ _ _ r k).trans ?_
    simp only [rd0 m c t, rd2 m c t, rd3 m c t, rd4 m c t]
    rfl
  · have inb : ∀ a, k0_off1 (grid0.coords t) a + ![1, 512, 1024] a ≤ S2x512x1024.size a := by
      rw [off1 t]
      intro a
      match a with
      | 0 => show t.val % 2 + 1 ≤ 2; omega
      | 1 => show 0 + 512 ≤ 512; omega
      | 2 => show 0 + 1024 ≤ 1024; omega
    have hp : t.val - 1 < cfg0.N := Nat.lt_of_le_of_lt (Nat.sub_le _ _) t.isLt
    refine ⟨_, fun r k b s hb => ?_, (left_later m c t h0 hp inb).1, (left_later m c t h0 hp inb).2.1, (left_later m c t h0 hp inb).2.2, sums_later m c t h0 hp inb (mask m c t)⟩
    refine (slot_read _ _ (⟨t.val % 2, by omega⟩ : Fin 2) (off1 t) _ r k).trans ?_
    refine (kept m c (⟨t.val - 1, hp⟩ : Fin cfg0.N) _ (by show t.val % 2 = (t.val - 1 + 1) % 2; congr 1; omega) r k).trans ?_
    have hl : (⟨t.val - 1, hp⟩ : Fin cfg0.N).val < 31 := by show t.val - 1 < 31; omega
    have hb' : b.val * 8192 + s.val = ((⟨t.val - 1, hp⟩ : Fin cfg0.N).val + 1) * 512 + r.val := by show _ = (t.val - 1 + 1) * 512 + r.val; omega
    have hq : b.val = ((⟨t.val - 1, hp⟩ : Fin cfg0.N).val + 1) / 16 := by show _ = (t.val - 1 + 1) / 16; omega
    simp only [rd1 m c _ hl r _ b s hb', rd2 m c _, rd5 m c _ hl _ b hq, rd6 m c _ hl _ b hq]
    rfl

/-- A projected row of a block is that of its token. -/
theorem bproj_eq (c : Dev nD) (t : Fin cfg0.N) (XS : FVec Ideal S1x512x1024 .bf16) (r : Fin 512) (b : Fin 2) (s : Fin 8192)
    (hX : ∀ k, XS (ix3 0 r k) = hidRow (m ((c : Thread nD τ).loc main_arg0)) (m ((c : Thread nD τ).loc main_arg1)) (m ((c : Thread nD τ).loc main_arg2)) b s k) (n : Fin 8192) :
    bproj XS (iblk m c 9 t) r n = projRow (m ((c : Thread nD τ).loc main_arg0)) (m ((c : Thread nD τ).loc main_arg1)) (m ((c : Thread nD τ).loc main_arg2)) (m ((c : Thread nD τ).loc main_arg3)) b s (wcol n) := by
  unfold bproj projRow proj
  exact Finset.sum_congr rfl fun k _ => congrArg₂ (· * ·) (hX k) (rd9 m c t k n)

/-- The joined array after the run. -/
theorem final_z (c : Dev nD) : (dats m 0 c).arrAt 13 (cfgs 0).N = SPECZ (m ((c : Thread nD τ).loc main_arg0)) (m ((c : Thread nD τ).loc main_arg1)) (m ((c : Thread nD τ).loc main_arg2)) (m ((c : Thread nD τ).loc main_arg3)) := by
  refine (dats m 0 c).arrAt_eq_of_covers 13 _ (by decide +kernel) fun t hf y => ?_
  have ht : t.val < 32 := t.isLt
  have hy : (y 0).val < 512 := (y 0).isLt
  obtain ⟨e0, e1, e2, e3, e4, e5, e6, e7, e8, e9, e10, e11, e12, e13, e14, e15, e16⟩ := idx t
  obtain ⟨XS, hX, hz, -, -⟩ := left m c t
  have z0 : ((((cfg0.win 13).blk t).view.emb y 0 : Fin _) : Nat) = t.val * 512 + y 0 := by blk_simp [e13]
  have z1 : ((((cfg0.win 13).blk t).view.emb y 1 : Fin _) : Nat) = y 1 := by blk_simp [e13]
  refine (hz y).trans ?_
  generalize ((cfg0.win 13).blk t).view.emb y = z at z0 z1 ⊢
  have hzl : (z 0).val < 16384 := (z 0).isLt
  have hr := bproj_eq m c t XS (y 0) ⟨(z 0).val / 8192, by omega⟩ ⟨(z 0).val % 8192, by omega⟩
    (fun k => hX (y 0) k _ _ (by show (z 0).val / 8192 * 8192 + (z 0).val % 8192 = _; omega))
  have hc := fun d => rd7 m c t (y 0) d ⟨(z 0).val % 8192, by omega⟩ (by show (z 0).val % 8192 = _; omega)
  have hs := fun d => rd8 m c t (y 0) d ⟨(z 0).val % 8192, by omega⟩ (by show (z 0).val % 8192 = _; omega)
  unfold zblk
  rw [show bproj XS (iblk m c 9 t) (y 0) = _ from funext hr, show (fun d => iblk m c 7 t (ix2 (y 0) d)) = _ from funext hc,
    show (fun d => iblk m c 8 t (ix2 (y 0) d)) = _ from funext hs, show (y 1 : Fin 6144) = z 1 from Fin.ext z1.symm]
  exact zrow_eq _ _ _

/-- The array of queries after the run. -/
theorem final_q (c : Dev nD) : (dats m 0 c).arrAt 14 (cfgs 0).N = SPECQ (m ((c : Thread nD τ).loc main_arg0)) (m ((c : Thread nD τ).loc main_arg1)) (m ((c : Thread nD τ).loc main_arg2)) (m ((c : Thread nD τ).loc main_arg3)) := by
  refine (dats m 0 c).arrAt_eq_of_covers 14 _ (by decide +kernel) fun t hf y => ?_
  have ht : t.val < 32 := t.isLt
  have hy0 : (y 0).val < 1 := (y 0).isLt
  have hy1 : (y 1).val < 1 := (y 1).isLt
  have hy2 : (y 2).val < 1024 := (y 2).isLt
  have hy3 : (y 3).val < 512 := (y 3).isLt
  obtain ⟨e0, e1, e2, e3, e4, e5, e6, e7, e8, e9, e10, e11, e12, e13, e14, e15, e16⟩ := idx t
  obtain ⟨XS, hX, -, hq, -⟩ := left m c t
  have z0 : ((((cfg0.win 14).blk t).view.emb y 0 : Fin _) : Nat) = t.val / 16 + y 0 := by blk_simp [e14]
  have z1 : ((((cfg0.win 14).blk t).view.emb y 1 : Fin _) : Nat) = t.val % 16 / 4 + y 1 := by blk_simp [e14]
  have z2 : ((((cfg0.win 14).blk t).view.emb y 2 : Fin _) : Nat) = y 2 := by blk_simp [e14]
  have z3 : ((((cfg0.win 14).blk t).view.emb y 3 : Fin _) : Nat) = t.val % 4 * 512 + y 3 := by blk_simp [e14]
  refine (hq y).trans ?_
  generalize ((cfg0.win 14).blk t).view.emb y = z at z0 z1 z2 z3 ⊢
  have l1 : (z 1).val < 4 := (z 1).isLt
  have l2 : (z 2).val < 1024 := (z 2).isLt
  have l3 : (z 3).val < 2048 := (z 3).isLt
  unfold qblk
  rw [bproj_eq m c t XS (y 3) (z 0) ⟨(z 1).val * 2048 + (z 3).val, by omega⟩
    (fun k => hX (y 3) k _ _ (by show (z 0).val * 8192 + ((z 1).val * 2048 + (z 3).val) = _; omega))]
  refine congrArg (fun q => projRow (m ((c : Thread nD τ).loc main_arg0)) (m ((c : Thread nD τ).loc main_arg1)) (m ((c : Thread nD τ).loc main_arg2)) (m ((c : Thread nD τ).loc main_arg3)) (z 0) ⟨(z 1).val * 2048 + (z 3).val, by omega⟩ q * qScale) (Fin.ext ?_)
  unfold wcol
  rw [dif_pos (show 3072 + (y 2).val < 6144 by omega)]
  show 3072 + (y 2).val = 3072 + (z 2).val
  omega

/-- The array of values after the run. -/
theorem final_v (c : Dev nD) : (dats m 0 c).arrAt 15 (cfgs 0).N = SPECV (m ((c : Thread nD τ).loc main_arg0)) (m ((c : Thread nD τ).loc main_arg1)) (m ((c : Thread nD τ).loc main_arg2)) (m ((c : Thread nD τ).loc main_arg3)) := by
  refine (dats m 0 c).arrAt_eq_of_covers 15 _ (by decide +kernel) fun t hf y => ?_
  have ht : t.val < 32 := t.isLt
  have hy0 : (y 0).val < 1 := (y 0).isLt
  have hy1 : (y 1).val < 1024 := (y 1).isLt
  have hy2 : (y 2).val < 512 := (y 2).isLt
  obtain ⟨e0, e1, e2, e3, e4, e5, e6, e7, e8, e9, e10, e11, e12, e13, e14, e15, e16⟩ := idx t
  obtain ⟨XS, hX, -, -, hv, -⟩ := left m c t
  have z0 : ((((cfg0.win 15).blk t).view.emb y 0 : Fin _) : Nat) = t.val / 16 + y 0 := by blk_simp [e15]
  have z1 : ((((cfg0.win 15).blk t).view.emb y 1 : Fin _) : Nat) = y 1 := by blk_simp [e15]
  have z2 : ((((cfg0.win 15).blk t).view.emb y 2 : Fin _) : Nat) = t.val % 16 * 512 + y 2 := by blk_simp [e15]
  refine (hv y).trans ?_
  generalize ((cfg0.win 15).blk t).view.emb y = z at z0 z1 z2 ⊢
  have l1 : (z 1).val < 1024 := (z 1).isLt
  unfold vblk
  rw [bproj_eq m c t XS (y 2) (z 0) (z 2) (fun k => hX (y 2) k _ _ (by show (z 0).val * 8192 + (z 2).val = _; omega))]
  refine congrArg (fun q => projRow (m ((c : Thread nD τ).loc main_arg0)) (m ((c : Thread nD τ).loc main_arg1)) (m ((c : Thread nD τ).loc main_arg2)) (m ((c : Thread nD τ).loc main_arg3)) (z 0) (z 2) q) (Fin.ext ?_)
  unfold wcol
  rw [dif_pos (show 5120 + (y 1).val < 6144 by omega)]
  show 5120 + (y 1).val = 5120 + (z 1).val
  omega

/-- The sum over the places before a number, by the numbers. -/
theorem sum_before (f : Fin 8192 → EReal) (M : ℕ) (hM : M ≤ 8192) :
    (∑ s : Fin 8192, if s.val < M then f s else 0) = ∑ n ∈ Finset.range M, (if h : n < 8192 then f ⟨n, h⟩ else 0) := by
  have e : ∀ s : Fin 8192, (if s.val < M then f s else 0) = (fun n : ℕ => if n < M then (if h : n < 8192 then f ⟨n, h⟩ else 0) else 0) s.val := by
    intro s
    dsimp only
    rw [dif_pos s.isLt]
  rw [Finset.sum_congr rfl fun s _ => e s, ← Finset.sum_range (fun n : ℕ => if n < M then (if h : n < 8192 then f ⟨n, h⟩ else 0) else 0), ← Finset.sum_filter]
  refine Finset.sum_congr (Finset.ext fun n => ?_) fun _ _ => rfl
  rw [Finset.mem_filter, Finset.mem_range, Finset.mem_range]
  omega

/-- The rows of a block up to one, and all the rows of the blocks before it, are the rows up to that one. -/
theorem upto_sum (f : Fin 8192 → EReal) (q : ℕ) (hq : q < 16) (r : Fin 512) :
    (∑ x : Fin 512, (if x.val ≤ r.val then (1 : EReal) else 0) * f ⟨q * 512 + x.val, by omega⟩) + (∑ s : Fin 8192, if s.val < q * 512 then f s else 0)
    = ∑ s : Fin 8192, if s.val ≤ q * 512 + r.val then f s else 0 := by
  have hr := r.isLt
  have e : (∑ s : Fin 8192, if s.val ≤ q * 512 + r.val then f s else 0) = ∑ s : Fin 8192, if s.val < q * 512 + (r.val + 1) then f s else 0 :=
    Finset.sum_congr rfl fun s _ => if_congr (by omega) rfl rfl
  rw [e, sum_before f _ (by omega), sum_before f _ (by omega), Finset.sum_range_add, add_comm]
  refine congrArg (_ + ·) ?_
  have e' : ∀ x : Fin 512, (if x.val ≤ r.val then (1 : EReal) else 0) * f ⟨q * 512 + x.val, by omega⟩
      = (fun n : ℕ => if n < r.val + 1 then (if h : q * 512 + n < 8192 then f ⟨q * 512 + n, h⟩ else 0) else 0) x.val := by
    intro x
    have hx := x.isLt
    dsimp only
    rw [dif_pos (show q * 512 + x.val < 8192 by omega)]
    by_cases h : x.val ≤ r.val
    · rw [if_pos h, if_pos (by omega), one_mul]
    · rw [if_neg h, if_neg (by omega), zero_mul]
  rw [Finset.sum_congr rfl fun x _ => e' x, ← Finset.sum_range (fun n : ℕ => if n < r.val + 1 then (if h : q * 512 + n < 8192 then f ⟨q * 512 + n, h⟩ else 0) else 0), ← Finset.sum_filter]
  refine Finset.sum_congr (Finset.ext fun n => ?_) fun _ _ => rfl
  rw [Finset.mem_filter, Finset.mem_range, Finset.mem_range]
  omega

/-- The logarithm of a gate of a row of a block is that of its token. -/
theorem bgate_eq (c : Dev nD) (t : Fin cfg0.N) (XS : FVec Ideal S1x512x1024 .bf16) (r : Fin 512) (b : Fin 2) (s : Fin 8192)
    (hX : ∀ k, XS (ix3 0 r k) = hidRow (m ((c : Thread nD τ).loc main_arg0)) (m ((c : Thread nD τ).loc main_arg1)) (m ((c : Thread nD τ).loc main_arg2)) b s k) (l : Fin 128) :
    logF (bgate XS (iblk m c 10 t) (iblk m c 11 t) r l) = logRow (m ((c : Thread nD τ).loc main_arg0)) (m ((c : Thread nD τ).loc main_arg1)) (m ((c : Thread nD τ).loc main_arg2)) (m ((c : Thread nD τ).loc main_arg3)) (m ((c : Thread nD τ).loc main_arg4)) b s l := by
  unfold logRow
  refine congrArg logF ?_
  unfold bgate gate
  rw [rd11 m c t l]
  by_cases h : l.val % 16 < 6
  · rw [if_pos h, if_pos h]
    refine congrArg (· + _) ?_
    unfold projRow proj
    exact Finset.sum_congr rfl fun k _ => congrArg₂ (· * ·) (hX k) ((rd10 m c t k l).trans (if_pos h))
  · rw [if_neg h, if_neg h, add_zero]
    refine Finset.sum_eq_zero fun k _ => ?_
    rw [rd10 m c t k l, if_neg h, mul_zero]

/-- The sums of a block are those of its tokens, if what came in is. -/
theorem csum_eq (c : Dev nD) (t : Fin cfg0.N) (b : Fin 2) (hb : b.val = t.val / 16) (XS : FVec Ideal S1x512x1024 .bf16)
    (hX : ∀ (r : Fin 512) (k : Fin 1024) (b : Fin 2) (s : Fin 8192), b.val * 8192 + s.val = t.val * 512 + r.val →
      XS (ix3 0 r k) = hidRow (m ((c : Thread nD τ).loc main_arg0)) (m ((c : Thread nD τ).loc main_arg1)) (m ((c : Thread nD τ).loc main_arg2)) b s k) (l : Fin 128)
    (hC : came m c t l = ∑ s : Fin 8192, if s.val < t.val % 16 * 512 then logRow (m ((c : Thread nD τ).loc main_arg0)) (m ((c : Thread nD τ).loc main_arg1)) (m ((c : Thread nD τ).loc main_arg2)) (m ((c : Thread nD τ).loc main_arg3)) (m ((c : Thread nD τ).loc main_arg4)) b s l else 0) (r : Fin 512) :
    csum XS (iblk m c 10 t) (iblk m c 11 t) (iblk m c 12 t) (came m c t) r l
      = ∑ s : Fin 8192, if s.val ≤ t.val % 16 * 512 + r.val then logRow (m ((c : Thread nD τ).loc main_arg0)) (m ((c : Thread nD τ).loc main_arg1)) (m ((c : Thread nD τ).loc main_arg2)) (m ((c : Thread nD τ).loc main_arg3)) (m ((c : Thread nD τ).loc main_arg4)) b s l else 0 := by
  have ht : t.val < 32 := t.isLt
  unfold csum
  rw [hC, ← upto_sum (fun s => logRow (m ((c : Thread nD τ).loc main_arg0)) (m ((c : Thread nD τ).loc main_arg1)) (m ((c : Thread nD τ).loc main_arg2)) (m ((c : Thread nD τ).loc main_arg3)) (m ((c : Thread nD τ).loc main_arg4)) b s l) (t.val % 16) (by omega) r]
  refine congrArg (· + _) (Finset.sum_congr rfl fun x _ => ?_)
  exact congrArg₂ (· * ·) (rd12 m c t r x) (bgate_eq m c t XS x b ⟨t.val % 16 * 512 + x.val, by omega⟩
    (fun k => hX x k b _ (by show b.val * 8192 + (t.val % 16 * 512 + x.val) = _; omega)) l)

/-- What a point's sums start from, at the arguments, if the point before left what it should. -/
theorem came_of (c : Dev nD) (t : Fin cfg0.N) (b : Fin 2) (hb : b.val = t.val / 16) (l : Fin 128)
    (ih : ¬t.val % 16 = 0 → ∀ hp, (outsAt0 m c (t.val - 1) hp).2.2.2.2.2 (ix2 0 l)
      = ∑ s : Fin 8192, if s.val ≤ (t.val - 1) % 16 * 512 + 511 then logRow (m ((c : Thread nD τ).loc main_arg0)) (m ((c : Thread nD τ).loc main_arg1)) (m ((c : Thread nD τ).loc main_arg2)) (m ((c : Thread nD τ).loc main_arg3)) (m ((c : Thread nD τ).loc main_arg4)) b s l else 0) :
    came m c t l = ∑ s : Fin 8192, if s.val < t.val % 16 * 512 then logRow (m ((c : Thread nD τ).loc main_arg0)) (m ((c : Thread nD τ).loc main_arg1)) (m ((c : Thread nD τ).loc main_arg2)) (m ((c : Thread nD τ).loc main_arg3)) (m ((c : Thread nD τ).loc main_arg4)) b s l else 0 := by
  unfold came
  by_cases h : t.val % 16 = 0
  · rw [if_pos h]
    refine (Finset.sum_eq_zero fun s _ => ?_).symm
    rw [if_neg (by omega)]
  · rw [if_neg h, ih h]
    exact Finset.sum_congr rfl fun s _ => if_congr (by omega) rfl rfl

/-- The carry a point leaves is the sum over the tokens of its batch row up to its last. -/
theorem carry_eq (c : Dev nD) (l : Fin 128) : ∀ (n : ℕ) (hn : n < cfg0.N) (b : Fin 2), b.val = n / 16 → (outsAt0 m c n hn).2.2.2.2.2 (ix2 0 l)
      = ∑ s : Fin 8192, if s.val ≤ n % 16 * 512 + 511 then logRow (m ((c : Thread nD τ).loc main_arg0)) (m ((c : Thread nD τ).loc main_arg1)) (m ((c : Thread nD τ).loc main_arg2)) (m ((c : Thread nD τ).loc main_arg3)) (m ((c : Thread nD τ).loc main_arg4)) b s l else 0 := by
  intro n
  induction n with
  | zero =>
    intro hn b hb
    obtain ⟨XS, hX, -, -, -, -, hc⟩ := left m c ⟨0, hn⟩
    exact (hc l).trans (csum_eq m c ⟨0, hn⟩ b hb XS hX l (came_of m c ⟨0, hn⟩ b hb l (fun h => absurd rfl h)) 511)
  | succ n ih =>
    intro hn b hb
    obtain ⟨XS, hX, -, -, -, -, hc⟩ := left m c ⟨n + 1, hn⟩
    exact (hc l).trans (csum_eq m c ⟨n + 1, hn⟩ b hb XS hX l (came_of m c ⟨n + 1, hn⟩ b hb l
      (fun h hp => ih hp b (by have h : ¬(n + 1) % 16 = 0 := h; omega))) 511)

/-- The array of the gates' sums after the run. -/
theorem final_f (c : Dev nD) : (dats m 0 c).arrAt 16 (cfgs 0).N = SPECF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 16 _ (by decide +kernel) fun t hf y => ?_
  have ht : t.val < 32 := t.isLt
  have hy0 : (y 0).val < 1 := (y 0).isLt
  have hy1 : (y 1).val < 1 := (y 1).isLt
  have hy2 : (y 2).val < 128 := (y 2).isLt
  have hy3 : (y 3).val < 512 := (y 3).isLt
  obtain ⟨e0, e1, e2, e3, e4, e5, e6, e7, e8, e9, e10, e11, e12, e13, e14, e15, e16⟩ := idx t
  obtain ⟨XS, hX, -, -, -, hf, -⟩ := left m c t
  have z0 : ((((cfg0.win 16).blk t).view.emb y 0 : Fin _) : Nat) = t.val / 16 + y 0 := by blk_simp [e16]
  have z1 : ((((cfg0.win 16).blk t).view.emb y 1 : Fin _) : Nat) = t.val % 16 / 4 + y 1 := by blk_simp [e16]
  have z2 : ((((cfg0.win 16).blk t).view.emb y 2 : Fin _) : Nat) = y 2 := by blk_simp [e16]
  have z3 : ((((cfg0.win 16).blk t).view.emb y 3 : Fin _) : Nat) = t.val % 4 * 512 + y 3 := by blk_simp [e16]
  refine (hf y).trans ?_
  generalize ((cfg0.win 16).blk t).view.emb y = z at z0 z1 z2 z3 ⊢
  have l1 : (z 1).val < 4 := (z 1).isLt
  have l3 : (z 3).val < 2048 := (z 3).isLt
  have hb : (z 0).val = t.val / 16 := by omega
  rw [csum_eq m c t (z 0) hb XS hX (y 2) (came_of m c t (z 0) hb (y 2) (fun h hp => carry_eq m c (y 2) (t.val - 1) hp (z 0) (by omega))) (y 3),
    show (y 2 : Fin 128) = z 2 from Fin.ext z2.symm]
  unfold SPECF
  refine congrArg (· * fScale) (Finset.sum_congr rfl fun s _ => if_congr ?_ rfl rfl)
  omega

/-- What the block program's run leaves: its four claimed results, and its arguments as they were. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v64_0) = SPECZ (m ((c : Thread nD τ).loc main_arg0)) (m ((c : Thread nD τ).loc main_arg1)) (m ((c : Thread nD τ).loc main_arg2)) (m ((c : Thread nD τ).loc main_arg3))
      ∧ r.2.mem ((c.tc : Thread nD τ).loc main_v64_1) = SPECQ (m ((c : Thread nD τ).loc main_arg0)) (m ((c : Thread nD τ).loc main_arg1)) (m ((c : Thread nD τ).loc main_arg2)) (m ((c : Thread nD τ).loc main_arg3))
      ∧ r.2.mem ((c.tc : Thread nD τ).loc main_v64_2) = SPECV (m ((c : Thread nD τ).loc main_arg0)) (m ((c : Thread nD τ).loc main_arg1)) (m ((c : Thread nD τ).loc main_arg2)) (m ((c : Thread nD τ).loc main_arg3))
      ∧ r.2.mem ((c.tc : Thread nD τ).loc main_v64_3) = SPECF (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun r h c => ⟨(((dats m 0 c).toRForget_arrAt_iff (w := 13) (by decide) _ _).mp ((h.1 c).1 13)).trans (final_z m c),
      (((dats m 0 c).toRForget_arrAt_iff (w := 14) (by decide) _ _).mp ((h.1 c).1 14)).trans (final_q m c),
      (((dats m 0 c).toRForget_arrAt_iff (w := 15) (by decide) _ _).mp ((h.1 c).1 15)).trans (final_v m c),
      (((dats m 0 c).toRForget_arrAt_iff (w := 16) (by decide) _ _).mp ((h.1 c).1 16)).trans (final_f m c), h.2 c⟩)
    (θ_run_and (run_main m ρ) (unchanged m ρ))

end Cert.KernelInIdeal.In

end
-- ==== Proof.RetRow.lean ====
/- The retention on real rows: the sum over all keys, its split into the keys of the token's block and a state carried over the earlier blocks, and the group norm's gate. -/
module

public import Idealize.ShloMosaic.Lib.Pointwise
public import Idealize.ShloMosaic.Lib.Pipeline.ValueKit
public import Idealize.ShloMosaic.Lib.Claim

@[expose] public section

noncomputable section

open Idealize.ShloMosaic

namespace Cert.RetRow

/-- A finite sum of reals, in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real whose absolute value is below infinity is a real number. -/
theorem real_of_lt (x : EReal) (h : x ≠ ⊤) (h' : x ≠ ⊥) : ((x.toReal : ℝ) : EReal) = x := EReal.coe_toReal h h'

/-- Head `h`'s decay per token. -/
def γ (h : ℕ) : ℝ := 1 - (1 / 2) ^ (5 + h)

theorem γ_pos (h : ℕ) : 0 < γ h := by
  unfold γ
  have e : ((1 : ℝ) / 2) ^ (5 + h) ≤ (1 / 2) ^ 1 := pow_le_pow_of_le_one (by norm_num) (by norm_num) (by omega)
  norm_num at e ⊢
  linarith

/-- The exponential of a natural multiple of the decay's logarithm is a power of the decay. -/
theorem exp_log (h n : ℕ) : Real.exp (Real.log (γ h) * n) = γ h ^ n := by
  rw [← Real.rpow_def_of_pos (γ_pos h), Real.rpow_natCast]

/-- The weight of key `s` at token `t`: `γ^|t − s|` when the key's chunk of 64 is not after the token's, else nothing. -/
def W (h t s : ℕ) : ℝ := if s / 64 ≤ t / 64 then γ h ^ (t - s + (s - t)) else 0

/-- The state after the first `512·i` tokens. -/
def S {D E : Type} (h : ℕ) (k : ℕ → D → ℝ) (v : ℕ → E → ℝ) (i : ℕ) (d : D) (e : E) : ℝ :=
  ∑ s ∈ Finset.range (512 * i), γ h ^ (512 * i - s) * (k s d * v s e)

/-- The retention's output at token `t`: the sum over all keys. -/
def ro {D E : Type} [Fintype D] (h : ℕ) (q k : ℕ → D → ℝ) (v : ℕ → E → ℝ) (t : ℕ) (e : E) : ℝ :=
  ∑ s ∈ Finset.range 8192, v s e * ((∑ d, q t d * k s d) * W h t s)

theorem S_zero {D E : Type} (h : ℕ) (k : ℕ → D → ℝ) (v : ℕ → E → ℝ) (d : D) (e : E) : S h k v 0 d e = 0 := by simp [S]

/-- One block's step of the state. -/
theorem S_succ {D E : Type} (h : ℕ) (k : ℕ → D → ℝ) (v : ℕ → E → ℝ) (i : ℕ) (d : D) (e : E) :
    S h k v (i + 1) d e = γ h ^ 512 * S h k v i d e
      + ∑ j : Fin 512, (k (512 * i + j.val) d * γ h ^ (512 - j.val)) * v (512 * i + j.val) e := by
  rw [Fin.sum_univ_eq_sum_range (fun j => (k (512 * i + j) d * γ h ^ (512 - j)) * v (512 * i + j) e) 512]
  unfold S
  rw [Nat.mul_succ, Finset.sum_range_add, Finset.mul_sum]
  refine congrArg₂ (· + ·) (Finset.sum_congr rfl fun s hs => ?_) (Finset.sum_congr rfl fun j hj => ?_)
  · have hs' := Finset.mem_range.1 hs
    rw [show 512 * i + 512 - s = 512 + (512 * i - s) by omega, pow_add]; ring
  · rw [show 512 * i + 512 - (512 * i + j) = 512 - j by omega]; ring

/-- The retention at row `r` of block `i`: the keys of the block by their weights, the earlier ones by the state. -/
theorem ro_split {D E : Type} [Fintype D] (h : ℕ) (q k : ℕ → D → ℝ) (v : ℕ → E → ℝ) (i : ℕ) (hi : i < 16) (r : Fin 512) (e : E) :
    (∑ j : Fin 512, ((∑ d, q (512 * i + r.val) d * k (512 * i + j.val) d) * W h r.val j.val) * v (512 * i + j.val) e)
      + (∑ d, q (512 * i + r.val) d * S h k v i d e) * γ h ^ r.val
    = ro h q k v (512 * i + r.val) e := by
  have hr := r.isLt
  rw [Fin.sum_univ_eq_sum_range (fun j => ((∑ d, q (512 * i + r.val) d * k (512 * i + j) d) * W h r.val j) * v (512 * i + j) e) 512]
  unfold ro
  rw [show 8192 = 512 * i + 512 + (8192 - (512 * i + 512)) by omega, Finset.sum_range_add, Finset.sum_range_add]
  have z : ∑ x ∈ Finset.range (8192 - (512 * i + 512)), v (512 * i + 512 + x) e
      * ((∑ d, q (512 * i + r.val) d * k (512 * i + 512 + x) d) * W h (512 * i + r.val) (512 * i + 512 + x)) = 0 := by
    refine Finset.sum_eq_zero fun x _ => ?_
    rw [W, if_neg (by omega), mul_zero, mul_zero]
  rw [z, add_zero, add_comm]
  refine congrArg₂ (· + ·) ?_ (Finset.sum_congr rfl fun j _ => ?_)
  · unfold S
    simp only [Finset.mul_sum, Finset.sum_mul]
    rw [Finset.sum_comm]
    refine Finset.sum_congr rfl fun s hs => Finset.sum_congr rfl fun d _ => ?_
    have hs' := Finset.mem_range.1 hs
    rw [W, if_pos (by omega), show 512 * i + r.val - s + (s - (512 * i + r.val)) = (512 * i - s) + r.val by omega, pow_add]
    ring
  · have w : W h (512 * i + r.val) (512 * i + j) = W h r.val j := by
      unfold W
      rw [show 512 * i + r.val - (512 * i + j) + (512 * i + j - (512 * i + r.val)) = r.val - j + (j - r.val) by omega]
      refine if_congr ?_ rfl rfl
      omega
    rw [w]; ring

/-- A head's output row normalised by its root mean square, times a gate, at one column. -/
def gated (o : Fin 256 → EReal) (g : EReal) (e : Fin 256) : EReal :=
  g * (o e * Ideal.rsqrt (Ideal.div (∑ n, o n * o n) (Ideal.ofBits .f32 0x43800000#32) + Ideal.ofBits .f32 0x358637BD#32))

/-- The word of one half. -/
theorem half : Ideal.ofBits .f32 0x3F000000#32 = ((1 / 2 : ℝ) : EReal) := by
  simp [Ideal.ofBits, Ideal.ieee]
  rw [← EReal.coe_mul]
  norm_num

/-- The word of one. -/
theorem one : Ideal.ofBits .f32 0x3F800000#32 = ((1 : ℝ) : EReal) := by
  simp [Ideal.ofBits, Ideal.ieee]
  rw [← EReal.coe_mul]
  norm_num

/-- The word of five. -/
theorem five : Ideal.ofBits .f32 0x40A00000#32 = ((5 : ℝ) : EReal) := by
  simp [Ideal.ofBits, Ideal.ieee]
  rw [← EReal.coe_mul]
  norm_num

/-- The word of 512. -/
theorem w512 : Ideal.ofBits .f32 0x44000000#32 = ((512 : ℝ) : EReal) := by
  simp [Ideal.ofBits, Ideal.ieee]
  rw [← EReal.coe_mul]
  norm_num

/-- The logarithm of a head's decay, as the programs compute it. -/
theorem lg (h : ℕ) : Ideal.log (((1 : ℝ) : EReal) - Ideal.pow ((1 / 2 : ℝ) : EReal) (((5 : ℝ) : EReal) + ((h : ℝ) : EReal)))
    = ((Real.log (γ h) : ℝ) : EReal) := by
  rw [← EReal.coe_add, Ideal.pow_coe_coe, ← EReal.coe_sub, Ideal.log_coe]
  have e : (1 : ℝ) - Real.rpow (1 / 2) (5 + h) = γ h := by
    unfold γ
    have := Real.rpow_natCast (1 / 2 : ℝ) (5 + h)
    rw [← this]; push_cast; rfl
  rw [e, if_neg (not_le.2 (γ_pos h))]

/-- A power of a head's decay, as the programs compute it. -/
theorem ex (h n : ℕ) : Ideal.exp (((Real.log (γ h) : ℝ) : EReal) * ((n : ℝ) : EReal)) = ((γ h ^ n : ℝ) : EReal) := by
  rw [← EReal.coe_mul, Ideal.exp_coe, exp_log]

/-- A small natural number's word, read signed. -/
theorem toInt_nat (n : ℕ) (h : n < 8192) : (BitVec.ofNat 32 n).toInt = (n : ℤ) := by
  rw [BitVec.toInt_eq_toNat_of_lt (by rw [BitVec.toNat_ofNat]; omega), BitVec.toNat_ofNat, Nat.mod_eq_of_lt (by omega)]

/-- A small natural number's word as a number. -/
theorem sit (n : ℕ) (h : n < 8192) : FloatOps.sitofp (F := Ideal) FTy.f32 (BitVec.ofNat 32 n) = ((n : ℝ) : EReal) := by
  show ((((BitVec.ofNat 32 n).toInt : ℤ) : ℝ) : EReal) = _
  rw [toInt_nat n h]; simp

/-- A small word divided by 64. -/
theorem div64 (n : ℕ) (h : n < 8192) : IntOp.divsi ArithUnit.host (BitVec.ofNat 32 n) 64#32 = BitVec.ofNat 32 (n / 64) := by
  unfold IntOp.divsi
  rw [if_neg (by rintro (e | ⟨-, e⟩) <;> exact absurd e (by decide))]
  refine BitVec.eq_of_toInt_eq ?_
  rw [BitVec.toInt_sdiv, toInt_nat n h, toInt_nat (n / 64) (by omega), show (64#32).toInt = ((64 : ℕ) : ℤ) from rfl, ← Int.ofNat_tdiv]
  exact Int.bmod_eq_of_le (by omega) (by omega)

/-- The comparison of two chunks. -/
theorem chunks (t s : ℕ) (ht : t < 8192) (hs : s < 8192) {α : Type} (a b : α) :
    Scalar.select (IntOp.cmpi CmpIPredicate.sle (IntOp.divsi ArithUnit.host (BitVec.ofNat 32 s) 64#32)
      (IntOp.divsi ArithUnit.host (BitVec.ofNat 32 t) 64#32)) a b = if s / 64 ≤ t / 64 then a else b := by
  rw [div64 s hs, div64 t ht]
  unfold IntOp.cmpi Scalar.select
  dsimp only
  rw [BitVec.sle_eq_decide, toInt_nat _ (by omega), toInt_nat _ (by omega)]
  by_cases hc : s / 64 ≤ t / 64
  · rw [if_pos hc, decide_eq_true (by exact_mod_cast hc)]; rfl
  · rw [if_neg hc, decide_eq_false (by exact_mod_cast hc)]; rfl

/-- The distance of two natural numbers. -/
theorem dist (t s : ℕ) : FloatOps.absf (F := Ideal) (φ := .f32) (((t : ℝ) : EReal) - ((s : ℝ) : EReal)) = (((t - s + (s - t) : ℕ) : ℝ) : EReal) := by
  show max (((t : ℝ) : EReal) - ((s : ℝ) : EReal)) (-(((t : ℝ) : EReal) - ((s : ℝ) : EReal))) = _
  rw [← EReal.coe_sub, ← EReal.coe_neg, ← EReal.coe_strictMono.monotone.map_max]
  congr 1
  rcases Nat.le_total s t with h | h
  · rw [Nat.sub_eq_zero_of_le h, Nat.add_zero, Nat.cast_sub h, max_eq_left]
    have : (s : ℝ) ≤ t := by exact_mod_cast h
    linarith
  · rw [Nat.sub_eq_zero_of_le h, Nat.zero_add, Nat.cast_sub h, max_eq_right]
    · ring
    · have : (t : ℝ) ≤ s := by exact_mod_cast h
      linarith

/-- A key's weight as the programs compute it. -/
theorem weight (h t s : ℕ) (hh : h < 4) (ht : t < 8192) (hs : s < 8192) :
    Scalar.select (IntOp.cmpi CmpIPredicate.sle (IntOp.divsi ArithUnit.host (BitVec.ofNat 32 s) 64#32)
      (IntOp.divsi ArithUnit.host (BitVec.ofNat 32 t) 64#32))
      (Ideal.exp (Ideal.log (1 - Ideal.pow (Ideal.ofBits FTy.f32 1056964608#32)
          (Ideal.ofBits FTy.f32 1084227584#32 + FloatOps.sitofp (F := Ideal) FTy.f32 (BitVec.ofNat 32 h)))
        * FloatOps.absf (F := Ideal) (φ := .f32) (FloatOps.sitofp (F := Ideal) FTy.f32 (BitVec.ofNat 32 t) - FloatOps.sitofp (F := Ideal) FTy.f32 (BitVec.ofNat 32 s))))
      (0 : EReal) = ((W h t s : ℝ) : EReal) := by
  rw [chunks t s ht hs, sit h (by omega), sit t ht, sit s hs, dist, half, five, ← EReal.coe_one, lg, ex]
  unfold W
  split <;> simp

end Cert.RetRow

end
-- ==== Proof.RetPay.lean ====
/- One block of the retention: the body's payloads at an index, the heads' outputs read back from the scratch, the block and the state left. -/
module

public import proofs.«01_k».proof.Proof.Gen.KernelRetIdeal.Value
public import proofs.«01_k».proof.Proof.RetRow
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelRetIdeal.Ret

open Cert.KernelRetIdeal Cert.KernelRetIdeal.Gen Cert.RetRow

variable (m : (ℓ : Loc nD τ sig) → Buf (Elt Ideal) ℓ)

/-- One head's gated output on a block, as the body computes it. -/
def yV (q k : FVec Ideal S1x512x128 .bf16) (v : FVec Ideal S1x512x256 .bf16) (dm : FVec Ideal S1x512x512 .f32) (st : FVec Ideal S1x1x128x256 .f32)
    (qd : FVec Ideal S1x512x1 .f32) (g : FVec Ideal S1x512x256 .bf16) : FVec Ideal S512x256 .bf16 :=
  k0_pay12 (k0_pay6 q k v dm) (k0_pay8 q st qd) g

/-- One head's state after a block, as the body computes it. -/
def stV (w : FVec Ideal S128x256 .f32) (k : FVec Ideal S1x512x128 .bf16) (v : FVec Ideal S1x512x256 .bf16) (st : FVec Ideal S1x1x128x256 .f32)
    (kd : FVec Ideal S1x512x1 .f32) : FVec Ideal S1x1x128x256 .f32 :=
  k0_pay11 (k0_pay5 v) (k0_pay7 st) (k0_pay9 k kd) w

/-- A head's output on a block before the gate, at a row and a column. -/
def roB (B0 B1 : FVec Ideal S2x512x512 .bf16) (B2 : FVec Ideal S2x512x1024 .bf16) (B5 : FVec Ideal S4x512x512 .f32) (B6 : FVec Ideal S4x512x1 .f32)
    (St : S2x4x128x256.Idx → EReal) (b : Fin 2) (h : Fin 4) (r : Fin 512) (e : Fin 256) : EReal :=
  (∑ j : Fin 512, ((∑ d : Fin 128, B0 (ix3 b r ⟨h.val * 128 + d.val, by omega⟩) * B1 (ix3 b j ⟨h.val * 128 + d.val, by omega⟩)) * B5 (ix3 h r j))
      * B2 (ix3 b j ⟨h.val * 256 + e.val, by omega⟩))
    + (∑ d : Fin 128, B0 (ix3 b r ⟨h.val * 128 + d.val, by omega⟩) * St (ix4 b h d e)) * B6 (ix3 h r 0)

/-- The gated outputs of all heads on a block: rows are first one sequence's, then the other's; columns go head by head. -/
def yB (B0 B1 : FVec Ideal S2x512x512 .bf16) (B2 B3 : FVec Ideal S2x512x1024 .bf16) (B5 : FVec Ideal S4x512x512 .f32) (B6 : FVec Ideal S4x512x1 .f32)
    (St : S2x4x128x256.Idx → EReal) (b : Fin 2) (r : Fin 512) (n : Fin 1024) : EReal :=
  gated (roB B0 B1 B2 B5 B6 St b ⟨n.val / 256, by omega⟩ r) (B3 (ix3 b r n)) ⟨n.val % 256, by omega⟩

/-- The state of all heads after a block; `dec` is what the state before is scaled by. -/
def stB (dec : Fin 4 → EReal) (B1 : FVec Ideal S2x512x512 .bf16) (B2 : FVec Ideal S2x512x1024 .bf16) (B7 : FVec Ideal S4x512x1 .f32)
    (St : S2x4x128x256.Idx → EReal) (b : Fin 2) (h : Fin 4) (d : Fin 128) (e : Fin 256) : EReal :=
  dec h * St (ix4 b h d e)
    + ∑ j : Fin 512, (B1 (ix3 b j ⟨h.val * 128 + d.val, by omega⟩) * B7 (ix3 h j 0)) * B2 (ix3 b j ⟨h.val * 256 + e.val, by omega⟩)

/-- `yV` at an index. -/
theorem yV_at (q k v dm st qd g) (r : Fin 512) (e : Fin 256) : yV q k v dm st qd g (ix2 r e)
    = gated (fun e => (∑ j : Fin 512, ((∑ d : Fin 128, q (ix3 0 r d) * k (ix3 0 j d)) * dm (ix3 0 r j)) * v (ix3 0 j e))
        + (∑ d : Fin 128, q (ix3 0 r d) * st (ix4 0 0 d e)) * qd (ix3 0 r 0)) (g (ix3 0 r e)) e := by
  unfold gated yV
  pointwise [k0_pay12, k0_pay6, k0_pay8, k0_pay7, k0_pay3, k0_pay4, k0_pay5]

/-- `stV` at an index. -/
theorem stV_at (w k v st kd) (d : Fin 128) (e : Fin 256) : stV w k v st kd (ix4 0 0 d e)
    = w (ix2 d e) * st (ix4 0 0 d e) + ∑ j : Fin 512, (k (ix3 0 j d) * kd (ix3 0 j 0)) * v (ix3 0 j e) := by
  unfold stV
  pointwise [k0_pay11, k0_pay9, k0_pay7, k0_pay4, k0_pay5]

/-- The second sequence's rows of the block. -/
theorem o_hi (Y : FVec Ideal S1024x1024 .bf16) (W : FVec Ideal S1024x1024 .bf16) (G : FVec Ideal S1x512x1024 .bf16) (r : Fin 512) (n : Fin 1024) :
    k0_pay1 (F := Ideal) (k0_pay72 Y W) G (ix3 0 r n) = G (ix3 0 r n) * ∑ k : Fin 1024, Y (ix2 ⟨512 + r.val, by omega⟩ k) * W (ix2 k n) := by
  pointwise [k0_pay1, k0_pay72]

/-- The first sequence's rows of the block. -/
theorem o_lo (Y : FVec Ideal S1024x1024 .bf16) (W : FVec Ideal S1024x1024 .bf16) (G : FVec Ideal S1x512x1024 .bf16) (r : Fin 512) (n : Fin 1024) :
    k0_pay73 (F := Ideal) Y W G (ix3 0 r n) = G (ix3 0 r n) * ∑ k : Fin 1024, Y (ix2 ⟨r.val, by omega⟩ k) * W (ix2 k n) := by
  pointwise [k0_pay73, k0_pay72]

/-- What a head's state is scaled by from one block to the next. -/
def dec (h : Fin 4) : EReal := ((γ h.val ^ 512 : ℝ) : EReal)

set_option exponentiation.threshold 8192 in
/-- The named constant of head 0. -/
theorem dec0 : Named.named (F := Ideal) κ "decay0" (φ := .f32) 0x33BB35AB#32 = dec 0 :=
  (IdealRules.named_const.ideal_named_scalar _ _ _ _ rfl).trans (congrArg Real.toEReal (by norm_num [γ]))

set_option exponentiation.threshold 8192 in
/-- The named constant of head 1. -/
theorem dec1 : Named.named (F := Ideal) κ "decay1" (φ := .f32) 0x39A51D40#32 = dec 1 :=
  (IdealRules.named_const.ideal_named_scalar _ _ _ _ rfl).trans (congrArg Real.toEReal (by norm_num [γ]))

set_option exponentiation.threshold 8192 in
/-- The named constant of head 2. -/
theorem dec2 : Named.named (F := Ideal) κ "decay2" (φ := .f32) 0x3C93B415#32 = dec 2 :=
  (IdealRules.named_const.ideal_named_scalar _ _ _ _ rfl).trans (congrArg Real.toEReal (by norm_num [γ]))

set_option exponentiation.threshold 8192 in
/-- The named constant of head 3. -/
theorem dec3 : Named.named (F := Ideal) κ "decay3" (φ := .f32) 0x3E0A0AA9#32 = dec 3 :=
  (IdealRules.named_const.ideal_named_scalar _ _ _ _ rfl).trans (congrArg Real.toEReal (by norm_num [γ]))

/-- A load of one sequence's part of one head's columns, at an index. -/
theorem ld_col {H w : ℕ} (B : FVec Ideal ⟨3, ![2, 512, H]⟩ .bf16) (b o : ℕ) (hb : b < 2) (inb : ∀ a, ![b, 0, o] a + ![1, 512, w] a ≤ (⟨3, ![2, 512, H]⟩ : Shape).size a)
    (r : Fin 512) (d : Fin w) (hd : o + d.val < H) :
    View.ld (Val := Elt Ideal) (e' := .bf16) B (Rect.unit (s := ⟨3, ![2, 512, H]⟩) ![b, 0, o] ![1, 512, w] inb) (ix3 (0 : Fin 1) r d) = B (ix3 (⟨b, hb⟩ : Fin 2) r (⟨o + d.val, hd⟩ : Fin H)) := by
  refine congrArg B (funext fun a => Fin.ext ?_)
  match a with
  | 0 => show b + 1 * 0 = b; omega
  | 1 => show 0 + 1 * r.val = r.val; omega
  | 2 => show o + 1 * d.val = o + d.val; omega

/-- A load of one head's table, at an index. -/
theorem ld_tab {w : ℕ} (B : FVec Ideal ⟨3, ![4, 512, w]⟩ .f32) (h : ℕ) (hh : h < 4) (inb : ∀ a, ![h, 0, 0] a + ![1, 512, w] a ≤ (⟨3, ![4, 512, w]⟩ : Shape).size a)
    (r : Fin 512) (d : Fin w) :
    View.ld (Val := Elt Ideal) (e' := .f32) B (Rect.unit (s := ⟨3, ![4, 512, w]⟩) ![h, 0, 0] ![1, 512, w] inb) (ix3 (0 : Fin 1) r d) = B (ix3 (⟨h, hh⟩ : Fin 4) r d) := by
  refine congrArg B (funext fun a => Fin.ext ?_)
  match a with
  | 0 => show h + 1 * 0 = h; omega
  | 1 => show 0 + 1 * r.val = r.val; omega
  | 2 => show 0 + 1 * d.val = d.val; omega

/-- A load of one sequence's state of one head, at an index. -/
theorem ld_st (B : S2x4x128x256.Idx → EReal) (b h : ℕ) (hb : b < 2) (hh : h < 4) (inb : ∀ a, ![b, h, 0, 0] a + ![1, 1, 128, 256] a ≤ S2x4x128x256.size a)
    (d : Fin 128) (e : Fin 256) :
    View.ld (Val := Elt Ideal) (e' := .f32) B (Rect.unit (s := S2x4x128x256) ![b, h, 0, 0] ![1, 1, 128, 256] inb) (ix4 (0 : Fin 1) (0 : Fin 1) d e)
      = B (ix4 (⟨b, hb⟩ : Fin 2) (⟨h, hh⟩ : Fin 4) d e) := by
  refine congrArg B (funext fun a => Fin.ext ?_)
  match a with
  | 0 => show b + 1 * 0 = b; omega
  | 1 => show h + 1 * 0 = h; omega
  | 2 => show 0 + 1 * d.val = d.val; omega
  | 3 => show 0 + 1 * e.val = e.val; omega

/-- A head's gated output at the place it has in the scratch. -/
theorem y_of (b h : ℕ) (hb : b < 2) (hh : h < 4) (B0 B1 : FVec Ideal S2x512x512 .bf16) (B2 B3 : FVec Ideal S2x512x1024 .bf16) (B5 : FVec Ideal S4x512x512 .f32)
    (B6 : FVec Ideal S4x512x1 .f32) (St : S2x4x128x256.Idx → EReal) (i0 i1 : ∀ a, ![b, 0, h * 128] a + ![1, 512, 128] a ≤ S2x512x512.size a)
    (i2 i3 : ∀ a, ![b, 0, h * 256] a + ![1, 512, 256] a ≤ S2x512x1024.size a) (i5 : ∀ a, ![h, 0, 0] a + ![1, 512, 512] a ≤ S4x512x512.size a)
    (i6 : ∀ a, ![h, 0, 0] a + ![1, 512, 1] a ≤ S4x512x1.size a) (is : ∀ a, ![b, h, 0, 0] a + ![1, 1, 128, 256] a ≤ S2x4x128x256.size a)
    (x : S512x256.Idx) (j : S1024x1024.Idx) (h0 : (j 0).val = b * 512 + (x 0).val) (h1 : (j 1).val = h * 256 + (x 1).val) :
    yV (View.ld (Val := Elt Ideal) (e' := .bf16) B0 (Rect.unit (s := S2x512x512) ![b, 0, h * 128] ![1, 512, 128] i0))
      (View.ld (Val := Elt Ideal) (e' := .bf16) B1 (Rect.unit (s := S2x512x512) ![b, 0, h * 128] ![1, 512, 128] i1))
      (View.ld (Val := Elt Ideal) (e' := .bf16) B2 (Rect.unit (s := S2x512x1024) ![b, 0, h * 256] ![1, 512, 256] i2))
      (View.ld (Val := Elt Ideal) (e' := .f32) B5 (Rect.unit (s := S4x512x512) ![h, 0, 0] ![1, 512, 512] i5))
      (View.ld (Val := Elt Ideal) (e' := .f32) St (Rect.unit (s := S2x4x128x256) ![b, h, 0, 0] ![1, 1, 128, 256] is))
      (View.ld (Val := Elt Ideal) (e' := .f32) B6 (Rect.unit (s := S4x512x1) ![h, 0, 0] ![1, 512, 1] i6))
      (View.ld (Val := Elt Ideal) (e' := .bf16) B3 (Rect.unit (s := S2x512x1024) ![b, 0, h * 256] ![1, 512, 256] i3)) x
    = yB B0 B1 B2 B3 B5 B6 St ⟨(j 0).val / 512, by have := (j 0).isLt; change (j 0).val < 1024 at this; omega⟩ ⟨(j 0).val % 512, by omega⟩ (j 1) := by
  obtain ⟨r, e, rfl⟩ : ∃ (r : Fin 512) (e : Fin 256), x = ix2 r e := ⟨x 0, x 1, by funext a; fin_cases a <;> rfl⟩
  change (j 0).val = b * 512 + r.val at h0
  change (j 1).val = h * 256 + e.val at h1
  have hrl := r.isLt
  have hel := e.isLt
  have e0 : (⟨(j 0).val / 512, by have := (j 0).isLt; change (j 0).val < 1024 at this; omega⟩ : Fin 2) = ⟨b, hb⟩ := Fin.ext (by show (j 0).val / 512 = b; omega)
  have e1 : (⟨(j 0).val % 512, by omega⟩ : Fin 512) = r := Fin.ext (by show (j 0).val % 512 = r.val; omega)
  have e2 : j 1 = (⟨h * 256 + e.val, by omega⟩ : Fin 1024) := Fin.ext h1
  have e3 : (⟨(h * 256 + e.val) / 256, by omega⟩ : Fin 4) = ⟨h, hh⟩ := Fin.ext (by show (h * 256 + e.val) / 256 = h; omega)
  have e4 : (⟨(h * 256 + e.val) % 256, by omega⟩ : Fin 256) = e := Fin.ext (by show (h * 256 + e.val) % 256 = e.val; omega)
  rw [e0, e1, e2, yV_at]
  unfold yB
  dsimp only
  rw [e3, e4]
  have q0 : ∀ (B : FVec Ideal S2x512x512 .bf16) (i) (r : Fin 512) (d : Fin 128), View.ld (Val := Elt Ideal) (e' := .bf16) B (Rect.unit (s := S2x512x512) ![b, 0, h * 128] ![1, 512, 128] i) (ix3 (0 : Fin 1) r d)
      = B (ix3 (⟨b, hb⟩ : Fin 2) r (⟨h * 128 + d.val, by omega⟩ : Fin 512)) := fun B i r d => ld_col (H := 512) B b (h * 128) hb i r d _
  have q2 : ∀ (B : FVec Ideal S2x512x1024 .bf16) (i) (r : Fin 512) (d : Fin 256), View.ld (Val := Elt Ideal) (e' := .bf16) B (Rect.unit (s := S2x512x1024) ![b, 0, h * 256] ![1, 512, 256] i) (ix3 (0 : Fin 1) r d)
      = B (ix3 (⟨b, hb⟩ : Fin 2) r (⟨h * 256 + d.val, by omega⟩ : Fin 1024)) := fun B i r d => ld_col (H := 1024) B b (h * 256) hb i r d _
  refine congr (congr (congrArg gated (funext fun e => ?_)) (q2 B3 i3 r e)) rfl
  unfold roB
  refine congr (congrArg HAdd.hAdd (Finset.sum_congr rfl fun k _ => ?_)) (congr (congrArg HMul.hMul (Finset.sum_congr rfl fun d _ => ?_)) (ld_tab B6 h hh i6 r 0))
  · refine congr (congrArg HMul.hMul (congr (congrArg HMul.hMul (Finset.sum_congr rfl fun d _ => ?_)) (ld_tab B5 h hh i5 r k))) (q2 B2 i2 k e)
    exact congr (congrArg HMul.hMul (q0 B0 i0 r d)) (q0 B1 i1 k d)
  · exact congr (congrArg HMul.hMul (q0 B0 i0 r d)) (ld_st St b h hb hh is d e)

/-- A head's state at the place it has in the scratch. -/
theorem st_of (b h : ℕ) (hb : b < 2) (hh : h < 4) (w : FVec Ideal S128x256 .f32) (hw : ∀ i, w i = dec ⟨h, hh⟩) (B1 : FVec Ideal S2x512x512 .bf16) (B2 : FVec Ideal S2x512x1024 .bf16)
    (B7 : FVec Ideal S4x512x1 .f32) (St : S2x4x128x256.Idx → EReal) (i1 : ∀ a, ![b, 0, h * 128] a + ![1, 512, 128] a ≤ S2x512x512.size a)
    (i2 : ∀ a, ![b, 0, h * 256] a + ![1, 512, 256] a ≤ S2x512x1024.size a) (i7 : ∀ a, ![h, 0, 0] a + ![1, 512, 1] a ≤ S4x512x1.size a)
    (is : ∀ a, ![b, h, 0, 0] a + ![1, 1, 128, 256] a ≤ S2x4x128x256.size a)
    (x : S1x1x128x256.Idx) (j : S2x4x128x256.Idx) (h0 : (j 0).val = b + (x 0).val) (h1 : (j 1).val = h + (x 1).val) (h2 : (j 2).val = (x 2).val) (h3 : (j 3).val = (x 3).val) :
    stV w (View.ld (Val := Elt Ideal) (e' := .bf16) B1 (Rect.unit (s := S2x512x512) ![b, 0, h * 128] ![1, 512, 128] i1))
      (View.ld (Val := Elt Ideal) (e' := .bf16) B2 (Rect.unit (s := S2x512x1024) ![b, 0, h * 256] ![1, 512, 256] i2))
      (View.ld (Val := Elt Ideal) (e' := .f32) St (Rect.unit (s := S2x4x128x256) ![b, h, 0, 0] ![1, 1, 128, 256] is))
      (View.ld (Val := Elt Ideal) (e' := .f32) B7 (Rect.unit (s := S4x512x1) ![h, 0, 0] ![1, 512, 1] i7)) x
    = stB dec B1 B2 B7 St (j 0) (j 1) (j 2) (j 3) := by
  have x0 : (x 0).val < 1 := (x 0).isLt
  have x1 : (x 1).val < 1 := (x 1).isLt
  have ex : x = ix4 (0 : Fin 1) (0 : Fin 1) (x 2) (x 3) := by
    funext a
    match a with
    | 0 => exact Fin.ext (by show (x 0).val = 0; omega)
    | 1 => exact Fin.ext (by show (x 1).val = 0; omega)
    | 2 => rfl
    | 3 => rfl
  have e0 : j 0 = (⟨b, hb⟩ : Fin 2) := Fin.ext (by show (j 0).val = b; omega)
  have e1 : j 1 = (⟨h, hh⟩ : Fin 4) := Fin.ext (by show (j 1).val = h; omega)
  have e2 : j 2 = x 2 := Fin.ext h2
  have e3 : j 3 = x 3 := Fin.ext h3
  rw [e0, e1, e2, e3, ex]
  generalize x 2 = d
  generalize x 3 = e
  change Fin 128 at d
  change Fin 256 at e
  refine (stV_at w _ _ _ _ d e).trans ?_
  unfold stB
  refine congr (congrArg HAdd.hAdd (congr (congrArg HMul.hMul (hw _)) (ld_st St b h hb hh is d e))) (Finset.sum_congr rfl fun k _ => ?_)
  refine congr (congrArg HMul.hMul (congr (congrArg HMul.hMul ?_) (ld_tab B7 h hh i7 k 0))) ?_
  · exact ld_col (H := 512) B1 b (h * 128) hb i1 k d (by omega)
  · exact ld_col (H := 1024) B2 b (h * 256) hb i2 k e (by omega)

/-- Stores made before stores that cover an index do not show there. -/
theorem canon_keep {s : Shape} {e : EltTy} {Val : EltTy → Type} [∀ e, Nonempty (Val e)] (L' : List (View.Piece Val s e)) :
    ∀ (L : List (View.Piece Val s e)) (y : s.Idx), (∃ p ∈ L, y ∈ p.1.set) → View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      exact (View.canon_cons_emb p.1 p.2 _ x).trans (View.canon_cons_emb p.1 p.2 L x).symm
    · refine (View.canon_cons_of_not_mem p _ hm).trans ((canon_keep L' L y ?_).trans (View.canon_cons_of_not_mem p _ hm).symm)
      obtain ⟨q, hq, hyq⟩ := hy
      rcases List.mem_cons.mp hq with rfl | hq'
      · exact absurd hyq hm
      · exact ⟨q, hq', hyq⟩

/-- The block a point leaves, from the blocks it reads and the state it starts from. -/
def outB (B0 B1 : FVec Ideal S2x512x512 .bf16) (B2 B3 B4 : FVec Ideal S2x512x1024 .bf16) (B5 : FVec Ideal S4x512x512 .f32) (B6 : FVec Ideal S4x512x1 .f32)
    (B8 : FVec Ideal S1024x1024 .bf16) (St : S2x4x128x256.Idx → EReal) (b : Fin 2) (r : Fin 512) (n : Fin 1024) : EReal :=
  B4 (ix3 b r n) * ∑ k : Fin 1024, yB B0 B1 B2 B3 B5 B6 St b r k * B8 (ix2 k n)

/-- The second sequence's rows of the block, at the place they have in it. -/
theorem o_hi_of (Y W : FVec Ideal S1024x1024 .bf16) (B4 : FVec Ideal S2x512x1024 .bf16) (T : Fin 2 → Fin 512 → Fin 1024 → EReal)
    (hy : ∀ j : S1024x1024.Idx, Y j = T ⟨(j 0).val / 512, by have := (j 0).isLt; change (j 0).val < 1024 at this; omega⟩ ⟨(j 0).val % 512, by omega⟩ (j 1))
    (i : ∀ a, ![1, 0, 0] a + ![1, 512, 1024] a ≤ S2x512x1024.size a) (x : S1x512x1024.Idx) (y : S2x512x1024.Idx)
    (h0 : (y 0).val = 1 + (x 0).val) (h1 : (y 1).val = (x 1).val) (h2 : (y 2).val = (x 2).val) :
    k0_pay1 (F := Ideal) (k0_pay72 Y W) (View.ld (Val := Elt Ideal) (e' := .bf16) B4 (Rect.unit (s := S2x512x1024) ![1, 0, 0] ![1, 512, 1024] i)) x
      = B4 (ix3 (y 0) (y 1) (y 2)) * ∑ k : Fin 1024, T (y 0) (y 1) k * W (ix2 k (y 2)) := by
  obtain ⟨r, n, rfl⟩ : ∃ (r : Fin 512) (n : Fin 1024), x = ix3 (0 : Fin 1) r n := ⟨x 1, x 2, by
    have x0 : (x 0).val < 1 := (x 0).isLt
    funext a
    match a with
    | 0 => exact Fin.ext (by show (x 0).val = 0; omega)
    | 1 => rfl
    | 2 => rfl⟩
  have e0 : y 0 = (1 : Fin 2) := Fin.ext h0
  have e1 : y 1 = r := Fin.ext h1
  have e2 : y 2 = n := Fin.ext h2
  rw [e0, e1, e2]
  refine (o_hi Y W _ r n).trans ?_
  have hr := r.isLt
  refine congr (congrArg HMul.hMul ((ld_col (H := 1024) B4 1 0 (by decide) i r n (by omega)).trans ?_)) (Finset.sum_congr rfl fun k _ => ?_)
  · exact congrArg (fun q => B4 (ix3 (1 : Fin 2) r q)) (Fin.ext (Nat.zero_add _))
  · refine congrArg (· * W (ix2 k n)) ((hy _).trans ?_)
    refine congr (congr (congrArg T (Fin.ext ?_)) (Fin.ext ?_)) rfl
    · show (512 + r.val) / 512 = 1; omega
    · show (512 + r.val) % 512 = r.val; omega

/-- The first sequence's rows of the block, at the place they have in it. -/
theorem o_lo_of (Y W : FVec Ideal S1024x1024 .bf16) (B4 : FVec Ideal S2x512x1024 .bf16) (T : Fin 2 → Fin 512 → Fin 1024 → EReal)
    (hy : ∀ j : S1024x1024.Idx, Y j = T ⟨(j 0).val / 512, by have := (j 0).isLt; change (j 0).val < 1024 at this; omega⟩ ⟨(j 0).val % 512, by omega⟩ (j 1))
    (i : ∀ a, ![0, 0, 0] a + ![1, 512, 1024] a ≤ S2x512x1024.size a) (x : S1x512x1024.Idx) (y : S2x512x1024.Idx)
    (h0 : (y 0).val = (x 0).val) (h1 : (y 1).val = (x 1).val) (h2 : (y 2).val = (x 2).val) :
    k0_pay73 (F := Ideal) Y W (View.ld (Val := Elt Ideal) (e' := .bf16) B4 (Rect.unit (s := S2x512x1024) ![0, 0, 0] ![1, 512, 1024] i)) x
      = B4 (ix3 (y 0) (y 1) (y 2)) * ∑ k : Fin 1024, T (y 0) (y 1) k * W (ix2 k (y 2)) := by
  obtain ⟨r, n, rfl⟩ : ∃ (r : Fin 512) (n : Fin 1024), x = ix3 (0 : Fin 1) r n := ⟨x 1, x 2, by
    have x0 : (x 0).val < 1 := (x 0).isLt
    funext a
    match a with
    | 0 => exact Fin.ext (by show (x 0).val = 0; omega)
    | 1 => rfl
    | 2 => rfl⟩
  have e0 : y 0 = (0 : Fin 2) := Fin.ext h0
  have e1 : y 1 = r := Fin.ext h1
  have e2 : y 2 = n := Fin.ext h2
  rw [e0, e1, e2]
  refine (o_lo Y W _ r n).trans ?_
  have hr := r.isLt
  refine congr (congrArg HMul.hMul ((ld_col (H := 1024) B4 0 0 (by decide) i r n (by omega)).trans ?_)) (Finset.sum_congr rfl fun k _ => ?_)
  · exact congrArg (fun q => B4 (ix3 (0 : Fin 2) r q)) (Fin.ext (Nat.zero_add _))
  · refine congrArg (· * W (ix2 k n)) ((hy _).trans ?_)
    refine congr (congr (congrArg T (Fin.ext ?_)) (Fin.ext ?_)) rfl
    · show r.val / 512 = 0; omega
    · show r.val % 512 = r.val; omega

set_option maxHeartbeats 2000000 in
/-- The state a point leaves at the first block of a sequence. -/
theorem state_A (c : Dev nD) (t : Fin cfg0.N) (h0 : t.val % 16 = 0) (z : S2x4x128x256.Idx) : (outsAt0 m c t.val t.isLt).2 z
    = stB dec (iblk m c 1 t) (iblk m c 2 t) (iblk m c 7 t) (k0_pay2 (F := Ideal)) (z 0) (z 1) (z 2) (z 3) := by
  rw [outsAt0_A m c t h0]
  dsimp only
  frame_out
  simp (disch := first | rfl | decide) only [↓View.readCov_skip, ↓View.readCov_fill]
  generalize (k0_pay2 (F := Ideal)) = St
  generalize iblk m c 0 t = B0
  generalize iblk m c 1 t = B1
  generalize iblk m c 2 t = B2
  generalize iblk m c 3 t = B3
  generalize iblk m c 5 t = B5
  generalize iblk m c 6 t = B6
  generalize iblk m c 7 t = B7
  refine (canon_keep [_] [_, _, _, _, _, _, _, _] z (View.cover_of_tiledBy _ ![1, 1, 128, 256] (by sl_kernel_rfl) z)).trans ?_
  canon_tiles x h
  · exact st_of 1 3 (by decide) (by decide) (broadcast S128x256 (Named.named κ "decay3" 0x3E0A0AA9#32)) (fun _ => dec3) B1 B2 B7 St _ _ _ _ x z h0 h1 h2 h3
  · exact st_of 0 3 (by decide) (by decide) (broadcast S128x256 (Named.named κ "decay3" 0x3E0A0AA9#32)) (fun _ => dec3) B1 B2 B7 St _ _ _ _ x z (h0.trans (Nat.zero_add _).symm) h1 h2 h3
  · exact st_of 1 2 (by decide) (by decide) (broadcast S128x256 (Named.named κ "decay2" 0x3C93B415#32)) (fun _ => dec2) B1 B2 B7 St _ _ _ _ x z h0 h1 h2 h3
  · exact st_of 0 2 (by decide) (by decide) (broadcast S128x256 (Named.named κ "decay2" 0x3C93B415#32)) (fun _ => dec2) B1 B2 B7 St _ _ _ _ x z (h0.trans (Nat.zero_add _).symm) h1 h2 h3
  · exact st_of 1 1 (by decide) (by decide) (broadcast S128x256 (Named.named κ "decay1" 0x39A51D40#32)) (fun _ => dec1) B1 B2 B7 St _ _ _ _ x z h0 h1 h2 h3
  · exact st_of 0 1 (by decide) (by decide) (broadcast S128x256 (Named.named κ "decay1" 0x39A51D40#32)) (fun _ => dec1) B1 B2 B7 St _ _ _ _ x z (h0.trans (Nat.zero_add _).symm) h1 h2 h3
  · exact st_of 1 0 (by decide) (by decide) (broadcast S128x256 (Named.named κ "decay0" 0x33BB35AB#32)) (fun _ => dec0) B1 B2 B7 St _ _ _ _ x z h0 (h1.trans (Nat.zero_add _).symm) h2 h3
  · exact st_of 0 0 (by decide) (by decide) (broadcast S128x256 (Named.named κ "decay0" 0x33BB35AB#32)) (fun _ => dec0) B1 B2 B7 St _ _ _ _ x z (h0.trans (Nat.zero_add _).symm) (h1.trans (Nat.zero_add _).symm) h2 h3

set_option maxHeartbeats 2000000 in
/-- The state a point leaves at a later block of a sequence. -/
theorem state_B (c : Dev nD) (t : Fin cfg0.N) (h0 : ¬ t.val % 16 = 0) (z : S2x4x128x256.Idx) : (outsAt0 m c t.val t.isLt).2 z
    = stB dec (iblk m c 1 t) (iblk m c 2 t) (iblk m c 7 t) (outsAt0 m c (t.val - 1) (by omega)).2 (z 0) (z 1) (z 2) (z 3) := by
  rw [outsAt0_B m c t h0]
  dsimp only
  frame_out
  simp only [read_unread_whole]
  generalize (outsAt0 m c (t.val - 1) _).2 = St
  generalize iblk m c 0 t = B0
  generalize iblk m c 1 t = B1
  generalize iblk m c 2 t = B2
  generalize iblk m c 3 t = B3
  generalize iblk m c 5 t = B5
  generalize iblk m c 6 t = B6
  generalize iblk m c 7 t = B7
  canon_tiles x h
  · exact st_of 1 3 (by decide) (by decide) (broadcast S128x256 (Named.named κ "decay3" 0x3E0A0AA9#32)) (fun _ => dec3) B1 B2 B7 St _ _ _ _ x z h0 h1 h2 h3
  · exact st_of 0 3 (by decide) (by decide) (broadcast S128x256 (Named.named κ "decay3" 0x3E0A0AA9#32)) (fun _ => dec3) B1 B2 B7 St _ _ _ _ x z (h0.trans (Nat.zero_add _).symm) h1 h2 h3
  · exact st_of 1 2 (by decide) (by decide) (broadcast S128x256 (Named.named κ "decay2" 0x3C93B415#32)) (fun _ => dec2) B1 B2 B7 St _ _ _ _ x z h0 h1 h2 h3
  · exact st_of 0 2 (by decide) (by decide) (broadcast S128x256 (Named.named κ "decay2" 0x3C93B415#32)) (fun _ => dec2) B1 B2 B7 St _ _ _ _ x z (h0.trans (Nat.zero_add _).symm) h1 h2 h3
  · exact st_of 1 1 (by decide) (by decide) (broadcast S128x256 (Named.named κ "decay1" 0x39A51D40#32)) (fun _ => dec1) B1 B2 B7 St _ _ _ _ x z h0 h1 h2 h3
  · exact st_of 0 1 (by decide) (by decide) (broadcast S128x256 (Named.named κ "decay1" 0x39A51D40#32)) (fun _ => dec1) B1 B2 B7 St _ _ _ _ x z (h0.trans (Nat.zero_add _).symm) h1 h2 h3
  · exact st_of 1 0 (by decide) (by decide) (broadcast S128x256 (Named.named κ "decay0" 0x33BB35AB#32)) (fun _ => dec0) B1 B2 B7 St _ _ _ _ x z h0 (h1.trans (Nat.zero_add _).symm) h2 h3
  · exact st_of 0 0 (by decide) (by decide) (broadcast S128x256 (Named.named κ "decay0" 0x33BB35AB#32)) (fun _ => dec0) B1 B2 B7 St _ _ _ _ x z (h0.trans (Nat.zero_add _).symm) (h1.trans (Nat.zero_add _).symm) h2 h3

set_option maxHeartbeats 2000000 in
/-- The block a point leaves at the first block of a sequence. -/
theorem block_A (c : Dev nD) (t : Fin cfg0.N) (h0 : t.val % 16 = 0) (y : S2x512x1024.Idx) : (outsAt0 m c t.val t.isLt).1 y
    = outB (iblk m c 0 t) (iblk m c 1 t) (iblk m c 2 t) (iblk m c 3 t) (iblk m c 4 t) (iblk m c 5 t) (iblk m c 6 t) (iblk m c 8 t) (k0_pay2 (F := Ideal))
      (y 0) (y 1) (y 2) := by
  rw [outsAt0_A m c t h0]
  dsimp only
  frame_out
  simp (disch := first | rfl | decide) only [↓View.readCov_skip, ↓View.readCov_fill]
  generalize (k0_pay2 (F := Ideal)) = St
  generalize iblk m c 0 t = B0
  generalize iblk m c 1 t = B1
  generalize iblk m c 2 t = B2
  generalize iblk m c 3 t = B3
  generalize iblk m c 4 t = B4
  generalize iblk m c 5 t = B5
  generalize iblk m c 6 t = B6
  generalize iblk m c 7 t = B7
  generalize iblk m c 8 t = B8
  generalize hY : View.readCov (Val := Elt Ideal) _ _ _ = Y
  have hy : ∀ j : S1024x1024.Idx, Y j = yB B0 B1 B2 B3 B5 B6 St
      ⟨(j 0).val / 512, by have := (j 0).isLt; change (j 0).val < 1024 at this; omega⟩ ⟨(j 0).val % 512, by omega⟩ (j 1) := by
    intro j
    rw [← hY, View.readCov_eq_canon_ld]
    refine (View.ld_unit_apply_of _ _ _ _ _ j fun a => ?_).trans ?_
    · match a with
      | 0 => exact (Nat.zero_add _).symm
      | 1 => exact (Nat.zero_add _).symm
    clear hY
    canon_tiles z h
    · exact y_of 1 3 (by decide) (by decide) B0 B1 B2 B3 B5 B6 St _ _ _ _ _ _ _ z _ h0 h1
    · exact y_of 0 3 (by decide) (by decide) B0 B1 B2 B3 B5 B6 St _ _ _ _ _ _ _ z _ (h0.trans (Nat.zero_add _).symm) h1
    · exact y_of 1 2 (by decide) (by decide) B0 B1 B2 B3 B5 B6 St _ _ _ _ _ _ _ z _ h0 h1
    · exact y_of 0 2 (by decide) (by decide) B0 B1 B2 B3 B5 B6 St _ _ _ _ _ _ _ z _ (h0.trans (Nat.zero_add _).symm) h1
    · exact y_of 1 1 (by decide) (by decide) B0 B1 B2 B3 B5 B6 St _ _ _ _ _ _ _ z _ h0 h1
    · exact y_of 0 1 (by decide) (by decide) B0 B1 B2 B3 B5 B6 St _ _ _ _ _ _ _ z _ (h0.trans (Nat.zero_add _).symm) h1
    · exact y_of 1 0 (by decide) (by decide) B0 B1 B2 B3 B5 B6 St _ _ _ _ _ _ _ z _ h0 (h1.trans (Nat.zero_add _).symm)
    · exact y_of 0 0 (by decide) (by decide) B0 B1 B2 B3 B5 B6 St _ _ _ _ _ _ _ z _ (h0.trans (Nat.zero_add _).symm) (h1.trans (Nat.zero_add _).symm)
    · exact fun y => View.cover_of_tiledBy _ ![512, 256] (by sl_kernel_rfl) y
  clear hY
  canon_tiles x h
  · exact o_hi_of Y B8 B4 (yB B0 B1 B2 B3 B5 B6 St) hy _ x y h0 h1 h2
  · exact o_lo_of Y B8 B4 (yB B0 B1 B2 B3 B5 B6 St) hy _ x y h0 h1 h2

set_option maxHeartbeats 2000000 in
/-- The block a point leaves at a later block of a sequence. -/
theorem block_B (c : Dev nD) (t : Fin cfg0.N) (h0 : ¬ t.val % 16 = 0) (y : S2x512x1024.Idx) : (outsAt0 m c t.val t.isLt).1 y
    = outB (iblk m c 0 t) (iblk m c 1 t) (iblk m c 2 t) (iblk m c 3 t) (iblk m c 4 t) (iblk m c 5 t) (iblk m c 6 t) (iblk m c 8 t) (outsAt0 m c (t.val - 1) (by omega)).2
      (y 0) (y 1) (y 2) := by
  rw [outsAt0_B m c t h0]
  dsimp only
  frame_out
  simp only [read_unread_whole]
  generalize (outsAt0 m c (t.val - 1) _).2 = St
  generalize iblk m c 0 t = B0
  generalize iblk m c 1 t = B1
  generalize iblk m c 2 t = B2
  generalize iblk m c 3 t = B3
  generalize iblk m c 4 t = B4
  generalize iblk m c 5 t = B5
  generalize iblk m c 6 t = B6
  generalize iblk m c 7 t = B7
  generalize iblk m c 8 t = B8
  generalize hY : View.readCov (Val := Elt Ideal) _ _ _ = Y
  have hy : ∀ j : S1024x1024.Idx, Y j = yB B0 B1 B2 B3 B5 B6 St
      ⟨(j 0).val / 512, by have := (j 0).isLt; change (j 0).val < 1024 at this; omega⟩ ⟨(j 0).val % 512, by omega⟩ (j 1) := by
    intro j
    rw [← hY, View.readCov_eq_canon_ld]
    refine (View.ld_unit_apply_of _ _ _ _ _ j fun a => ?_).trans ?_
    · match a with
      | 0 => exact (Nat.zero_add _).symm
      | 1 => exact (Nat.zero_add _).symm
    clear hY
    canon_tiles z h
    · exact y_of 1 3 (by decide) (by decide) B0 B1 B2 B3 B5 B6 St _ _ _ _ _ _ _ z _ h0 h1
    · exact y_of 0 3 (by decide) (by decide) B0 B1 B2 B3 B5 B6 St _ _ _ _ _ _ _ z _ (h0.trans (Nat.zero_add _).symm) h1
    · exact y_of 1 2 (by decide) (by decide) B0 B1 B2 B3 B5 B6 St _ _ _ _ _ _ _ z _ h0 h1
    · exact y_of 0 2 (by decide) (by decide) B0 B1 B2 B3 B5 B6 St _ _ _ _ _ _ _ z _ (h0.trans (Nat.zero_add _).symm) h1
    · exact y_of 1 1 (by decide) (by decide) B0 B1 B2 B3 B5 B6 St _ _ _ _ _ _ _ z _ h0 h1
    · exact y_of 0 1 (by decide) (by decide) B0 B1 B2 B3 B5 B6 St _ _ _ _ _ _ _ z _ (h0.trans (Nat.zero_add _).symm) h1
    · exact y_of 1 0 (by decide) (by decide) B0 B1 B2 B3 B5 B6 St _ _ _ _ _ _ _ z _ h0 (h1.trans (Nat.zero_add _).symm)
    · exact y_of 0 0 (by decide) (by decide) B0 B1 B2 B3 B5 B6 St _ _ _ _ _ _ _ z _ (h0.trans (Nat.zero_add _).symm) (h1.trans (Nat.zero_add _).symm)
    · exact fun y => View.cover_of_tiledBy _ ![512, 256] (by sl_kernel_rfl) y
  clear hY
  canon_tiles x h
  · exact o_hi_of Y B8 B4 (yB B0 B1 B2 B3 B5 B6 St) hy _ x y h0 h1 h2
  · exact o_lo_of Y B8 B4 (yB B0 B1 B2 B3 B5 B6 St) hy _ x y h0 h1 h2

end Cert.KernelRetIdeal.Ret
-- ==== Proof.RetRef.lean ====
/- The retention by the reference: its composed term, stage by stage, read at an index. -/
module

public import proofs.«01_k».proof.Proof.Gen.ReferenceRetIdeal.Run
public import proofs.«01_k».proof.Proof.RetRow

@[expose] public section

set_option maxRecDepth 16384

noncomputable section

open Idealize.ShloMosaic Idealize.ShloMosaic.TcCoe Idealize.SL.Sem

namespace Cert.ReferenceRetIdeal.Ret

open Cert.ReferenceRetIdeal Cert.ReferenceRetIdeal.Gen Cert.RetRow

/-- The reference's term for the weights. -/
def DEC : FVec Ideal S4x8192x8192 .f32 :=
  select (broadcastInDim S4x8192x8192 ![0, 1, 2] bcast_S1x8192x8192_S4x8192x8192_0_1_2 (broadcastInDim S1x8192x8192 ![1, 2] bcast_S8192x8192_S1x8192x8192_1_2 (cmpi .sle (broadcastInDim S8192x8192 ![0, 1] bcast_S1x8192_S8192x8192_0_1 (broadcastInDim S1x8192 ![1] bcast_S8192_S1x8192_1 (Host.divsi (iotaInDim S8192 32 0) (broadcastInDim S8192 ![] bcast_S_S8192 (constantI S_ 32 64#32))))) (broadcastInDim S8192x8192 ![0, 1] bcast_S8192x1_S8192x8192_0_1 (broadcastInDim S8192x1 ![0] bcast_S8192_S8192x1_0 (Host.divsi (iotaInDim S8192 32 0) (broadcastInDim S8192 ![] bcast_S_S8192 (constantI S_ 32 64#32)))))))) (Host.exp (mulf (broadcastInDim S4x8192x8192 ![0, 1, 2] bcast_S4x1x1_S4x8192x8192_0_1_2 (broadcastInDim S4x1x1 ![0] bcast_S4_S4x1x1_0 (Host.log (subf (broadcastInDim S4 ![] bcast_S_S4 (constant S_ .f32 0x3F800000#32)) (Host.powf (broadcastInDim S4 ![] bcast_S_S4 (constant S_ .f32 0x3F000000#32)) (addf (broadcastInDim S4 ![] bcast_S_S4 (constant S_ .f32 0x40A00000#32)) (sitofp .f32 (iotaInDim S4 32 0)))))))) (broadcastInDim S4x8192x8192 ![0, 1, 2] bcast_S1x8192x8192_S4x8192x8192_0_1_2 (broadcastInDim S1x8192x8192 ![1, 2] bcast_S8192x8192_S1x8192x8192_1_2 (Host.absf (subf (broadcastInDim S8192x8192 ![0, 1] bcast_S8192x1_S8192x8192_0_1 (broadcastInDim S8192x1 ![0] bcast_S8192_S8192x1_0 (sitofp .f32 (iotaInDim S8192 32 0)))) (broadcastInDim S8192x8192 ![0, 1] bcast_S1x8192_S8192x8192_0_1 (broadcastInDim S1x8192 ![1] bcast_S8192_S1x8192_1 (sitofp .f32 (iotaInDim S8192 32 0)))))))))) (broadcastInDim S4x8192x8192 ![] bcast_S_S4x8192x8192 (id (constant S_ .f32 0x00000000#32)))

/-- The reference's term for the weighted sum over the keys. -/
def RO (a0 : FVec Ideal S2x8192x6144 .bf16) (dec : FVec Ideal S4x8192x8192 .f32) : FVec Ideal S2x8192x4x256 .f32 :=
  transpose S2x8192x4x256 [0, 3, 1, 2] (Host.dotGeneral dot_S2x8192x4x256_S2x4x8192x8192_S2x4x256x8192_1_3_3_2_02_01 none (shapeCast S2x8192x4x256 (extractStridedSlice S2x8192x1024 ![0, 0, 1024] (extf .f32 a0 bitsLt_bf16_f32) slices_S2x8192x6144_S2x8192x1024_0_0_1024) shapeCasts_S2x8192x1024_S2x8192x4x256) (mulf (Host.dotGeneral dot_S2x8192x4x128_S2x8192x4x128_S2x4x8192x8192_3_3_1_1_02_02 none (shapeCast S2x8192x4x128 (extractStridedSlice S2x8192x512 ![0, 0, 0] (extf .f32 a0 bitsLt_bf16_f32) slices_S2x8192x6144_S2x8192x512_0_0_0) shapeCasts_S2x8192x512_S2x8192x4x128) (shapeCast S2x8192x4x128 (extractStridedSlice S2x8192x512 ![0, 0, 512] (extf .f32 a0 bitsLt_bf16_f32) slices_S2x8192x6144_S2x8192x512_0_0_512) shapeCasts_S2x8192x512_S2x8192x4x128)) (broadcastInDim S2x4x8192x8192 ![0, 1, 2, 3] bcast_S1x4x8192x8192_S2x4x8192x8192_0_1_2_3 (broadcastInDim S1x4x8192x8192 ![1, 2, 3] bcast_S4x8192x8192_S1x4x8192x8192_1_2_3 dec)))) transposes_S2x4x256x8192_S2x8192x4x256_0_3_1_2

/-- The reference's term for the normalised, gated rows. -/
def Y (a0 : FVec Ideal S2x8192x6144 .bf16) (ro : FVec Ideal S2x8192x4x256 .f32) : FVec Ideal S2x8192x1024 .f32 :=
  mulf (extractStridedSlice S2x8192x1024 ![0, 0, 2048] (extf .f32 a0 bitsLt_bf16_f32) slices_S2x8192x6144_S2x8192x1024_0_0_2048) (shapeCast S2x8192x1024 (mulf ro (broadcastInDim S2x8192x4x256 ![0, 1, 2, 3] bcast_S2x8192x4x1_S2x8192x4x256_0_1_2_3 (Host.rsqrt (addf (Host.divf (broadcastInDim S2x8192x4x1 ![0, 1, 2] bcast_S2x8192x4_S2x8192x4x1_0_1_2 (Host.reduceAdd (mulf ro ro) (constant S_ .f32 0x00000000#32) reducesTo_S2x8192x4x256_S2x8192x4_d3 h_S_)) (broadcastInDim S2x8192x4x1 ![] bcast_S_S2x8192x4x1 (constant S_ .f32 0x43800000#32))) (broadcastInDim S2x8192x4x1 ![] bcast_S_S2x8192x4x1 (constant S_ .f32 0x358637BD#32)))))) shapeCasts_S2x8192x4x256_S2x8192x1024)

/-- The reference's term for the result. -/
def OUT (a0 : FVec Ideal S2x8192x6144 .bf16) (a1 : FVec Ideal S1x1024x1024 .f32) (y : FVec Ideal S2x8192x1024 .f32) : FVec Ideal S2x8192x1024 .bf16 :=
  truncf .bf16 (mulf (extractStridedSlice S2x8192x1024 ![0, 0, 4096] (extf .f32 a0 bitsLt_bf16_f32) slices_S2x8192x6144_S2x8192x1024_0_0_4096) (Host.dotGeneral dot_S2x8192x1024_S1024x1024_S2x8192x1024_2_0_01_1_n_n none y (shapeCast S1024x1024 a1 shapeCasts_S1x1024x1024_S1024x1024))) bitsLt_bf16_f32

/-- The reference's weighted sum over the keys, read at an index. -/
theorem RO_at (a0 dec) (b : Fin 2) (t : Fin 8192) (h : Fin 4) (e : Fin 256) : RO a0 dec (ix4 b t h e)
    = ∑ s : Fin 8192, a0 (ix3 b s ⟨1024 + (h.val * 256 + e.val), by omega⟩)
        * ((∑ d : Fin 128, a0 (ix3 b t ⟨h.val * 128 + d.val, by omega⟩) * a0 (ix3 b s ⟨512 + (h.val * 128 + d.val), by omega⟩)) * dec (ix3 h t s)) := by
  unfold RO; pointwise

/-- The reference's gated rows, read at an index. -/
theorem Y_at (a0 ro) (b : Fin 2) (t : Fin 8192) (n : Fin 1024) : Y a0 ro (ix3 b t n)
    = gated (fun e => ro (ix4 b t ⟨n.val / 256, by omega⟩ e)) (a0 (ix3 b t ⟨2048 + n.val, by omega⟩)) ⟨n.val % 256, by omega⟩ := by
  unfold Y gated; pointwise

/-- The reference's result, read at an index. -/
theorem OUT_at (a0 a1 y) (b : Fin 2) (t : Fin 8192) (n : Fin 1024) : OUT a0 a1 y (ix3 b t n)
    = a0 (ix3 b t ⟨4096 + n.val, by omega⟩) * ∑ k : Fin 1024, y (ix3 b t k) * a1 (ix3 0 k n) := by
  unfold OUT; pointwise

/-- The reference's weights, read at an index. -/
theorem DEC_at (h : Fin 4) (t s : Fin 8192) : DEC (ix3 h t s) = ((W h.val t.val s.val : ℝ) : EReal) := by
  unfold DEC; pointwise
  exact (congrArg (Scalar.select _ _) (show id (constant (F := Ideal) S_ FTy.f32 0#32) ix0 = (0 : EReal) from by show Ideal.ofBits .f32 0#32 = 0; simp [Ideal.ofBits, Ideal.ieee])).trans
    (weight h.val t.val s.val h.isLt t.isLt s.isLt)

/-- The result from the arguments: token `t` of batch `b`, column `n`. -/
def SPEC (a0 : FVec Ideal S2x8192x6144 .bf16) (a1 : FVec Ideal S1x1024x1024 .f32) (b : Fin 2) (t : Fin 8192) (n : Fin 1024) : EReal :=
  a0 (ix3 b t ⟨4096 + n.val, by omega⟩) * ∑ k : Fin 1024,
    gated (fun e => ∑ s : Fin 8192, a0 (ix3 b s ⟨1024 + (k.val / 256 * 256 + e.val), by omega⟩)
        * ((∑ d : Fin 128, a0 (ix3 b t ⟨k.val / 256 * 128 + d.val, by omega⟩) * a0 (ix3 b s ⟨512 + (k.val / 256 * 128 + d.val), by omega⟩))
          * ((W (k.val / 256) t.val s.val : ℝ) : EReal)))
      (a0 (ix3 b t ⟨2048 + k.val, by omega⟩)) ⟨k.val % 256, by omega⟩ * a1 (ix3 0 k n)

/-- What the reference leaves is the result from the arguments. -/
theorem res (m : (ℓ : Loc nD τ sig) → Buf (Elt Ideal) ℓ) (c : Dev nD) (b : Fin 2) (t : Fin 8192) (n : Fin 1024) :
    Cert.ReferenceRetIdeal.Value.res_out0 m c (ix3 b t n)
    = SPEC (m ((c.tc : Thread nD τ).loc main_arg0)) (m ((c.tc : Thread nD τ).loc main_arg1)) b t n := by
  have e : Cert.ReferenceRetIdeal.Value.res_out0 m c = OUT (m ((c.tc : Thread nD τ).loc main_arg0)) (m ((c.tc : Thread nD τ).loc main_arg1))
      (Y (m ((c.tc : Thread nD τ).loc main_arg0)) (RO (m ((c.tc : Thread nD τ).loc main_arg0)) DEC)) := rfl
  rw [e, OUT_at]
  simp only [Y_at, RO_at, DEC_at]
  rfl

end Cert.ReferenceRetIdeal.Ret

end
-- ==== Proof.RetIdeal.lean ====
/- The retention: what the blocked program leaves is the result from the arguments. -/
module

public import proofs.«01_k».proof.Proof.RetPay
public import proofs.«01_k».proof.Proof.RetRef

@[expose] public section

set_option maxRecDepth 16384

noncomputable section

open Idealize.ShloMosaic Idealize.ShloMosaic.TcCoe Idealize.SL.Sem
open Idealize.ShloMosaic.Pipeline (Dat)

namespace Cert.KernelRetIdeal.Ret

open Cert.KernelRetIdeal Cert.KernelRetIdeal.Gen Cert.RetRow
open Cert.ReferenceRetIdeal.Ret (SPEC)

variable (m : (ℓ : Loc nD τ sig) → Buf (Elt Ideal) ℓ)

/-- Every window's block at every grid point, decided. -/
theorem idx : ∀ t : Fin cfg0.N, win0_0.index t = ![0, t.val, 0]
    ∧ win0_1.index t = ![0, t.val, 1]
    ∧ win0_2.index t = ![0, t.val, 1]
    ∧ win0_3.index t = ![0, t.val, 2]
    ∧ win0_4.index t = ![0, t.val, 4]
    ∧ win0_5.index t = ![0, 0, 0]
    ∧ win0_6.index t = ![0, 0, 0]
    ∧ win0_7.index t = ![0, 0, 0]
    ∧ win0_8.index t = ![0, 0]
    ∧ win0_9.index t = ![0, t.val, 0] :=
  (by decide +kernel : ∀ t : Fin grid0.N, _)

/-- Window 0's block, at the arguments. -/
theorem rd0 (c : Dev nD) (t : Fin cfg0.N) (b : Fin 2) (r : Fin 512) (k : Fin 512) (s : Fin 8192) (hs : s.val = t.val * 512 + r.val) :
    iblk m c 0 t (ix3 b r k) = m ((c : Thread nD τ).loc main_arg0) (ix3 b s ⟨0 + k.val, by omega⟩) := by
  have ht : t.val < 16 := t.isLt
  obtain ⟨e0, e1, e2, e3, e4, e5, e6, e7, e8, e9⟩ := idx t
  have q : iblk m c 0 t (ix3 b r k) = V m c main_arg0 (ix3 b s (⟨0 + k.val, by omega⟩ : Fin 6144)) := by
    refine congrArg (V m c main_arg0) (funext fun a => Fin.ext ?_)
    match a with
    | 0 => blk_simp [e0] <;> (try simp [ix1, ix2, ix3, ix4]) <;> omega
    | 1 => blk_simp [e0] <;> (try simp [ix1, ix2, ix3, ix4]) <;> omega
    | 2 => blk_simp [e0] <;> (try simp [ix1, ix2, ix3, ix4]) <;> omega
  rw [q]
  rw [V_main_arg0]

/-- Window 1's block, at the arguments. -/
theorem rd1 (c : Dev nD) (t : Fin cfg0.N) (b : Fin 2) (r : Fin 512) (k : Fin 512) (s : Fin 8192) (hs : s.val = t.val * 512 + r.val) :
    iblk m c 1 t (ix3 b r k) = m ((c : Thread nD τ).loc main_arg0) (ix3 b s ⟨512 + k.val, by omega⟩) := by
  have ht : t.val < 16 := t.isLt
  obtain ⟨e0, e1, e2, e3, e4, e5, e6, e7, e8, e9⟩ := idx t
  have q : iblk m c 1 t (ix3 b r k) = V m c main_arg0 (ix3 b s (⟨512 + k.val, by omega⟩ : Fin 6144)) := by
    refine congrArg (V m c main_arg0) (funext fun a => Fin.ext ?_)
    match a with
    | 0 => blk_simp [e1] <;> (try simp [ix1, ix2, ix3, ix4]) <;> omega
    | 1 => blk_simp [e1] <;> (try simp [ix1, ix2, ix3, ix4]) <;> omega
    | 2 => blk_simp [e1] <;> (try simp [ix1, ix2, ix3, ix4]) <;> omega
  rw [q]
  rw [V_main_arg0]

/-- Window 2's block, at the arguments. -/
theorem rd2 (c : Dev nD) (t : Fin cfg0.N) (b : Fin 2) (r : Fin 512) (k : Fin 1024) (s : Fin 8192) (hs : s.val = t.val * 512 + r.val) :
    iblk m c 2 t (ix3 b r k) = m ((c : Thread nD τ).loc main_arg0) (ix3 b s ⟨1024 + k.val, by omega⟩) := by
  have ht : t.val < 16 := t.isLt
  obtain ⟨e0, e1, e2, e3, e4, e5, e6, e7, e8, e9⟩ := idx t
  have q : iblk m c 2 t (ix3 b r k) = V m c main_arg0 (ix3 b s (⟨1024 + k.val, by omega⟩ : Fin 6144)) := by
    refine congrArg (V m c main_arg0) (funext fun a => Fin.ext ?_)
    match a with
    | 0 => blk_simp [e2] <;> (try simp [ix1, ix2, ix3, ix4]) <;> omega
    | 1 => blk_simp [e2] <;> (try simp [ix1, ix2, ix3, ix4]) <;> omega
    | 2 => blk_simp [e2] <;> (try simp [ix1, ix2, ix3, ix4]) <;> omega
  rw [q]
  rw [V_main_arg0]

/-- Window 3's block, at the arguments. -/
theorem rd3 (c : Dev nD) (t : Fin cfg0.N) (b : Fin 2) (r : Fin 512) (k : Fin 1024) (s : Fin 8192) (hs : s.val = t.val * 512 + r.val) :
    iblk m c 3 t (ix3 b r k) = m ((c : Thread nD τ).loc main_arg0) (ix3 b s ⟨2048 + k.val, by omega⟩) := by
  have ht : t.val < 16 := t.isLt
  obtain ⟨e0, e1, e2, e3, e4, e5, e6, e7, e8, e9⟩ := idx t
  have q : iblk m c 3 t (ix3 b r k) = V m c main_arg0 (ix3 b s (⟨2048 + k.val, by omega⟩ : Fin 6144)) := by
    refine congrArg (V m c main_arg0) (funext fun a => Fin.ext ?_)
    match a with
    | 0 => blk_simp [e3] <;> (try simp [ix1, ix2, ix3, ix4]) <;> omega
    | 1 => blk_simp [e3] <;> (try simp [ix1, ix2, ix3, ix4]) <;> omega
    | 2 => blk_simp [e3] <;> (try simp [ix1, ix2, ix3, ix4]) <;> omega
  rw [q]
  rw [V_main_arg0]

/-- Window 4's block, at the arguments. -/
theorem rd4 (c : Dev nD) (t : Fin cfg0.N) (b : Fin 2) (r : Fin 512) (k : Fin 1024) (s : Fin 8192) (hs : s.val = t.val * 512 + r.val) :
    iblk m c 4 t (ix3 b r k) = m ((c : Thread nD τ).loc main_arg0) (ix3 b s ⟨4096 + k.val, by omega⟩) := by
  have ht : t.val < 16 := t.isLt
  obtain ⟨e0, e1, e2, e3, e4, e5, e6, e7, e8, e9⟩ := idx t
  have q : iblk m c 4 t (ix3 b r k) = V m c main_arg0 (ix3 b s (⟨4096 + k.val, by omega⟩ : Fin 6144)) := by
    refine congrArg (V m c main_arg0) (funext fun a => Fin.ext ?_)
    match a with
    | 0 => blk_simp [e4] <;> (try simp [ix1, ix2, ix3, ix4]) <;> omega
    | 1 => blk_simp [e4] <;> (try simp [ix1, ix2, ix3, ix4]) <;> omega
    | 2 => blk_simp [e4] <;> (try simp [ix1, ix2, ix3, ix4]) <;> omega
  rw [q]
  rw [V_main_arg0]

/-- Window 5's block: a head's weights within a block of tokens. -/
theorem rd5 (c : Dev nD) (t : Fin cfg0.N) (h : Fin 4) (r j : Fin 512) : iblk m c 5 t (ix3 h r j) = ((W h.val r.val j.val : ℝ) : EReal) := by
  have ht : t.val < 16 := t.isLt
  obtain ⟨e0, e1, e2, e3, e4, e5, e6, e7, e8, e9⟩ := idx t
  have q : iblk m c 5 t (ix3 h r j) = V m c main_v32 (ix3 h r j) := by
    refine congrArg (V m c main_v32) (funext fun a => Fin.ext ?_)
    match a with
    | 0 => blk_simp [e5] <;> simp [ix1, ix2, ix3, ix4] <;> omega
    | 1 => blk_simp [e5] <;> simp [ix1, ix2, ix3, ix4] <;> omega
    | 2 => blk_simp [e5] <;> simp [ix1, ix2, ix3, ix4] <;> omega
  rw [q]
  simp only [V, hostOps0, hostOps0_1, hostOps0_2, List.flatten_cons, List.flatten_nil, List.append_nil, List.cons_append, List.nil_append]
  entry_read
  simp -implicitDefEqProofs only [StableHlo.TRef.toBuf, StableHlo.TRef.ofBuf, cast_cast, cast_eq]
  pointwise
  exact weight h.val r.val j.val h.isLt (by omega) (by omega)

/-- Window 6's block: a head's decay since the block's start. -/
theorem rd6 (c : Dev nD) (t : Fin cfg0.N) (h : Fin 4) (r : Fin 512) : iblk m c 6 t (ix3 h r 0) = ((γ h.val ^ r.val : ℝ) : EReal) := by
  have ht : t.val < 16 := t.isLt
  obtain ⟨e0, e1, e2, e3, e4, e5, e6, e7, e8, e9⟩ := idx t
  have q : iblk m c 6 t (ix3 h r 0) = V m c main_v39 (ix3 h r 0) := by
    refine congrArg (V m c main_v39) (funext fun a => Fin.ext ?_)
    match a with
    | 0 => blk_simp [e6] <;> simp [ix1, ix2, ix3, ix4] <;> omega
    | 1 => blk_simp [e6] <;> simp [ix1, ix2, ix3, ix4] <;> omega
    | 2 => blk_simp [e6] <;> simp [ix1, ix2, ix3, ix4] <;> omega
  rw [q]
  simp only [V, hostOps0, hostOps0_1, hostOps0_2, List.flatten_cons, List.flatten_nil, List.append_nil, List.cons_append, List.nil_append]
  entry_read
  pointwise
  rw [sit h.val (by omega), sit r.val (by omega), half, five, ← EReal.coe_one, lg, ex]

/-- Window 7's block: a head's decay to the block's end. -/
theorem rd7 (c : Dev nD) (t : Fin cfg0.N) (h : Fin 4) (r : Fin 512) : iblk m c 7 t (ix3 h r 0) = ((γ h.val ^ (512 - r.val) : ℝ) : EReal) := by
  have ht : t.val < 16 := t.isLt
  obtain ⟨e0, e1, e2, e3, e4, e5, e6, e7, e8, e9⟩ := idx t
  have q : iblk m c 7 t (ix3 h r 0) = V m c main_v48 (ix3 h r 0) := by
    refine congrArg (V m c main_v48) (funext fun a => Fin.ext ?_)
    match a with
    | 0 => blk_simp [e7] <;> simp [ix1, ix2, ix3, ix4] <;> omega
    | 1 => blk_simp [e7] <;> simp [ix1, ix2, ix3, ix4] <;> omega
    | 2 => blk_simp [e7] <;> simp [ix1, ix2, ix3, ix4] <;> omega
  rw [q]
  simp only [V, hostOps0, hostOps0_1, hostOps0_2, List.flatten_cons, List.flatten_nil, List.append_nil, List.cons_append, List.nil_append]
  entry_read
  pointwise
  rw [sit h.val (by omega), sit r.val (by omega), half, five, w512, ← EReal.coe_one, lg, show (512 : ℝ) = ((512 : ℕ) : ℝ) by norm_num, ← EReal.coe_sub, ← Nat.cast_sub (by omega), ex]

/-- Window 8's block, at the arguments. -/
theorem rd8 (c : Dev nD) (t : Fin cfg0.N) (k n : Fin 1024) : iblk m c 8 t (ix2 k n) = m ((c : Thread nD τ).loc main_arg1) (ix3 0 k n) := by
  have ht : t.val < 16 := t.isLt
  obtain ⟨e0, e1, e2, e3, e4, e5, e6, e7, e8, e9⟩ := idx t
  have q : iblk m c 8 t (ix2 k n) = V m c main_v1 (ix2 k n) := by
    refine congrArg (V m c main_v1) (funext fun a => Fin.ext ?_)
    match a with
    | 0 => blk_simp [e8] <;> simp [ix1, ix2, ix3, ix4] <;> omega
    | 1 => blk_simp [e8] <;> simp [ix1, ix2, ix3, ix4] <;> omega
  rw [q]
  simp only [V, hostOps0, hostOps0_1, hostOps0_2, List.flatten_cons, List.flatten_nil, List.append_nil, List.cons_append, List.nil_append]
  entry_read
  pointwise

/-! ## The rows as reals -/

/-- The queries', keys' and values' columns hold real numbers. -/
def Fin3 (a0 : FVec Ideal S2x8192x6144 .bf16) : Prop :=
  ∀ (b : Fin 2) (s : Fin 8192) (n : Fin 6144), n.val < 2048 → (((a0 (ix3 b s n)).toReal : ℝ) : EReal) = a0 (ix3 b s n)

/-- The real number in a row and column. -/
def cell (a0 : FVec Ideal S2x8192x6144 .bf16) (b : Fin 2) (s n : ℕ) : ℝ :=
  (a0 (ix3 b ⟨s % 8192, Nat.mod_lt _ (by decide)⟩ ⟨n % 6144, Nat.mod_lt _ (by decide)⟩)).toReal

/-- The entry is that real number. -/
theorem cell_eq {a0 : FVec Ideal S2x8192x6144 .bf16} (hf : Fin3 a0) (b : Fin 2) (s : Fin 8192) (n : Fin 6144) (k : ℕ) (hk : k = n.val) (hn : n.val < 2048) :
    a0 (ix3 b s n) = ((cell a0 b s.val k : ℝ) : EReal) := by
  subst hk
  have e1 : (⟨s.val % 8192, Nat.mod_lt _ (by decide)⟩ : Fin 8192) = s := Fin.ext (Nat.mod_eq_of_lt s.isLt)
  have e2 : (⟨n.val % 6144, Nat.mod_lt _ (by decide)⟩ : Fin 6144) = n := Fin.ext (Nat.mod_eq_of_lt n.isLt)
  rw [← hf b s n hn]
  show _ = (((a0 (ix3 b ⟨s.val % 8192, _⟩ ⟨n.val % 6144, _⟩)).toReal : ℝ) : EReal)
  rw [e1, e2]

/-- A head's queries. -/
def qf (a0 : FVec Ideal S2x8192x6144 .bf16) (b : Fin 2) (h : Fin 4) (s : ℕ) (d : Fin 128) : ℝ := cell a0 b s (h.val * 128 + d.val)
/-- A head's keys. -/
def kf (a0 : FVec Ideal S2x8192x6144 .bf16) (b : Fin 2) (h : Fin 4) (s : ℕ) (d : Fin 128) : ℝ := cell a0 b s (512 + (h.val * 128 + d.val))
/-- A head's values. -/
def vf (a0 : FVec Ideal S2x8192x6144 .bf16) (b : Fin 2) (h : Fin 4) (s : ℕ) (e : Fin 256) : ℝ := cell a0 b s (1024 + (h.val * 256 + e.val))

/-- The query, key and value blocks hold the rows' reals. -/
theorem q_blk (c : Dev nD) (hf : Fin3 (m ((c : Thread nD τ).loc main_arg0))) (t : Fin cfg0.N) (b : Fin 2) (r : Fin 512) (h : Fin 4) (d : Fin 128) :
    iblk m c 0 t (ix3 b r ⟨h.val * 128 + d.val, by omega⟩) = ((qf (m ((c : Thread nD τ).loc main_arg0)) b h (512 * t.val + r.val) d : ℝ) : EReal) := by
  have ht : t.val < 16 := t.isLt
  rw [rd0 m c t b r ⟨h.val * 128 + d.val, by omega⟩ ⟨512 * t.val + r.val, by omega⟩ (by show 512 * t.val + r.val = _; omega)]
  exact cell_eq hf b _ _ _ (show _ = 0 + (h.val * 128 + d.val) by omega) (by show 0 + (h.val * 128 + d.val) < _; omega)

/-- … the keys … -/
theorem k_blk (c : Dev nD) (hf : Fin3 (m ((c : Thread nD τ).loc main_arg0))) (t : Fin cfg0.N) (b : Fin 2) (r : Fin 512) (h : Fin 4) (d : Fin 128) :
    iblk m c 1 t (ix3 b r ⟨h.val * 128 + d.val, by omega⟩) = ((kf (m ((c : Thread nD τ).loc main_arg0)) b h (512 * t.val + r.val) d : ℝ) : EReal) := by
  have ht : t.val < 16 := t.isLt
  rw [rd1 m c t b r ⟨h.val * 128 + d.val, by omega⟩ ⟨512 * t.val + r.val, by omega⟩ (by show 512 * t.val + r.val = _; omega)]
  exact cell_eq hf b _ _ _ rfl (by show 512 + (h.val * 128 + d.val) < _; omega)

/-- … the values. -/
theorem v_blk (c : Dev nD) (hf : Fin3 (m ((c : Thread nD τ).loc main_arg0))) (t : Fin cfg0.N) (b : Fin 2) (r : Fin 512) (h : Fin 4) (e : Fin 256) :
    iblk m c 2 t (ix3 b r ⟨h.val * 256 + e.val, by omega⟩) = ((vf (m ((c : Thread nD τ).loc main_arg0)) b h (512 * t.val + r.val) e : ℝ) : EReal) := by
  have ht : t.val < 16 := t.isLt
  rw [rd2 m c t b r ⟨h.val * 256 + e.val, by omega⟩ ⟨512 * t.val + r.val, by omega⟩ (by show 512 * t.val + r.val = _; omega)]
  exact cell_eq hf b _ _ _ rfl (by show 1024 + (h.val * 256 + e.val) < _; omega)

/-! ## The state -/

/-- A state holds the decayed sum over the blocks before block `i`. -/
def Holds (a0 : FVec Ideal S2x8192x6144 .bf16) (i : ℕ) (St : S2x4x128x256.Idx → EReal) : Prop :=
  ∀ (b : Fin 2) (h : Fin 4) (d : Fin 128) (e : Fin 256), St (ix4 b h d e) = ((S h.val (kf a0 b h) (vf a0 b h) i d e : ℝ) : EReal)

/-- The zero state holds the empty sum. -/
theorem holds_zero (a0 : FVec Ideal S2x8192x6144 .bf16) : Holds a0 0 (k0_pay2 (F := Ideal)) := by
  intro b h d e
  rw [S_zero]
  unfold k0_pay2
  pointwise
  try simp [Ideal.ofBits, Ideal.ieee]

/-- A block takes the sum before it to the sum after it. -/
theorem st_step (c : Dev nD) (hf : Fin3 (m ((c : Thread nD τ).loc main_arg0))) (t : Fin cfg0.N) (St : S2x4x128x256.Idx → EReal)
    (hs : Holds (m ((c : Thread nD τ).loc main_arg0)) t.val St) (b : Fin 2) (h : Fin 4) (d : Fin 128) (e : Fin 256) :
    stB dec (iblk m c 1 t) (iblk m c 2 t) (iblk m c 7 t) St b h d e
      = ((S h.val (kf (m ((c : Thread nD τ).loc main_arg0)) b h) (vf (m ((c : Thread nD τ).loc main_arg0)) b h) (t.val + 1) d e : ℝ) : EReal) := by
  unfold stB dec
  rw [hs b h d e, S_succ, EReal.coe_add, EReal.coe_mul, coe_sum]
  refine congrArg (_ + ·) (Finset.sum_congr rfl fun j _ => ?_)
  rw [EReal.coe_mul, EReal.coe_mul, k_blk m c hf, rd7, v_blk m c hf]

/-- After every block the state holds the sum through it. -/
theorem st_after (c : Dev nD) (hf : Fin3 (m ((c : Thread nD τ).loc main_arg0))) : ∀ (n : ℕ) (hn : n < cfg0.N),
    Holds (m ((c : Thread nD τ).loc main_arg0)) (n + 1) (outsAt0 m c n hn).2
  | 0, hn => fun b h d e => (state_A m c ⟨0, hn⟩ rfl (ix4 b h d e)).trans (st_step m c hf ⟨0, hn⟩ _ (holds_zero _) b h d e)
  | n + 1, hn => fun b h d e => (state_B m c ⟨n + 1, hn⟩ (by have : n + 1 < 16 := hn; show ¬ (n + 1) % 16 = 0; omega) (ix4 b h d e)).trans
      (st_step m c hf ⟨n + 1, hn⟩ _ (st_after c hf n (by omega)) b h d e)

/-! ## The block -/

/-- The rows. -/
abbrev a0 (c : Dev nD) : FVec Ideal S2x8192x6144 .bf16 := m ((c : Thread nD τ).loc main_arg0)

/-- A head's output row, over all positions. -/
theorem ro_blk (c : Dev nD) (hf : Fin3 (m ((c : Thread nD τ).loc main_arg0))) (t : Fin cfg0.N) (St : S2x4x128x256.Idx → EReal)
    (hs : Holds (m ((c : Thread nD τ).loc main_arg0)) t.val St) (b : Fin 2) (h : Fin 4) (r : Fin 512) (e : Fin 256) (T : Fin 8192) (hT : T.val = 512 * t.val + r.val) :
    roB (iblk m c 0 t) (iblk m c 1 t) (iblk m c 2 t) (iblk m c 5 t) (iblk m c 6 t) St b h r e
      = ∑ s : Fin 8192, a0 m c (ix3 b s ⟨1024 + (h.val * 256 + e.val), by omega⟩)
        * ((∑ d : Fin 128, a0 m c (ix3 b T ⟨h.val * 128 + d.val, by omega⟩)
            * a0 m c (ix3 b s ⟨512 + (h.val * 128 + d.val), by omega⟩))
          * ((W h.val T.val s.val : ℝ) : EReal)) := by
  have ht : t.val < 16 := t.isLt
  have eL : roB (iblk m c 0 t) (iblk m c 1 t) (iblk m c 2 t) (iblk m c 5 t) (iblk m c 6 t) St b h r e
      = ((ro h.val (qf (m ((c : Thread nD τ).loc main_arg0)) b h) (kf (m ((c : Thread nD τ).loc main_arg0)) b h) (vf (m ((c : Thread nD τ).loc main_arg0)) b h) T.val e : ℝ) : EReal) := by
    rw [hT, ← ro_split h.val _ _ _ t.val ht r e]
    unfold roB
    simp only [EReal.coe_add, EReal.coe_mul, coe_sum]
    refine congr (congrArg HAdd.hAdd (Finset.sum_congr rfl fun j _ => ?_)) (congr (congrArg HMul.hMul (Finset.sum_congr rfl fun d _ => ?_)) (rd6 m c t h r))
    · exact congr (congrArg HMul.hMul (congr (congrArg HMul.hMul (Finset.sum_congr rfl fun d _ =>
        congr (congrArg HMul.hMul (q_blk m c hf t b r h d)) (k_blk m c hf t b j h d))) (rd5 m c t h r j))) (v_blk m c hf t b j h e)
    · exact congr (congrArg HMul.hMul (q_blk m c hf t b r h d)) (hs b h d e)
  rw [eL]
  unfold ro
  rw [Finset.sum_range, coe_sum]
  refine Finset.sum_congr rfl fun s _ => ?_
  rw [EReal.coe_mul, EReal.coe_mul, coe_sum]
  refine congr (congrArg HMul.hMul ?_) (congrArg (· * _) (Finset.sum_congr rfl fun d _ => ?_))
  · exact (cell_eq hf b s ⟨1024 + (h.val * 256 + e.val), by omega⟩ _ rfl (by show 1024 + (h.val * 256 + e.val) < _; omega)).symm
  · rw [EReal.coe_mul]
    exact congr (congrArg HMul.hMul (cell_eq hf b T ⟨h.val * 128 + d.val, by omega⟩ _ rfl (by show h.val * 128 + d.val < _; omega)).symm)
      (cell_eq hf b s ⟨512 + (h.val * 128 + d.val), by omega⟩ _ rfl (by show 512 + (h.val * 128 + d.val) < _; omega)).symm

/-- The block's output is the result's rows. -/
theorem out_blk (c : Dev nD) (hf : Fin3 (m ((c : Thread nD τ).loc main_arg0))) (t : Fin cfg0.N) (St : S2x4x128x256.Idx → EReal)
    (hs : Holds (m ((c : Thread nD τ).loc main_arg0)) t.val St) (b : Fin 2) (r : Fin 512) (n : Fin 1024) (T : Fin 8192) (hT : T.val = 512 * t.val + r.val) :
    outB (iblk m c 0 t) (iblk m c 1 t) (iblk m c 2 t) (iblk m c 3 t) (iblk m c 4 t) (iblk m c 5 t) (iblk m c 6 t) (iblk m c 8 t) St b r n
      = SPEC (m ((c : Thread nD τ).loc main_arg0)) (m ((c : Thread nD τ).loc main_arg1)) b T n := by
  have hT' : T.val = t.val * 512 + r.val := by omega
  unfold outB SPEC
  refine congr (congrArg HMul.hMul (rd4 m c t b r n T hT')) (Finset.sum_congr rfl fun k _ => congr (congrArg HMul.hMul ?_) (rd8 m c t k n))
  unfold yB
  refine congr (congr (congrArg gated (funext fun e => ?_)) (rd3 m c t b r k T hT')) rfl
  exact ro_blk m c hf t St hs b ⟨k.val / 256, by omega⟩ r e T hT

/-- So every point leaves the result's rows. -/
theorem out_pt (c : Dev nD) (hf : Fin3 (m ((c : Thread nD τ).loc main_arg0))) (t : ℕ) (ht : t < cfg0.N) (y : S2x512x1024.Idx) (T : Fin 8192) (hT : T.val = 512 * t + (y 1).val) :
    (outsAt0 m c t ht).1 y = SPEC (m ((c : Thread nD τ).loc main_arg0)) (m ((c : Thread nD τ).loc main_arg1)) (y 0) T (y 2) := by
  have h16 : t < 16 := ht
  rcases Nat.eq_zero_or_pos t with h0 | h0
  · subst h0
    exact (block_A m c ⟨0, ht⟩ rfl y).trans (out_blk m c hf ⟨0, ht⟩ _ (holds_zero _) (y 0) (y 1) (y 2) T hT)
  · obtain ⟨n, rfl⟩ : ∃ n, t = n + 1 := ⟨t - 1, by omega⟩
    exact (block_B m c ⟨n + 1, ht⟩ (by show ¬ (n + 1) % 16 = 0; omega) y).trans (out_blk m c hf ⟨n + 1, ht⟩ _ (st_after m c hf n (by omega)) (y 0) (y 1) (y 2) T hT)

/-- The array the program leaves is the result. -/
theorem final (c : Dev nD) (hf : Fin3 (m ((c : Thread nD τ).loc main_arg0))) :
    Value.G9 m c = fun i => SPEC (m ((c : Thread nD τ).loc main_arg0)) (m ((c : Thread nD τ).loc main_arg1)) (i 0) (i 1) (i 2) := by
  funext i
  have h0 : (i 0).val < 2 := (i 0).isLt
  have h1 : (i 1).val < 8192 := (i 1).isLt
  have h2 : (i 2).val < 1024 := (i 2).isLt
  have hp : Value.pt9Of i = (i 1).val / 512 := by show 16 * ((i 0).val / 2 - 0) + 1 * ((i 1).val / 512 - 0) + 1 * ((i 2).val / 1024 - 0) = _; omega
  have hN : Value.pt9Of i < cfg0.N := by rw [hp]; show _ < 16; omega
  unfold Value.G9
  rw [dif_pos hN]
  have hs := Value.outsAt0_sweep m c (Value.pt9Of i) hN
  rw [← hs, out_pt m c hf (Value.pt9Of i) hN (Value.loc9Of i) (i 1) (by rw [hp]; show (i 1).val = 512 * ((i 1).val / 512) + (i 1).val % 512; omega)]
  have e0 : Value.loc9Of i 0 = i 0 := Fin.ext (Nat.mod_eq_of_lt h0)
  have e2 : Value.loc9Of i 2 = i 2 := Fin.ext (Nat.mod_eq_of_lt h2)
  exact congr (congrArg (fun b => SPEC (m ((c : Thread nD τ).loc main_arg0)) (m ((c : Thread nD τ).loc main_arg1)) b (i 1)) e0) e2

end Cert.KernelRetIdeal.Ret

end
-- ==== Proof.RetPre.lean ====
/- The retention's precondition: a row below infinity holds real numbers. -/
module

public import proofs.«01_k».proof.Pre_rows_finite
public import proofs.«01_k».proof.Proof.RetIdeal

@[expose] public section

set_option maxRecDepth 16384

noncomputable section

open Idealize.ShloMosaic Idealize.ShloMosaic.TcCoe

namespace Cert.RetPre

/-- What the precondition's operations take. -/
theorem facts : Cert.Pre_rows_finite.Facts where
  slices_S2x8192x6144_S2x8192x2048_0_0_0 := by decide
  bitsLt_bf16_f32 := by decide
  bcast_S_S2x8192x2048 := by decide

/-- An extended real whose absolute value is below infinity is a real number. -/
theorem real_of_abs (x : EReal) (h : Ideal.cmp .olt (max x (-x)) (Ideal.ofBits .f32 0x7F800000#32) = 1#1) : ((x.toReal : ℝ) : EReal) = x := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  refine Cert.RetRow.real_of_lt x (fun hx => ?_) (fun hx => ?_)
  · subst hx
    simp at hlt
  · subst hx
    simp at hlt

/-- The precondition says the queries', keys' and values' columns hold real numbers. -/
theorem fin3 (a0 : FVec Ideal Cert.Pre_rows_finite.S2x8192x6144 .bf16) (a1 : FVec Ideal Cert.Pre_rows_finite.S1x1024x1024 .f32)
    (h : @Cert.Pre_rows_finite.fn facts Ideal _ a0 a1 = fun _ => 1#1) : Cert.KernelRetIdeal.Ret.Fin3 a0 := by
  intro b s n hn
  have e := congrFun h (ix3 b s ⟨n.val, hn⟩)
  have i : (a0 (ix3 b s n) : EReal) = extractStridedSlice Cert.Pre_rows_finite.S2x8192x2048 ![0, 0, 0] a0 facts.slices_S2x8192x6144_S2x8192x2048_0_0_0 (ix3 b s ⟨n.val, hn⟩) := by
    refine congrArg a0 (funext fun a => Fin.ext ?_)
    match a with
    | 0 => simp [ix3]
    | 1 => simp [ix3]
    | 2 => simp [ix3]
  rw [i]
  exact real_of_abs _ e

end Cert.RetPre

end
-- ==== Proof.AdaIdeal.lean ====
/- The conditioning's linear map: what the blocked program leaves is the reference's result. -/
module

public import proofs.«01_k».proof.Proof.Gen.KernelAdaIdeal.Value
public import proofs.«01_k».proof.Proof.Gen.ReferenceAdaIdeal.Run
public import proofs.«01_k».proof.Proof.Gen.KernelAda.Frame
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelAdaIdeal.Ada

open Cert.KernelAdaIdeal Cert.KernelAdaIdeal.Gen

/-- Batch `b`'s conditioning at column `n`: the products of the SiLU of its row with the weights, summed, and the bias. -/
def SPEC (a0 : FVec Ideal S2x1024 .f32) (a1 : FVec Ideal S1x1024x6144 .f32) (a2 : FVec Ideal S1x6144 .f32) (b : Fin 2) (n : Fin 6144) : EReal :=
  (∑ k : Fin 1024, (a0 (ix2 b k) * Ideal.logistic (a0 (ix2 b k))) * a1 (ix3 0 k n)) + a2 (ix2 0 n)

/-- The reference's composed term. -/
def REF (a0 : FVec Ideal S2x1024 .f32) (a1 : FVec Ideal S1x1024x6144 .f32) (a2 : FVec Ideal S1x6144 .f32) : FVec Ideal S2x6144 .f32 :=
  addf (Host.dotGeneral Cert.ReferenceAdaIdeal.dot_S2x1024_S1024x6144_S2x6144_1_0_0_1_n_n none
      (mulf a0 (Host.divf (broadcastInDim Cert.ReferenceAdaIdeal.S2x1024 ![] Cert.ReferenceAdaIdeal.Gen.bcast_S_S2x1024 (constant Cert.ReferenceAdaIdeal.S_ .f32 0x3F800000#32))
        (addf (broadcastInDim Cert.ReferenceAdaIdeal.S2x1024 ![] Cert.ReferenceAdaIdeal.Gen.bcast_S_S2x1024 (constant Cert.ReferenceAdaIdeal.S_ .f32 0x3F800000#32)) (Host.exp (Host.negf a0)))))
      (shapeCast Cert.ReferenceAdaIdeal.S1024x6144 a1 Cert.ReferenceAdaIdeal.Gen.shapeCasts_S1x1024x6144_S1024x6144))
    (broadcastInDim Cert.ReferenceAdaIdeal.S2x6144 ![0, 1] Cert.ReferenceAdaIdeal.Gen.bcast_S1x6144_S2x6144_0_1
      (broadcastInDim Cert.ReferenceAdaIdeal.S1x6144 ![1] Cert.ReferenceAdaIdeal.Gen.bcast_S6144_S1x6144_1
        (shapeCast Cert.ReferenceAdaIdeal.S6144 a2 Cert.ReferenceAdaIdeal.Gen.shapeCasts_S1x6144_S6144)))

/-- The reference's term, entry by entry. -/
theorem ref (a0 : FVec Ideal S2x1024 .f32) (a1 : FVec Ideal S1x1024x6144 .f32) (a2 : FVec Ideal S1x6144 .f32) (b : Fin 2) (n : Fin 6144) :
    REF a0 a1 a2 (ix2 b n) = SPEC a0 a1 a2 b n := by
  pointwise [REF, SPEC]
  rfl

variable (m : (ℓ : Loc nD τ sig) → Buf (Elt Ideal) ℓ)

/-- A block's entry from the windows' blocks. -/
def outB (P0 : Vec Ideal S1024x2 .f32) (P1 : Vec Ideal S1024x1536 .f32) (P2 : Vec Ideal S1x1536 .f32) (b : Fin 2) (n : Fin 1536) : EReal :=
  (∑ k : Fin 1024, (P0 (ix2 k b) * Ideal.logistic (P0 (ix2 k b))) * P1 (ix2 k n)) + P2 (ix2 0 n)

/-- The first row's stored value. -/
theorem pay3 (P0 : Vec Ideal S1024x2 .f32) (P1 : Vec Ideal S1024x1536 .f32) (P2 : Vec Ideal S1x1536 .f32) (n : Fin 1536) :
    k0_pay3 P0 P1 P2 (ix2 0 n) = outB P0 P1 P2 0 n := by
  pointwise [k0_pay3, k0_pay1, k0_pay2, outB]

/-- The second row's stored value. -/
theorem pay4 (P0 : Vec Ideal S1024x2 .f32) (P1 : Vec Ideal S1024x1536 .f32) (P2 : Vec Ideal S1x1536 .f32) (n : Fin 1536) :
    k0_pay4 P0 P1 P2 (ix2 0 n) = outB P0 P1 P2 1 n := by
  pointwise [k0_pay4, k0_pay1, k0_pay2, outB]

/-- What a block holds. -/
theorem block (P0 : Vec Ideal S1024x2 .f32) (P1 : Vec Ideal S1024x1536 .f32) (P2 : Vec Ideal S1x1536 .f32) (y : S2x1536.Idx) :
    View.canon ([⟨r0_4, k0_pay4 P0 P1 P2⟩, ⟨r0_3, k0_pay3 P0 P1 P2⟩] : List (View.Piece (Elt Ideal) S2x1536 .f32)) y = outB P0 P1 P2 (y 0) (y 1) := by
  refine View.canon_apply_of_pieces (show Vec Ideal S2x1536 .f32 from fun y => outB P0 P1 P2 (y 0) (y 1)) _ ?_ y (cover0_3 _ _ y)
  intro pc hpc
  have e : ∀ x : S1x1536.Idx, x = ix2 (0 : Fin 1) (x 1) := fun x => by
    funext a
    match a with
    | 0 => exact Fin.ext (by have h : (x 0).val < 1 := (x 0).isLt; show (x 0).val = 0; omega)
    | 1 => rfl
  rcases List.mem_cons.mp hpc with rfl | hpc
  · intro x
    rw [e x]
    refine (pay4 P0 P1 P2 (x 1)).trans ?_
    exact congr (congrArg (outB P0 P1 P2) (Fin.ext (by show (1 : ℕ) = 1 + 1 * 0; rfl))) (Fin.ext (by show (x 1).val = 0 + 1 * (x 1).val; omega))
  rcases List.mem_cons.mp hpc with rfl | hpc
  · intro x
    rw [e x]
    refine (pay3 P0 P1 P2 (x 1)).trans ?_
    exact congr (congrArg (outB P0 P1 P2) (Fin.ext (by show (0 : ℕ) = 0 + 1 * 0; rfl))) (Fin.ext (by show (x 1).val = 0 + 1 * (x 1).val; omega))
  nomatch hpc

/-- Every window's block at every grid point, decided. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- Window 0's block: the row, transposed. -/
theorem rd0 (c : Dev nD) (t : Fin cfg0.N) (k : Fin 1024) (b : Fin 2) : iblk m c 0 t (ix2 k b) = m ((c : Thread nD τ).loc main_arg0) (ix2 b k) := by
  obtain ⟨e0, e1, e2, e3⟩ := idx t
  have q : iblk m c 0 t (ix2 k b) = V m c main_v2 (ix2 k b) := by
    refine congrArg (V m c main_v2) (funext fun a => Fin.ext ?_)
    match a with
    | 0 => blk_simp [e0] <;> (try simp [ix1, ix2, ix3, ix4]) <;> omega
    | 1 => blk_simp [e0] <;> (try simp [ix1, ix2, ix3, ix4]) <;> omega
  rw [q]
  entry_read
  pointwise

/-- Window 1's block: the weights' columns. -/
theorem rd1 (c : Dev nD) (t : Fin cfg0.N) (k : Fin 1024) (j : Fin 1536) (n : Fin 6144) (hn : n.val = t.val * 1536 + j.val) :
    iblk m c 1 t (ix2 k j) = m ((c : Thread nD τ).loc main_arg1) (ix3 0 k n) := by
  have ht : t.val < 4 := t.isLt
  obtain ⟨e0, e1, e2, e3⟩ := idx t
  have q : iblk m c 1 t (ix2 k j) = V m c main_v0 (ix2 k n) := by
    refine congrArg (V m c main_v0) (funext fun a => Fin.ext ?_)
    match a with
    | 0 => blk_simp [e1] <;> (try simp [ix1, ix2, ix3, ix4]) <;> omega
    | 1 => blk_simp [e1] <;> (try simp [ix1, ix2, ix3, ix4]) <;> omega
  rw [q]
  entry_read
  pointwise

/-- Window 2's block: the bias's columns. -/
theorem rd2 (c : Dev nD) (t : Fin cfg0.N) (j : Fin 1536) (n : Fin 6144) (hn : n.val = t.val * 1536 + j.val) :
    iblk m c 2 t (ix2 0 j) = m ((c : Thread nD τ).loc main_arg2) (ix2 0 n) := by
  have ht : t.val < 4 := t.isLt
  obtain ⟨e0, e1, e2, e3⟩ := idx t
  have q : iblk m c 2 t (ix2 0 j) = V m c main_v3 (ix2 0 n) := by
    refine congrArg (V m c main_v3) (funext fun a => Fin.ext ?_)
    match a with
    | 0 => blk_simp [e2] <;> (try simp [ix1, ix2, ix3, ix4]) <;> omega
    | 1 => blk_simp [e2] <;> (try simp [ix1, ix2, ix3, ix4]) <;> omega
  rw [q]
  entry_read
  pointwise

/-- A point's block is the result's columns. -/
theorem point (c : Dev nD) (t : Fin cfg0.N) (b : Fin 2) (j : Fin 1536) (n : Fin 6144) (hn : n.val = t.val * 1536 + j.val) :
    outB (iblk m c 0 t) (iblk m c 1 t) (iblk m c 2 t) b j
      = SPEC (m ((c : Thread nD τ).loc main_arg0)) (m ((c : Thread nD τ).loc main_arg1)) (m ((c : Thread nD τ).loc main_arg2)) b n := by
  unfold outB SPEC
  refine congr (congrArg HAdd.hAdd (Finset.sum_congr rfl fun k _ => ?_)) (rd2 m c t j n hn)
  exact congr (congrArg HMul.hMul (congrArg (fun z : EReal => z * Ideal.logistic z) (rd0 m c t k b))) (rd1 m c t k j n hn)

/-- The array the program leaves is the reference's. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨e0, e1, e2, e3⟩ := idx t
  have ht : t.val < 4 := t.isLt
  have hy0 : (y 0).val < 2 := (y 0).isLt
  have hy1 : (y 1).val < 1536 := (y 1).isLt
  have f0 : ((((cfg0.win 3).blk t).view.emb y 0 : Fin _) : Nat) = y 0 := by blk_simp [e3]
  have f1 : ((((cfg0.win 3).blk t).view.emb y 1 : Fin _) : Nat) = t.val * 1536 + y 1 := by blk_simp [e3]
  blk_simp; rw [after0_3]; unfold out0_3; frame_out
  refine (block _ _ _ y).trans ?_
  generalize ((cfg0.win 3).blk t).view.emb y = z at f0 f1 ⊢
  have ez : z = ix2 (⟨(y 0).val, hy0⟩ : Fin 2) (z 1) := by
    funext a
    match a with
    | 0 => exact Fin.ext f0
    | 1 => rfl
  rw [ez]
  exact (point m c t (y 0) (y 1) (z 1) f1).trans (ref _ _ _ _ _).symm

end Cert.KernelAdaIdeal.Ada

end
-- ==== Proof.lean ====
/- The claims of proofs.«01_k».proof.Defs, from the programs' runs and the value modules. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import proofs.«01_k».proof.Proof.Cast
public import proofs.«01_k».proof.Proof.CastIdeal
public import Idealize.ShloMosaic.Lib.Claim
public import proofs.«01_k».proof.Proof.Gen.KernelTail.Frame
public import proofs.«01_k».proof.Proof.Gen.KernelTailIdeal.Value
public import proofs.«01_k».proof.Proof.Gen.ReferenceTailIdeal.Run
public import proofs.«01_k».proof.Proof.TailIdeal
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.ReferenceInIdeal.Run
public import proofs.«01_k».proof.Proof.Gen.KernelRet
public import proofs.«01_k».proof.Proof.Gen.KernelRet.Skeleton
public import proofs.«01_k».proof.Proof.Gen.KernelRet.Launch
public import proofs.«01_k».proof.Proof.Gen.KernelRet.Points
public import proofs.«01_k».proof.Proof.Gen.KernelRet.Frame
public import proofs.«01_k».proof.Proof.Gen.KernelRetIdeal
public import proofs.«01_k».proof.Proof.Gen.KernelRetIdeal.Skeleton
public import proofs.«01_k».proof.Proof.Gen.KernelRetIdeal.Launch
public import proofs.«01_k».proof.Proof.Gen.KernelRetIdeal.Points
public import proofs.«01_k».proof.Proof.Gen.KernelRetIdeal.Frame
public import proofs.«01_k».proof.Proof.Gen.KernelRetIdeal.Value
public import proofs.«01_k».proof.Proof.Gen.ReferenceRetIdeal
public import proofs.«01_k».proof.Proof.Gen.ReferenceRetIdeal.Run
public import proofs.«01_k».proof.Proof.Gen.KernelAda
public import proofs.«01_k».proof.Proof.Gen.KernelAda.Skeleton
public import proofs.«01_k».proof.Proof.Gen.KernelAda.Launch
public import proofs.«01_k».proof.Proof.Gen.KernelAda.Points
public import proofs.«01_k».proof.Proof.Gen.KernelAda.Frame
public import proofs.«01_k».proof.Proof.Gen.KernelAdaIdeal
public import proofs.«01_k».proof.Proof.Gen.KernelAdaIdeal.Skeleton
public import proofs.«01_k».proof.Proof.Gen.KernelAdaIdeal.Launch
public import proofs.«01_k».proof.Proof.Gen.KernelAdaIdeal.Points
public import proofs.«01_k».proof.Proof.Gen.KernelAdaIdeal.Frame
public import proofs.«01_k».proof.Proof.Gen.KernelAdaIdeal.Value
public import proofs.«01_k».proof.Proof.Gen.ReferenceAdaIdeal
public import proofs.«01_k».proof.Proof.Gen.ReferenceAdaIdeal.Run
public import proofs.«01_k».proof.Proof.InBitsFrame
public import proofs.«01_k».proof.Proof.InIdeal
public import Idealize.ShloMosaic.Adequacy
public import Idealize.ShloMosaic.Init
public import proofs.«01_k».proof.Proof.RetPre
public import proofs.«01_k».proof.Proof.AdaIdeal

@[expose] public section

noncomputable section

namespace Cert.Proof

open Idealize.ShloMosaic Idealize.SL.Sem Cert.Kernel

/-- The re-laid weights are, bit for bit, the reference's. -/
theorem cast_bitexact : Cert.bitexact_Kernel_Reference := by
  pair_intro
  · run_from Cert.Kernel.Gen.run_main m g
  · hlo_run
    exact (congrArg Cert.Kernel.Cast.REF (hagree c)).trans (Cert.Kernel.Cast.final m c).symm

/-- The re-laid weights are the reference's over the reals. -/
theorem cast_algebraic : Cert.algebraic_KernelIdeal_ReferenceIdeal := by
  pair_intro
  · run_from Cert.KernelIdeal.Gen.run_main m g
  · hlo_run
    exact (congrArg Cert.KernelIdeal.Cast.REF (hagree c)).trans (Cert.KernelIdeal.Cast.final m c).symm

/-- The reference leaves its argument as it was and every semaphore at zero, over any floats. -/
theorem cast_host {F : FTy → Type} [FloatOps F] (m : (ℓ : Loc Cert.ReferenceIdeal.nD Cert.ReferenceIdeal.τ Cert.ReferenceIdeal.sig) → Buf (Elt F) ℓ)
    (g : Dev Cert.ReferenceIdeal.nD → PrngReg) :
    θ_run (Cert.ReferenceIdeal.defs (F := F)) (onTc (τ := Cert.ReferenceIdeal.τ) (Cert.ReferenceIdeal.main (F := F))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) ∧ r.2.sem = fun _ => 0) :=
  (θ_run (Cert.ReferenceIdeal.defs (F := F)) _ _).mono
    (fun r h => ⟨fun c => (h c).2, sem_eq_zero_of_no_sems (by decide) r.2⟩) (Cert.ReferenceIdeal.Value.run (F := F) m g)

/-- The same of the reference over bits. -/
theorem cast_host_bits : Cert.quiescent_Reference := fun m g _ =>
  (θ_run (Cert.Reference.defs (F := Bits)) _ _).mono
    (fun r h => ⟨fun c => (h c).2, sem_eq_zero_of_no_sems (by decide) r.2⟩) (Cert.Reference.Value.run (F := Bits) m g)

/-- The result is the reference's over the reals. -/
theorem tail_algebraic : Cert.algebraic_KernelTailIdeal_ReferenceTailIdeal := by
  pair_intro
  · run_from Cert.KernelTailIdeal.Gen.run_main m g
  · run_from Cert.ReferenceTailIdeal.Value.run (F := Ideal) m' g'
    obtain ⟨h0, h1, h2, h3, h4, h5, h6, h7, h8, h9, h10, h11⟩ := hagree c
    refine Eq.trans ?_ (Cert.KernelTailIdeal.Tail.final m c).symm
    refine (Cert.ReferenceTailIdeal.Tail.res m' c).trans ?_
    exact Cert.ReferenceTailIdeal.Tail.SPEC_congr h0 h1 h2 h3 h4 h5 h6 h7 h8 h9 h10 h11

/-- The tail's reference leaves its arguments as they were and every semaphore at zero. -/
theorem tail_host : Cert.quiescent_ReferenceTailIdeal := fun m g _ =>
  (θ_run (Cert.ReferenceTailIdeal.defs (F := Ideal)) _ _).mono
    (fun r h => ⟨fun c => (h c).2, sem_eq_zero_of_no_sems (by decide) r.2⟩) (Cert.ReferenceTailIdeal.Value.run (F := Ideal) m g)

/-- The first norm's and projections' results are the reference's over the reals. -/
theorem in_algebraic : Cert.algebraic_KernelInIdeal_ReferenceInIdeal := fun m g m' g' _ hagree =>
  ⟨_, _, _, _, Cert.KernelInIdeal.In.run_values m g,
    (θ_run (Cert.ReferenceInIdeal.defs (F := Ideal)) _ _).mono
      (fun r h c => by
        obtain ⟨e0, e1, e2, e3, e4⟩ := hagree c
        obtain ⟨hz, hq, hv, hf, hargs⟩ := h c
        refine ⟨hz.trans ?_, hq.trans ?_, hv.trans ?_, hf.trans ?_, hargs⟩
        · rw [e0, e1, e2, e3]
        · rw [e0, e1, e2, e3]
        · rw [e0, e1, e2, e3]
        · rw [e0, e1, e2, e3, e4])
      (Cert.ReferenceInIdeal.In.run_spec m' g')⟩

/-- Their reference leaves its arguments as they were and every semaphore at zero. -/
theorem in_host : Cert.quiescent_ReferenceInIdeal := fun m g _ =>
  (θ_run (Cert.ReferenceInIdeal.defs (F := Ideal)) _ _).mono
    (fun r h => ⟨fun c => (h c).2.2.2.2, sem_eq_zero_of_no_sems (by decide) r.2⟩) (Cert.ReferenceInIdeal.In.run_spec m g)

/-- The retention's result is the reference's over the reals, where the queries, keys and values are finite. -/
theorem ret_algebraic : @Cert.algebraic_KernelRetIdeal_ReferenceRetIdeal_pre_rows_finite Cert.KernelRetIdeal.Gen.facts Cert.ReferenceRetIdeal.Gen.facts Cert.RetPre.facts :=
  fun m g m' g' hpre hagree =>
  ⟨_, Cert.KernelRetIdeal.Value.run m g,
    (θ_run (Cert.ReferenceRetIdeal.defs (F := Ideal)) _ _).mono
      (fun r h c => by
        obtain ⟨e0, e1⟩ := hagree c
        obtain ⟨hz, hargs⟩ := h c
        refine ⟨hz.trans ?_, hargs⟩
        rw [Cert.KernelRetIdeal.Ret.final m c (Cert.RetPre.fin3 _ _ (hpre c))]
        funext i
        obtain ⟨b, t, n, rfl⟩ : ∃ (b : Fin 2) (t : Fin 8192) (n : Fin 1024), i = ix3 b t n := ⟨i 0, i 1, i 2, by funext a; match a with | 0 => rfl | 1 => rfl | 2 => rfl⟩
        refine (Cert.ReferenceRetIdeal.Ret.res m' c b t n).trans ?_
        rw [e0, e1]
        rfl)
      (Cert.ReferenceRetIdeal.Value.run (F := Ideal) m' g')⟩

/-- Its reference leaves its arguments as they were and every semaphore at zero. -/
theorem ret_host (m : (ℓ : Loc Cert.ReferenceRetIdeal.nD Cert.ReferenceRetIdeal.τ Cert.ReferenceRetIdeal.sig) → Buf (Elt Ideal) ℓ)
    (g : Dev Cert.ReferenceRetIdeal.nD → PrngReg) :
    θ_run (Cert.ReferenceRetIdeal.defs (F := Ideal)) (onTc (τ := Cert.ReferenceRetIdeal.τ) (Cert.ReferenceRetIdeal.main (F := Ideal))) ⟨m, fun _ => 0, g⟩
      (fun r => (∀ c : Dev Cert.ReferenceRetIdeal.nD,
        r.2.mem ((c.tc : Thread Cert.ReferenceRetIdeal.nD Cert.ReferenceRetIdeal.τ).loc Cert.ReferenceRetIdeal.main_arg0)
          = m ((c.tc : Thread Cert.ReferenceRetIdeal.nD Cert.ReferenceRetIdeal.τ).loc Cert.ReferenceRetIdeal.main_arg0)
        ∧ r.2.mem ((c.tc : Thread Cert.ReferenceRetIdeal.nD Cert.ReferenceRetIdeal.τ).loc Cert.ReferenceRetIdeal.main_arg1)
          = m ((c.tc : Thread Cert.ReferenceRetIdeal.nD Cert.ReferenceRetIdeal.τ).loc Cert.ReferenceRetIdeal.main_arg1)) ∧ r.2.sem = fun _ => 0) :=
  (θ_run (Cert.ReferenceRetIdeal.defs (F := Ideal)) _ _).mono
    (fun r h => ⟨fun c => (h c).2, sem_eq_zero_of_no_sems (by decide) r.2⟩) (Cert.ReferenceRetIdeal.Value.run (F := Ideal) m g)

set_option exponentiation.threshold 8192 in
/-- Each constant the retention's program names is its table's value, rounded. -/
theorem ret_preserves : Cert.preserves_KernelRet_KernelRetIdeal :=
  ⟨IdealRules.named_const.statement _ _ _ _ _ rfl, IdealRules.named_const.statement _ _ _ _ _ rfl,
    IdealRules.named_const.statement _ _ _ _ _ rfl, IdealRules.named_const.statement _ _ _ _ _ rfl⟩

/-- The conditioning's linear map is the reference's over the reals. -/
theorem ada_algebraic : Cert.algebraic_KernelAdaIdeal_ReferenceAdaIdeal := by
  pair_intro
  · run_from Cert.KernelAdaIdeal.Gen.run_main m g
  · run_from Cert.ReferenceAdaIdeal.Value.run (F := Ideal) m' g'
    obtain ⟨h0, h1, h2⟩ := hagree c
    refine Eq.trans ?_ (Cert.KernelAdaIdeal.Ada.final m c).symm
    rw [← h0, ← h1, ← h2]
    rfl

/-- Its reference leaves its arguments as they were and every semaphore at zero. -/
theorem ada_host : Cert.quiescent_ReferenceAdaIdeal := fun m g _ =>
  (θ_run (Cert.ReferenceAdaIdeal.defs (F := Ideal)) _ _).mono
    (fun r h => ⟨fun c => (h c).2, sem_eq_zero_of_no_sems (by decide) r.2⟩) (Cert.ReferenceAdaIdeal.Value.run (F := Ideal) m g)

/-- Everything claimed. -/
theorem claim : Cert.Claim := ⟨Cert.Kernel.Gen.facts, Cert.KernelIdeal.Gen.facts, Cert.ReferenceIdeal.Gen.facts, Cert.Reference.Gen.facts,
  Cert.KernelTail.Gen.facts, Cert.KernelTailIdeal.Gen.facts, Cert.ReferenceTailIdeal.Gen.facts,
  Cert.KernelIn.Gen.facts, Cert.KernelInIdeal.Gen.facts, Cert.ReferenceInIdeal.Gen.facts,
  Cert.KernelRet.Gen.facts, Cert.KernelRetIdeal.Gen.facts, Cert.ReferenceRetIdeal.Gen.facts,
  Cert.KernelAda.Gen.facts, Cert.KernelAdaIdeal.Gen.facts, Cert.ReferenceAdaIdeal.Gen.facts, Cert.RetPre.facts,
  fun m g _ => Cert.Kernel.Gen.frame m g,
  fun m g _ => Cert.KernelIdeal.Gen.frame m g,
  fun m g _ => cast_host m g,
  cast_host_bits,
  fun m g _ => Cert.KernelTail.Gen.frame m g,
  fun m g _ => Cert.KernelTailIdeal.Gen.frame m g,
  tail_host,
  fun m g _ => Cert.KernelIn.In.frame m g,
  fun m g _ => Cert.KernelInIdeal.In.frame m g,
  in_host,
  fun m g _ => Cert.KernelRet.Gen.frame m g,
  fun m g _ => Cert.KernelRetIdeal.Gen.frame m g,
  fun m g _ => Cert.KernelRetIdeal.Gen.frame m g,
  fun m g _ => ret_host m g,
  fun m g _ => ret_host m g,
  fun m g _ => Cert.KernelAda.Gen.frame m g,
  fun m g _ => Cert.KernelAdaIdeal.Gen.frame m g,
  ada_host,
  trivial, cast_bitexact, cast_algebraic, trivial, tail_algebraic, trivial, in_algebraic, ret_preserves, ret_algebraic, trivial, ada_algebraic⟩

end Cert.Proof

end
